-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def preserves_Kernel_KernelIdeal : Prop :=
  IdealRules.named_const.Statement Cert.KernelIdeal.κ "decay" .f32 0x3DB8AA3B#32 (((16 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v130_0)) (v1 : (c : Dev Cert.KernelIdeal.nD) → Buf (Elt Ideal) ((c.tc : Thread Cert.KernelIdeal.nD Cert.KernelIdeal.τ).loc Cert.KernelIdeal.main_v130_1)) (v2 : (c : Dev Cert.KernelIdeal.nD) → Buf (Elt Ideal) ((c.tc : Thread Cert.KernelIdeal.nD Cert.KernelIdeal.τ).loc Cert.KernelIdeal.main_v130_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130_0) = v0 c
          ∧ r.2.mem ((c.tc : Thread Cert.KernelIdeal.nD Cert.KernelIdeal.τ).loc Cert.KernelIdeal.main_v130_1) = v1 c
          ∧ r.2.mem ((c.tc : Thread Cert.KernelIdeal.nD Cert.KernelIdeal.τ).loc Cert.KernelIdeal.main_v130_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v106_5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v22) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
-- ==== Pre_finite.lean ====
abbrev S16896x1024 : Shape := ⟨2, ![16896, 1024]⟩
abbrev S1x1024 : Shape := ⟨2, ![1, 1024]⟩
abbrev S1024x3072 : Shape := ⟨2, ![1024, 3072]⟩
abbrev S1024x128 : Shape := ⟨2, ![1024, 128]⟩
abbrev S128x512 : Shape := ⟨2, ![128, 512]⟩
abbrev S1x512 : Shape := ⟨2, ![1, 512]⟩
abbrev S1x256 : Shape := ⟨2, ![1, 256]⟩
abbrev S4x256x256 : Shape := ⟨3, ![4, 256, 256]⟩
abbrev S_ : Shape := ⟨0, ![]⟩

class Facts : Prop where
  bcast_S_S16896x1024 : S_.BroadcastsInDim S16896x1024 (![] : Fin 0 → Fin S16896x1024.rank)
  reducesTo_S16896x1024_S_d0_1 : S16896x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S1024x3072 : S_.BroadcastsInDim S1024x3072 (![] : Fin 0 → Fin S1024x3072.rank)
  reducesTo_S1024x3072_S_d0_1 : S1024x3072.ReducesTo [0, 1] S_
  bcast_S_S1024x128 : S_.BroadcastsInDim S1024x128 (![] : Fin 0 → Fin S1024x128.rank)
  reducesTo_S1024x128_S_d0_1 : S1024x128.ReducesTo [0, 1] S_
  bcast_S_S128x512 : S_.BroadcastsInDim S128x512 (![] : Fin 0 → Fin S128x512.rank)
  reducesTo_S128x512_S_d0_1 : S128x512.ReducesTo [0, 1] S_
  bcast_S_S1x512 : S_.BroadcastsInDim S1x512 (![] : Fin 0 → Fin S1x512.rank)
  reducesTo_S1x512_S_d0_1 : S1x512.ReducesTo [0, 1] S_
  bcast_S_S1x256 : S_.BroadcastsInDim S1x256 (![] : Fin 0 → Fin S1x256.rank)
  reducesTo_S1x256_S_d0_1 : S1x256.ReducesTo [0, 1] S_
  bcast_S_S4x256x256 : S_.BroadcastsInDim S4x256x256 (![] : Fin 0 → Fin S4x256x256.rank)
  reducesTo_S4x256x256_S_d0_1_2 : S4x256x256.ReducesTo [0, 1, 2] S_

variable [Facts]

def fn_part3 {F : FTy → Type} [FloatOps F] (main_v48 : IVec S_ 1) (main_v51 : IVec S1x1024 1) (main_c_17 : IVec S_ 1) : IVec S_ 1 :=
  let main_v52 : IVec S_ 1 := (fun x v => Host.reduce IntOp.andi x v reducesTo_S1x1024_S_d0_1 h_S_) main_v51 main_c_17
  let main_v53 : IVec S_ 1 := andi main_v48 main_v52
  main_v53

def fn_part2 {F : FTy → Type} [FloatOps F] (main_arg7 : FVec F S1x256 .f32) (main_arg8 : FVec F S4x256x256 .bf16) (main_arg9 : FVec F S1x1024 .f32) (main_v32 : IVec S_ 1) (main_v33 : FVec F S1x512 .f32) (main_v34 : FVec F S1x512 .f32) : IVec S_ 1 :=
  let main_v35 : IVec S1x512 1 := cmpf .olt main_v33 main_v34
  let main_c_11 : IVec S_ 1 := constantI S_ 1 1#1
  let main_v36 : IVec S_ 1 := (fun x v => Host.reduce IntOp.andi x v reducesTo_S1x512_S_d0_1 h_S_) main_v35 main_c_11
  let main_v37 : IVec S_ 1 := andi main_v32 main_v36
  let main_v38 : FVec F S1x256 .f32 := Host.absf main_arg7
  let main_cst_12 : FVec F S_ .f32 := constant S_ .f32 0x7F800000#32
  let main_v39 : FVec F S1x256 .f32 := broadcastInDim S1x256 ![] bcast_S_S1x256 main_cst_12
  let main_v40 : IVec S1x256 1 := cmpf .olt main_v38 main_v39
  let main_c_13 : IVec S_ 1 := constantI S_ 1 1#1
  let main_v41 : IVec S_ 1 := (fun x v => Host.reduce IntOp.andi x v reducesTo_S1x256_S_d0_1 h_S_) main_v40 main_c_13
  let main_v42 : IVec S_ 1 := andi main_v37 main_v41
  let main_v43 : FVec F S4x256x256 .f32 := (extf .f32 · bitsLt_bf16_f32) main_arg8
  let main_v44 : FVec F S4x256x256 .f32 := Host.absf main_v43
  let main_cst_14 : FVec F S_ .f32 := constant S_ .f32 0x7F800000#32
  let main_v45 : FVec F S4x256x256 .f32 := broadcastInDim S4x256x256 ![] bcast_S_S4x256x256 main_cst_14
  let main_v46 : IVec S4x256x256 1 := cmpf .olt main_v44 main_v45
  let main_c_15 : IVec S_ 1 := constantI S_ 1 1#1
  let main_v47 : IVec S_ 1 := (fun x v => Host.reduce IntOp.andi x v reducesTo_S4x256x256_S_d0_1_2 h_S_) main_v46 main_c_15
  let main_v48 : IVec S_ 1 := andi main_v42 main_v47
  let main_v49 : FVec F S1x1024 .f32 := Host.absf main_arg9
  let main_cst_16 : FVec F S_ .f32 := constant S_ .f32 0x7F800000#32
  let main_v50 : FVec F S1x1024 .f32 := broadcastInDim S1x1024 ![] bcast_S_S1x1024 main_cst_16
  let main_v51 : IVec S1x1024 1 := cmpf .olt main_v49 main_v50
  let main_c_17 : IVec S_ 1 := constantI S_ 1 1#1
  fn_part3 (F := F) main_v48 main_v51 main_c_17

def fn_part1 {F : FTy → Type} [FloatOps F] (main_arg4 : FVec F S1024x128 .bf16) (main_arg5 : FVec F S128x512 .bf16) (main_arg6 : FVec F S1x512 .f32) (main_arg7 : FVec F S1x256 .f32) (main_arg8 : FVec F S4x256x256 .bf16) (main_arg9 : FVec F S1x1024 .f32) (main_v14 : IVec S_ 1) (main_v16 : FVec F S1024x3072 .f32) (main_cst_4 : FVec F S_ .f32) : IVec S_ 1 :=
  let main_v17 : FVec F S1024x3072 .f32 := broadcastInDim S1024x3072 ![] bcast_S_S1024x3072 main_cst_4
  let main_v18 : IVec S1024x3072 1 := cmpf .olt main_v16 main_v17
  let main_c_5 : IVec S_ 1 := constantI S_ 1 1#1
  let main_v19 : IVec S_ 1 := (fun x v => Host.reduce IntOp.andi x v reducesTo_S1024x3072_S_d0_1 h_S_) main_v18 main_c_5
  let main_v20 : IVec S_ 1 := andi main_v14 main_v19
  let main_v21 : FVec F S1024x128 .f32 := (extf .f32 · bitsLt_bf16_f32) main_arg4
  let main_v22 : FVec F S1024x128 .f32 := Host.absf main_v21
  let main_cst_6 : FVec F S_ .f32 := constant S_ .f32 0x7F800000#32
  let main_v23 : FVec F S1024x128 .f32 := broadcastInDim S1024x128 ![] bcast_S_S1024x128 main_cst_6
  let main_v24 : IVec S1024x128 1 := cmpf .olt main_v22 main_v23
  let main_c_7 : IVec S_ 1 := constantI S_ 1 1#1
  let main_v25 : IVec S_ 1 := (fun x v => Host.reduce IntOp.andi x v reducesTo_S1024x128_S_d0_1 h_S_) main_v24 main_c_7
  let main_v26 : IVec S_ 1 := andi main_v20 main_v25
  let main_v27 : FVec F S128x512 .f32 := (extf .f32 · bitsLt_bf16_f32) main_arg5
  let main_v28 : FVec F S128x512 .f32 := Host.absf main_v27
  let main_cst_8 : FVec F S_ .f32 := constant S_ .f32 0x7F800000#32
  let main_v29 : FVec F S128x512 .f32 := broadcastInDim S128x512 ![] bcast_S_S128x512 main_cst_8
  let main_v30 : IVec S128x512 1 := cmpf .olt main_v28 main_v29
  let main_c_9 : IVec S_ 1 := constantI S_ 1 1#1
  let main_v31 : IVec S_ 1 := (fun x v => Host.reduce IntOp.andi x v reducesTo_S128x512_S_d0_1 h_S_) main_v30 main_c_9
  let main_v32 : IVec S_ 1 := andi main_v26 main_v31
  let main_v33 : FVec F S1x512 .f32 := Host.absf main_arg6
  let main_cst_10 : FVec F S_ .f32 := constant S_ .f32 0x7F800000#32
  let main_v34 : FVec F S1x512 .f32 := broadcastInDim S1x512 ![] bcast_S_S1x512 main_cst_10
  fn_part2 (F := F) main_arg7 main_arg8 main_arg9 main_v32 main_v33 main_v34

def fn {F : FTy → Type} [FloatOps F] (main_arg0 : FVec F S16896x1024 .f32) (main_arg1 : FVec F S1x1024 .f32) (main_arg2 : FVec F S1024x3072 .bf16) (main_arg3 : FVec F S1024x3072 .bf16) (main_arg4 : FVec F S1024x128 .bf16) (main_arg5 : FVec F S128x512 .bf16) (main_arg6 : FVec F S1x512 .f32) (main_arg7 : FVec F S1x256 .f32) (main_arg8 : FVec F S4x256x256 .bf16) (main_arg9 : FVec F S1x1024 .f32) : IVec S_ 1 :=
  let main_v0 : FVec F S16896x1024 .f32 := Host.absf main_arg0
  let main_cst : FVec F S_ .f32 := constant S_ .f32 0x7F800000#32
  let main_v1 : FVec F S16896x1024 .f32 := broadcastInDim S16896x1024 ![] bcast_S_S16896x1024 main_cst
  let main_v2 : IVec S16896x1024 1 := cmpf .olt main_v0 main_v1
  let main_c : IVec S_ 1 := constantI S_ 1 1#1
  let main_v3 : IVec S_ 1 := (fun x v => Host.reduce IntOp.andi x v reducesTo_S16896x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x3072 .f32 := (extf .f32 · bitsLt_bf16_f32) main_arg2
  let main_v10 : FVec F S1024x3072 .f32 := Host.absf main_v9
  let main_cst_2 : FVec F S_ .f32 := constant S_ .f32 0x7F800000#32
  let main_v11 : FVec F S1024x3072 .f32 := broadcastInDim S1024x3072 ![] bcast_S_S1024x3072 main_cst_2
  let main_v12 : IVec S1024x3072 1 := cmpf .olt main_v10 main_v11
  let main_c_3 : IVec S_ 1 := constantI S_ 1 1#1
  let main_v13 : IVec S_ 1 := (fun x v => Host.reduce IntOp.andi x v reducesTo_S1024x3072_S_d0_1 h_S_) main_v12 main_c_3
  let main_v14 : IVec S_ 1 := andi main_v8 main_v13
  let main_v15 : FVec F S1024x3072 .f32 := (extf .f32 · bitsLt_bf16_f32) main_arg3
  let main_v16 : FVec F S1024x3072 .f32 := Host.absf main_v15
  let main_cst_4 : FVec F S_ .f32 := constant S_ .f32 0x7F800000#32
  fn_part1 (F := F) main_arg4 main_arg5 main_arg6 main_arg7 main_arg8 main_arg9 main_v14 main_v16 main_cst_4
-- ==== Kernel.lean ====
abbrev S16896x1024 : Shape := ⟨2, ![16896, 1024]⟩
abbrev S1x1024 : Shape := ⟨2, ![1, 1024]⟩
abbrev S1024x3072 : Shape := ⟨2, ![1024, 3072]⟩
abbrev S1024x128 : Shape := ⟨2, ![1024, 128]⟩
abbrev S128x512 : Shape := ⟨2, ![128, 512]⟩
abbrev S1x512 : Shape := ⟨2, ![1, 512]⟩
abbrev S1x256 : Shape := ⟨2, ![1, 256]⟩
abbrev S4x256x256 : Shape := ⟨3, ![4, 256, 256]⟩
abbrev S128x128 : Shape := ⟨2, ![128, 128]⟩
abbrev S_ : Shape := ⟨0, ![]⟩
abbrev S1x128x128 : Shape := ⟨3, ![1, 128, 128]⟩
abbrev S7x128x128 : Shape := ⟨3, ![7, 128, 128]⟩
abbrev S16384x1024 : Shape := ⟨2, ![16384, 1024]⟩
abbrev S8x15x1024 : Shape := ⟨3, ![8, 15, 1024]⟩
abbrev S8x4x128x256 : Shape := ⟨4, ![8, 4, 128, 256]⟩
abbrev S512x1024 : Shape := ⟨2, ![512, 1024]⟩
abbrev S1x15x1024 : Shape := ⟨3, ![1, 15, 1024]⟩
abbrev S1x4x128x256 : Shape := ⟨4, ![1, 4, 128, 256]⟩
abbrev S544x1024 : Shape := ⟨2, ![544, 1024]⟩
abbrev S3x544x256 : Shape := ⟨3, ![3, 544, 256]⟩
abbrev S512x512 : Shape := ⟨2, ![512, 512]⟩
abbrev S32x512 : Shape := ⟨2, ![32, 512]⟩
abbrev S7x512x512 : Shape := ⟨3, ![7, 512, 512]⟩
abbrev S512x3072 : Shape := ⟨2, ![512, 3072]⟩
abbrev S32x1024 : Shape := ⟨2, ![32, 1024]⟩
abbrev S512 : Shape := ⟨1, ![512]⟩
abbrev S512x1 : Shape := ⟨2, ![512, 1]⟩
abbrev S1024x512 : Shape := ⟨2, ![1024, 512]⟩
abbrev S512x128 : Shape := ⟨2, ![512, 128]⟩
abbrev S1024x256 : Shape := ⟨2, ![1024, 256]⟩
abbrev S512x256 : Shape := ⟨2, ![512, 256]⟩
abbrev S128x1024 : Shape := ⟨2, ![128, 1024]⟩
abbrev S8x512 : Shape := ⟨2, ![8, 512]⟩
abbrev S128x1 : Shape := ⟨2, ![128, 1]⟩
abbrev S16x512 : Shape := ⟨2, ![16, 512]⟩
abbrev S64x512 : Shape := ⟨2, ![64, 512]⟩
abbrev S1x128x512 : Shape := ⟨3, ![1, 128, 512]⟩
abbrev S1x256x256 : Shape := ⟨3, ![1, 256, 256]⟩
abbrev S256x256 : Shape := ⟨2, ![256, 256]⟩
abbrev S520x256 : Shape := ⟨2, ![520, 256]⟩
abbrev S1x520x256 : Shape := ⟨3, ![1, 520, 256]⟩
abbrev S1x512x256 : Shape := ⟨3, ![1, 512, 256]⟩
abbrev S528x256 : Shape := ⟨2, ![528, 256]⟩
abbrev S1x528x256 : Shape := ⟨3, ![1, 528, 256]⟩
abbrev S536x256 : Shape := ⟨2, ![536, 256]⟩
abbrev S1x536x256 : Shape := ⟨3, ![1, 536, 256]⟩
abbrev S1x1x128x256 : Shape := ⟨4, ![1, 1, 128, 256]⟩
abbrev S128x256 : Shape := ⟨2, ![128, 256]⟩
abbrev S128 : Shape := ⟨1, ![128]⟩
abbrev S1x128 : Shape := ⟨2, ![1, 128]⟩
abbrev S15x1024 : Shape := ⟨2, ![15, 1024]⟩
abbrev S16x1024 : Shape := ⟨2, ![16, 1024]⟩

abbrev nBuf : Space → Nat
  | .hbm => 185
  | .vmem => 36
  | .smem => 0
  | _ => 0

abbrev hbmTy0_0 (i : Nat) : BufTy := match i % 128 with
  | 0 => ⟨S16896x1024, .f32⟩
  | 1 => ⟨S1x1024, .f32⟩
  | 2 => ⟨S1024x3072, .bf16⟩
  | 3 => ⟨S1024x3072, .bf16⟩
  | 4 => ⟨S1024x128, .bf16⟩
  | 5 => ⟨S128x512, .bf16⟩
  | 6 => ⟨S1x512, .f32⟩
  | 7 => ⟨S1x256, .f32⟩
  | 8 => ⟨S4x256x256, .bf16⟩
  | 9 => ⟨S1x1024, .f32⟩
  | 10 => ⟨S128x128, .i32⟩
  | 11 => ⟨S128x128, .i32⟩
  | 12 => ⟨S_, .i32⟩
  | 13 => ⟨S128x128, .i32⟩
  | 14 => ⟨S128x128, .i32⟩
  | 15 => ⟨S_, .i32⟩
  | 16 => ⟨S128x128, .i32⟩
  | 17 => ⟨S128x128, .i32⟩
  | 18 => ⟨S128x128, .i1⟩
  | 19 => ⟨S_, .i32⟩
  | 20 => ⟨S128x128, .i32⟩
  | 21 => ⟨S128x128, .i32⟩
  | 22 => ⟨S_, .i32⟩
  | 23 => ⟨S128x128, .i32⟩
  | 24 => ⟨S128x128, .i1⟩
  | 25 => ⟨S128x128, .i1⟩
  | 26 => ⟨S_, .i32⟩
  | 27 => ⟨S128x128, .i32⟩
  | 28 => ⟨S128x128, .i32⟩
  | 29 => ⟨S_, .i32⟩
  | 30 => ⟨S128x128, .i32⟩
  | 31 => ⟨S128x128, .i1⟩
  | 32 => ⟨S128x128, .i1⟩
  | 33 => ⟨S_, .i32⟩
  | 34 => ⟨S128x128, .i32⟩
  | 35 => ⟨S128x128, .i32⟩
  | 36 => ⟨S_, .i32⟩
  | 37 => ⟨S128x128, .i32⟩
  | 38 => ⟨S128x128, .i32⟩
  | 39 => ⟨S128x128, .i1⟩
  | 40 => ⟨S_, .i32⟩
  | 41 => ⟨S128x128, .i32⟩
  | 42 => ⟨S128x128, .i32⟩
  | 43 => ⟨S_, .i32⟩
  | 44 => ⟨S128x128, .i32⟩
  | 45 => ⟨S128x128, .i1⟩
  | 46 => ⟨S128x128, .i1⟩
  | 47 => ⟨S_, .i32⟩
  | 48 => ⟨S128x128, .i32⟩
  | 49 => ⟨S128x128, .i32⟩
  | 50 => ⟨S_, .i32⟩
  | 51 => ⟨S128x128, .i32⟩
  | 52 => ⟨S128x128, .i1⟩
  | 53 => ⟨S128x128, .i1⟩
  | 54 => ⟨S_, .i32⟩
  | 55 => ⟨S128x128, .i32⟩
  | 56 => ⟨S128x128, .i32⟩
  | 57 => ⟨S_, .i32⟩
  | 58 => ⟨S128x128, .i32⟩
  | 59 => ⟨S128x128, .i32⟩
  | 60 => ⟨S128x128, .i1⟩
  | 61 => ⟨S_, .i32⟩
  | 62 => ⟨S128x128, .i32⟩
  | 63 => ⟨S128x128, .i32⟩
  | 64 => ⟨S_, .i32⟩
  | 65 => ⟨S128x128, .i32⟩
  | 66 => ⟨S128x128, .i1⟩
  | 67 => ⟨S128x128, .i1⟩
  | 68 => ⟨S_, .i32⟩
  | 69 => ⟨S128x128, .i32⟩
  | 70 => ⟨S128x128, .i32⟩
  | 71 => ⟨S_, .i32⟩
  | 72 => ⟨S128x128, .i32⟩
  | 73 => ⟨S128x128, .i1⟩
  | 74 => ⟨S128x128, .i1⟩
  | 75 => ⟨S_, .i32⟩
  | 76 => ⟨S128x128, .i32⟩
  | 77 => ⟨S128x128, .i32⟩
  | 78 => ⟨S_, .i32⟩
  | 79 => ⟨S128x128, .i32⟩
  | 80 => ⟨S128x128, .i32⟩
  | 81 => ⟨S128x128, .i1⟩
  | 82 => ⟨S_, .i32⟩
  | 83 => ⟨S128x128, .i32⟩
  | 84 => ⟨S128x128, .i32⟩
  | 85 => ⟨S_, .i32⟩
  | 86 => ⟨S128x128, .i32⟩
  | 87 => ⟨S128x128, .i1⟩
  | 88 => ⟨S128x128, .i1⟩
  | 89 => ⟨S_, .i32⟩
  | 90 => ⟨S128x128, .i32⟩
  | 91 => ⟨S128x128, .i32⟩
  | 92 => ⟨S_, .i32⟩
  | 93 => ⟨S128x128, .i32⟩
  | 94 => ⟨S128x128, .i1⟩
  | 95 => ⟨S128x128, .i1⟩
  | 96 => ⟨S_, .i32⟩
  | 97 => ⟨S128x128, .i32⟩
  | 98 => ⟨S128x128, .i32⟩
  | 99 => ⟨S_, .i32⟩
  | 100 => ⟨S128x128, .i32⟩
  | 101 => ⟨S128x128, .i32⟩
  | 102 => ⟨S128x128, .i1⟩
  | 103 => ⟨S_, .i32⟩
  | 104 => ⟨S128x128, .i32⟩
  | 105 => ⟨S128x128, .i32⟩
  | 106 => ⟨S_, .i32⟩
  | 107 => ⟨S128x128, .i32⟩
  | 108 => ⟨S128x128, .i1⟩
  | 109 => ⟨S128x128, .i1⟩
  | 110 => ⟨S_, .i32⟩
  | 111 => ⟨S128x128, .i32⟩
  | 112 => ⟨S128x128, .i32⟩
  | 113 => ⟨S_, .i32⟩
  | 114 => ⟨S128x128, .i32⟩
  | 115 => ⟨S128x128, .i1⟩
  | 116 => ⟨S128x128, .i1⟩
  | 117 => ⟨S_, .i32⟩
  | 118 => ⟨S128x128, .i32⟩
  | 119 => ⟨S128x128, .i32⟩
  | 120 => ⟨S_, .i32⟩
  | 121 => ⟨S128x128, .i32⟩
  | 122 => ⟨S128x128, .i32⟩
  | 123 => ⟨S128x128, .i1⟩
  | 124 => ⟨S_, .i32⟩
  | 125 => ⟨S128x128, .i32⟩
  | 126 => ⟨S128x128, .i32⟩
  | 127 => ⟨S_, .i32⟩
  | _ => ⟨S16896x1024, .f32⟩

abbrev hbmTy0_1 (i : Nat) : BufTy := match i % 128 with
  | 0 => ⟨S128x128, .i32⟩
  | 1 => ⟨S128x128, .i1⟩
  | 2 => ⟨S128x128, .i1⟩
  | 3 => ⟨S_, .i32⟩
  | 4 => ⟨S128x128, .i32⟩
  | 5 => ⟨S128x128, .i32⟩
  | 6 => ⟨S_, .i32⟩
  | 7 => ⟨S128x128, .i32⟩
  | 8 => ⟨S128x128, .i1⟩
  | 9 => ⟨S128x128, .i1⟩
  | 10 => ⟨S_, .i32⟩
  | 11 => ⟨S128x128, .i32⟩
  | 12 => ⟨S128x128, .i32⟩
  | 13 => ⟨S_, .i32⟩
  | 14 => ⟨S128x128, .i32⟩
  | 15 => ⟨S128x128, .i32⟩
  | 16 => ⟨S128x128, .i1⟩
  | 17 => ⟨S_, .i32⟩
  | 18 => ⟨S128x128, .i32⟩
  | 19 => ⟨S128x128, .i32⟩
  | 20 => ⟨S_, .i32⟩
  | 21 => ⟨S128x128, .i32⟩
  | 22 => ⟨S128x128, .i1⟩
  | 23 => ⟨S128x128, .i1⟩
  | 24 => ⟨S_, .i32⟩
  | 25 => ⟨S128x128, .i32⟩
  | 26 => ⟨S128x128, .i32⟩
  | 27 => ⟨S_, .i32⟩
  | 28 => ⟨S128x128, .i32⟩
  | 29 => ⟨S128x128, .i1⟩
  | 30 => ⟨S128x128, .i1⟩
  | 31 => ⟨S128x128, .i1⟩
  | 32 => ⟨S128x128, .f32⟩
  | 33 => ⟨S128x128, .f32⟩
  | 34 => ⟨S128x128, .f32⟩
  | 35 => ⟨S128x128, .f32⟩
  | 36 => ⟨S128x128, .f32⟩
  | 37 => ⟨S128x128, .f32⟩
  | 38 => ⟨S128x128, .f32⟩
  | 39 => ⟨S128x128, .f32⟩
  | 40 => ⟨S1x128x128, .f32⟩
  | 41 => ⟨S1x128x128, .f32⟩
  | 42 => ⟨S1x128x128, .f32⟩
  | 43 => ⟨S1x128x128, .f32⟩
  | 44 => ⟨S1x128x128, .f32⟩
  | 45 => ⟨S1x128x128, .f32⟩
  | 46 => ⟨S1x128x128, .f32⟩
  | 47 => ⟨S7x128x128, .f32⟩
  | 48 => ⟨S128x128, .i32⟩
  | 49 => ⟨S128x128, .i32⟩
  | 50 => ⟨S128x128, .i1⟩
  | 51 => ⟨S128x128, .f32⟩
  | 52 => ⟨S128x128, .bf16⟩
  | 53 => ⟨S7x128x128, .bf16⟩
  | 54 => ⟨S16384x1024, .bf16⟩
  | 55 => ⟨S8x15x1024, .f32⟩
  | 56 => ⟨S8x4x128x256, .f32⟩
  | _ => ⟨S16896x1024, .f32⟩

abbrev hbmTy (i : Nat) : BufTy := match i / 128 with
  | 0 => hbmTy0_0 i
  | 1 => hbmTy0_1 i
  | _ => ⟨S16896x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x3072, .bf16⟩
  | .local _ .vmem, ⟨5, _⟩ => ⟨S1024x128, .bf16⟩
  | .local _ .vmem, ⟨6, _⟩ => ⟨S128x512, .bf16⟩
  | .local _ .vmem, ⟨7, _⟩ => ⟨S1x512, .f32⟩
  | .local _ .vmem, ⟨8, _⟩ => ⟨S1x256, .f32⟩
  | .local _ .vmem, ⟨9, _⟩ => ⟨S4x256x256, .bf16⟩
  | .local _ .vmem, ⟨10, _⟩ => ⟨S1x1024, .f32⟩
  | .local _ .vmem, ⟨11, _⟩ => ⟨S128x128, .bf16⟩
  | .local _ .vmem, ⟨12, _⟩ => ⟨S7x128x128, .bf16⟩
  | .local _ .vmem, ⟨13, _⟩ => ⟨S128x128, .f32⟩
  | .local _ .vmem, ⟨14, _⟩ => ⟨S512x1024, .bf16⟩
  | .local _ .vmem, ⟨15, _⟩ => ⟨S512x1024, .bf16⟩
  | .local _ .vmem, ⟨16, _⟩ => ⟨S1x15x1024, .f32⟩
  | .local _ .vmem, ⟨17, _⟩ => ⟨S1x15x1024, .f32⟩
  | .local _ .vmem, ⟨18, _⟩ => ⟨S1x4x128x256, .f32⟩
  | .local _ .vmem, ⟨19, _⟩ => ⟨S1x4x128x256, .f32⟩
  | .local _ .vmem, ⟨20, _⟩ => ⟨S512x1024, .bf16⟩
  | .local _ .vmem, ⟨21, _⟩ => ⟨S544x1024, .f32⟩
  | .local _ .vmem, ⟨22, _⟩ => ⟨S3x544x256, .f32⟩
  | .local _ .vmem, ⟨23, _⟩ => ⟨S512x512, .f32⟩
  | .local _ .vmem, ⟨24, _⟩ => ⟨S512x512, .f32⟩
  | .local _ .vmem, ⟨25, _⟩ => ⟨S512x1024, .bf16⟩
  | .local _ .vmem, ⟨26, _⟩ => ⟨S512x512, .f32⟩
  | .local _ .vmem, ⟨27, _⟩ => ⟨S512x1024, .f32⟩
  | .local _ .vmem, ⟨28, _⟩ => ⟨S512x1024, .f32⟩
  | .local _ .vmem, ⟨29, _⟩ => ⟨S512x512, .f32⟩
  | .local _ .vmem, ⟨30, _⟩ => ⟨S512x512, .bf16⟩
  | .local _ .vmem, ⟨31, _⟩ => ⟨S512x512, .bf16⟩
  | .local _ .vmem, ⟨32, _⟩ => ⟨S32x512, .f32⟩
  | .local _ .vmem, ⟨33, _⟩ => ⟨S7x512x512, .bf16⟩
  | .local _ .vmem, ⟨34, _⟩ => ⟨S512x512, .bf16⟩
  | .local _ .vmem, ⟨35, _⟩ => ⟨S512x3072, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_c_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_7 : Ref sig .tc := ⟨.hbm, 40, rfl⟩
abbrev main_v22 : Ref sig .tc := ⟨.hbm, 41, rfl⟩
abbrev main_v23 : Ref sig .tc := ⟨.hbm, 42, rfl⟩
abbrev main_c_8 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_9 : Ref sig .tc := ⟨.hbm, 47, rfl⟩
abbrev main_v27 : Ref sig .tc := ⟨.hbm, 48, rfl⟩
abbrev main_v28 : Ref sig .tc := ⟨.hbm, 49, rfl⟩
abbrev main_c_10 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_11 : Ref sig .tc := ⟨.hbm, 54, rfl⟩
abbrev main_v32 : Ref sig .tc := ⟨.hbm, 55, rfl⟩
abbrev main_v33 : Ref sig .tc := ⟨.hbm, 56, rfl⟩
abbrev main_c_12 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_13 : Ref sig .tc := ⟨.hbm, 61, rfl⟩
abbrev main_v37 : Ref sig .tc := ⟨.hbm, 62, rfl⟩
abbrev main_v38 : Ref sig .tc := ⟨.hbm, 63, rfl⟩
abbrev main_c_14 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_15 : Ref sig .tc := ⟨.hbm, 68, rfl⟩
abbrev main_v42 : Ref sig .tc := ⟨.hbm, 69, rfl⟩
abbrev main_v43 : Ref sig .tc := ⟨.hbm, 70, rfl⟩
abbrev main_c_16 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_17 : Ref sig .tc := ⟨.hbm, 75, rfl⟩
abbrev main_v47 : Ref sig .tc := ⟨.hbm, 76, rfl⟩
abbrev main_v48 : Ref sig .tc := ⟨.hbm, 77, rfl⟩
abbrev main_c_18 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_19 : Ref sig .tc := ⟨.hbm, 82, rfl⟩
abbrev main_v52 : Ref sig .tc := ⟨.hbm, 83, rfl⟩
abbrev main_v53 : Ref sig .tc := ⟨.hbm, 84, rfl⟩
abbrev main_c_20 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_21 : Ref sig .tc := ⟨.hbm, 89, rfl⟩
abbrev main_v57 : Ref sig .tc := ⟨.hbm, 90, rfl⟩
abbrev main_v58 : Ref sig .tc := ⟨.hbm, 91, rfl⟩
abbrev main_c_22 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_c_23 : Ref sig .tc := ⟨.hbm, 96, rfl⟩
abbrev main_v62 : Ref sig .tc := ⟨.hbm, 97, rfl⟩
abbrev main_v63 : Ref sig .tc := ⟨.hbm, 98, rfl⟩
abbrev main_c_24 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_25 : Ref sig .tc := ⟨.hbm, 103, rfl⟩
abbrev main_v67 : Ref sig .tc := ⟨.hbm, 104, rfl⟩
abbrev main_v68 : Ref sig .tc := ⟨.hbm, 105, rfl⟩
abbrev main_c_26 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_c_27 : Ref sig .tc := ⟨.hbm, 110, rfl⟩
abbrev main_v72 : Ref sig .tc := ⟨.hbm, 111, rfl⟩
abbrev main_v73 : Ref sig .tc := ⟨.hbm, 112, rfl⟩
abbrev main_c_28 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_c_29 : Ref sig .tc := ⟨.hbm, 117, rfl⟩
abbrev main_v77 : Ref sig .tc := ⟨.hbm, 118, rfl⟩
abbrev main_v78 : Ref sig .tc := ⟨.hbm, 119, rfl⟩
abbrev main_c_30 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_c_31 : Ref sig .tc := ⟨.hbm, 124, rfl⟩
abbrev main_v82 : Ref sig .tc := ⟨.hbm, 125, rfl⟩
abbrev main_v83 : Ref sig .tc := ⟨.hbm, 126, rfl⟩
abbrev main_c_32 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_c_33 : Ref sig .tc := ⟨.hbm, 131, rfl⟩
abbrev main_v87 : Ref sig .tc := ⟨.hbm, 132, rfl⟩
abbrev main_v88 : Ref sig .tc := ⟨.hbm, 133, rfl⟩
abbrev main_c_34 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_c_35 : Ref sig .tc := ⟨.hbm, 138, rfl⟩
abbrev main_v92 : Ref sig .tc := ⟨.hbm, 139, rfl⟩
abbrev main_v93 : Ref sig .tc := ⟨.hbm, 140, rfl⟩
abbrev main_c_36 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_c_37 : Ref sig .tc := ⟨.hbm, 145, rfl⟩
abbrev main_v97 : Ref sig .tc := ⟨.hbm, 146, rfl⟩
abbrev main_v98 : Ref sig .tc := ⟨.hbm, 147, rfl⟩
abbrev main_c_38 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_c_39 : Ref sig .tc := ⟨.hbm, 152, rfl⟩
abbrev main_v102 : Ref sig .tc := ⟨.hbm, 153, rfl⟩
abbrev main_v103 : Ref sig .tc := ⟨.hbm, 154, rfl⟩
abbrev main_c_40 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130_0 : Ref sig .tc := ⟨.hbm, 182, rfl⟩
abbrev main_v130_1 : Ref sig .tc := ⟨.hbm, 183, rfl⟩
abbrev main_v130_2 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_scratch10 : Ref sig .tc := ⟨.vmem, 30, rfl⟩
abbrev cc0_scratch11 : Ref sig .tc := ⟨.vmem, 31, rfl⟩
abbrev cc0_scratch12 : Ref sig .tc := ⟨.vmem, 32, rfl⟩
abbrev cc0_scratch13 : Ref sig .tc := ⟨.vmem, 33, rfl⟩
abbrev cc0_scratch14 : Ref sig .tc := ⟨.vmem, 34, rfl⟩
abbrev cc0_scratch15 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32_2059 : BitVec 32 := 3#32
  let v3136 : BitVec 1 := Scalar.cmpi .eq arg1 c3_i32_2059
  let v3137 : BitVec 32 := Scalar.extui v3136
  let c0_i32_2060 : BitVec 32 := 0#32
  let v3138 : BitVec 1 := Scalar.cmpi .ne v3137 c0_i32_2060
  v3138

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.addi c1_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S7x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x15x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x4x128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== KernelIdeal.lean ====
variable {F : FTy → Type} [FloatOps F] [Named F]
def κ : String → Option EReal := fun
  | "decay" => some (((16 * (Real.log 2))⁻¹ : ℝ) : EReal)
  | _ => none
-- ==== ReferenceIdeal.lean ====
abbrev S16896x1024 : Shape := ⟨2, ![16896, 1024]⟩
abbrev S1x1024 : Shape := ⟨2, ![1, 1024]⟩
abbrev S1024x3072 : Shape := ⟨2, ![1024, 3072]⟩
abbrev S1024x128 : Shape := ⟨2, ![1024, 128]⟩
abbrev S128x512 : Shape := ⟨2, ![128, 512]⟩
abbrev S1x512 : Shape := ⟨2, ![1, 512]⟩
abbrev S1x256 : Shape := ⟨2, ![1, 256]⟩
abbrev S4x256x256 : Shape := ⟨3, ![4, 256, 256]⟩
abbrev S16384x1024 : Shape := ⟨2, ![16384, 1024]⟩
abbrev S8x2048x1024 : Shape := ⟨3, ![8, 2048, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3072 : Shape := ⟨3, ![8, 2048, 3072]⟩
abbrev S8x2048x512 : Shape := ⟨3, ![8, 2048, 512]⟩
abbrev S8x15x1024 : Shape := ⟨3, ![8, 15, 1024]⟩
abbrev S8x2063x1024 : Shape := ⟨3, ![8, 2063, 1024]⟩
abbrev S8x1x1024 : Shape := ⟨3, ![8, 1, 1024]⟩
abbrev S8x2064x1024 : Shape := ⟨3, ![8, 2064, 1024]⟩
abbrev S2048 : Shape := ⟨1, ![2048]⟩
abbrev S8x2048x256 : Shape := ⟨3, ![8, 2048, 256]⟩
abbrev S1x2048x1 : Shape := ⟨3, ![1, 2048, 1]⟩
abbrev S8x2048x4x256 : Shape := ⟨4, ![8, 2048, 4, 256]⟩
abbrev S4x256x8x2048 : Shape := ⟨4, ![4, 256, 8, 2048]⟩
abbrev S8x2048x128 : Shape := ⟨3, ![8, 2048, 128]⟩
abbrev S512 : Shape := ⟨1, ![512]⟩
abbrev S1x1x512 : Shape := ⟨3, ![1, 1, 512]⟩
abbrev S8x4x128x256 : Shape := ⟨4, ![8, 4, 128, 256]⟩
abbrev S8x2048x4x128 : Shape := ⟨4, ![8, 2048, 4, 128]⟩
abbrev S2048x8x4x128 : Shape := ⟨4, ![2048, 8, 4, 128]⟩
abbrev S2048x8x4x256 : Shape := ⟨4, ![2048, 8, 4, 256]⟩
abbrev S1x8x4x128 : Shape := ⟨4, ![1, 8, 4, 128]⟩
abbrev S8x4x128 : Shape := ⟨3, ![8, 4, 128]⟩
abbrev S1x8x4x256 : Shape := ⟨4, ![1, 8, 4, 256]⟩
abbrev S8x4x256 : Shape := ⟨3, ![8, 4, 256]⟩
abbrev S8x4x128x1 : Shape := ⟨4, ![8, 4, 128, 1]⟩
abbrev S8x4x1x256 : Shape := ⟨4, ![8, 4, 1, 256]⟩
abbrev S256 : Shape := ⟨1, ![256]⟩
abbrev S8x2048x4 : Shape := ⟨3, ![8, 2048, 4]⟩
abbrev S8x2048x4x1 : Shape := ⟨4, ![8, 2048, 4, 1]⟩
abbrev S1x1x1x256 : Shape := ⟨4, ![1, 1, 1, 256]⟩

abbrev nBuf : Space → Nat
  | .hbm => 245
  | .vmem => 0
  | .smem => 0
  | _ => 0

abbrev hbmTy0_0 (i : Nat) : BufTy := match i % 128 with
  | 0 => ⟨S16896x1024, .f32⟩
  | 1 => ⟨S1x1024, .f32⟩
  | 2 => ⟨S1024x3072, .bf16⟩
  | 3 => ⟨S1024x3072, .bf16⟩
  | 4 => ⟨S1024x128, .bf16⟩
  | 5 => ⟨S128x512, .bf16⟩
  | 6 => ⟨S1x512, .f32⟩
  | 7 => ⟨S1x256, .f32⟩
  | 8 => ⟨S4x256x256, .bf16⟩
  | 9 => ⟨S1x1024, .f32⟩
  | 10 => ⟨S1024x3072, .f32⟩
  | 11 => ⟨S1024x3072, .f32⟩
  | 12 => ⟨S1024x128, .f32⟩
  | 13 => ⟨S128x512, .f32⟩
  | 14 => ⟨S4x256x256, .f32⟩
  | 15 => ⟨S16384x1024, .f32⟩
  | 16 => ⟨S8x2048x1024, .f32⟩
  | 17 => ⟨S1024, .f32⟩
  | 18 => ⟨S8x2048x1024, .f32⟩
  | 19 => ⟨S_, .f32⟩
  | 20 => ⟨S8x2048, .f32⟩
  | 21 => ⟨S8x2048x1, .f32⟩
  | 22 => ⟨S_, .f32⟩
  | 23 => ⟨S8x2048x1, .f32⟩
  | 24 => ⟨S8x2048x1, .f32⟩
  | 25 => ⟨S_, .f32⟩
  | 26 => ⟨S8x2048x1, .f32⟩
  | 27 => ⟨S8x2048x1, .f32⟩
  | 28 => ⟨S8x2048x1, .f32⟩
  | 29 => ⟨S8x2048x1024, .f32⟩
  | 30 => ⟨S8x2048x1024, .f32⟩
  | 31 => ⟨S1x1x1024, .f32⟩
  | 32 => ⟨S8x2048x1024, .f32⟩
  | 33 => ⟨S8x2048x1024, .f32⟩
  | 34 => ⟨S8x2048x3072, .f32⟩
  | 35 => ⟨S8x2048x3072, .f32⟩
  | 36 => ⟨S8x2048x1024, .f32⟩
  | 37 => ⟨S8x2048x512, .f32⟩
  | 38 => ⟨S8x2048x512, .f32⟩
  | 39 => ⟨S8x2048x1024, .f32⟩
  | 40 => ⟨S8x2048x1024, .f32⟩
  | 41 => ⟨S8x2048x1024, .f32⟩
  | 42 => ⟨S8x2048x1024, .f32⟩
  | 43 => ⟨S_, .f32⟩
  | 44 => ⟨S8x15x1024, .f32⟩
  | 45 => ⟨S8x2063x1024, .f32⟩
  | 46 => ⟨S_, .f32⟩
  | 47 => ⟨S8x1x1024, .f32⟩
  | 48 => ⟨S_, .f32⟩
  | 49 => ⟨S_, .f32⟩
  | 50 => ⟨S8x2063x1024, .f32⟩
  | 51 => ⟨S8x2064x1024, .f32⟩
  | 52 => ⟨S2048, .i32⟩
  | 53 => ⟨S_, .i32⟩
  | 54 => ⟨S2048, .i32⟩
  | 55 => ⟨S2048, .i32⟩
  | 56 => ⟨S8x2048x256, .f32⟩
  | 57 => ⟨S8x2048x256, .f32⟩
  | 58 => ⟨S_, .i32⟩
  | 59 => ⟨S2048, .i32⟩
  | 60 => ⟨S2048, .i32⟩
  | 61 => ⟨S2048, .f32⟩
  | 62 => ⟨S8x2048x256, .f32⟩
  | 63 => ⟨S1x2048x1, .f32⟩
  | 64 => ⟨S8x2048x256, .f32⟩
  | 65 => ⟨S8x2048x256, .f32⟩
  | 66 => ⟨S8x2048x256, .f32⟩
  | 67 => ⟨S8x2048x256, .f32⟩
  | 68 => ⟨S_, .i32⟩
  | 69 => ⟨S2048, .i32⟩
  | 70 => ⟨S2048, .i32⟩
  | 71 => ⟨S2048, .f32⟩
  | 72 => ⟨S8x2048x256, .f32⟩
  | 73 => ⟨S1x2048x1, .f32⟩
  | 74 => ⟨S8x2048x256, .f32⟩
  | 75 => ⟨S8x2048x256, .f32⟩
  | 76 => ⟨S8x2048x256, .f32⟩
  | 77 => ⟨S8x2048x256, .f32⟩
  | 78 => ⟨S_, .i32⟩
  | 79 => ⟨S2048, .i32⟩
  | 80 => ⟨S2048, .i32⟩
  | 81 => ⟨S2048, .f32⟩
  | 82 => ⟨S8x2048x256, .f32⟩
  | 83 => ⟨S1x2048x1, .f32⟩
  | 84 => ⟨S8x2048x256, .f32⟩
  | 85 => ⟨S8x2048x256, .f32⟩
  | 86 => ⟨S8x2048x256, .f32⟩
  | 87 => ⟨S8x2048x256, .f32⟩
  | 88 => ⟨S_, .i32⟩
  | 89 => ⟨S2048, .i32⟩
  | 90 => ⟨S2048, .i32⟩
  | 91 => ⟨S2048, .f32⟩
  | 92 => ⟨S8x2048x256, .f32⟩
  | 93 => ⟨S1x2048x1, .f32⟩
  | 94 => ⟨S8x2048x256, .f32⟩
  | 95 => ⟨S8x2048x256, .f32⟩
  | 96 => ⟨S8x2048x1024, .f32⟩
  | 97 => ⟨S8x2048x1024, .f32⟩
  | 98 => ⟨S8x2048x4x256, .f32⟩
  | 99 => ⟨S4x256x8x2048, .f32⟩
  | 100 => ⟨S8x2048x4x256, .f32⟩
  | 101 => ⟨S8x2048x1024, .f32⟩
  | 102 => ⟨S1024, .f32⟩
  | 103 => ⟨S1x1x1024, .f32⟩
  | 104 => ⟨S8x2048x1024, .f32⟩
  | 105 => ⟨S8x2048x1024, .f32⟩
  | 106 => ⟨S8x15x1024, .f32⟩
  | 107 => ⟨S8x2048x128, .f32⟩
  | 108 => ⟨S8x2048x512, .f32⟩
  | 109 => ⟨S512, .f32⟩
  | 110 => ⟨S1x1x512, .f32⟩
  | 111 => ⟨S8x2048x512, .f32⟩
  | 112 => ⟨S8x2048x512, .f32⟩
  | 113 => ⟨S8x2048x512, .f32⟩
  | 114 => ⟨S_, .f32⟩
  | 115 => ⟨S8x2048x512, .f32⟩
  | 116 => ⟨S8x2048x512, .f32⟩
  | 117 => ⟨S8x2048x512, .f32⟩
  | 118 => ⟨S8x2048x512, .f32⟩
  | 119 => ⟨S8x2048x512, .i1⟩
  | 120 => ⟨S8x2048x512, .f32⟩
  | 121 => ⟨S8x2048x512, .f32⟩
  | 122 => ⟨S8x2048x512, .f32⟩
  | 123 => ⟨S8x2048x512, .f32⟩
  | 124 => ⟨S8x2048x512, .f32⟩
  | 125 => ⟨S8x2048x512, .f32⟩
  | 126 => ⟨S8x2048x512, .f32⟩
  | 127 => ⟨S8x2048x512, .f32⟩
  | _ => ⟨S16896x1024, .f32⟩

abbrev hbmTy0_1 (i : Nat) : BufTy := match i % 128 with
  | 0 => ⟨S8x2048x512, .f32⟩
  | 1 => ⟨S_, .f32⟩
  | 2 => ⟨S8x2048x512, .f32⟩
  | 3 => ⟨S8x2048x512, .f32⟩
  | 4 => ⟨S_, .f32⟩
  | 5 => ⟨S8x4x128x256, .f32⟩
  | 6 => ⟨S_, .f32⟩
  | 7 => ⟨S8x2048x512, .f32⟩
  | 8 => ⟨S8x2048x512, .f32⟩
  | 9 => ⟨S8x2048x4x128, .f32⟩
  | 10 => ⟨S2048x8x4x128, .f32⟩
  | 11 => ⟨S8x2048x4x128, .f32⟩
  | 12 => ⟨S2048x8x4x128, .f32⟩
  | 13 => ⟨S8x2048x4x256, .f32⟩
  | 14 => ⟨S2048x8x4x256, .f32⟩
  | 15 => ⟨S8x2048x4x128, .f32⟩
  | 16 => ⟨S2048x8x4x128, .f32⟩
  | 17 => ⟨S_, .f32⟩
  | 18 => ⟨S2048x8x4x256, .f32⟩
  | 19 => ⟨S_, .i32⟩
  | 20 => ⟨S2048x8x4x128, .f32⟩
  | 21 => ⟨S2048x8x4x128, .f32⟩
  | 22 => ⟨S2048x8x4x256, .f32⟩
  | 23 => ⟨S2048x8x4x128, .f32⟩
  | 24 => ⟨S_, .i32⟩
  | 25 => ⟨S8x4x128x256, .f32⟩
  | 26 => ⟨S2048x8x4x256, .f32⟩
  | 27 => ⟨S_, .i32⟩
  | 28 => ⟨S_, .i1⟩
  | 29 => ⟨S_, .i32⟩
  | 30 => ⟨S_, .i32⟩
  | 31 => ⟨S_, .i32⟩
  | 32 => ⟨S1x8x4x128, .f32⟩
  | 33 => ⟨S8x4x128, .f32⟩
  | 34 => ⟨S_, .i32⟩
  | 35 => ⟨S_, .i32⟩
  | 36 => ⟨S_, .i32⟩
  | 37 => ⟨S1x8x4x128, .f32⟩
  | 38 => ⟨S8x4x128, .f32⟩
  | 39 => ⟨S_, .i32⟩
  | 40 => ⟨S_, .i32⟩
  | 41 => ⟨S_, .i32⟩
  | 42 => ⟨S1x8x4x256, .f32⟩
  | 43 => ⟨S8x4x256, .f32⟩
  | 44 => ⟨S_, .i32⟩
  | 45 => ⟨S_, .i32⟩
  | 46 => ⟨S_, .i32⟩
  | 47 => ⟨S1x8x4x128, .f32⟩
  | 48 => ⟨S8x4x128, .f32⟩
  | 49 => ⟨S8x4x128, .f32⟩
  | 50 => ⟨S8x4x128x1, .f32⟩
  | 51 => ⟨S8x4x128x256, .f32⟩
  | 52 => ⟨S8x4x128x256, .f32⟩
  | 53 => ⟨S8x4x128x1, .f32⟩
  | 54 => ⟨S8x4x1x256, .f32⟩
  | 55 => ⟨S8x4x128x256, .f32⟩
  | 56 => ⟨S8x4x128x256, .f32⟩
  | 57 => ⟨S8x4x128x256, .f32⟩
  | 58 => ⟨S8x4x128x256, .f32⟩
  | 59 => ⟨S8x4x256, .f32⟩
  | 60 => ⟨S1x8x4x256, .f32⟩
  | 61 => ⟨S_, .i32⟩
  | 62 => ⟨S_, .i32⟩
  | 63 => ⟨S_, .i32⟩
  | 64 => ⟨S2048x8x4x256, .f32⟩
  | 65 => ⟨S_, .i32⟩
  | 66 => ⟨S_, .i32⟩
  | 67 => ⟨S8x2048x4x256, .f32⟩
  | 68 => ⟨S256, .f32⟩
  | 69 => ⟨S8x2048x4x256, .f32⟩
  | 70 => ⟨S_, .f32⟩
  | 71 => ⟨S8x2048x4, .f32⟩
  | 72 => ⟨S8x2048x4x1, .f32⟩
  | 73 => ⟨S_, .f32⟩
  | 74 => ⟨S8x2048x4x1, .f32⟩
  | 75 => ⟨S8x2048x4x1, .f32⟩
  | 76 => ⟨S_, .f32⟩
  | 77 => ⟨S8x2048x4x1, .f32⟩
  | 78 => ⟨S8x2048x4x1, .f32⟩
  | 79 => ⟨S8x2048x4x1, .f32⟩
  | 80 => ⟨S8x2048x4x256, .f32⟩
  | 81 => ⟨S8x2048x4x256, .f32⟩
  | 82 => ⟨S1x1x1x256, .f32⟩
  | 83 => ⟨S8x2048x4x256, .f32⟩
  | 84 => ⟨S8x2048x4x256, .f32⟩
  | 85 => ⟨S8x2048x1024, .f32⟩
  | 86 => ⟨S8x2048x1024, .f32⟩
  | 87 => ⟨S8x2048x1024, .f32⟩
  | 88 => ⟨S_, .f32⟩
  | 89 => ⟨S8x2048x1024, .f32⟩
  | 90 => ⟨S8x2048x1024, .f32⟩
  | 91 => ⟨S_, .f32⟩
  | 92 => ⟨S8x2048x1024, .f32⟩
  | 93 => ⟨S8x2048x1024, .f32⟩
  | 94 => ⟨S8x2048x1024, .f32⟩
  | 95 => ⟨S8x2048x1024, .f32⟩
  | 96 => ⟨S8x2048x1024, .f32⟩
  | 97 => ⟨S8x2048x1024, .f32⟩
  | 98 => ⟨S_, .f32⟩
  | 99 => ⟨S8x2048x1024, .f32⟩
  | 100 => ⟨S8x2048x1024, .f32⟩
  | 101 => ⟨S_, .f32⟩
  | 102 => ⟨S8x2048x1024, .f32⟩
  | 103 => ⟨S8x2048x1024, .f32⟩
  | 104 => ⟨S8x2048x1024, .f32⟩
  | 105 => ⟨S8x2048x1024, .f32⟩
  | 106 => ⟨S8x2048x1024, .f32⟩
  | 107 => ⟨S_, .f32⟩
  | 108 => ⟨S8x2048x1024, .f32⟩
  | 109 => ⟨S8x2048x1024, .f32⟩
  | 110 => ⟨S_, .f32⟩
  | 111 => ⟨S8x2048x1024, .f32⟩
  | 112 => ⟨S8x2048x1024, .f32⟩
  | 113 => ⟨S8x2048x1024, .f32⟩
  | 114 => ⟨S8x2048x1024, .f32⟩
  | 115 => ⟨S16384x1024, .f32⟩
  | 116 => ⟨S16384x1024, .bf16⟩
  | _ => ⟨S16896x1024, .f32⟩

abbrev hbmTy (i : Nat) : BufTy := match i / 128 with
  | 0 => hbmTy0_0 i
  | 1 => hbmTy0_1 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_call0_call0_cst : Ref sig .tc := ⟨.hbm, 48, rfl⟩
abbrev main_call0_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_4 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_5 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_6 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_7 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_call1_v0 : Ref sig .tc := ⟨.hbm, 113, rfl⟩
abbrev main_call1_call0_cst : Ref sig .tc := ⟨.hbm, 114, rfl⟩
abbrev main_call1_call0_v0 : Ref sig .tc := ⟨.hbm, 115, rfl⟩
abbrev main_call1_call0_v1 : Ref sig .tc := ⟨.hbm, 116, rfl⟩
abbrev main_call1_call0_v2 : Ref sig .tc := ⟨.hbm, 117, rfl⟩
abbrev main_call1_call0_v3 : Ref sig .tc := ⟨.hbm, 118, rfl⟩
abbrev main_call1_call0_v4 : Ref sig .tc := ⟨.hbm, 119, rfl⟩
abbrev main_call1_call0_v5 : Ref sig .tc := ⟨.hbm, 120, rfl⟩
abbrev main_call1_call0_v6 : Ref sig .tc := ⟨.hbm, 121, rfl⟩
abbrev main_call1_call0_v7 : Ref sig .tc := ⟨.hbm, 122, rfl⟩
abbrev main_call1_call0_v8 : Ref sig .tc := ⟨.hbm, 123, rfl⟩
abbrev main_call1_call0_v9 : Ref sig .tc := ⟨.hbm, 124, rfl⟩
abbrev main_call1_call0_v10 : Ref sig .tc := ⟨.hbm, 125, rfl⟩
abbrev main_call1_call0_v11 : Ref sig .tc := ⟨.hbm, 126, rfl⟩
abbrev main_call1_v1 : Ref sig .tc := ⟨.hbm, 127, rfl⟩
abbrev main_v91 : Ref sig .tc := ⟨.hbm, 128, rfl⟩
abbrev main_cst_8 : Ref sig .tc := ⟨.hbm, 129, rfl⟩
abbrev main_v92 : Ref sig .tc := ⟨.hbm, 130, rfl⟩
abbrev main_v93 : Ref sig .tc := ⟨.hbm, 131, rfl⟩
abbrev main_cst_9 : Ref sig .tc := ⟨.hbm, 132, rfl⟩
abbrev main_v94 : Ref sig .tc := ⟨.hbm, 133, rfl⟩
abbrev main_cst_10 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_11 : Ref sig .tc := ⟨.hbm, 145, rfl⟩
abbrev main_v105 : Ref sig .tc := ⟨.hbm, 146, rfl⟩
abbrev main_c_12 : Ref sig .tc := ⟨.hbm, 147, rfl⟩
abbrev main_v106_0 : Ref sig .tc := ⟨.hbm, 148, rfl⟩
abbrev main_v106_1 : Ref sig .tc := ⟨.hbm, 149, rfl⟩
abbrev main_v106_2 : Ref sig .tc := ⟨.hbm, 150, rfl⟩
abbrev main_v106_3 : Ref sig .tc := ⟨.hbm, 151, rfl⟩
abbrev main_v106_4 : Ref sig .tc := ⟨.hbm, 152, rfl⟩
abbrev main_v106_5 : Ref sig .tc := ⟨.hbm, 153, rfl⟩
abbrev main_v106_6 : Ref sig .tc := ⟨.hbm, 154, rfl⟩
abbrev main_while0c_c_26 : Ref sig .tc := ⟨.hbm, 155, rfl⟩
abbrev main_while0c_v142 : Ref sig .tc := ⟨.hbm, 156, rfl⟩
abbrev main_while0b_call2_c : Ref sig .tc := ⟨.hbm, 157, rfl⟩
abbrev main_while0b_call2_c_0 : Ref sig .tc := ⟨.hbm, 158, rfl⟩
abbrev main_while0b_call2_c_1 : Ref sig .tc := ⟨.hbm, 159, rfl⟩
abbrev main_while0b_call2_v0 : Ref sig .tc := ⟨.hbm, 160, rfl⟩
abbrev main_while0b_v142 : Ref sig .tc := ⟨.hbm, 161, rfl⟩
abbrev main_while0b_call3_c : Ref sig .tc := ⟨.hbm, 162, rfl⟩
abbrev main_while0b_call3_c_0 : Ref sig .tc := ⟨.hbm, 163, rfl⟩
abbrev main_while0b_call3_c_1 : Ref sig .tc := ⟨.hbm, 164, rfl⟩
abbrev main_while0b_call3_v0 : Ref sig .tc := ⟨.hbm, 165, rfl⟩
abbrev main_while0b_v143 : Ref sig .tc := ⟨.hbm, 166, rfl⟩
abbrev main_while0b_call4_c : Ref sig .tc := ⟨.hbm, 167, rfl⟩
abbrev main_while0b_call4_c_0 : Ref sig .tc := ⟨.hbm, 168, rfl⟩
abbrev main_while0b_call4_c_1 : Ref sig .tc := ⟨.hbm, 169, rfl⟩
abbrev main_while0b_call4_v0 : Ref sig .tc := ⟨.hbm, 170, rfl⟩
abbrev main_while0b_v144 : Ref sig .tc := ⟨.hbm, 171, rfl⟩
abbrev main_while0b_call5_c : Ref sig .tc := ⟨.hbm, 172, rfl⟩
abbrev main_while0b_call5_c_0 : Ref sig .tc := ⟨.hbm, 173, rfl⟩
abbrev main_while0b_call5_c_1 : Ref sig .tc := ⟨.hbm, 174, rfl⟩
abbrev main_while0b_call5_v0 : Ref sig .tc := ⟨.hbm, 175, rfl⟩
abbrev main_while0b_v145 : Ref sig .tc := ⟨.hbm, 176, rfl⟩
abbrev main_while0b_v146 : Ref sig .tc := ⟨.hbm, 177, rfl⟩
abbrev main_while0b_v147 : Ref sig .tc := ⟨.hbm, 178, rfl⟩
abbrev main_while0b_v148 : Ref sig .tc := ⟨.hbm, 179, rfl⟩
abbrev main_while0b_v149 : Ref sig .tc := ⟨.hbm, 180, rfl⟩
abbrev main_while0b_v150 : Ref sig .tc := ⟨.hbm, 181, rfl⟩
abbrev main_while0b_v151 : Ref sig .tc := ⟨.hbm, 182, rfl⟩
abbrev main_while0b_v152 : Ref sig .tc := ⟨.hbm, 183, rfl⟩
abbrev main_while0b_v153 : Ref sig .tc := ⟨.hbm, 184, rfl⟩
abbrev main_while0b_v154 : Ref sig .tc := ⟨.hbm, 185, rfl⟩
abbrev main_while0b_v155 : Ref sig .tc := ⟨.hbm, 186, rfl⟩
abbrev main_while0b_v156 : Ref sig .tc := ⟨.hbm, 187, rfl⟩
abbrev main_while0b_call6_v0 : Ref sig .tc := ⟨.hbm, 188, rfl⟩
abbrev main_while0b_call6_c : Ref sig .tc := ⟨.hbm, 189, rfl⟩
abbrev main_while0b_call6_c_0 : Ref sig .tc := ⟨.hbm, 190, rfl⟩
abbrev main_while0b_call6_c_1 : Ref sig .tc := ⟨.hbm, 191, rfl⟩
abbrev main_while0b_v157 : Ref sig .tc := ⟨.hbm, 192, rfl⟩
abbrev main_while0b_c_26 : Ref sig .tc := ⟨.hbm, 193, rfl⟩
abbrev main_while0b_v158 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_cst_13 : Ref sig .tc := ⟨.hbm, 198, rfl⟩
abbrev main_v110 : Ref sig .tc := ⟨.hbm, 199, rfl⟩
abbrev main_v111 : Ref sig .tc := ⟨.hbm, 200, rfl⟩
abbrev main_cst_14 : Ref sig .tc := ⟨.hbm, 201, rfl⟩
abbrev main_v112 : Ref sig .tc := ⟨.hbm, 202, rfl⟩
abbrev main_v113 : Ref sig .tc := ⟨.hbm, 203, rfl⟩
abbrev main_cst_15 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_call7_v0 : Ref sig .tc := ⟨.hbm, 214, rfl⟩
abbrev main_call7_v1 : Ref sig .tc := ⟨.hbm, 215, rfl⟩
abbrev main_call7_cst : Ref sig .tc := ⟨.hbm, 216, rfl⟩
abbrev main_call7_v2 : Ref sig .tc := ⟨.hbm, 217, rfl⟩
abbrev main_call7_v3 : Ref sig .tc := ⟨.hbm, 218, rfl⟩
abbrev main_call7_cst_0 : Ref sig .tc := ⟨.hbm, 219, rfl⟩
abbrev main_call7_v4 : Ref sig .tc := ⟨.hbm, 220, rfl⟩
abbrev main_call7_v5 : Ref sig .tc := ⟨.hbm, 221, rfl⟩
abbrev main_v123 : Ref sig .tc := ⟨.hbm, 222, rfl⟩
abbrev main_v124 : Ref sig .tc := ⟨.hbm, 223, rfl⟩
abbrev main_v125 : Ref sig .tc := ⟨.hbm, 224, rfl⟩
abbrev main_v126 : Ref sig .tc := ⟨.hbm, 225, rfl⟩
abbrev main_cst_16 : Ref sig .tc := ⟨.hbm, 226, rfl⟩
abbrev main_v127 : Ref sig .tc := ⟨.hbm, 227, rfl⟩
abbrev main_v128 : Ref sig .tc := ⟨.hbm, 228, rfl⟩
abbrev main_cst_17 : Ref sig .tc := ⟨.hbm, 229, rfl⟩
abbrev main_v129 : Ref sig .tc := ⟨.hbm, 230, rfl⟩
abbrev main_v130 : Ref sig .tc := ⟨.hbm, 231, rfl⟩
abbrev main_v131 : Ref sig .tc := ⟨.hbm, 232, rfl⟩
abbrev main_v132 : Ref sig .tc := ⟨.hbm, 233, rfl⟩
abbrev main_v133 : Ref sig .tc := ⟨.hbm, 234, rfl⟩
abbrev main_cst_18 : Ref sig .tc := ⟨.hbm, 235, rfl⟩
abbrev main_v134 : Ref sig .tc := ⟨.hbm, 236, rfl⟩
abbrev main_v135 : Ref sig .tc := ⟨.hbm, 237, rfl⟩
abbrev main_cst_19 : Ref sig .tc := ⟨.hbm, 238, rfl⟩
abbrev main_v136 : Ref sig .tc := ⟨.hbm, 239, rfl⟩
abbrev main_v137 : Ref sig .tc := ⟨.hbm, 240, rfl⟩
abbrev main_v138 : Ref sig .tc := ⟨.hbm, 241, rfl⟩
abbrev main_v139 : Ref sig .tc := ⟨.hbm, 242, rfl⟩
abbrev main_v140 : Ref sig .tc := ⟨.hbm, 243, rfl⟩
abbrev main_v141 : Ref sig .tc := ⟨.hbm, 244, rfl⟩

abbrev nD : Nat := 1
abbrev τ : Topo := Topo.v7x

variable {F : FTy → Type} [FloatOps F]

abbrev main_while0_count : Scf.Loop 32 := ⟨0#32, 2048#32, 1#32⟩
-- ==== Ffn.lean ====
abbrev S512x1024 : Shape := ⟨2, ![512, 1024]⟩
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S16896x1024 : Shape := ⟨2, ![16896, 1024]⟩
abbrev S256x1024 : Shape := ⟨2, ![256, 1024]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S1536x1024 : Shape := ⟨2, ![1536, 1024]⟩
abbrev S1024x1280 : Shape := ⟨2, ![1024, 1280]⟩
abbrev S256x1280 : Shape := ⟨2, ![256, 1280]⟩
abbrev S1280x1024 : Shape := ⟨2, ![1280, 1024]⟩

abbrev nBuf : Space → Nat
  | .hbm => 7
  | .vmem => 10
  | .smem => 0
  | _ => 0

abbrev bufTy : (tb : Table) → Fin (tcTables nBuf tb) → BufTy
  | .hbm, ⟨0, _⟩ => ⟨S512x1024, .f32⟩
  | .hbm, ⟨1, _⟩ => ⟨S16384x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x2816, .f32⟩
  | .local _ .vmem, ⟨6, _⟩ => ⟨S1024x2816, .f32⟩
  | .local _ .vmem, ⟨7, _⟩ => ⟨S2816x1024, .f32⟩
  | .local _ .vmem, ⟨8, _⟩ => ⟨S512x1024, .f32⟩
  | .local _ .vmem, ⟨9, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S512x1024 : Shape := ⟨2, ![512, 1024]⟩
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S16896x1024 : Shape := ⟨2, ![16896, 1024]⟩
abbrev S1024 : Shape := ⟨1, ![1024]⟩
abbrev S_ : Shape := ⟨0, ![]⟩
abbrev S16896 : Shape := ⟨1, ![16896]⟩
abbrev S16896x1 : Shape := ⟨2, ![16896, 1]⟩
abbrev S16896x2816 : Shape := ⟨2, ![16896, 2816]⟩

abbrev nBuf : Space → Nat
  | .hbm => 41
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S16384x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16896x1024, .f32⟩
  | .hbm, ⟨7, _⟩ => ⟨S1024, .f32⟩
  | .hbm, ⟨8, _⟩ => ⟨S16896x1024, .f32⟩
  | .hbm, ⟨9, _⟩ => ⟨S_, .f32⟩
  | .hbm, ⟨10, _⟩ => ⟨S16896, .f32⟩
  | .hbm, ⟨11, _⟩ => ⟨S16896x1, .f32⟩
  | .hbm, ⟨12, _⟩ => ⟨S_, .f32⟩
  | .hbm, ⟨13, _⟩ => ⟨S16896x1, .f32⟩
  | .hbm, ⟨14, _⟩ => ⟨S16896x1, .f32⟩
  | .hbm, ⟨15, _⟩ => ⟨S_, .f32⟩
  | .hbm, ⟨16, _⟩ => ⟨S16896x1, .f32⟩
  | .hbm, ⟨17, _⟩ => ⟨S16896x1, .f32⟩
  | .hbm, ⟨18, _⟩ => ⟨S16896x1, .f32⟩
  | .hbm, ⟨19, _⟩ => ⟨S16896x1024, .f32⟩
  | .hbm, ⟨20, _⟩ => ⟨S16896x1024, .f32⟩
  | .hbm, ⟨21, _⟩ => ⟨S1x1024, .f32⟩
  | .hbm, ⟨22, _⟩ => ⟨S16896x1024, .f32⟩
  | .hbm, ⟨23, _⟩ => ⟨S16896x1024, .f32⟩
  | .hbm, ⟨24, _⟩ => ⟨S16896x2816, .f32⟩
  | .hbm, ⟨25, _⟩ => ⟨S16896x2816, .f32⟩
  | .hbm, ⟨26, _⟩ => ⟨S16896x2816, .f32⟩
  | .hbm, ⟨27, _⟩ => ⟨S_, .f32⟩
  | .hbm, ⟨28, _⟩ => ⟨S16896x2816, .f32⟩
  | .hbm, ⟨29, _⟩ => ⟨S16896x2816, .f32⟩
  | .hbm, ⟨30, _⟩ => ⟨S_, .f32⟩
  | .hbm, ⟨31, _⟩ => ⟨S16896x2816, .f32⟩
  | .hbm, ⟨32, _⟩ => ⟨S16896x2816, .f32⟩
  | .hbm, ⟨33, _⟩ => ⟨S16896x2816, .f32⟩
  | .hbm, ⟨34, _⟩ => ⟨S16896x2816, .f32⟩
  | .hbm, ⟨35, _⟩ => ⟨S16896x2816, .f32⟩
  | .hbm, ⟨36, _⟩ => ⟨S16896x1024, .f32⟩
  | .hbm, ⟨37, _⟩ => ⟨S_, .f32⟩
  | .hbm, ⟨38, _⟩ => ⟨S16896x1024, .f32⟩
  | .hbm, ⟨39, _⟩ => ⟨S16896x1024, .f32⟩
  | .hbm, ⟨40, _⟩ => ⟨S16896x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩

abbrev nD : Nat := 1
abbrev τ : Topo := Topo.v7x

variable {F : FTy → Type} [FloatOps F]
-- ==== Proof.Spec.lean ====
/-
  The token mixers as real functions: the projections of a row, the pool, the gated linear attention token by token and
  chunk by chunk, and the equality of the two.
-/
module

public import Mathlib.Analysis.SpecialFunctions.Pow.Real
public import Mathlib.Analysis.SpecialFunctions.Trigonometric.DerivHyp
public import Mathlib.Analysis.SpecialFunctions.Log.Basic

@[expose] public section

noncomputable section

namespace Cert.Spec

/-- The weights. -/
structure Wt where
  MN : ℕ → ℕ → ℝ
  WA : ℕ → ℕ → ℝ
  WB : ℕ → ℕ → ℝ
  WLR : ℕ → ℕ → ℝ
  WGK : ℕ → ℕ → ℝ
  BGK : ℕ → ℕ → ℝ
  GN : ℕ → ℕ → ℝ
  PW : ℕ → ℕ → ℕ → ℝ
  PS : ℕ → ℕ → ℝ

/-- The small number under the root. -/
def eps : ℝ := 8796093 / 2 ^ 43
/-- The scale of the queries. -/
def dks : ℝ := 11863283 / 2 ^ 27
/-- One sixteenth, in the exponent's base. -/
def dec : ℝ := (16 * Real.log 2)⁻¹

theorem eps_pos : 0 < eps := by unfold eps; norm_num

section Rows
variable (w : Wt) (H : ℕ → ℕ → ℝ)

def xb (a c : ℕ) : ℝ := H a c * (√((∑ j ∈ Finset.range 1024, H a j * H a j) / 1024 + eps))⁻¹ * w.MN 0 c
def pr (W : ℕ → ℕ → ℝ) (a c : ℕ) : ℝ := ∑ k ∈ Finset.range 1024, xb w H a k * W k c
def uu (a c : ℕ) : ℝ := pr w H w.WA a c
def qq (a c : ℕ) : ℝ := pr w H w.WA a (1024 + c) * dks
def kk (a c : ℕ) : ℝ := pr w H w.WA a (1536 + c)
def vv (a c : ℕ) : ℝ := pr w H w.WA a (2048 + c)
def zz (a c : ℕ) : ℝ := (∑ k ∈ Finset.range 128, pr w H w.WLR a k * w.WGK k c) + w.BGK 0 c
def gg (a c : ℕ) : ℝ := (min (zz w H a c) 0 - Real.log (1 + Real.exp (0 - |zz w H a c|))) * dec
def gt (a c : ℕ) : ℝ :=
  if c < 1024 then pr w H w.WB a c * (1 / 2 * Real.tanh (1 / 2 * pr w H w.WB a c) + 1 / 2)
  else 1 / 2 * Real.tanh (1 / 2 * pr w H w.WB a c) + 1 / 2
/-- The mixed row from the pool's and the attention's results. -/
def fin (pl o : ℕ → ℕ → ℝ) (a c : ℕ) : ℝ :=
  gt w H a (1024 + c) * pl a c + gt w H a (2048 + c) *
    (o a c * (√((∑ d ∈ Finset.range 256, o a (256 * (c / 256) + d) * o a (256 * (c / 256) + d)) / 256 + eps))⁻¹ * w.GN 0 (c % 256) * gt w H a c)
end Rows

section Pool
/-- The history rows before the tile's rows. -/
def ext (U X : ℕ → ℕ → ℝ) (a c : ℕ) : ℝ := if a < 32 then X a c else U (a - 32) c
/-- The sum of a row and the `n - 1` rows before it. -/
def win (E : ℕ → ℕ → ℝ) (n a c : ℕ) : ℝ := ∑ s ∈ Finset.range n, E (a - s) c
theorem win_double (E : ℕ → ℕ → ℝ) (n a c : ℕ) : win E n a c + win E n (a - n) c = win E (n + n) a c := by
  unfold win
  rw [Finset.sum_range_add]
  congr 1
  exact Finset.sum_congr rfl fun s _ => by rw [Nat.sub_sub]
def pp (l : ℕ) (E : ℕ → ℕ → ℝ) (r c : ℕ) : ℝ :=
  win E (2 ^ (c / 256 + 1)) (32 + r) c * (1 / ((min (1 + 512 * l + r) (2 ^ (c / 256 + 1)) : ℕ) : ℝ)) - E (32 + r) c
def pl (w : Wt) (l : ℕ) (E : ℕ → ℕ → ℝ) (r c : ℕ) : ℝ :=
  (∑ j ∈ Finset.range 256, pp l E r (256 * (c / 256) + j) * w.PW (c / 256) j (c % 256)) * w.PS 0 c
end Pool

section Attn
variable (Q K V G : ℕ → ℕ → ℝ)

/-- The log decay from a chunk's start to its row `i`. -/
def cb (ci i c : ℕ) : ℝ := ∑ j ∈ Finset.range (i + 1), G (128 * ci + j) c
def rf (lv i : ℕ) : ℕ := i / 2 ^ (lv + 1) * 2 ^ (lv + 1) + 2 ^ lv - 1
def ex (lv ci i c : ℕ) : ℝ :=
  if i / 2 ^ lv % 2 = 1 then cb G ci i c - cb G ci (rf lv i) c else cb G ci (rf lv i) c - cb G ci i c
def mop (lv ci i c : ℕ) : ℝ :=
  (if i / 2 ^ lv % 2 = 1 then Q (128 * ci + i) c else K (128 * ci + i) c) * (2 : ℝ) ^ ex G lv ci i c
def mk (lv i j : ℕ) : ℝ := if i / 2 ^ (lv + 1) = j / 2 ^ (lv + 1) ∧ i / 2 ^ lv % 2 = 1 ∧ j / 2 ^ lv % 2 = 0 then 1 else 0
/-- The scores below the diagonal, level by level. -/
def atl (ci hd i j : ℕ) : ℝ :=
  ∑ lv ∈ Finset.range 7, mk lv i j * ∑ c ∈ Finset.range 128, mop Q K G lv ci i (128 * hd + c) * mop Q K G lv ci j (128 * hd + c)
def sc (ci hd i j : ℕ) : ℝ :=
  ∑ c ∈ Finset.range 128, Q (128 * ci + i) (128 * hd + c) * K (128 * ci + j) (128 * hd + c) *
    (2 : ℝ) ^ (cb G ci i (128 * hd + c) - cb G ci j (128 * hd + c))

theorem mk_mul (lv ci hd i j : ℕ) :
    mk lv i j * ∑ c ∈ Finset.range 128, mop Q K G lv ci i (128 * hd + c) * mop Q K G lv ci j (128 * hd + c) = mk lv i j * sc Q K G ci hd i j := by
  unfold mk
  split_ifs with h
  · obtain ⟨h1, h2, h3⟩ := h
    congr 1
    refine Finset.sum_congr rfl fun c _ => ?_
    have hr : rf lv i = rf lv j := by unfold rf; rw [h1]
    have h3' : ¬ (j / 2 ^ lv % 2 = 1) := by omega
    unfold mop ex
    rw [if_pos h2, if_neg h3', if_pos h2, if_neg h3', hr]
    rw [mul_mul_mul_comm, ← Real.rpow_add (by norm_num : (0 : ℝ) < 2)]
    congr 2
    ring
  · simp

theorem mk_step (lv i j : ℕ) :
    (if j / 2 ^ lv < i / 2 ^ lv then (1 : ℝ) else 0) = (if j / 2 ^ (lv + 1) < i / 2 ^ (lv + 1) then (1 : ℝ) else 0) + mk lv i j := by
  unfold mk
  have e : ∀ x : ℕ, x / 2 ^ (lv + 1) = x / 2 ^ lv / 2 := fun x => by rw [pow_succ, Nat.div_div_eq_div_mul]
  rw [e, e]
  generalize i / 2 ^ lv = x
  generalize j / 2 ^ lv = y
  split_ifs <;> first | (exfalso; omega) | norm_num

theorem mk_sum (n i j : ℕ) :
    (if j < i then (1 : ℝ) else 0) = (if j / 2 ^ n < i / 2 ^ n then (1 : ℝ) else 0) + ∑ lv ∈ Finset.range n, mk lv i j := by
  induction n with
  | zero => simp
  | succ n ih => rw [Finset.sum_range_succ, ih, mk_step n]; ring

theorem atl_eq (ci hd i j : ℕ) (hi : i < 128) (hj : j < 128) :
    atl Q K G ci hd i j = if j < i then sc Q K G ci hd i j else 0 := by
  unfold atl
  rw [Finset.sum_congr rfl fun lv _ => mk_mul Q K G lv ci hd i j, ← Finset.sum_mul]
  have h := mk_sum 7 i j
  have hi0 : i / 2 ^ 7 = 0 := Nat.div_eq_of_lt (by norm_num; omega)
  rw [hi0, if_neg (Nat.not_lt_zero _), zero_add] at h
  rw [← h]
  split_ifs <;> simp

/-- The state after `n` chunks, from the state `S`. -/
def SS (S : ℕ → ℕ → ℕ → ℝ) : ℕ → ℕ → ℕ → ℕ → ℝ
  | 0 => S
  | ci + 1 => fun hd c d => SS S ci hd c d * (2 : ℝ) ^ cb G ci 127 (128 * hd + c) +
      ∑ j ∈ Finset.range 128, K (128 * ci + j) (128 * hd + c) * (2 : ℝ) ^ (cb G ci 127 (128 * hd + c) - cb G ci j (128 * hd + c)) *
        V (128 * ci + j) (256 * hd + d)
def oo (S : ℕ → ℕ → ℕ → ℝ) (ci hd i d : ℕ) : ℝ :=
  (∑ c ∈ Finset.range 128, Q (128 * ci + i) (128 * hd + c) * (2 : ℝ) ^ cb G ci i (128 * hd + c) * SS K V G S ci hd c d +
    ∑ j ∈ Finset.range 128, atl Q K G ci hd i j * V (128 * ci + j) (256 * hd + d)) +
  (∑ c ∈ Finset.range 128, Q (128 * ci + i) (128 * hd + c) * K (128 * ci + i) (128 * hd + c)) * V (128 * ci + i) (256 * hd + d)
/-- The tile's attention results, row and column. -/
def ot (S : ℕ → ℕ → ℕ → ℝ) (a c : ℕ) : ℝ := oo Q K V G S (a / 128) (c / 256) (a % 128) (c % 256)

/-- The state after `t` tokens. -/
def St : ℕ → ℕ → ℕ → ℕ → ℝ
  | 0 => fun _ _ _ => 0
  | t + 1 => fun hd c d => St t hd c d * (2 : ℝ) ^ G t (128 * hd + c) + K t (128 * hd + c) * V t (256 * hd + d)

theorem St_run (t n hd c d : ℕ) :
    St K V G (t + n) hd c d = St K V G t hd c d * (2 : ℝ) ^ (∑ j ∈ Finset.range n, G (t + j) (128 * hd + c)) +
      ∑ j ∈ Finset.range n, K (t + j) (128 * hd + c) *
        (2 : ℝ) ^ ((∑ i ∈ Finset.range n, G (t + i) (128 * hd + c)) - ∑ i ∈ Finset.range (j + 1), G (t + i) (128 * hd + c)) * V (t + j) (256 * hd + d) := by
  induction n with
  | zero => simp
  | succ n ih =>
    show St K V G (t + n) hd c d * (2 : ℝ) ^ G (t + n) (128 * hd + c) + K (t + n) (128 * hd + c) * V (t + n) (256 * hd + d) = _
    rw [ih, Finset.sum_range_succ (fun j => K (t + j) _ * _ * _), sub_self, Real.rpow_zero, mul_one, ← add_assoc, add_mul]
    congr 1
    congr 1
    · rw [mul_assoc, ← Real.rpow_add (by norm_num : (0 : ℝ) < 2), ← Finset.sum_range_succ (fun j => G (t + j) _)]
    · rw [Finset.sum_mul]
      refine Finset.sum_congr rfl fun j _ => ?_
      rw [Finset.sum_range_succ (fun j => G (t + j) _) n]
      rw [show ((∑ x ∈ Finset.range n, G (t + x) (128 * hd + c)) + G (t + n) (128 * hd + c) - ∑ i ∈ Finset.range (j + 1), G (t + i) (128 * hd + c)) =
        ((∑ x ∈ Finset.range n, G (t + x) (128 * hd + c)) - ∑ i ∈ Finset.range (j + 1), G (t + i) (128 * hd + c)) + G (t + n) (128 * hd + c) by ring,
        Real.rpow_add (by norm_num : (0 : ℝ) < 2)]
      ring

variable (t : ℕ)
theorem SS_eq (ci : ℕ) : SS (fun a => K (t + a)) (fun a => V (t + a)) (fun a => G (t + a)) (St K V G t) ci = St K V G (t + 128 * ci) := by
  induction ci with
  | zero => rfl
  | succ ci ih =>
    funext hd c d
    rw [show t + 128 * (ci + 1) = (t + 128 * ci) + 128 by ring, St_run]
    unfold SS
    rw [ih]
    simp only [cb, Nat.add_assoc]

theorem oo_eq (ci hd i d : ℕ) (hi : i < 128) :
    oo (fun a => Q (t + a)) (fun a => K (t + a)) (fun a => V (t + a)) (fun a => G (t + a)) (St K V G t) ci hd i d =
      ∑ c ∈ Finset.range 128, Q (t + (128 * ci + i)) (128 * hd + c) * St K V G (t + (128 * ci + i) + 1) hd c d := by
  unfold oo
  rw [SS_eq]
  have e1 : ∑ j ∈ Finset.range 128, atl (fun a => Q (t + a)) (fun a => K (t + a)) (fun a => G (t + a)) ci hd i j * V (t + (128 * ci + j)) (256 * hd + d) =
      ∑ j ∈ Finset.range i, sc (fun a => Q (t + a)) (fun a => K (t + a)) (fun a => G (t + a)) ci hd i j * V (t + (128 * ci + j)) (256 * hd + d) := by
    rw [← Finset.sum_subset (Finset.range_subset_range.mpr hi.le)]
    · refine Finset.sum_congr rfl fun j hj => ?_
      rw [atl_eq _ _ _ _ _ _ _ hi ((Finset.mem_range.mp hj).trans hi), if_pos (Finset.mem_range.mp hj)]
    · intro j hj hj'
      rw [atl_eq _ _ _ _ _ _ _ hi (Finset.mem_range.mp hj), if_neg (fun h => hj' (Finset.mem_range.mpr h)), zero_mul]
  rw [e1]
  have e2 := fun c => (congrArg (fun t => St K V G t hd c d) (show t + (128 * ci + i) + 1 = (t + 128 * ci) + (i + 1) by ring)).trans
    (St_run K V G (t + 128 * ci) (i + 1) hd c d)
  beta_reduce at e2
  simp only [e2, sc, cb, Finset.sum_mul, mul_add, Finset.sum_add_distrib, Finset.mul_sum]
  rw [add_assoc]
  congr 1
  · refine Finset.sum_congr rfl fun c _ => ?_
    simp only [Nat.add_assoc]
    ring
  · rw [Finset.sum_comm, ← Finset.sum_add_distrib]
    refine Finset.sum_congr rfl fun c _ => ?_
    rw [Finset.sum_range_succ (fun j => Q (t + (128 * ci + i)) (128 * hd + c) * _) i, sub_self, Real.rpow_zero]
    congr 1
    · refine Finset.sum_congr rfl fun j _ => ?_
      simp only [Nat.add_assoc]
      ring
    · simp only [Nat.add_assoc]
      ring
end Attn

end Cert.Spec

end
-- ==== Proof.Seq.lean ====
/-
  The token mixers of one sequence, token by token: the pool over the rows so far, the gated linear attention's outputs
  and the mixed row.
-/
module

public import proofs.«01_k».proof.Proof.Spec

@[expose] public section

noncomputable section

namespace Cert.Spec

/-- The sum of the last `n` rows at row `a`, those before the first counting zero. -/
def winq (U : ℕ → ℕ → ℝ) (n a c : ℕ) : ℝ := ∑ s ∈ Finset.range n, if s ≤ a then U (a - s) c else 0
/-- The mean of the last rows less the row. -/
def ppq (U : ℕ → ℕ → ℝ) (a c : ℕ) : ℝ :=
  winq U (2 ^ (c / 256 + 1)) a c * (1 / ((min (1 + a) (2 ^ (c / 256 + 1)) : ℕ) : ℝ)) - U a c
/-- The pool's result. -/
def plq (w : Wt) (U : ℕ → ℕ → ℝ) (a c : ℕ) : ℝ :=
  (∑ j ∈ Finset.range 256, ppq U a (256 * (c / 256) + j) * w.PW (c / 256) j (c % 256)) * w.PS 0 c
/-- The attention's result. -/
def otq (Q K V G : ℕ → ℕ → ℝ) (a c : ℕ) : ℝ :=
  ∑ x ∈ Finset.range 128, Q a (128 * (c / 256) + x) * St K V G (a + 1) (c / 256) x (c % 256)
/-- The mixed row. -/
def mixq (w : Wt) (H : ℕ → ℕ → ℝ) : ℕ → ℕ → ℝ := fin w H (plq w (uu w H)) (otq (qq w H) (kk w H) (vv w H) (gg w H))

end Cert.Spec

end
-- ==== Proof.Rep.lean ====
/-
  Real arrays behind extended-real arrays: `R2 X f` says that the two-axis array `X` holds, at row `a` and column `b`,
  the real number `f a b`. One lemma per operation carries the real function through it; `On2` says the same of the part
  of a buffer the stores have reached so far.
-/
module

public import Idealize.ShloMosaic.Lib.Pointwise
public import Idealize.ShloMosaic.Lib.MatmulPlain
public import Idealize.ShloMosaic.Lib.KernelVsHost
public import Idealize.ShloMosaic.Lib.Pipeline.Value
public import Idealize.ShloMosaic.Lib.Pipeline.FrameBody

@[expose] public section

noncomputable section

namespace Cert.Rep

open Idealize.ShloMosaic Idealize.SL.Sem

/-- A one-axis array of reals. -/
def R1 {n : ℕ} (X : (⟨1, ![n]⟩ : Shape).Idx → EReal) (f : ℕ → ℝ) : Prop := ∀ a : Fin n, X (ix1 a) = ((f a : ℝ) : EReal)
/-- A two-axis array of reals. -/
def R2 {n m : ℕ} (X : (⟨2, ![n, m]⟩ : Shape).Idx → EReal) (f : ℕ → ℕ → ℝ) : Prop :=
  ∀ (a : Fin n) (b : Fin m), X (ix2 a b) = ((f a b : ℝ) : EReal)
/-- A three-axis array of reals. -/
def R3 {n m k : ℕ} (X : (⟨3, ![n, m, k]⟩ : Shape).Idx → EReal) (f : ℕ → ℕ → ℕ → ℝ) : Prop :=
  ∀ (a : Fin n) (b : Fin m) (c : Fin k), X (ix3 a b c) = ((f a b c : ℝ) : EReal)
/-- A four-axis array of reals. -/
def R4 {n m k l : ℕ} (X : (⟨4, ![n, m, k, l]⟩ : Shape).Idx → EReal) (f : ℕ → ℕ → ℕ → ℕ → ℝ) : Prop :=
  ∀ (a : Fin n) (b : Fin m) (c : Fin k) (d : Fin l), X (ix4 a b c d) = ((f a b c d : ℝ) : EReal)

variable {n m k l p q r : ℕ} {φ ψ : FTy}

theorem R2.congr {X : (⟨2, ![n, m]⟩ : Shape).Idx → EReal} {f g : ℕ → ℕ → ℝ} (h : R2 X f)
    (e : ∀ a b, a < n → b < m → f a b = g a b) : R2 X g := fun a b => by rw [h a b, e a b a.2 b.2]
theorem R3.congr {X : (⟨3, ![n, m, k]⟩ : Shape).Idx → EReal} {f g : ℕ → ℕ → ℕ → ℝ} (h : R3 X f)
    (e : ∀ a b c, a < n → b < m → c < k → f a b c = g a b c) : R3 X g := fun a b c => by rw [h a b c, e a b c a.2 b.2 c.2]
theorem R4.congr {X : (⟨4, ![n, m, k, l]⟩ : Shape).Idx → EReal} {f g : ℕ → ℕ → ℕ → ℕ → ℝ} (h : R4 X f)
    (e : ∀ a b c d, a < n → b < m → c < k → d < l → f a b c d = g a b c d) : R4 X g :=
  fun a b c d => by rw [h a b c d, e a b c d a.2 b.2 c.2 d.2]

section Pointwise
variable {X Y : FVec Ideal ⟨2, ![n, m]⟩ φ} {f g : ℕ → ℕ → ℝ}

theorem R2.add (hX : R2 X f) (hY : R2 Y g) : R2 (addf X Y) (fun a b => f a b + g a b) := fun a b => by
  show X (ix2 a b) + Y (ix2 a b) = _
  rw [hX a b, hY a b, ← EReal.coe_add]
theorem R2.sub (hX : R2 X f) (hY : R2 Y g) : R2 (subf X Y) (fun a b => f a b - g a b) := fun a b => by
  show X (ix2 a b) - Y (ix2 a b) = _
  rw [hX a b, hY a b, ← EReal.coe_sub]
theorem R2.mul (hX : R2 X f) (hY : R2 Y g) : R2 (mulf X Y) (fun a b => f a b * g a b) := fun a b => by
  show X (ix2 a b) * Y (ix2 a b) = _
  rw [hX a b, hY a b, ← EReal.coe_mul]
theorem R2.div (hX : R2 X f) (hY : R2 Y g) (h0 : ∀ a b, a < n → b < m → g a b ≠ 0) :
    R2 (divf X Y) (fun a b => f a b / g a b) := fun a b => by
  show Ideal.div (X (ix2 a b)) (Y (ix2 a b)) = _
  rw [hX a b, hY a b, Ideal.div_coe (h0 a b a.2 b.2), ← EReal.coe_mul, mul_one_div]
theorem R2.exp2 (hX : R2 X f) : R2 (exp2 X) (fun a b => (2 : ℝ) ^ (f a b)) := fun a b => by
  show Ideal.exp2 (X (ix2 a b)) = _
  rw [hX a b]; rfl
theorem R2.exp (hX : R2 X f) : R2 (exp X) (fun a b => Real.exp (f a b)) := fun a b => by
  show Ideal.exp (X (ix2 a b)) = _
  rw [hX a b]; rfl
theorem R2.tanh (hX : R2 X f) : R2 (tanh X) (fun a b => Real.tanh (f a b)) := fun a b => by
  show Ideal.tanh (X (ix2 a b)) = _
  rw [hX a b]; rfl
theorem R2.absf (hX : R2 X f) : R2 (absf X) (fun a b => |f a b|) := fun a b => by
  show max (X (ix2 a b)) (-(X (ix2 a b))) = _
  rw [hX a b, ← EReal.coe_neg]
  exact (EReal.coe_strictMono.monotone.map_max (a := f a b) (b := -f a b)).symm
theorem R2.min (hX : R2 X f) (hY : R2 Y g) : R2 (minimumf X Y) (fun a b => Min.min (f a b) (g a b)) := fun a b => by
  show Min.min (X (ix2 a b)) (Y (ix2 a b)) = _
  rw [hX a b, hY a b]
  exact (EReal.coe_strictMono.monotone.map_min (a := f a b) (b := g a b)).symm
theorem R2.log1p (hX : R2 X f) (h0 : ∀ a b, 0 < f a b) : R2 (log1p X) (fun a b => Real.log (1 + f a b)) := fun a b => by
  show Ideal.log1p (X (ix2 a b)) = _
  rw [hX a b, Ideal.log1p]
  have h : (1 : EReal) + ((f a b : ℝ) : EReal) = ((1 + f a b : ℝ) : EReal) := by push_cast; rfl
  rw [h]
  have h1 : ¬ (1 + f a b) ≤ 0 := by have := h0 a b; linarith
  rw [Ideal.log_coe, if_neg h1]
theorem R2.rsqrt (hX : R2 X f) (h0 : ∀ a b, 0 < f a b) : R2 (rsqrt X) (fun a b => (Real.sqrt (f a b))⁻¹) := fun a b => by
  show Ideal.rsqrt (X (ix2 a b)) = _
  rw [hX a b, Ideal.rsqrt_coe, if_neg (not_lt.mpr (h0 a b).le), if_neg (h0 a b).ne']
theorem R2.truncf (h : ψ.bits < φ.bits) (hX : R2 X f) : R2 (truncf ψ X h) f := hX
theorem R2.extf (h : φ.bits < ψ.bits) (hX : R2 X f) : R2 (extf ψ X h) f := hX
theorem R2.const {c : Ideal φ} {x : ℝ} (h : c = ((x : ℝ) : EReal)) :
    R2 (broadcast ⟨2, ![n, m]⟩ c : FVec Ideal ⟨2, ![n, m]⟩ φ) (fun _ _ => x) := fun a b => h
end Pointwise

section Layout
variable {f g : ℕ → ℕ → ℝ}

theorem R2.select {X Y : (⟨2, ![n, m]⟩ : Shape).Idx → EReal} {c : IVec ⟨2, ![n, m]⟩ 1} {P : ℕ → Prop} [DecidablePred P]
    (hc : ∀ (a : Fin n) (b : Fin m), c (ix2 a b) = if P a then 1#1 else 0#1) (hX : R2 X f) (hY : R2 Y g) :
    R2 (select c X Y) (fun a b => if P a then f a b else g a b) := fun a b => by
  show Scalar.select (c (ix2 a b)) (X (ix2 a b)) (Y (ix2 a b)) = _
  rw [hc a b, hX a b, hY a b]
  by_cases h : P a <;> simp [h, Scalar.select]

theorem R2.self {X : (⟨2, ![n, m]⟩ : Shape).Idx → EReal} {h : (⟨2, ![n, m]⟩ : Shape).ShapeCasts ⟨2, ![n, m]⟩}
    (hX : R2 X f) : R2 (shapeCast ⟨2, ![n, m]⟩ X h) f := by rw [shapeCast_self]; exact hX

theorem R2.row {X : (⟨2, ![1, m]⟩ : Shape).Idx → EReal} {h : (⟨2, ![1, m]⟩ : Shape).Broadcasts ⟨2, ![n, m]⟩}
    (hX : R2 X f) : R2 (broadcastTo ⟨2, ![n, m]⟩ X h) (fun _ b => f 0 b) := fun a b => by
  rw [broadcastTo_apply X h (ix2 a b) (ix2 (0 : Fin 1) b) (by
    intro c; fin_cases c
    · simp [ix2]
    · by_cases h1 : m = 1
      · subst h1; simp [ix2]
      · simp [ix2, h1])]
  exact hX 0 b
theorem R2.col {X : (⟨2, ![n, 1]⟩ : Shape).Idx → EReal} {h : (⟨2, ![n, 1]⟩ : Shape).Broadcasts ⟨2, ![n, m]⟩}
    (hX : R2 X f) : R2 (broadcastTo ⟨2, ![n, m]⟩ X h) (fun a _ => f a 0) := fun a b => by
  rw [broadcastTo_apply X h (ix2 a b) (ix2 a (0 : Fin 1)) (by
    intro c; fin_cases c
    · by_cases h1 : n = 1
      · subst h1; simp [ix2]
      · simp [ix2, h1]
    · simp [ix2])]
  exact hX a 0
theorem R2.slice {o0 o1 : ℕ} {X : (⟨2, ![n, m]⟩ : Shape).Idx → EReal} {h : (⟨2, ![n, m]⟩ : Shape).Slices ![o0, o1] ⟨2, ![p, q]⟩}
    (hX : R2 X f) : R2 (extractStridedSlice ⟨2, ![p, q]⟩ ![o0, o1] X h) (fun a b => f (o0 + a) (o1 + b)) := fun a b => by
  have h0 : o0 + p ≤ n := h.2 0
  have h1 : o1 + q ≤ m := h.2 1
  rw [extractStridedSlice_apply ![o0, o1] X h (ix2 a b) (ix2 (⟨o0 + a, by omega⟩ : Fin n) (⟨o1 + b, by omega⟩ : Fin m)) (by
    intro c; fin_cases c <;> rfl)]
  exact hX _ _

theorem R3.drop {f : ℕ → ℕ → ℕ → ℝ} {X : (⟨3, ![1, n, m]⟩ : Shape).Idx → EReal}
    {h : (⟨3, ![1, n, m]⟩ : Shape).ShapeCasts ⟨2, ![n, m]⟩} (hX : R3 X f) : R2 (shapeCast ⟨2, ![n, m]⟩ X h) (f 0) := fun a b => by
  rw [shapeCast_apply X h (ix2 a b) (ix3 (0 : Fin 1) a b) (by
    rw [Shape.rowMajor_val_two, Shape.rowMajor_val_three]
    show (0 * n + (a : ℕ)) * m + b = (a : ℕ) * m + b
    simp)]
  exact hX 0 a b
theorem R2.lift {X : (⟨2, ![n, m]⟩ : Shape).Idx → EReal}
    {h : (⟨2, ![n, m]⟩ : Shape).ShapeCasts ⟨3, ![1, n, m]⟩} (hX : R2 X f) : R3 (shapeCast ⟨3, ![1, n, m]⟩ X h) (fun _ => f) :=
  fun c a b => by
  rw [shapeCast_apply X h (ix3 c a b) (ix2 a b) (by
    rw [Shape.rowMajor_val_two, Shape.rowMajor_val_three]
    obtain rfl : c = 0 := Subsingleton.elim _ _
    show (a : ℕ) * m + b = (0 * n + (a : ℕ)) * m + b
    simp)]
  exact hX a b
theorem R4.drop {f : ℕ → ℕ → ℕ → ℕ → ℝ} {X : (⟨4, ![1, 1, n, m]⟩ : Shape).Idx → EReal}
    {h : (⟨4, ![1, 1, n, m]⟩ : Shape).ShapeCasts ⟨2, ![n, m]⟩} (hX : R4 X f) : R2 (shapeCast ⟨2, ![n, m]⟩ X h) (f 0 0) := fun a b => by
  rw [shapeCast_apply X h (ix2 a b) (ix4 (0 : Fin 1) (0 : Fin 1) a b) (by
    rw [Shape.rowMajor_val_two, Shape.rowMajor_val_four]
    show ((0 * 1 + 0) * n + (a : ℕ)) * m + b = (a : ℕ) * m + b
    simp)]
  exact hX 0 0 a b
theorem R2.lift4 {X : (⟨2, ![n, m]⟩ : Shape).Idx → EReal}
    {h : (⟨2, ![n, m]⟩ : Shape).ShapeCasts ⟨4, ![1, 1, n, m]⟩} (hX : R2 X f) :
    R4 (shapeCast ⟨4, ![1, 1, n, m]⟩ X h) (fun _ _ => f) :=
  fun c d a b => by
  rw [shapeCast_apply X h (ix4 c d a b) (ix2 a b) (by
    rw [Shape.rowMajor_val_two, Shape.rowMajor_val_four]
    obtain rfl : c = 0 := Subsingleton.elim _ _
    obtain rfl : d = 0 := Subsingleton.elim _ _
    show (a : ℕ) * m + b = ((0 * 1 + 0) * n + a) * m + b
    simp)]
  exact hX a b

theorem R2.cat1 {X : (⟨2, ![n, p]⟩ : Shape).Idx → EReal} {Y : (⟨2, ![n, q]⟩ : Shape).Idx → EReal}
    {h : Shape.Concatenates [⟨2, ![n, p]⟩, ⟨2, ![n, q]⟩] (⟨2, ![n, m]⟩ : Shape) (1 : Fin 2)} (hX : R2 X f) (hY : R2 Y g) :
    R2 (concatenate (⟨2, ![n, m]⟩ : Shape) (1 : Fin 2) [⟨⟨2, ![n, p]⟩, X⟩, ⟨⟨2, ![n, q]⟩, Y⟩] h) (fun a b => if b < p then f a b else g a (b - p)) :=
  fun a b => by
  have hs : p + q = m := by have := h.2.2; simpa using this
  by_cases hb : (b : ℕ) < p
  · rw [concatenate_pair_apply_left (t := ⟨2, ![n, m]⟩) (1 : Fin 2) X Y h (ix2 a b) rfl (ix2 a (⟨b, hb⟩ : Fin p)) (by
      intro c; fin_cases c <;> rfl), hX]
    simp [hb]
  · have hb' : (b : ℕ) - p < q := by have := b.isLt; omega
    rw [concatenate_pair_apply_right (t := ⟨2, ![n, m]⟩) (1 : Fin 2) X Y h (ix2 a b) rfl rfl (ix2 a (⟨b - p, hb'⟩ : Fin q)) (by
      intro c hc; fin_cases c
      · rfl
      · exact absurd rfl hc) (by show (b : ℕ) - p + p = b; omega), hY]
    simp [hb]
theorem R2.cat0 {X : (⟨2, ![p, m]⟩ : Shape).Idx → EReal} {Y : (⟨2, ![q, m]⟩ : Shape).Idx → EReal}
    {h : Shape.Concatenates [⟨2, ![p, m]⟩, ⟨2, ![q, m]⟩] (⟨2, ![n, m]⟩ : Shape) (0 : Fin 2)} (hX : R2 X f) (hY : R2 Y g) :
    R2 (concatenate (⟨2, ![n, m]⟩ : Shape) (0 : Fin 2) [⟨⟨2, ![p, m]⟩, X⟩, ⟨⟨2, ![q, m]⟩, Y⟩] h) (fun a b => if a < p then f a b else g (a - p) b) :=
  fun a b => by
  have hs : p + q = n := by have := h.2.2; simpa using this
  by_cases hb : (a : ℕ) < p
  · rw [concatenate_pair_apply_left (t := ⟨2, ![n, m]⟩) (0 : Fin 2) X Y h (ix2 a b) rfl (ix2 (⟨a, hb⟩ : Fin p) b) (by
      intro c; fin_cases c <;> rfl), hX]
    simp [hb]
  · have hb' : (a : ℕ) - p < q := by have := a.isLt; omega
    rw [concatenate_pair_apply_right (t := ⟨2, ![n, m]⟩) (0 : Fin 2) X Y h (ix2 a b) rfl rfl (ix2 (⟨a - p, hb'⟩ : Fin q) b) (by
      intro c hc; fin_cases c
      · exact absurd rfl hc
      · rfl) (by show (a : ℕ) - p + p = a; omega), hY]
    simp [hb]

/-- Blocks of `k` rows one under another: row `a` lies in block `a / k`. -/
theorem R2.blocks {N : ℕ} (X : Fin N → (⟨2, ![k, m]⟩ : Shape).Idx → EReal) (hk : 0 < k) (hn : N * k = n)
    {h : Shape.Concatenates ((List.ofFn fun i : Fin N => (⟨⟨2, ![k, m]⟩, X i⟩ : (s : Shape) × (s.Idx → EReal))).map (·.1)) (⟨2, ![n, m]⟩ : Shape) (0 : Fin 2)}
    (f : ℕ → ℕ → ℝ) (hX : ∀ i : Fin N, R2 (X i) (fun _ b => f i b)) :
    R2 (concatenate (⟨2, ![n, m]⟩ : Shape) (0 : Fin 2) (List.ofFn fun i : Fin N => (⟨⟨2, ![k, m]⟩, X i⟩ : (s : Shape) × (s.Idx → EReal))) h)
      (fun a b => f (a / k) b) := fun a b => by
  have ha : (a : ℕ) / k < N := by rw [Nat.div_lt_iff_lt_mul hk, hn]; exact a.isLt
  rw [concatenate_ofFn_apply (t := ⟨2, ![n, m]⟩) (0 : Fin 2) X h rfl k rfl (ix2 a b) ⟨a / k, ha⟩ rfl
    (ix2 (⟨a % k, Nat.mod_lt _ hk⟩ : Fin k) b) rfl (by
      intro c hc; fin_cases c
      · exact absurd rfl hc
      · rfl)]
  exact hX ⟨a / k, ha⟩ _ b

/-- A rotation of the rows by `s`. -/
theorem R2.rotate {sb : BitVec 32} {s : ℕ} (hs : sb.toNat = s) (hlt : s < n) {X : (⟨2, ![n, m]⟩ : Shape).Idx → EReal}
    {h : (⟨2, ![n, m]⟩ : Shape).Rotates 0 none} (hX : R2 X f) :
    R2 (dynamicRotate (s := ⟨2, ![n, m]⟩) 0 sb none X h) (fun a b => f ((a + n - s) % n) b) := fun a b => by
  have hn : 0 < n := by omega
  rw [dynamicRotate_apply (s := ⟨2, ![n, m]⟩) 0 sb X h (ix2 a b) (ix2 (⟨(a + n - s) % n, Nat.mod_lt _ hn⟩ : Fin n) b) (by
    intro c; fin_cases c
    · subst hs
      show ((a : ℕ) + n - sb.toNat) % n = ((a : ℕ) + n - sb.toNat % n) % n
      rw [Nat.mod_eq_of_lt hlt]
    · rfl)]
  exact hX _ _
end Layout

section Sums

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

variable {f g : ℕ → ℕ → ℝ}

theorem R2.matmul {M K N : ℕ} {prec : Option ContractPrecision} {X : FVec Ideal ⟨2, ![M, K]⟩ φ} {Y : FVec Ideal ⟨2, ![K, N]⟩ ψ}
    (hX : R2 X f) (hY : R2 Y g) :
    R2 (Idealize.ShloMosaic.matmul (DotDims.plain M K N) prec X Y (constant ⟨2, ![M, N]⟩ .f32 0x00000000#32)) (fun a b => ∑ k ∈ Finset.range K, f a k * g k b) :=
  fun a b => by
  refine (Idealize.ShloMosaic.Ideal.matmul_plain_apply ..).trans ?_
  have h0 : (constant ⟨2, ![M, N]⟩ .f32 0x00000000#32 : FVec Ideal ⟨2, ![M, N]⟩ .f32) (ix2 a b) = 0 := Ideal.ofBits_zero .f32
  refine (congrArg (· + _) h0).trans ?_
  rw [zero_add]
  refine Eq.trans ?_ ((congrArg (fun x : ℝ => (x : EReal)) (Finset.sum_range _)).trans (coe_sum _ _)).symm
  exact Finset.sum_congr rfl fun k _ => (congrArg₂ (· * ·) (hX a k) (hY k b)).trans (EReal.coe_mul _ _).symm

theorem R2.matmulT {M K N : ℕ} {prec : Option ContractPrecision} {X : FVec Ideal ⟨2, ![M, K]⟩ φ} {Y : FVec Ideal ⟨2, ![N, K]⟩ ψ}
    (hX : R2 X f) (hY : R2 Y g) :
    R2 (Idealize.ShloMosaic.matmul (DotDims.transposedRhs M K N) prec X Y (constant ⟨2, ![M, N]⟩ .f32 0x00000000#32)) (fun a b => ∑ k ∈ Finset.range K, f a k * g b k) :=
  fun a b => by
  refine (Idealize.ShloMosaic.Ideal.matmul_transposedRhs_apply ..).trans ?_
  have h0 : (constant ⟨2, ![M, N]⟩ .f32 0x00000000#32 : FVec Ideal ⟨2, ![M, N]⟩ .f32) (ix2 a b) = 0 := Ideal.ofBits_zero .f32
  refine (congrArg (· + _) h0).trans ?_
  rw [zero_add]
  refine Eq.trans ?_ ((congrArg (fun x : ℝ => (x : EReal)) (Finset.sum_range _)).trans (coe_sum _ _)).symm
  exact Finset.sum_congr rfl fun k _ => (congrArg₂ (· * ·) (hX a k) (hY b k)).trans (EReal.coe_mul _ _).symm

/-- The sum along each row, kept as a column. -/
theorem R2.rowSum {X : FVec Ideal ⟨2, ![n, m]⟩ .f32} {h : (⟨2, ![n, m]⟩ : Shape).Reduces [1] ⟨1, ![n]⟩} {hφ} {ha}
    {hc : (⟨1, ![n]⟩ : Shape).ShapeCasts ⟨2, ![n, 1]⟩} (hX : R2 X f) :
    R2 (shapeCast ⟨2, ![n, 1]⟩ (multiReduction .add [1] ⟨1, ![n]⟩ X 0x00000000#32 h hφ ha) hc)
      (fun a _ => ∑ k ∈ Finset.range m, f a k) := fun a b => by
  have e : multiReduction .add [1] ⟨1, ![n]⟩ X 0x00000000#32 h hφ ha (ix1 a) = ∑ k : Fin m, X (ix2 a k) := by
    pointwise
  rw [shapeCast_apply _ hc (ix2 a b) (ix1 a) (by
    rw [Shape.rowMajor_val_two, Shape.rowMajor_val_one]
    obtain rfl : b = 0 := Subsingleton.elim _ _
    show (a : ℕ) = (a : ℕ) * 1 + 0
    simp), e]
  show _ = ((∑ k ∈ Finset.range m, f a k : ℝ) : EReal)
  rw [ Finset.sum_range, coe_sum]
  exact Finset.sum_congr rfl fun k _ => hX a k
end Sums

/-! ## What a buffer holds where the stores have reached -/

section Stores
variable {Val : EltTy → Type} {e : EltTy} [∀ e, Nonempty (Val e)]

/-- Inside the region `D` the two-axis buffer `Z` holds `G`. -/
def On2 {α : Type} (Z : (⟨2, ![n, m]⟩ : Shape).Idx → α) (D : ℕ → ℕ → Prop) (G : ℕ → ℕ → α) : Prop :=
  ∀ (a : Fin n) (b : Fin m), D a b → Z (ix2 a b) = G a b
def On3 {α : Type} (Z : (⟨3, ![n, m, k]⟩ : Shape).Idx → α) (D : ℕ → ℕ → ℕ → Prop) (G : ℕ → ℕ → ℕ → α) : Prop :=
  ∀ (a : Fin n) (b : Fin m) (c : Fin k), D a b c → Z (ix3 a b c) = G a b c
def On4 {α : Type} (Z : (⟨4, ![n, m, k, l]⟩ : Shape).Idx → α) (D : ℕ → ℕ → ℕ → ℕ → Prop) (G : ℕ → ℕ → ℕ → ℕ → α) : Prop :=
  ∀ (a : Fin n) (b : Fin m) (c : Fin k) (d : Fin l), D a b c d → Z (ix4 a b c d) = G a b c d

/-- `Z'` is `Z` after the store of `w` at the rectangle `r`. -/
structure Stored {S : Shape} {α : Type} (Z Z' : S.Idx → α) (r : Rect S) (w : r.shape.Idx → α) : Prop where
  hit : ∀ x, Z' (r.emb x) = w x
  miss : ∀ y, y ∉ r.set → Z' y = Z y

theorem stored_canon {S : Shape} (r : Rect S) (w : r.shape.Idx → Val e) (L : List (View.Piece Val S e)) :
    Stored (View.canon L) (View.canon (⟨r, w⟩ :: L)) r w :=
  ⟨fun x => View.canon_cons_emb r w L x, fun y hy => View.canon_cons_of_not_mem ⟨r, w⟩ L hy⟩

theorem stored_writes {sig : RefSig} {κ : Kind} {sp : Space} {S : Shape} (v : View sig κ sp S e) (f : v.ty.Contents Val)
    (r : Rect S) (w : r.shape.Idx → Val e) (L : List (View.Piece Val S e)) :
    Stored (v.read Val (v.writes Val f L)) (v.read Val (v.writes Val f (⟨r, w⟩ :: L))) r w :=
  ⟨fun x => View.read_writes_cons_emb v f r w L x, fun y hy => by
    rw [View.writes_cons, View.read_slice_write_of_not_mem r _ _ _ (by rwa [Rect.map_emb_univ])]⟩

theorem On2.store {α : Type} {Z Z' : (⟨2, ![n, m]⟩ : Shape).Idx → α} {o0 o1 : ℕ} {inb}
    {w : (⟨2, ![p, q]⟩ : Shape).Idx → α}
    (hs : Stored Z Z' (Rect.unit (s := ⟨2, ![n, m]⟩) ![o0, o1] ![p, q] inb) w) {D D' : ℕ → ℕ → Prop} {G G' : ℕ → ℕ → α} (hZ : On2 Z D G)
    {W : ℕ → ℕ → α} (hw : ∀ (a : Fin p) (b : Fin q), w (ix2 a b) = W a b)
    (hD : ∀ a b, D' a b → (o0 ≤ a ∧ a < o0 + p ∧ o1 ≤ b ∧ b < o1 + q → G' a b = W (a - o0) (b - o1)) ∧
      (¬(o0 ≤ a ∧ a < o0 + p ∧ o1 ≤ b ∧ b < o1 + q) → D a b ∧ G' a b = G a b)) :
    On2 Z' D' G' := fun a b hab => by
  by_cases hin : o0 ≤ (a : ℕ) ∧ (a : ℕ) < o0 + p ∧ o1 ≤ (b : ℕ) ∧ (b : ℕ) < o1 + q
  · rw [(hD a b hab).1 hin]
    have e := hs.hit (ix2 (⟨a - o0, by omega⟩ : Fin p) (⟨b - o1, by omega⟩ : Fin q))
    rw [hw] at e
    rw [← e]
    refine congrArg Z' (funext fun c => ?_)
    fin_cases c
    · refine Fin.ext ?_; show (a : ℕ) = o0 + 1 * (a - o0); omega
    · refine Fin.ext ?_; show (b : ℕ) = o1 + 1 * (b - o1); omega
  · obtain ⟨h1, h2⟩ := (hD a b hab).2 hin
    rw [hs.miss (ix2 a b) (fun hmem => hin (by
      rw [Rect.mem_set_unit] at hmem
      exact ⟨(hmem 0).1, (hmem 0).2, (hmem 1).1, (hmem 1).2⟩)), hZ a b h1, h2]

theorem On3.store {α : Type} {Z Z' : (⟨3, ![n, m, k]⟩ : Shape).Idx → α} {o0 o1 o2 : ℕ} {inb}
    {w : (⟨3, ![p, q, r]⟩ : Shape).Idx → α}
    (hs : Stored Z Z' (Rect.unit (s := ⟨3, ![n, m, k]⟩) ![o0, o1, o2] ![p, q, r] inb) w) {D D' : ℕ → ℕ → ℕ → Prop} {G G' : ℕ → ℕ → ℕ → α} (hZ : On3 Z D G)
    {W : ℕ → ℕ → ℕ → α} (hw : ∀ (a : Fin p) (b : Fin q) (c : Fin r), w (ix3 a b c) = W a b c)
    (hD : ∀ a b c, D' a b c → (o0 ≤ a ∧ a < o0 + p ∧ o1 ≤ b ∧ b < o1 + q ∧ o2 ≤ c ∧ c < o2 + r → G' a b c = W (a - o0) (b - o1) (c - o2)) ∧
      (¬(o0 ≤ a ∧ a < o0 + p ∧ o1 ≤ b ∧ b < o1 + q ∧ o2 ≤ c ∧ c < o2 + r) → D a b c ∧ G' a b c = G a b c)) :
    On3 Z' D' G' := fun a b c hab => by
  by_cases hin : o0 ≤ (a : ℕ) ∧ (a : ℕ) < o0 + p ∧ o1 ≤ (b : ℕ) ∧ (b : ℕ) < o1 + q ∧ o2 ≤ (c : ℕ) ∧ (c : ℕ) < o2 + r
  · rw [(hD a b c hab).1 hin]
    have e := hs.hit (ix3 (⟨a - o0, by omega⟩ : Fin p) (⟨b - o1, by omega⟩ : Fin q) (⟨c - o2, by omega⟩ : Fin r))
    rw [hw] at e
    rw [← e]
    refine congrArg Z' (funext fun x => ?_)
    fin_cases x
    · refine Fin.ext ?_; show (a : ℕ) = o0 + 1 * (a - o0); omega
    · refine Fin.ext ?_; show (b : ℕ) = o1 + 1 * (b - o1); omega
    · refine Fin.ext ?_; show (c : ℕ) = o2 + 1 * (c - o2); omega
  · obtain ⟨h1, h2⟩ := (hD a b c hab).2 hin
    rw [hs.miss (ix3 a b c) (fun hmem => hin (by
      rw [Rect.mem_set_unit] at hmem
      exact ⟨(hmem 0).1, (hmem 0).2, (hmem 1).1, (hmem 1).2, (hmem 2).1, (hmem 2).2⟩)), hZ a b c h1, h2]

/-- A state block's store: head `hd` of the one batch entry. -/
theorem On4.store {α : Type} {Z Z' : (⟨4, ![1, n, m, k]⟩ : Shape).Idx → α} {hd : ℕ} {inb}
    {w : (⟨4, ![1, 1, m, k]⟩ : Shape).Idx → α}
    (hs : Stored Z Z' (Rect.unit (s := ⟨4, ![1, n, m, k]⟩) ![0, hd, 0, 0] ![1, 1, m, k] inb) w) {D D' : ℕ → ℕ → ℕ → ℕ → Prop}
    {G G' : ℕ → ℕ → ℕ → ℕ → α} (hZ : On4 Z D G)
    {W : ℕ → ℕ → ℕ → ℕ → α} (hw : ∀ (a : Fin 1) (b : Fin 1) (c : Fin m) (d : Fin k), w (ix4 a b c d) = W a b c d)
    (hD : ∀ b c d, D' 0 b c d → (b = hd → G' 0 b c d = W 0 0 c d) ∧ (b ≠ hd → D 0 b c d ∧ G' 0 b c d = G 0 b c d)) :
    On4 Z' D' G' := fun a b c d hab => by
  obtain rfl : a = 0 := Subsingleton.elim _ _
  by_cases hin : (b : ℕ) = hd
  · have e' := (hD b c d hab).1 hin
    show _ = G' 0 b c d
    rw [e']
    have e := hs.hit (ix4 (0 : Fin 1) (0 : Fin 1) c d)
    rw [hw] at e
    refine Eq.trans ?_ e
    refine congrArg Z' (funext fun x => ?_)
    fin_cases x
    · rfl
    · refine Fin.ext ?_; show (b : ℕ) = hd + 1 * 0; omega
    · refine Fin.ext ?_; show (c : ℕ) = 0 + 1 * c; omega
    · refine Fin.ext ?_; show (d : ℕ) = 0 + 1 * d; omega
  · obtain ⟨h1, h2⟩ := (hD b c d hab).2 hin
    show _ = G' 0 b c d
    rw [hs.miss (ix4 0 b c d) (fun hmem => hin (by
      rw [Rect.mem_set_unit] at hmem
      have h3 : hd ≤ (b : ℕ) := (hmem 1).1
      have h4 : (b : ℕ) < hd + 1 := (hmem 1).2
      omega)), hZ 0 b c d h1, h2]
    rfl

/-- Nothing stored yet: nothing is claimed. -/
theorem On2.nil {α : Type} (Z : (⟨2, ![n, m]⟩ : Shape).Idx → α) (G : ℕ → ℕ → α) : On2 Z (fun _ _ => False) G := fun _ _ h => h.elim
theorem On3.nil {α : Type} (Z : (⟨3, ![n, m, k]⟩ : Shape).Idx → α) (G : ℕ → ℕ → ℕ → α) : On3 Z (fun _ _ _ => False) G :=
  fun _ _ _ h => h.elim

theorem On2.load {α : Type} {Z : (⟨2, ![n, m]⟩ : Shape).Idx → α} {D : ℕ → ℕ → Prop} {G : ℕ → ℕ → α} (h : On2 Z D G)
    {o0 o1 : ℕ} {inb} (hD : ∀ a b, a < p → b < q → D (o0 + a) (o1 + b)) (a : Fin p) (b : Fin q) :
    Z ((Rect.unit (s := ⟨2, ![n, m]⟩) ![o0, o1] ![p, q] inb).toLoadRect.idx (ix2 a b)) = G (o0 + a) (o1 + b) := by
  have h0 : o0 + p ≤ n := inb 0
  have h1 : o1 + q ≤ m := inb 1
  rw [← h (⟨o0 + a, by omega⟩ : Fin n) (⟨o1 + b, by omega⟩ : Fin m) (hD a b a.2 b.2)]
  refine congrArg Z (funext fun c => ?_)
  fin_cases c
  · refine Fin.ext ?_; show o0 + 1 * (a : ℕ) = o0 + a; omega
  · refine Fin.ext ?_; show o1 + 1 * (b : ℕ) = o1 + b; omega
theorem On3.load {α : Type} {Z : (⟨3, ![n, m, k]⟩ : Shape).Idx → α} {D : ℕ → ℕ → ℕ → Prop} {G : ℕ → ℕ → ℕ → α} (h : On3 Z D G)
    {o0 o1 o2 : ℕ} {inb} (hD : ∀ a b c, a < p → b < q → c < r → D (o0 + a) (o1 + b) (o2 + c)) (a : Fin p) (b : Fin q) (c : Fin r) :
    Z ((Rect.unit (s := ⟨3, ![n, m, k]⟩) ![o0, o1, o2] ![p, q, r] inb).toLoadRect.idx (ix3 a b c)) = G (o0 + a) (o1 + b) (o2 + c) := by
  have h0 : o0 + p ≤ n := inb 0
  have h1 : o1 + q ≤ m := inb 1
  have h2 : o2 + r ≤ k := inb 2
  rw [← h (⟨o0 + a, by omega⟩ : Fin n) (⟨o1 + b, by omega⟩ : Fin m) (⟨o2 + c, by omega⟩ : Fin k) (hD a b c a.2 b.2 c.2)]
  refine congrArg Z (funext fun x => ?_)
  fin_cases x
  · refine Fin.ext ?_; show o0 + 1 * (a : ℕ) = o0 + a; omega
  · refine Fin.ext ?_; show o1 + 1 * (b : ℕ) = o1 + b; omega
  · refine Fin.ext ?_; show o2 + 1 * (c : ℕ) = o2 + c; omega
theorem On4.load {α : Type} {Z : (⟨4, ![1, n, m, k]⟩ : Shape).Idx → α} {D : ℕ → ℕ → ℕ → ℕ → Prop} {G : ℕ → ℕ → ℕ → ℕ → α}
    (h : On4 Z D G) {hd : ℕ} {inb} (hD : ∀ c d, c < m → d < k → D 0 hd c d) (a b : Fin 1) (c : Fin m) (d : Fin k) :
    Z ((Rect.unit (s := ⟨4, ![1, n, m, k]⟩) ![0, hd, 0, 0] ![1, 1, m, k] inb).toLoadRect.idx (ix4 a b c d)) = G 0 hd c d := by
  obtain rfl : a = 0 := Subsingleton.elim _ _
  obtain rfl : b = 0 := Subsingleton.elim _ _
  have h1 : hd + 1 ≤ n := inb 1
  have e := h (0 : Fin 1) (⟨hd, by omega⟩ : Fin n) c d (hD c d c.2 d.2)
  refine Eq.trans (congrArg Z (funext fun x => ?_)) e
  fin_cases x
  · rfl
  · refine Fin.ext ?_; show hd + 1 * 0 = hd; omega
  · refine Fin.ext ?_; show 0 + 1 * (c : ℕ) = c; omega
  · refine Fin.ext ?_; show 0 + 1 * (d : ℕ) = d; omega

def B2 (Z : (⟨2, ![n, m]⟩ : Shape).Idx → EReal) (D : ℕ → ℕ → Prop) (g : ℕ → ℕ → ℝ) : Prop := On2 Z D (fun a b => ((g a b : ℝ) : EReal))
def B3 (Z : (⟨3, ![n, m, k]⟩ : Shape).Idx → EReal) (D : ℕ → ℕ → ℕ → Prop) (g : ℕ → ℕ → ℕ → ℝ) : Prop :=
  On3 Z D (fun a b c => ((g a b c : ℝ) : EReal))
def B4 (Z : (⟨4, ![n, m, k, l]⟩ : Shape).Idx → EReal) (D : ℕ → Prop) (g : ℕ → ℕ → ℕ → ℝ) : Prop :=
  On4 Z (fun _ b _ _ => D b) (fun _ b c d => ((g b c d : ℝ) : EReal))

theorem B2.nil (Z : (⟨2, ![n, m]⟩ : Shape).Idx → EReal) (g : ℕ → ℕ → ℝ) : B2 Z (fun _ _ => False) g := fun _ _ h => h.elim
theorem B3.nil (Z : (⟨3, ![n, m, k]⟩ : Shape).Idx → EReal) (g : ℕ → ℕ → ℕ → ℝ) : B3 Z (fun _ _ _ => False) g := fun _ _ _ h => h.elim
theorem B4.nil (Z : (⟨4, ![n, m, k, l]⟩ : Shape).Idx → EReal) (g : ℕ → ℕ → ℕ → ℝ) : B4 Z (fun _ => False) g := fun _ _ _ _ h => h.elim
theorem B2.mono {Z : (⟨2, ![n, m]⟩ : Shape).Idx → EReal} {D D' : ℕ → ℕ → Prop} {g : ℕ → ℕ → ℝ} (h : B2 Z D g)
    (hD : ∀ a b, a < n → b < m → D' a b → D a b) : B2 Z D' g := fun a b hab => h a b (hD a b a.2 b.2 hab)
theorem B3.mono {Z : (⟨3, ![n, m, k]⟩ : Shape).Idx → EReal} {D D' : ℕ → ℕ → ℕ → Prop} {g : ℕ → ℕ → ℕ → ℝ} (h : B3 Z D g)
    (hD : ∀ a b c, a < n → b < m → c < k → D' a b c → D a b c) : B3 Z D' g := fun a b c hab => h a b c (hD a b c a.2 b.2 c.2 hab)
theorem B4.mono {Z : (⟨4, ![n, m, k, l]⟩ : Shape).Idx → EReal} {D D' : ℕ → Prop} {g : ℕ → ℕ → ℕ → ℝ} (h : B4 Z D g)
    (hD : ∀ b, b < m → D' b → D b) : B4 Z D' g := fun a b c d hab => h a b c d (hD b b.2 hab)
theorem B2.all {Z : (⟨2, ![n, m]⟩ : Shape).Idx → EReal} {D : ℕ → ℕ → Prop} {g : ℕ → ℕ → ℝ} (h : B2 Z D g)
    (hD : ∀ a b, a < n → b < m → D a b) : R2 Z g := fun a b => h a b (hD a b a.2 b.2)
theorem R2.b2 {Z : (⟨2, ![n, m]⟩ : Shape).Idx → EReal} {D : ℕ → ℕ → Prop} {g : ℕ → ℕ → ℝ} (h : R2 Z g) : B2 Z D g := fun a b _ => h a b

/-- Blocks stored row of blocks after row of blocks, each row from the left. -/
theorem B2.grid {Z Z' : (⟨2, ![n, m]⟩ : Shape).Idx → EReal} {o0 o1 : ℕ} {inb} {w : (⟨2, ![p, q]⟩ : Shape).Idx → EReal}
    (hs : Stored Z Z' (Rect.unit (s := ⟨2, ![n, m]⟩) ![o0, o1] ![p, q] inb) w) {G : ℕ → ℕ → ℝ}
    (hZ : B2 Z (fun a b => a < o0 ∨ (a < o0 + p ∧ b < o1)) G) (hw : R2 w (fun a b => G (o0 + a) (o1 + b))) :
    B2 Z' (fun a b => a < o0 ∨ (a < o0 + p ∧ b < o1 + q)) G :=
  On2.store hs hZ (W := fun a b => ((G (o0 + a) (o1 + b) : ℝ) : EReal)) hw fun a b h => ⟨fun hin => by
    show ((G a b : ℝ) : EReal) = ((G (o0 + (a - o0)) (o1 + (b - o1)) : ℝ) : EReal)
    rw [Nat.add_sub_cancel' hin.1, Nat.add_sub_cancel' hin.2.2.1], fun hin => ⟨by omega, rfl⟩⟩

/-- The general store of real values. -/
theorem B2.put {Z Z' : (⟨2, ![n, m]⟩ : Shape).Idx → EReal} {o0 o1 : ℕ} {inb} {w : (⟨2, ![p, q]⟩ : Shape).Idx → EReal}
    (hs : Stored Z Z' (Rect.unit (s := ⟨2, ![n, m]⟩) ![o0, o1] ![p, q] inb) w) {D D' : ℕ → ℕ → Prop} {G G' : ℕ → ℕ → ℝ}
    (hZ : B2 Z D G) (hw : R2 w (fun a b => G' (o0 + a) (o1 + b)))
    (hD : ∀ a b, D' a b → ¬(o0 ≤ a ∧ a < o0 + p ∧ o1 ≤ b ∧ b < o1 + q) → D a b ∧ G' a b = G a b) :
    B2 Z' D' G' :=
  On2.store hs hZ (W := fun a b => ((G' (o0 + a) (o1 + b) : ℝ) : EReal)) hw fun a b h => ⟨fun hin => by
    show ((G' a b : ℝ) : EReal) = ((G' (o0 + (a - o0)) (o1 + (b - o1)) : ℝ) : EReal)
    rw [Nat.add_sub_cancel' hin.1, Nat.add_sub_cancel' hin.2.2.1], fun hin => ⟨(hD a b h hin).1, by rw [(hD a b h hin).2]⟩⟩

theorem B3.put {Z Z' : (⟨3, ![n, m, k]⟩ : Shape).Idx → EReal} {o0 o1 o2 : ℕ} {inb} {w : (⟨3, ![1, q, r]⟩ : Shape).Idx → EReal}
    (hs : Stored Z Z' (Rect.unit (s := ⟨3, ![n, m, k]⟩) ![o0, o1, o2] ![1, q, r] inb) w) {D D' : ℕ → ℕ → ℕ → Prop} {G : ℕ → ℕ → ℕ → ℝ}
    (hZ : B3 Z D G) (hw : R3 w (fun _ b c => G o0 (o1 + b) (o2 + c)))
    (hD : ∀ a b c, D' a b c → ¬(a = o0 ∧ o1 ≤ b ∧ b < o1 + q ∧ o2 ≤ c ∧ c < o2 + r) → D a b c) :
    B3 Z' D' G :=
  On3.store hs hZ (W := fun _ b c => ((G o0 (o1 + b) (o2 + c) : ℝ) : EReal)) hw fun a b c h => ⟨fun hin => by
    obtain rfl : a = o0 := by omega
    show ((G a b c : ℝ) : EReal) = ((G a (o1 + (b - o1)) (o2 + (c - o2)) : ℝ) : EReal)
    rw [Nat.add_sub_cancel' hin.2.2.1, Nat.add_sub_cancel' hin.2.2.2.2.1], fun hin => ⟨hD a b c h (by omega), rfl⟩⟩

/-- Slabs of full width, one row range after the other, each from the first layer. -/
theorem B3.grid {Z Z' : (⟨3, ![n, m, k]⟩ : Shape).Idx → EReal} {o0 o1 : ℕ} {inb} {w : (⟨3, ![1, q, k]⟩ : Shape).Idx → EReal}
    (hs : Stored Z Z' (Rect.unit (s := ⟨3, ![n, m, k]⟩) ![o0, o1, 0] ![1, q, k] inb) w) {G : ℕ → ℕ → ℕ → ℝ}
    (hZ : B3 Z (fun a b c => c < k ∧ (b < o1 ∨ (b < o1 + q ∧ a < o0))) G) (hw : R3 w (fun _ b c => G o0 (o1 + b) (0 + c))) :
    B3 Z' (fun a b c => c < k ∧ (b < o1 ∨ (b < o1 + q ∧ a < o0 + 1))) G :=
  B3.put hs hZ hw fun a b c h hin => by omega

theorem B4.put {Z Z' : (⟨4, ![1, m, k, l]⟩ : Shape).Idx → EReal} {hd : ℕ} {inb} {w : (⟨4, ![1, 1, k, l]⟩ : Shape).Idx → EReal}
    (hs : Stored Z Z' (Rect.unit (s := ⟨4, ![1, m, k, l]⟩) ![0, hd, 0, 0] ![1, 1, k, l] inb) w) {D : ℕ → Prop} {G G' : ℕ → ℕ → ℕ → ℝ}
    (hZ : B4 Z D G) (hw : R4 w (fun _ _ => G' hd)) (hG : ∀ b, b ≠ hd → G' b = G b) :
    B4 Z' (fun b => b = hd ∨ D b) G' :=
  On4.store hs hZ (W := fun _ _ c d => ((G' hd c d : ℝ) : EReal)) hw fun b c d h => ⟨fun hin => by subst hin; rfl,
    fun hin => ⟨h.resolve_left hin, by rw [hG b hin]⟩⟩

section Loads
variable {sig : RefSig} {κ : Kind} {sp : Space}

theorem ld32 (v : View sig κ sp ⟨2, ![n, m]⟩ .f32) {L : List (View.Piece (Elt Ideal) ⟨2, ![n, m]⟩ .f32)} {D : ℕ → ℕ → Prop} {g : ℕ → ℕ → ℝ}
    (h : B2 (View.canon L) D g) {o0 o1 : ℕ} {inb} (hD : ∀ a b, a < p → b < q → D (o0 + a) (o1 + b)) :
    R2 (n := p) (m := q) (v.readCov L (Rect.unit (s := ⟨2, ![n, m]⟩) ![o0, o1] ![p, q] inb).toLoadRect) (fun a b => g (o0 + a) (o1 + b)) :=
  fun a b => by
  rw [View.readCov_eq_canon']
  exact On2.load h hD a b
theorem ld16 (v : View sig κ sp ⟨2, ![n, m]⟩ .bf16) {L : List (View.Piece (Elt Ideal) ⟨2, ![n, m]⟩ .bf16)} {D : ℕ → ℕ → Prop} {g : ℕ → ℕ → ℝ}
    (h : B2 (View.canon L) D g) {o0 o1 : ℕ} {inb} (hD : ∀ a b, a < p → b < q → D (o0 + a) (o1 + b)) :
    R2 (n := p) (m := q) (v.readCov L (Rect.unit (s := ⟨2, ![n, m]⟩) ![o0, o1] ![p, q] inb).toLoadRect) (fun a b => g (o0 + a) (o1 + b)) :=
  fun a b => by
  rw [View.readCov_eq_canon']
  exact On2.load h hD a b
theorem ldw32 (v : View sig κ sp ⟨2, ![n, m]⟩ .f32) {f : v.ty.Contents (Elt Ideal)} {D : ℕ → ℕ → Prop} {g : ℕ → ℕ → ℝ}
    (h : B2 (v.read (Elt Ideal) f) D g) {o0 o1 : ℕ} {inb} (hD : ∀ a b, a < p → b < q → D (o0 + a) (o1 + b)) :
    R2 (n := p) (m := q) (v.readAt (Elt Ideal) (Rect.unit (s := ⟨2, ![n, m]⟩) ![o0, o1] ![p, q] inb).toLoadRect f) (fun a b => g (o0 + a) (o1 + b)) :=
  fun a b => On2.load h hD a b
theorem ldw16 (v : View sig κ sp ⟨2, ![n, m]⟩ .bf16) {f : v.ty.Contents (Elt Ideal)} {D : ℕ → ℕ → Prop} {g : ℕ → ℕ → ℝ}
    (h : B2 (v.read (Elt Ideal) f) D g) {o0 o1 : ℕ} {inb} (hD : ∀ a b, a < p → b < q → D (o0 + a) (o1 + b)) :
    R2 (n := p) (m := q) (v.readAt (Elt Ideal) (Rect.unit (s := ⟨2, ![n, m]⟩) ![o0, o1] ![p, q] inb).toLoadRect f) (fun a b => g (o0 + a) (o1 + b)) :=
  fun a b => On2.load h hD a b
theorem ar32 {w : Memref sig κ sp ⟨2, ![n, m]⟩ .f32} (hw : w.IsWhole) {X : (⟨2, ![n, m]⟩ : Shape).Idx → EReal} {g : ℕ → ℕ → ℝ}
    (h : R2 X g) {o0 o1 : ℕ} {inb} :
    R2 (n := p) (m := q) (w.view.readAt (Elt Ideal) (Rect.unit (s := ⟨2, ![n, m]⟩) ![o0, o1] ![p, q] inb).toLoadRect (hw.unread (Val := Elt Ideal) X)) (fun a b => g (o0 + a) (o1 + b)) :=
  ldw32 w.view (D := fun _ _ => True) (fun a b _ => by rw [hw.read_unread]; exact h a b) (fun _ _ _ _ => trivial)
theorem ar16 {w : Memref sig κ sp ⟨2, ![n, m]⟩ .bf16} (hw : w.IsWhole) {X : (⟨2, ![n, m]⟩ : Shape).Idx → EReal} {g : ℕ → ℕ → ℝ}
    (h : R2 X g) {o0 o1 : ℕ} {inb} :
    R2 (n := p) (m := q) (w.view.readAt (Elt Ideal) (Rect.unit (s := ⟨2, ![n, m]⟩) ![o0, o1] ![p, q] inb).toLoadRect (hw.unread (Val := Elt Ideal) X)) (fun a b => g (o0 + a) (o1 + b)) :=
  ldw16 w.view (D := fun _ _ => True) (fun a b _ => by rw [hw.read_unread]; exact h a b) (fun _ _ _ _ => trivial)

theorem ld3_32 (v : View sig κ sp ⟨3, ![n, m, k]⟩ .f32) {L : List (View.Piece (Elt Ideal) ⟨3, ![n, m, k]⟩ .f32)} {D : ℕ → ℕ → ℕ → Prop}
    {g : ℕ → ℕ → ℕ → ℝ} (h : B3 (View.canon L) D g) {o0 o1 o2 : ℕ} {inb}
    (hD : ∀ a b c, a < p → b < q → c < r → D (o0 + a) (o1 + b) (o2 + c)) :
    R3 (n := p) (m := q) (k := r) (v.readCov L (Rect.unit (s := ⟨3, ![n, m, k]⟩) ![o0, o1, o2] ![p, q, r] inb).toLoadRect)
      (fun a b c => g (o0 + a) (o1 + b) (o2 + c)) := fun a b c => by
  rw [View.readCov_eq_canon']
  exact On3.load h hD a b c
theorem ld3_16 (v : View sig κ sp ⟨3, ![n, m, k]⟩ .bf16) {L : List (View.Piece (Elt Ideal) ⟨3, ![n, m, k]⟩ .bf16)} {D : ℕ → ℕ → ℕ → Prop}
    {g : ℕ → ℕ → ℕ → ℝ} (h : B3 (View.canon L) D g) {o0 o1 o2 : ℕ} {inb}
    (hD : ∀ a b c, a < p → b < q → c < r → D (o0 + a) (o1 + b) (o2 + c)) :
    R3 (n := p) (m := q) (k := r) (v.readCov L (Rect.unit (s := ⟨3, ![n, m, k]⟩) ![o0, o1, o2] ![p, q, r] inb).toLoadRect)
      (fun a b c => g (o0 + a) (o1 + b) (o2 + c)) := fun a b c => by
  rw [View.readCov_eq_canon']
  exact On3.load h hD a b c
theorem ar3_16 {w : Memref sig κ sp ⟨3, ![n, m, k]⟩ .bf16} (hw : w.IsWhole) {X : (⟨3, ![n, m, k]⟩ : Shape).Idx → EReal} {g : ℕ → ℕ → ℕ → ℝ}
    (h : R3 X g) {o0 o1 o2 : ℕ} {inb} :
    R3 (n := p) (m := q) (k := r) (w.view.readAt (Elt Ideal) (Rect.unit (s := ⟨3, ![n, m, k]⟩) ![o0, o1, o2] ![p, q, r] inb).toLoadRect (hw.unread (Val := Elt Ideal) X))
      (fun a b c => g (o0 + a) (o1 + b) (o2 + c)) := fun a b c =>
  On3.load (Z := w.view.read (Elt Ideal) (hw.unread (Val := Elt Ideal) X)) (D := fun _ _ _ => True)
    (G := fun a b c => ((g a b c : ℝ) : EReal)) (fun a b c _ => by rw [hw.read_unread]; exact h a b c) (fun _ _ _ _ _ _ => trivial) a b c
theorem ld4_32 (v : View sig κ sp ⟨4, ![1, m, k, l]⟩ .f32) {L : List (View.Piece (Elt Ideal) ⟨4, ![1, m, k, l]⟩ .f32)} {D : ℕ → Prop}
    {g : ℕ → ℕ → ℕ → ℝ} (h : B4 (View.canon L) D g) {hd : ℕ} {inb} (hD : D hd) :
    R4 (n := 1) (m := 1) (k := k) (l := l) (v.readCov L (Rect.unit (s := ⟨4, ![1, m, k, l]⟩) ![0, hd, 0, 0] ![1, 1, k, l] inb).toLoadRect)
      (fun _ _ c d => g hd c d) := fun a b c d => by
  rw [View.readCov_eq_canon']
  exact On4.load h (fun _ _ _ _ => hD) a b c d
theorem ar4_32 {w : Memref sig κ sp ⟨4, ![1, m, k, l]⟩ .f32} (hw : w.IsWhole) {X : (⟨4, ![1, m, k, l]⟩ : Shape).Idx → EReal} {g : ℕ → ℕ → ℕ → ℝ}
    (h : R4 X (fun _ => g)) {hd : ℕ} {inb} :
    R4 (n := 1) (m := 1) (k := k) (l := l) (w.view.readAt (Elt Ideal) (Rect.unit (s := ⟨4, ![1, m, k, l]⟩) ![0, hd, 0, 0] ![1, 1, k, l] inb).toLoadRect (hw.unread (Val := Elt Ideal) X))
      (fun _ _ c d => g hd c d) := fun a b c d =>
  On4.load (Z := w.view.read (Elt Ideal) (hw.unread (Val := Elt Ideal) X)) (D := fun _ _ _ _ => True)
    (G := fun _ b c d => ((g b c d : ℝ) : EReal)) (fun a b c d _ => by rw [hw.read_unread]; exact h a b c d) (fun _ _ _ _ => trivial) a b c d
end Loads

end Stores

section Bits
/-- A test of the row number, `cmpi (row &&& msk) ref`, as the proposition it stands for. -/
theorem rowTest (pr : CmpIPredicate) (msk ref : BitVec 32) (P : ℕ → Prop) [DecidablePred P] {hi : (⟨2, ![n, m]⟩ : Shape).Iotas .tc 32 [0]}
    (h : ∀ a : Fin n, IntOp.cmpi pr (IntOp.andi (BitVec.ofNat 32 a) msk) ref = if P a then 1#1 else 0#1) (a : Fin n) (b : Fin m) :
    cmpi pr (andi (iota .tc ⟨2, ![n, m]⟩ 32 [0] hi) (broadcast ⟨2, ![n, m]⟩ msk)) (broadcast ⟨2, ![n, m]⟩ ref) (ix2 a b) = if P a then 1#1 else 0#1 := by
  show IntOp.cmpi pr (IntOp.andi (iota .tc ⟨2, ![n, m]⟩ 32 [0] hi (ix2 a b)) msk) ref = _
  rw [iota_single_apply]
  exact h a
end Bits

end Cert.Rep

end
-- ==== Proof.Consts.lean ====
/-
  The constant tables the host hands the kernel: the triangle of ones and the identity.
-/
module
public import proofs.«01_k».proof.Proof.Spec
public import proofs.«01_k».proof.Proof.Rep
public import proofs.«01_k».proof.Proof.Gen.KernelIdeal.Value
public import Idealize.ShloMosaic.Lib.Claim
@[expose] public section
set_option maxRecDepth 16384
noncomputable section
namespace Cert.Consts
open Idealize.ShloMosaic Idealize.ShloMosaic.TcCoe Idealize.SL.Sem Cert.KernelIdeal Cert.KernelIdeal.Gen Cert.Rep Cert.Spec

variable (m : (a : Loc nD τ sig) → Buf (Elt Ideal) a)

theorem sle_small : ∀ a b : Fin 128, Scalar.cmpi .sle (BitVec.ofNat 32 b.val) (BitVec.ofNat 32 a.val) = if b.val ≤ a.val then 1#1 else 0#1 := by
  decide +kernel
theorem eq_small : ∀ a b : Fin 128, Scalar.cmpi .eq (BitVec.ofNat 32 a.val) (BitVec.ofNat 32 b.val) = if a.val = b.val then 1#1 else 0#1 := by
  decide +kernel
set_option maxHeartbeats 4000000 in
theorem tri_V (c : Dev nD) : R2 (V (F := Ideal) m c main_v128) (fun i j => if j ≤ i then 1 else 0) := fun a b => by
  entry_read
  show (((Scalar.cmpi .sle (BitVec.ofNat 32 b.val) (BitVec.ofNat 32 a.val)).toNat : ℝ) : EReal) = _
  rw [sle_small a b]
  split_ifs <;> norm_num

set_option maxHeartbeats 4000000 in
theorem eye_V (c : Dev nD) : R2 (V (F := Ideal) m c main_v127) (fun i j => if i = j then 1 else 0) := fun a b => by
  entry_read
  show (((Scalar.cmpi .eq (BitVec.ofNat 32 a.val) (BitVec.ofNat 32 b.val)).toNat : ℝ) : EReal) = _
  rw [eq_small a b]
  split_ifs <;> norm_num
end Cert.Consts
end
-- ==== Proof.Mask.lean ====
module
public import proofs.«01_k».proof.Proof.Consts
public import Idealize.ShloMosaic.Lib.StableHlo.RunRead
@[expose] public section
set_option maxRecDepth 16384
noncomputable section
/-! The seven pairing tables the host hands to the kernel, entry by entry. -/
namespace Cert.Consts
open Idealize.ShloMosaic Idealize.ShloMosaic.TcCoe Idealize.SL.Sem Cert.KernelIdeal Cert.KernelIdeal.Gen Cert.Rep Cert.Spec
variable (m : (a : Loc nD τ sig) → Buf (Elt Ideal) a)
/-- Clearing the low bits of a number below 128, and reading one of its bits. -/
theorem hand : ∀ (l : Fin 7) (a : Fin 128), Scalar.andi (BitVec.ofNat 32 a.val) (BitVec.ofNat 32 (4294967296 - 2 ^ (l.val + 1))) = BitVec.ofNat 32 (a.val / 2 ^ (l.val + 1) * 2 ^ (l.val + 1))
    ∧ Scalar.andi (BitVec.ofNat 32 a.val) (BitVec.ofNat 32 (2 ^ l.val)) = if a.val / 2 ^ l.val % 2 = 1 then BitVec.ofNat 32 (2 ^ l.val) else 0#32 := by
  decide +kernel
theorem bit_ne : ∀ l : Fin 7, BitVec.ofNat 32 (2 ^ l.val) ≠ 0#32 := by decide +kernel
theorem mul_inj (l : Fin 7) (a b : Fin 128) : BitVec.ofNat 32 (a.val / 2 ^ (l.val + 1) * 2 ^ (l.val + 1)) = BitVec.ofNat 32 (b.val / 2 ^ (l.val + 1) * 2 ^ (l.val + 1)) ↔
    a.val / 2 ^ (l.val + 1) = b.val / 2 ^ (l.val + 1) := by
  refine ⟨fun h => ?_, fun h => by rw [h]⟩
  have h' := congrArg BitVec.toNat h
  rw [BitVec.toNat_ofNat, BitVec.toNat_ofNat, Nat.mod_eq_of_lt (by have := Nat.div_mul_le_self a.val (2 ^ (l.val + 1)); omega),
    Nat.mod_eq_of_lt (by have := Nat.div_mul_le_self b.val (2 ^ (l.val + 1)); omega)] at h'
  exact Nat.eq_of_mul_eq_mul_right (Nat.two_pow_pos _) h'
theorem and_bits {X Y z : BitVec 32} (hz : z ≠ 0#32) {p r s : Prop} [Decidable p] [Decidable r] [Decidable s] (e : X = Y ↔ p) :
    Scalar.andi (Scalar.andi (Scalar.cmpi .eq X Y) (Scalar.cmpi .ne (if r then z else 0#32) 0#32)) (Scalar.cmpi .eq (if s then z else 0#32) 0#32) =
      if p ∧ r ∧ ¬s then 1#1 else 0#1 := by
  have hz1 : (z != 0#32) = true := bne_iff_ne.mpr hz
  have hz2 : (z == 0#32) = false := beq_eq_false_iff_ne.mpr hz
  have he : (X == Y) = decide p := by rw [← Bool.decide_congr e]; rfl
  by_cases h1 : p <;> by_cases h2 : r <;> by_cases h3 : s <;>
    simp only [Scalar.cmpi, Scalar.andi, IntOp.cmpi, IntOp.andi, he, hz1, hz2, h1, h2, h3, if_true, if_false, not_true, not_false_eq_true, and_true, and_false, true_and, false_and, decide_true, decide_false] <;> rfl
/-- Whether level `l` pairs row `a` with column `b`, as the host computes it from the bits of the two. -/
abbrev bits (l : Fin 7) (a b : Fin 128) : BitVec 1 := Scalar.andi (Scalar.andi (Scalar.cmpi .eq (Scalar.andi (BitVec.ofNat 32 a.val) (BitVec.ofNat 32 (4294967296 - 2 ^ (l.val + 1))))
      (Scalar.andi (BitVec.ofNat 32 b.val) (BitVec.ofNat 32 (4294967296 - 2 ^ (l.val + 1)))))
    (Scalar.cmpi .ne (Scalar.andi (BitVec.ofNat 32 a.val) (BitVec.ofNat 32 (2 ^ l.val))) 0#32))
    (Scalar.cmpi .eq (Scalar.andi (BitVec.ofNat 32 b.val) (BitVec.ofNat 32 (2 ^ l.val))) 0#32)
theorem mk_bits (l : Fin 7) (a b : Fin 128) : bits l a b =
    if a.val / 2 ^ (l.val + 1) = b.val / 2 ^ (l.val + 1) ∧ a.val / 2 ^ l.val % 2 = 1 ∧ b.val / 2 ^ l.val % 2 = 0 then 1#1 else 0#1 := by
  unfold bits
  rw [(hand l a).1, (hand l b).1, (hand l a).2, (hand l b).2, and_bits (bit_ne l) (mul_inj l a b)]
  refine if_congr ?_ rfl rfl
  constructor <;> rintro ⟨x, y, z⟩ <;> exact ⟨x, y, by omega⟩
/-- One level's table. -/
theorem level (l : Fin 7) (a b : Fin 128) {x : BitVec 1} (h : x = bits l a b) :
    ((x.toNat : ℝ) : EReal) = ((mk l.val a.val b.val : ℝ) : EReal) := by
  rw [h, mk_bits]; unfold mk; split_ifs <;> first | norm_num | (exfalso; omega)

theorem mk_V (c : Dev nD) : R3 (V (F := Ideal) m c main_v129) mk := fun l a b => by
  unfold V
  after_reads_simp
  show concatenate S7x128x128 0 [⟨S1x128x128, StableHlo.upto hostOps0 (fun b => m (c, b)) 165 (Proc.devRef .tc main_v116)⟩,
    ⟨S1x128x128, StableHlo.upto hostOps0 (fun b => m (c, b)) 165 (Proc.devRef .tc main_v117)⟩,
    ⟨S1x128x128, StableHlo.upto hostOps0 (fun b => m (c, b)) 165 (Proc.devRef .tc main_v118)⟩,
    ⟨S1x128x128, StableHlo.upto hostOps0 (fun b => m (c, b)) 165 (Proc.devRef .tc main_v119)⟩,
    ⟨S1x128x128, StableHlo.upto hostOps0 (fun b => m (c, b)) 165 (Proc.devRef .tc main_v120)⟩,
    ⟨S1x128x128, StableHlo.upto hostOps0 (fun b => m (c, b)) 165 (Proc.devRef .tc main_v121)⟩,
    ⟨S1x128x128, StableHlo.upto hostOps0 (fun b => m (c, b)) 165 (Proc.devRef .tc main_v122)⟩] concatenates_S1x128x128_S1x128x128_S1x128x128_S1x128x128_S1x128x128_S1x128x128_S1x128x128_S7x128x128_d0 (ix3 l a b) = _
  have key := fun (k : ℕ) (hk) (X : S1x128x128.Idx → EReal) (hX) (e : k + 0 = l.val) (hp) =>
    concatenate_apply_piece (α := EReal) (0 : Fin S7x128x128.rank) [⟨S1x128x128, StableHlo.upto hostOps0 (fun b => m (c, b)) 165 (Proc.devRef .tc main_v116)⟩,
    ⟨S1x128x128, StableHlo.upto hostOps0 (fun b => m (c, b)) 165 (Proc.devRef .tc main_v117)⟩,
    ⟨S1x128x128, StableHlo.upto hostOps0 (fun b => m (c, b)) 165 (Proc.devRef .tc main_v118)⟩,
    ⟨S1x128x128, StableHlo.upto hostOps0 (fun b => m (c, b)) 165 (Proc.devRef .tc main_v119)⟩,
    ⟨S1x128x128, StableHlo.upto hostOps0 (fun b => m (c, b)) 165 (Proc.devRef .tc main_v120)⟩,
    ⟨S1x128x128, StableHlo.upto hostOps0 (fun b => m (c, b)) 165 (Proc.devRef .tc main_v121)⟩,
    ⟨S1x128x128, StableHlo.upto hostOps0 (fun b => m (c, b)) 165 (Proc.devRef .tc main_v122)⟩] concatenates_S1x128x128_S1x128x128_S1x128x128_S1x128x128_S1x128x128_S1x128x128_S1x128x128_S7x128x128_d0 (ix3 l a b)
      k hk S1x128x128 X hX rfl k hp (ix3 (0 : Fin 1) a b) (fun x hx => by
        match x with
        | ⟨0, _⟩ => exact absurd rfl hx
        | ⟨1, _⟩ => rfl
        | ⟨2, _⟩ => rfl) e
  fin_cases l
  · refine (key 0 (show (0 : ℕ) < 7 by decide) _ rfl rfl rfl).trans ?_
    after_reads_simp
    exact level 0 a b rfl
  · refine (key 1 (show (1 : ℕ) < 7 by decide) _ rfl rfl rfl).trans ?_
    after_reads_simp
    exact level 1 a b rfl
  · refine (key 2 (show (2 : ℕ) < 7 by decide) _ rfl rfl rfl).trans ?_
    after_reads_simp
    exact level 2 a b rfl
  · refine (key 3 (show (3 : ℕ) < 7 by decide) _ rfl rfl rfl).trans ?_
    after_reads_simp
    exact level 3 a b rfl
  · refine (key 4 (show (4 : ℕ) < 7 by decide) _ rfl rfl rfl).trans ?_
    after_reads_simp
    exact level 4 a b rfl
  · refine (key 5 (show (5 : ℕ) < 7 by decide) _ rfl rfl rfl).trans ?_
    after_reads_simp
    exact level 5 a b rfl
  · refine (key 6 (show (6 : ℕ) < 7 by decide) _ rfl rfl rfl).trans ?_
    after_reads_simp
    exact level 6 a b rfl
end Cert.Consts
end
-- ==== Proof.Pay.lean ====
/-
  What the mixer's values are, as real functions: one lemma per kind of stored value.
-/
module

public import proofs.«01_k».proof.Proof.Rep
public import proofs.«01_k».proof.Proof.Spec
public import proofs.«01_k».proof.Proof.Gen.KernelIdeal.Skeleton

@[expose] public section

set_option maxRecDepth 16384

noncomputable section

namespace Cert.Pay

open Idealize.ShloMosaic Idealize.SL.Sem Cert.KernelIdeal Cert.KernelIdeal.Gen Cert.Rep Cert.Spec

section Consts
theorem c_1024 : (Scalar.ofBits .f32 0x44800000#32 : Ideal .f32) = ((1024 : ℝ) : EReal) := by
  show Ideal.ofBits .f32 0x44800000#32 = _
  simp [Ideal.ofBits, Ideal.ieee, -EReal.coe_mul]; norm_num
theorem c_256 : (Scalar.ofBits .f32 0x43800000#32 : Ideal .f32) = ((256 : ℝ) : EReal) := by
  show Ideal.ofBits .f32 0x43800000#32 = _
  simp [Ideal.ofBits, Ideal.ieee, -EReal.coe_mul]; norm_num
theorem c_eps : (Scalar.ofBits .f32 0x358637BD#32 : Ideal .f32) = ((eps : ℝ) : EReal) := by
  show Ideal.ofBits .f32 0x358637BD#32 = _
  simp [Ideal.ofBits, Ideal.ieee, -EReal.coe_mul, eps]; norm_num
theorem c_dks : (Scalar.ofBits .f32 0x3DB504F3#32 : Ideal .f32) = ((dks : ℝ) : EReal) := by
  show Ideal.ofBits .f32 0x3DB504F3#32 = _
  simp [Ideal.ofBits, Ideal.ieee, -EReal.coe_mul, dks]; norm_num
theorem c_half : (Scalar.ofBits .f32 0x3F000000#32 : Ideal .f32) = ((1 / 2 : ℝ) : EReal) := by
  show Ideal.ofBits .f32 0x3F000000#32 = _
  simp [Ideal.ofBits, Ideal.ieee, -EReal.coe_mul]; norm_num
theorem c_one : (Scalar.ofBits .f32 0x3F800000#32 : Ideal .f32) = ((1 : ℝ) : EReal) := by
  show Ideal.ofBits .f32 0x3F800000#32 = _
  simp [Ideal.ofBits, Ideal.ieee, -EReal.coe_mul]; norm_num
theorem c_neg : (Scalar.ofBits .f32 0xBF800000#32 : Ideal .f32) = ((-1 : ℝ) : EReal) := by
  show Ideal.ofBits .f32 0xBF800000#32 = _
  simp [Ideal.ofBits, Ideal.ieee, -EReal.coe_mul]; norm_num
theorem c_zero : (Scalar.ofBits .f32 0x00000000#32 : Ideal .f32) = ((0 : ℝ) : EReal) := by
  show Ideal.ofBits .f32 0x00000000#32 = _
  simp [Ideal.ofBits, Ideal.ieee, -EReal.coe_mul]
theorem c_dec : (Named.named κ "decay" 0x3DB8AA3B#32 : Ideal .f32) = ((dec : ℝ) : EReal) := rfl
end Consts

section Rows
variable {w : Wt} {H : ℕ → ℕ → ℝ}

theorem mean_pos (f : ℕ → ℝ) (n : ℕ) {x : ℝ} (hx : 0 < x) : 0 < (∑ j ∈ Finset.range n, f j * f j) / x + eps :=
  add_pos_of_nonneg_of_pos (div_nonneg (Finset.sum_nonneg fun j _ => mul_self_nonneg (f j)) hx.le) eps_pos

theorem pay_xb {X : FVec Ideal S512x1024 .f32} {N : FVec Ideal S1x1024 .f32} (hX : R2 X H) (hN : R2 N w.MN) :
    R2 (k0_pay5 (F := Ideal) X N) (xb w H) :=
  R2.self (R2.truncf _ (R2.mul (R2.mul hX (R2.col (R2.rsqrt (R2.add (R2.div (R2.rowSum (R2.mul hX hX)) (R2.const c_1024)
    (fun _ _ _ _ => by norm_num)) (R2.const c_eps)) (fun a _ => mean_pos (H a) 1024 (by norm_num))))) (R2.row hN)))

theorem pay_q {X : FVec Ideal S512x1024 .bf16} {W : FVec Ideal S1024x512 .bf16} (hX : R2 X (xb w H))
    (hW : R2 W (fun a b => w.WA (0 + a) (1024 + b))) : R2 (k0_pay6 (F := Ideal) X W) (qq w H) :=
  (R2.self (R2.mul (R2.matmul hX hW) (R2.const c_dks))).congr fun a b _ _ => by simp only [qq, pr, Nat.zero_add]
theorem pay_k {X : FVec Ideal S512x1024 .bf16} {W : FVec Ideal S1024x512 .bf16} (hX : R2 X (xb w H))
    (hW : R2 W (fun a b => w.WA (0 + a) (1536 + b))) : R2 (k0_pay7 (F := Ideal) X W (constant S512x512 .f32 0x00000000#32)) (kk w H) :=
  (R2.self (R2.matmul hX hW)).congr fun a b _ _ => by simp only [kk, pr, Nat.zero_add]
theorem pay_g {X : FVec Ideal S512x1024 .bf16} {W : FVec Ideal S1024x128 .bf16} {W' : FVec Ideal S128x512 .bf16} {B : FVec Ideal S1x512 .f32}
    (hX : R2 X (xb w H)) (hW : R2 W (fun a b => w.WLR (0 + a) (0 + b))) (hW' : R2 W' (fun a b => w.WGK (0 + a) (0 + b)))
    (hB : R2 B (fun a b => w.BGK (0 + a) (0 + b))) : R2 (k0_pay8 (F := Ideal) X W W' B) (gg w H) := by
  have hz : R2 (addf (matmul dot_S512x128_S128x512_S512x512_1_0_0_1_n_n none (truncf .bf16 (matmul dot_S512x1024_S1024x128_S512x128_1_0_0_1_n_n none X W (constant S512x128 .f32 0x00000000#32)) bitsLt_bf16_f32) W' (constant S512x512 .f32 0x00000000#32))
      (broadcastTo S512x512 B broadcasts_S1x512_S512x512)) (zz w H) :=
    (R2.add (R2.matmul (R2.truncf _ (R2.matmul hX hW)) hW') (R2.row hB)).congr fun a b _ _ => by simp only [zz, pr, Nat.zero_add]
  exact R2.self (R2.mul (R2.sub (R2.min hz (R2.const c_zero)) (R2.log1p (R2.exp (R2.sub (R2.const c_zero) (R2.absf hz)))
    (fun a b => Real.exp_pos _))) (R2.const c_dec))
/-- A block of a projection. -/
theorem pay_pr {o : ℕ} {W0 : ℕ → ℕ → ℝ} {X : FVec Ideal S512x1024 .bf16} {W : FVec Ideal S1024x256 .bf16} (hX : R2 X (xb w H))
    (hW : R2 W (fun a b => W0 (0 + a) (o + b))) :
    R2 (matmul dot_S512x1024_S1024x256_S512x256_1_0_0_1_n_n none X W (constant S512x256 .f32 0x00000000#32)) (fun a b => pr w H W0 a (o + b)) :=
  (R2.matmul hX hW).congr fun a b _ _ => by simp only [pr, Nat.zero_add]
theorem pay_u {o : ℕ} {X : FVec Ideal S512x1024 .bf16} {W : FVec Ideal S1024x256 .bf16} (hX : R2 X (xb w H))
    (hW : R2 W (fun a b => w.WA (0 + a) (o + b))) : R2 (k0_pay9 (F := Ideal) X W) (fun a b => uu w H a (o + b)) :=
  R2.self (pay_pr hX hW)
theorem pay_v {o : ℕ} {X : FVec Ideal S512x1024 .bf16} {W : FVec Ideal S1024x256 .bf16} (hX : R2 X (xb w H))
    (hW : R2 W (fun a b => w.WA (0 + a) (2048 + o + b))) :
    R2 (shapeCast S512x256 (truncf .bf16 (matmul dot_S512x1024_S1024x256_S512x256_1_0_0_1_n_n none X W (constant S512x256 .f32 0x00000000#32)) bitsLt_bf16_f32)
      shapeCasts_S512x256_S512x256) (fun a b => vv w H a (o + b)) :=
  (R2.self (R2.truncf _ (pay_pr hX hW))).congr fun a b _ _ => by simp only [vv, Nat.add_assoc]
theorem pay_gate {o : ℕ} (ho : 1024 ≤ o) {X : FVec Ideal S512x1024 .bf16} {W : FVec Ideal S1024x256 .bf16} (hX : R2 X (xb w H))
    (hW : R2 W (fun a b => w.WB (0 + a) (o + b))) :
    R2 (shapeCast S512x256 (addf (mulf (broadcast S512x256 (Scalar.ofBits .f32 0x3F000000#32 : Ideal .f32)) (tanh (mulf (broadcast S512x256 (Scalar.ofBits .f32 0x3F000000#32 : Ideal .f32))
      (matmul dot_S512x1024_S1024x256_S512x256_1_0_0_1_n_n none X W (constant S512x256 .f32 0x00000000#32))))) (broadcast S512x256 (Scalar.ofBits .f32 0x3F000000#32 : Ideal .f32)))
      shapeCasts_S512x256_S512x256) (fun a b => gt w H a (o + b)) :=
  (R2.self (R2.add (R2.mul (R2.const c_half) (R2.tanh (R2.mul (R2.const c_half) (pay_pr hX hW)))) (R2.const c_half))).congr
    fun a b _ _ => by rw [gt, if_neg (by omega)]
theorem pay_silu {o : ℕ} (ho : o + 256 ≤ 1024) {X : FVec Ideal S512x1024 .bf16} {W : FVec Ideal S1024x256 .bf16} (hX : R2 X (xb w H))
    (hW : R2 W (fun a b => w.WB (0 + a) (o + b))) :
    R2 (shapeCast S512x256 (mulf (matmul dot_S512x1024_S1024x256_S512x256_1_0_0_1_n_n none X W (constant S512x256 .f32 0x00000000#32))
      (addf (mulf (broadcast S512x256 (Scalar.ofBits .f32 0x3F000000#32 : Ideal .f32)) (tanh (mulf (broadcast S512x256 (Scalar.ofBits .f32 0x3F000000#32 : Ideal .f32))
      (matmul dot_S512x1024_S1024x256_S512x256_1_0_0_1_n_n none X W (constant S512x256 .f32 0x00000000#32))))) (broadcast S512x256 (Scalar.ofBits .f32 0x3F000000#32 : Ideal .f32))))
      shapeCasts_S512x256_S512x256) (fun a b => gt w H a (o + b)) :=
  (R2.self (R2.mul (pay_pr hX hW) (R2.add (R2.mul (R2.const c_half) (R2.tanh (R2.mul (R2.const c_half) (pay_pr hX hW)))) (R2.const c_half)))).congr
    fun a b _ hb => by rw [gt, if_pos (by omega)]

/-- The head of the mixed rows. -/
theorem pay_fin {hd : ℕ} {pl o : ℕ → ℕ → ℝ} {O A G0 G1 G2 : FVec Ideal S512x256 .f32} {N : FVec Ideal S1x256 .f32}
    (hO : R2 O (fun a b => o (0 + a) (256 * hd + b))) (hA : R2 A (fun a b => pl (0 + a) (256 * hd + b))) (hN : R2 N (fun a b => w.GN (0 + a) (0 + b)))
    (h0 : R2 G0 (fun a b => gt w H (0 + a) (256 * hd + b))) (h1 : R2 G1 (fun a b => gt w H (0 + a) (1024 + 256 * hd + b)))
    (h2 : R2 G2 (fun a b => gt w H (0 + a) (2048 + 256 * hd + b))) :
    R2 (k0_pay327 (F := Ideal) N O (k0_pay326 (F := Ideal) O) G0 G1 G2 A) (fun a b => fin w H pl o a (256 * hd + b)) :=
  (R2.truncf _ (R2.add (R2.mul h1 hA) (R2.mul h2 (R2.mul (R2.mul (R2.mul hO (R2.col (R2.rsqrt (R2.add (R2.div (R2.rowSum (R2.mul hO hO))
    (R2.const c_256) (fun _ _ _ _ => by norm_num)) (R2.const c_eps)) (fun a _ => mean_pos (fun d => o (0 + a) (256 * hd + d)) 256 (by norm_num))))) (R2.row hN)) h0)))).congr
    fun a b _ hb => by
      have e1 : (256 * hd + b) / 256 = hd := by omega
      have e2 : (256 * hd + b) % 256 = b := by omega
      simp only [fin, e1, e2, Nat.zero_add, Nat.add_assoc]
end Rows

section Chunk
variable {Q K V G : ℕ → ℕ → ℝ} {ci : ℕ}

/-- The first row's read, once the offset of its columns is dropped. -/
theorem z0 {n m : ℕ} {X : (⟨2, ![n, m]⟩ : Shape).Idx → EReal} {g : ℕ → ℕ → ℝ} (h : R2 X (fun a b => g a (0 + b))) : R2 X g :=
  h.congr fun a b _ _ => by rw [Nat.zero_add]

theorem pay_b {g : FVec Ideal S128x512 .f32} {T : FVec Ideal S128x128 .bf16} (hg : R2 g (fun a c => G (128 * ci + a) c))
    (hT : R2 T (fun i j => if j ≤ i then 1 else 0)) : R2 (k0_pay11 (F := Ideal) g T) (cb G ci) :=
  (R2.add (R2.slice (R2.matmul (R2.self hT) (R2.cat1 (R2.truncf _ hg) (R2.truncf _ (R2.sub hg (R2.extf _ (R2.truncf _ hg)))))))
    (R2.slice (R2.matmul (R2.self hT) (R2.cat1 (R2.truncf _ hg) (R2.truncf _ (R2.sub hg (R2.extf _ (R2.truncf _ hg)))))))).congr
    fun a b ha hb => by
      have e : ∑ k ∈ Finset.range 128, (if k ≤ a then (1 : ℝ) else 0) * G (128 * ci + k) b = cb G ci a b := by
        unfold cb
        rw [← Finset.sum_subset (Finset.range_subset_range.mpr (show a + 1 ≤ 128 by omega))]
        · exact Finset.sum_congr rfl fun k hk => by rw [if_pos (by have := Finset.mem_range.mp hk; omega), one_mul]
        · intro k _ hk
          rw [if_neg (fun h => hk (Finset.mem_range.mpr (by omega))), zero_mul]
      simp only [Nat.zero_add, if_pos hb, if_neg (show ¬ 512 + b < 512 by omega), sub_self, mul_zero, Finset.sum_const_zero, add_zero, e]

theorem bit (lv : ℕ) {n : ℕ} (msk : BitVec 32) {hi : (⟨2, ![128, n]⟩ : Shape).Iotas .tc 32 [0]}
    (h : ∀ a : Fin 128, IntOp.cmpi .ne (IntOp.andi (BitVec.ofNat 32 a) msk) 0#32 = if (a : ℕ) / 2 ^ lv % 2 = 1 then 1#1 else 0#1) (a : Fin 128) (b : Fin n) :
    cmpi .ne (andi (iota .tc ⟨2, ![128, n]⟩ 32 [0] hi) (broadcast ⟨2, ![128, n]⟩ msk)) (broadcast ⟨2, ![128, n]⟩ 0#32) (ix2 a b) =
      if (a : ℕ) / 2 ^ lv % 2 = 1 then 1#1 else 0#1 :=
  rowTest .ne msk 0#32 (fun a => a / 2 ^ lv % 2 = 1) h a b

/-- A level's operand, from the exponents. -/
theorem pay_m {lv : ℕ} (msk : BitVec 32)
    (h : ∀ a : Fin 128, IntOp.cmpi .ne (IntOp.andi (BitVec.ofNat 32 a) msk) 0#32 = if (a : ℕ) / 2 ^ lv % 2 = 1 then 1#1 else 0#1)
    {q k e : FVec Ideal S128x512 .f32} (hq : R2 q (fun a c => Q (128 * ci + a) c)) (hk : R2 k (fun a c => K (128 * ci + a) c)) (he : R2 e (ex G lv ci)) :
    R3 (shapeCast S1x128x512 (truncf .bf16 (mulf (select (cmpi .ne (andi (iota .tc S128x512 32 [0] iota_S128x512_d0_w32) (broadcast S128x512 msk)) (broadcast S128x512 0#32)) q k)
      (exp2 e)) bitsLt_bf16_f32) shapeCasts_S128x512_S1x128x512) (fun _ i c => mop Q K G lv ci i c) :=
  R2.lift (R2.truncf _ (R2.mul (R2.select (P := fun a => a / 2 ^ lv % 2 = 1) (bit lv msk h) hq hk) (R2.exp2 he)))

theorem cb_succ (G : ℕ → ℕ → ℝ) (ci i c : ℕ) : cb G ci (i + 1) c = cb G ci i c + G (128 * ci + (i + 1)) c := by
  unfold cb; rw [Finset.sum_range_succ]

theorem pay_e0 {g : FVec Ideal S128x512 .f32} (hg : R2 g (fun a c => G (128 * ci + a) c)) : R2 (k0_pay18 (F := Ideal) g) (ex G 0 ci) :=
  (R2.select (P := fun a => a % 2 = 1) (rowTest .eq 1#32 1#32 (fun a => a % 2 = 1) (by decide)) hg (R2.const c_zero)).congr fun a c ha hc => by
    unfold ex
    simp only [pow_zero, Nat.div_one]
    split_ifs with h
    · obtain ⟨x, rfl⟩ : ∃ x, a = 2 * x + 1 := ⟨a / 2, by omega⟩
      rw [show rf 0 (2 * x + 1) = 2 * x by unfold rf; omega, cb_succ]; ring
    · rw [show rf 0 a = a by unfold rf; omega, sub_self]

theorem pay_e1 {g : FVec Ideal S128x512 .f32} (hg : R2 g (fun a c => G (128 * ci + a) c)) : R2 (k0_pay19 (F := Ideal) g) (ex G 1 ci) :=
  (R2.select (P := fun a => a % 4 = 0) (rowTest .eq 3#32 0#32 (fun a => a % 4 = 0) (by decide)) (R2.rotate (s := 127) rfl (by norm_num) hg)
    (R2.select (P := fun a => a % 4 = 1) (rowTest .eq 3#32 1#32 (fun a => a % 4 = 1) (by decide)) (R2.const c_zero)
      (R2.select (P := fun a => a % 4 = 2) (rowTest .eq 3#32 2#32 (fun a => a % 4 = 2) (by decide)) hg
        (R2.add hg (R2.rotate (s := 1) rfl (by norm_num) hg))))).congr fun a c ha hc => by
    unfold ex
    obtain ⟨x, rfl | rfl | rfl | rfl⟩ : ∃ x, a = 4 * x ∨ a = 4 * x + 1 ∨ a = 4 * x + 2 ∨ a = 4 * x + 3 := ⟨a / 4, by omega⟩
    · rw [if_pos (by omega), if_neg (by omega), show rf 1 (4 * x) = 4 * x + 1 by unfold rf; omega, cb_succ,
        show (4 * x + 128 - 127) % 128 = 4 * x + 1 by omega]; ring
    · rw [if_neg (by omega), if_pos (by omega), if_neg (by omega), show rf 1 (4 * x + 1) = 4 * x + 1 by unfold rf; omega, sub_self]
    · rw [if_neg (by omega), if_neg (by omega), if_pos (by omega), if_pos (by omega), show rf 1 (4 * x + 2) = 4 * x + 1 by unfold rf; omega, cb_succ]; ring
    · rw [if_neg (by omega), if_neg (by omega), if_neg (by omega), if_pos (by omega), show rf 1 (4 * x + 3) = 4 * x + 1 by unfold rf; omega, cb_succ, cb_succ,
        show (4 * x + 3 + 128 - 1) % 128 = 4 * x + 1 + 1 by omega]; ring

theorem pay_e {lv : ℕ} (msk : BitVec 32)
    (h : ∀ a : Fin 128, IntOp.cmpi .ne (IntOp.andi (BitVec.ofNat 32 a) msk) 0#32 = if (a : ℕ) / 2 ^ lv % 2 = 1 then 1#1 else 0#1)
    {b r : FVec Ideal S128x512 .f32} {hb' : S128x1.Broadcasts S128x512} {hi : S128x1.Iotas .tc 32 [0]} (hb : R2 b (cb G ci)) (hr : R2 r (fun a c => cb G ci (rf lv a) c)) :
    R2 (mulf (subf b r) (broadcastTo S128x512 (select (cmpi .ne (andi (iota .tc S128x1 32 [0] hi) (broadcast S128x1 msk)) (broadcast S128x1 0#32))
      (broadcast S128x1 (Scalar.ofBits .f32 0x3F800000#32 : Ideal .f32)) (broadcast S128x1 (Scalar.ofBits .f32 0xBF800000#32 : Ideal .f32))) hb')) (ex G lv ci) :=
  (R2.mul (R2.sub hb hr) (R2.col (R2.select (P := fun a => a / 2 ^ lv % 2 = 1) (bit lv msk h) (R2.const c_one) (R2.const c_neg)))).congr fun a c _ _ => by
    unfold ex; split_ifs <;> ring

section Cat
variable {f : ℕ → ℕ → ℝ}
theorem cat16 {X0 X1 X2 X3 X4 X5 X6 X7 X8 X9 X10 X11 X12 X13 X14 X15 : FVec Ideal S8x512 .f32} {h}
    (h0 : R2 X0 (fun _ => f 0)) (h1 : R2 X1 (fun _ => f 1)) (h2 : R2 X2 (fun _ => f 2)) (h3 : R2 X3 (fun _ => f 3))
    (h4 : R2 X4 (fun _ => f 4)) (h5 : R2 X5 (fun _ => f 5)) (h6 : R2 X6 (fun _ => f 6)) (h7 : R2 X7 (fun _ => f 7))
    (h8 : R2 X8 (fun _ => f 8)) (h9 : R2 X9 (fun _ => f 9)) (h10 : R2 X10 (fun _ => f 10)) (h11 : R2 X11 (fun _ => f 11))
    (h12 : R2 X12 (fun _ => f 12)) (h13 : R2 X13 (fun _ => f 13)) (h14 : R2 X14 (fun _ => f 14)) (h15 : R2 X15 (fun _ => f 15)) :
    R2 (concatenate S128x512 0 [⟨S8x512, X0⟩, ⟨S8x512, X1⟩, ⟨S8x512, X2⟩, ⟨S8x512, X3⟩, ⟨S8x512, X4⟩, ⟨S8x512, X5⟩, ⟨S8x512, X6⟩, ⟨S8x512, X7⟩,
      ⟨S8x512, X8⟩, ⟨S8x512, X9⟩, ⟨S8x512, X10⟩, ⟨S8x512, X11⟩, ⟨S8x512, X12⟩, ⟨S8x512, X13⟩, ⟨S8x512, X14⟩, ⟨S8x512, X15⟩] h) (fun a b => f (a / 8) b) :=
  R2.blocks (k := 8) (m := 512) (n := 128) ![X0, X1, X2, X3, X4, X5, X6, X7, X8, X9, X10, X11, X12, X13, X14, X15] (by norm_num) (by norm_num) (h := h) f
    (fun i => by fin_cases i; exacts [h0, h1, h2, h3, h4, h5, h6, h7, h8, h9, h10, h11, h12, h13, h14, h15])
theorem cat8 {X0 X1 X2 X3 X4 X5 X6 X7 : FVec Ideal S16x512 .f32} {h}
    (h0 : R2 X0 (fun _ => f 0)) (h1 : R2 X1 (fun _ => f 1)) (h2 : R2 X2 (fun _ => f 2)) (h3 : R2 X3 (fun _ => f 3))
    (h4 : R2 X4 (fun _ => f 4)) (h5 : R2 X5 (fun _ => f 5)) (h6 : R2 X6 (fun _ => f 6)) (h7 : R2 X7 (fun _ => f 7)) :
    R2 (concatenate S128x512 0 [⟨S16x512, X0⟩, ⟨S16x512, X1⟩, ⟨S16x512, X2⟩, ⟨S16x512, X3⟩, ⟨S16x512, X4⟩, ⟨S16x512, X5⟩, ⟨S16x512, X6⟩, ⟨S16x512, X7⟩] h)
      (fun a b => f (a / 16) b) :=
  R2.blocks (k := 16) (m := 512) (n := 128) ![X0, X1, X2, X3, X4, X5, X6, X7] (by norm_num) (by norm_num) (h := h) f
    (fun i => by fin_cases i; exacts [h0, h1, h2, h3, h4, h5, h6, h7])
theorem cat4 {X0 X1 X2 X3 : FVec Ideal S32x512 .f32} {h}
    (h0 : R2 X0 (fun _ => f 0)) (h1 : R2 X1 (fun _ => f 1)) (h2 : R2 X2 (fun _ => f 2)) (h3 : R2 X3 (fun _ => f 3)) :
    R2 (concatenate S128x512 0 [⟨S32x512, X0⟩, ⟨S32x512, X1⟩, ⟨S32x512, X2⟩, ⟨S32x512, X3⟩] h) (fun a b => f (a / 32) b) :=
  R2.blocks (k := 32) (m := 512) (n := 128) ![X0, X1, X2, X3] (by norm_num) (by norm_num) (h := h) f (fun i => by fin_cases i; exacts [h0, h1, h2, h3])
theorem cat2 {X0 X1 : FVec Ideal S64x512 .f32} {h} (h0 : R2 X0 (fun _ => f 0)) (h1 : R2 X1 (fun _ => f 1)) :
    R2 (concatenate S128x512 0 [⟨S64x512, X0⟩, ⟨S64x512, X1⟩] h) (fun a b => f (a / 64) b) :=
  R2.blocks (k := 64) (m := 512) (n := 128) ![X0, X1] (by norm_num) (by norm_num) (h := h) f (fun i => by fin_cases i; exacts [h0, h1])
end Cat

/-- One level of the scores: the mask on the product of the level's operand with itself. -/
theorem pay_lv {lv hd : ℕ} {m : FVec Ideal S1x128x128 .bf16} {M : FVec Ideal S1x128x128 .bf16} {hm : S1x128x128.ShapeCasts S128x128} {hM : S1x128x128.ShapeCasts S128x128}
    (h : R3 m (fun _ i c => mop Q K G lv ci i (128 * hd + c))) (h' : R3 M (fun _ i j => mk lv i j)) :
    R2 (mulf (shapeCast S128x128 M hM) (truncf .bf16 (matmul dot_S128x128_S128x128_S128x128_1_1_0_0_n_n none (shapeCast S128x128 m hm) (shapeCast S128x128 m hm)
      (constant S128x128 .f32 0x00000000#32)) bitsLt_bf16_f32))
      (fun i j => mk lv i j * ∑ c ∈ Finset.range 128, mop Q K G lv ci i (128 * hd + c) * mop Q K G lv ci j (128 * hd + c)) :=
  R2.mul (R3.drop h') (R2.truncf _ (R2.matmulT (R3.drop h) (R3.drop h)))

theorem pay_att {hd : ℕ} {X0 X1 X2 X3 X4 X5 X6 : FVec Ideal S128x128 .bf16} {L : ℕ → ℕ → ℕ → ℝ}
    (hL : ∀ lv i j, L lv i j = mk lv i j * ∑ c ∈ Finset.range 128, mop Q K G lv ci i (128 * hd + c) * mop Q K G lv ci j (128 * hd + c))
    (h0 : R2 X0 (L 0)) (h1 : R2 X1 (L 1)) (h2 : R2 X2 (L 2)) (h3 : R2 X3 (L 3)) (h4 : R2 X4 (L 4)) (h5 : R2 X5 (L 5)) (h6 : R2 X6 (L 6)) :
    R2 (shapeCast S128x128 (addf (addf (addf (addf (addf (addf X0 X1) X2) X3) X4) X5) X6) shapeCasts_S128x128_S128x128) (fun i j => atl Q K G ci hd i j) :=
  (R2.self (R2.add (R2.add (R2.add (R2.add (R2.add (R2.add h0 h1) h2) h3) h4) h5) h6)).congr fun i j _ _ => by
    unfold atl
    rw [← Finset.sum_congr rfl fun lv _ => hL lv i j]
    simp only [Finset.sum_range_succ, Finset.sum_range_zero, zero_add]

theorem matmul_tn {X : FVec Ideal S128x128 .bf16} {Y : FVec Ideal S128x256 .bf16} {f g : ℕ → ℕ → ℝ} (hX : R2 X f) (hY : R2 Y g) :
    R2 (matmul dot_S128x128_S128x256_S128x256_0_0_1_1_n_n none X Y (constant S128x256 .f32 0x00000000#32)) (fun a b => ∑ k ∈ Finset.range 128, f k a * g k b) := fun a b => by
  have e : matmul dot_S128x128_S128x256_S128x256_0_0_1_1_n_n none X Y (constant S128x256 .f32 0x00000000#32) (ix2 a b) =
      (constant S128x256 .f32 0x00000000#32 : FVec Ideal S128x256 .f32) (ix2 a b) + ∑ k : Fin 128, X (ix2 k a) * Y (ix2 k b) :=
    Ideal.matmul_apply₁_of (K := 128) (d := dot_S128x128_S128x256_S128x256_0_0_1_1_n_n) rfl rfl X Y _ (ix2 a b) (fun k => ix2 k a) (fun k => ix2 k b)
      (fun k => by funext x; fin_cases x <;> rfl) (fun k => by funext x; fin_cases x <;> rfl)
  rw [e, show (constant S128x256 .f32 0x00000000#32 : FVec Ideal S128x256 .f32) (ix2 a b) = 0 from c_zero.trans EReal.coe_zero, zero_add]
  refine Eq.trans ?_ ((congrArg (fun x : ℝ => (x : EReal)) (Finset.sum_range _)).trans (coe_sum _ _)).symm
  exact Finset.sum_congr rfl fun k _ => (congrArg₂ (· * ·) (hX k a) (hY k b)).trans (EReal.coe_mul _ _).symm

theorem sum_cat {n m : ℕ} (h : m = n + n) (P P' A A' : ℕ → ℝ) :
    ∑ k ∈ Finset.range m, (if k < n then P k else P' (k - n)) * (if k < n then A k else A' (k - n)) =
      ∑ k ∈ Finset.range n, P k * A k + ∑ k ∈ Finset.range n, P' k * A' k := by
  subst h
  rw [Finset.sum_range_add]
  refine congrArg₂ (· + ·) (Finset.sum_congr rfl fun c hc => ?_) (Finset.sum_congr rfl fun c hc => ?_)
  · rw [if_pos (Finset.mem_range.mp hc), if_pos (Finset.mem_range.mp hc)]
  · rw [if_neg (by omega), if_neg (by omega), Nat.add_sub_cancel_left]

/-- A head's results of a chunk. -/
theorem pay_o {hd : ℕ} {S : ℕ → ℕ → ℕ → ℝ} {s : FVec Ideal S128x256 .f32} {v : FVec Ideal S128x256 .bf16} {a1 a2 : FVec Ideal S128x128 .bf16}
    {q k : FVec Ideal S128x512 .f32} {o1 : ℕ} (ho1 : o1 = 128 * hd) {hsl : S128x512.Slices ![0, o1] S128x128}
    (hs : R2 s (SS K V G S ci hd)) (hv : R2 v (fun i d => V (128 * ci + i) (256 * hd + d)))
    (h1 : R2 a1 (fun i c => Q (128 * ci + i) (128 * hd + c) * (2 : ℝ) ^ cb G ci i (128 * hd + c))) (h2 : R2 a2 (fun i j => atl Q K G ci hd i j))
    (hq : R2 q (fun a c => Q (128 * ci + a) c)) (hk : R2 k (fun a c => K (128 * ci + a) c)) :
    R2 (shapeCast S128x256 (addf (matmul dot_S128x256_S256x256_S128x256_1_0_0_1_n_n none (concatenate S128x256 1 [⟨S128x128, a1⟩, ⟨S128x128, a2⟩] concatenates_S128x128_S128x128_S128x256_d1)
        (concatenate S256x256 0 [⟨S128x256, truncf .bf16 s bitsLt_bf16_f32⟩, ⟨S128x256, v⟩] concatenates_S128x256_S128x256_S256x256_d0) (constant S128x256 .f32 0x00000000#32))
      (mulf (broadcastTo S128x256 (shapeCast S128x1 (multiReduction .add [1] S128 (extractStridedSlice S128x128 ![0, o1] (mulf q k) hsl) 0x00000000#32 reduces_S128x128_S128 (.inl rfl) rfl)
        shapeCasts_S128_S128x1) broadcasts_S128x1_S128x256) (extf .f32 v bitsLt_bf16_f32))) shapeCasts_S128x256_S128x256) (fun i d => oo Q K V G S ci hd i d) := by
  subst ho1
  refine (R2.self (R2.add (R2.matmul (R2.cat1 h1 h2) (R2.cat0 (R2.truncf _ hs) hv)) (R2.mul (R2.col (R2.rowSum (R2.slice (R2.mul hq hk)))) (R2.extf _ hv)))).congr
    fun i d _ _ => ?_
  have h := sum_cat (n := 128) (m := 256) rfl (fun c => Q (128 * ci + i) (128 * hd + c) * (2 : ℝ) ^ cb G ci i (128 * hd + c)) (fun j => atl Q K G ci hd i j)
    (fun c => SS K V G S ci hd c d) (fun j => V (128 * ci + j) (256 * hd + d))
  beta_reduce at h
  unfold oo
  beta_reduce
  rw [h]
  simp only [Nat.zero_add]

/-- A head's state after a chunk. -/
theorem pay_s {hd : ℕ} {S : ℕ → ℕ → ℕ → ℝ} {s : FVec Ideal S128x256 .f32} {v : FVec Ideal S128x256 .bf16} {kd : FVec Ideal S128x128 .bf16}
    {D : FVec Ideal S1x128 .f32} {E : FVec Ideal S128x128 .f32} {hE : S128x128.ShapeCasts S128x128}
    (hs : R2 s (SS K V G S ci hd)) (hv : R2 v (fun i d => V (128 * ci + i) (256 * hd + d)))
    (hkd : R2 kd (fun j c => K (128 * ci + j) (128 * hd + c) * (2 : ℝ) ^ (cb G ci 127 (128 * hd + c) - cb G ci j (128 * hd + c))))
    (hD : R2 D (fun _ c => (2 : ℝ) ^ cb G ci 127 (128 * hd + c))) (hEr : R2 E (fun i j => if i = j then 1 else 0)) :
    R4 (shapeCast S1x1x128x256 (addf (mulf s (broadcastTo S128x256 (shapeCast S128x1 (multiReduction .add [1] S128 (mulf (shapeCast S128x128 E hE) (broadcastTo S128x128 D broadcasts_S1x128_S128x128))
        0x00000000#32 reduces_S128x128_S128 (.inl rfl) rfl) shapeCasts_S128_S128x1) broadcasts_S128x1_S128x256))
      (matmul dot_S128x128_S128x256_S128x256_0_0_1_1_n_n none kd v (constant S128x256 .f32 0x00000000#32))) shapeCasts_S128x256_S1x1x128x256)
      (fun _ _ => SS K V G S (ci + 1) hd) :=
  R2.lift4 ((R2.add (R2.mul hs (R2.col (R2.rowSum (R2.mul (R2.self hEr) (R2.row hD))))) (matmul_tn hkd hv)).congr fun c d hc _ => by
    rw [SS]
    congr 2
    simp only [ite_mul, one_mul, zero_mul]
    rw [Finset.sum_ite_eq, if_pos (Finset.mem_range.mpr hc)])
end Chunk

section Pool
variable {l : ℕ} {E : ℕ → ℕ → ℝ}

/-- The tile's positions, and the window lengths they allow. -/
theorem pay_cnt {b n : BitVec 32} {N : ℕ} (hl : l < 4) (hN : N ≤ 16) (hb : b = BitVec.ofNat 32 (1 + 512 * l)) (hn : n = BitVec.ofNat 32 N) (h0 : 0 < N)
    {hi : S512x1.Iotas .tc 32 [0]} :
    R2 (sitofp .f32 (minsi (addi (broadcast S512x1 b) (iota .tc S512x1 32 [0] hi)) (broadcast S512x1 n)) : FVec Ideal S512x1 .f32)
      (fun a _ => ((min (1 + 512 * l + a) N : ℕ) : ℝ)) := fun a c => by
  show FloatOps.sitofp (F := Ideal) .f32 (IntOp.minsi (b + iota .tc S512x1 32 [0] hi (ix2 a c)) n) = _
  rw [iota_single_apply]
  subst hb hn
  have ha : (a : ℕ) < 512 := a.2
  have e1 : BitVec.ofNat 32 (1 + 512 * l) + BitVec.ofNat 32 ((ix2 a c (0 : Fin 2)) : ℕ) = BitVec.ofNat 32 (1 + 512 * l + a) := by
    rw [← BitVec.ofNat_add]; rfl
  have e2 : ∀ x : ℕ, x < 4096 → (BitVec.ofNat 32 x).toInt = x := fun x hx => by
    rw [BitVec.toInt_eq_toNat_of_lt (by simp only [BitVec.toNat_ofNat]; omega), BitVec.toNat_ofNat, Nat.mod_eq_of_lt (by omega)]
  have e3 : (IntOp.minsi (BitVec.ofNat 32 (1 + 512 * l) + BitVec.ofNat 32 ((ix2 a c (0 : Fin 2)) : ℕ)) (BitVec.ofNat 32 N)).toInt = ((min (1 + 512 * l + a) N : ℕ) : ℤ) := by
    rw [e1]
    unfold IntOp.minsi
    rw [BitVec.slt, e2 _ (by omega), e2 _ (by omega)]
    by_cases h : 1 + 512 * l + a < N
    · rw [if_pos (by simpa using (by exact_mod_cast h : ((1 + 512 * l + a : ℕ) : ℤ) < N)), e2 _ (by omega), min_eq_left h.le]
    · rw [if_neg (by simpa using (by exact_mod_cast not_lt.mp h : (N : ℤ) ≤ ((1 + 512 * l + a : ℕ) : ℤ))), e2 _ (by omega), min_eq_right (by omega)]
  exact (congrArg (fun z : ℤ => ((z : ℝ) : EReal)) e3).trans (by push_cast; rfl)

/-- A group's pooled rows. -/
theorem pay_pool {w : Wt} {g N : ℕ} (hN : N = 2 ^ (g + 1)) (hg : g < 4) {b n : BitVec 32} (hl : l < 4) (hb : b = BitVec.ofNat 32 (1 + 512 * l)) (hn : n = BitVec.ofNat 32 N)
    {hi : S512x1.Iotas .tc 32 [0]} {X C : FVec Ideal S512x256 .f32} {P : FVec Ideal S1x256x256 .bf16} {T : FVec Ideal S1x256 .f32}
    (hX : R2 X (fun a c => win E N (32 + a) (256 * g + c))) (hC : R2 C (fun a c => E (32 + a) (256 * g + c)))
    (hP : R3 P (fun a b c => w.PW (g + a) (0 + b) (0 + c))) (hT : R2 T (fun a c => w.PS (0 + a) (256 * g + c))) :
    R2 (shapeCast S512x256 (mulf (matmul dot_S512x256_S256x256_S512x256_1_0_0_1_n_n none
        (truncf .bf16 (subf (mulf X (broadcastTo S512x256 (divf (broadcast S512x1 (Scalar.ofBits .f32 0x3F800000#32 : Ideal .f32))
          (sitofp .f32 (minsi (addi (broadcast S512x1 b) (iota .tc S512x1 32 [0] hi)) (broadcast S512x1 n)))) broadcasts_S512x1_S512x256)) C) bitsLt_bf16_f32)
        (shapeCast S256x256 P shapeCasts_S1x256x256_S256x256) (constant S512x256 .f32 0x00000000#32)) (broadcastTo S512x256 T broadcasts_S1x256_S512x256)) shapeCasts_S512x256_S512x256)
      (fun a c => pl w l E a (256 * g + c)) := by
  have h16 : N ≤ 16 := by rw [hN]; interval_cases g <;> norm_num
  have h0 : 0 < N := by rw [hN]; positivity
  refine (R2.self (R2.mul (R2.matmul (R2.truncf _ (R2.sub (R2.mul hX (R2.col (R2.div (R2.const c_one) (pay_cnt hl h16 hb hn h0)
    (fun a _ _ _ => by have : 0 < min (1 + 512 * l + a) N := by omega
                       positivity)))) hC)) (R3.drop hP)) (R2.row hT))).congr fun a c _ hc => ?_
  unfold pl pp
  rw [show (256 * g + c) / 256 = g by omega, show (256 * g + c) % 256 = c by omega]
  congr 1
  refine Finset.sum_congr rfl fun j hj => ?_
  have hj' := Finset.mem_range.mp hj
  rw [show (256 * g + j) / 256 = g by omega, ← hN, Nat.zero_add, Nat.zero_add, Nat.add_zero]
end Pool

end Cert.Pay

end
-- ==== Proof.Buf.lean ====
/-
  The tile's buffers: how a store or a read changes what is known of one, and the tile's arguments put together.
-/
module

public import proofs.«01_k».proof.Proof.Pay
public import proofs.«01_k».proof.Proof.Gen.KernelIdeal.Value

@[expose] public section

set_option maxRecDepth 16384

noncomputable section

namespace Cert.Tile

open Idealize.ShloMosaic Idealize.ShloMosaic.TcCoe Idealize.SL.Sem Cert.KernelIdeal Cert.KernelIdeal.Gen Cert.Rep Cert.Spec Cert.Pay

/-- What one step of the kernel runs over: its places in memory and what its inputs hold. -/
structure Env where
  c : Dev nD
  i : grid0.Coords
  arg2 : Memref sig .tc .vmem S512x1024 .f32
  harg2 : arg2.IsWhole
  arg3 : Memref sig .tc .vmem S1x1024 .f32
  harg3 : arg3.IsWhole
  arg4 : Memref sig .tc .vmem S1024x3072 .bf16
  harg4 : arg4.IsWhole
  arg5 : Memref sig .tc .vmem S1024x3072 .bf16
  harg5 : arg5.IsWhole
  arg6 : Memref sig .tc .vmem S1024x128 .bf16
  harg6 : arg6.IsWhole
  arg7 : Memref sig .tc .vmem S128x512 .bf16
  harg7 : arg7.IsWhole
  arg8 : Memref sig .tc .vmem S1x512 .f32
  harg8 : arg8.IsWhole
  arg9 : Memref sig .tc .vmem S1x256 .f32
  harg9 : arg9.IsWhole
  arg10 : Memref sig .tc .vmem S4x256x256 .bf16
  harg10 : arg10.IsWhole
  arg11 : Memref sig .tc .vmem S1x1024 .f32
  harg11 : arg11.IsWhole
  arg12 : Memref sig .tc .vmem S128x128 .bf16
  harg12 : arg12.IsWhole
  arg13 : Memref sig .tc .vmem S7x128x128 .bf16
  harg13 : arg13.IsWhole
  arg14 : Memref sig .tc .vmem S128x128 .f32
  harg14 : arg14.IsWhole
  arg15 : Memref sig .tc .vmem S512x1024 .bf16
  harg15 : arg15.IsWhole
  arg16 : Memref sig .tc .vmem S1x15x1024 .f32
  harg16 : arg16.IsWhole
  arg17 : Memref sig .tc .vmem S1x4x128x256 .f32
  harg17 : arg17.IsWhole
  arg18 : Memref sig .tc .vmem S512x1024 .bf16
  harg18 : arg18.IsWhole
  arg19 : Memref sig .tc .vmem S544x1024 .f32
  harg19 : arg19.IsWhole
  arg20 : Memref sig .tc .vmem S3x544x256 .f32
  harg20 : arg20.IsWhole
  arg21 : Memref sig .tc .vmem S512x512 .f32
  harg21 : arg21.IsWhole
  arg22 : Memref sig .tc .vmem S512x512 .f32
  harg22 : arg22.IsWhole
  arg23 : Memref sig .tc .vmem S512x1024 .bf16
  harg23 : arg23.IsWhole
  arg24 : Memref sig .tc .vmem S512x512 .f32
  harg24 : arg24.IsWhole
  arg25 : Memref sig .tc .vmem S512x1024 .f32
  harg25 : arg25.IsWhole
  arg26 : Memref sig .tc .vmem S512x1024 .f32
  harg26 : arg26.IsWhole
  arg27 : Memref sig .tc .vmem S512x512 .f32
  harg27 : arg27.IsWhole
  arg28 : Memref sig .tc .vmem S512x512 .bf16
  harg28 : arg28.IsWhole
  arg29 : Memref sig .tc .vmem S512x512 .bf16
  harg29 : arg29.IsWhole
  arg30 : Memref sig .tc .vmem S32x512 .f32
  harg30 : arg30.IsWhole
  arg31 : Memref sig .tc .vmem S7x512x512 .bf16
  harg31 : arg31.IsWhole
  arg32 : Memref sig .tc .vmem S512x512 .bf16
  harg32 : arg32.IsWhole
  arg33 : Memref sig .tc .vmem S512x3072 .f32
  harg33 : arg33.IsWhole
  x0 : Vec Ideal S512x1024 .f32
  x1 : Vec Ideal S1x1024 .f32
  x2 : Vec Ideal S1024x3072 .bf16
  x3 : Vec Ideal S1024x3072 .bf16
  x4 : Vec Ideal S1024x128 .bf16
  x5 : Vec Ideal S128x512 .bf16
  x6 : Vec Ideal S1x512 .f32
  x7 : Vec Ideal S1x256 .f32
  x8 : Vec Ideal S4x256x256 .bf16
  x9 : Vec Ideal S1x1024 .f32
  x10 : Vec Ideal S128x128 .bf16
  x11 : Vec Ideal S7x128x128 .bf16
  x12 : Vec Ideal S128x128 .f32
  xo15 : Vec Ideal S1x4x128x256 .f32
  xs1 : Vec Ideal S544x1024 .f32

/-- The inputs hold the tile's rows, the weights, and the constant tables. -/
structure Ok (e : Env) (w : Wt) (H : ℕ → ℕ → ℝ) : Prop where
  h0 : R2 e.x0 H
  h1 : R2 e.x1 w.MN
  h2 : R2 e.x2 w.WA
  h3 : R2 e.x3 w.WB
  h4 : R2 e.x4 w.WLR
  h5 : R2 e.x5 w.WGK
  h6 : R2 e.x6 w.BGK
  h7 : R2 e.x7 w.GN
  h8 : R3 e.x8 w.PW
  h9 : R2 e.x9 w.PS
  h10 : R2 e.x10 (fun i j => if j ≤ i then 1 else 0)
  h11 : R3 e.x11 mk
  h12 : R2 e.x12 (fun i j => if i = j then 1 else 0)

theorem st32 {S : Shape} {off sz : Fin S.rank → ℕ} {inb} (w : (Rect.unit (s := S) off sz inb).shape.Idx → EReal) (L : List (View.Piece (Elt Ideal) S .f32)) :
    Stored (α := EReal) (View.canon L) (View.canon (Val := Elt Ideal) (e := .f32) (⟨Rect.unit off sz inb, w⟩ :: L)) (Rect.unit off sz inb) w :=
  stored_canon (Val := Elt Ideal) (e := .f32) _ w L
theorem st16 {S : Shape} {off sz : Fin S.rank → ℕ} {inb} (w : (Rect.unit (s := S) off sz inb).shape.Idx → EReal) (L : List (View.Piece (Elt Ideal) S .bf16)) :
    Stored (α := EReal) (View.canon L) (View.canon (Val := Elt Ideal) (e := .bf16) (⟨Rect.unit off sz inb, w⟩ :: L)) (Rect.unit off sz inb) w :=
  stored_canon (Val := Elt Ideal) (e := .bf16) _ w L

/-- A function of the chunk and the row within it, as a function of the tile's row. -/
def flat (f : ℕ → ℕ → ℕ → ℝ) (a c : ℕ) : ℝ := f (a / 128) (a % 128) c
theorem flat_at (f : ℕ → ℕ → ℕ → ℝ) (ci a c : ℕ) (ha : a < 128) : flat f (128 * ci + a) c = f ci a c := by
  unfold flat
  rw [show (128 * ci + a) / 128 = ci by omega, show (128 * ci + a) % 128 = a by omega]

section Shapes
variable {n m k p q : ℕ} {f : ℕ → ℕ → ℕ → ℝ} {G g : ℕ → ℕ → ℝ}

theorem zc {X : (⟨2, ![n, m]⟩ : Shape).Idx → EReal} (h : R2 X g) : R2 X (fun a b => g a (0 + b)) := h.congr fun a b _ _ => by rw [Nat.zero_add]
theorem zz0 {X : (⟨2, ![n, m]⟩ : Shape).Idx → EReal} (h : R2 X (fun a b => g (0 + a) (0 + b))) : R2 X g :=
  h.congr fun a b _ _ => by rw [Nat.zero_add, Nat.zero_add]
theorem R2.flat {X : (⟨2, ![128, m]⟩ : Shape).Idx → EReal} (ci : ℕ) (h : R2 X (f ci)) : R2 X (fun a b => flat f (128 * ci + a) b) :=
  h.congr fun a b ha _ => (flat_at f ci a b ha).symm
theorem R2.unflat {X : (⟨2, ![128, m]⟩ : Shape).Idx → EReal} {o1 : ℕ} (ci : ℕ) (h : R2 X (fun a b => Tile.flat f (128 * ci + a) (o1 + b))) :
    R2 X (fun a b => f ci a (o1 + b)) := h.congr fun a b ha _ => flat_at f ci a _ ha
theorem R3.flat {X : (⟨3, ![1, 128, m]⟩ : Shape).Idx → EReal} (ci : ℕ) (h : R3 X (fun _ => f ci)) :
    R3 X (fun _ b c => Tile.flat f (128 * ci + b) (0 + c)) := h.congr fun _ a b _ ha _ => by rw [flat_at f ci a _ ha, Nat.zero_add]

theorem B2.start0 (Z : (⟨2, ![n, m]⟩ : Shape).Idx → EReal) (g : ℕ → ℕ → ℝ) : B2 Z (fun _ b => b < 0) g := fun _ _ h => absurd h (Nat.not_lt_zero _)
theorem B2.startr (Z : (⟨2, ![n, m]⟩ : Shape).Idx → EReal) (g : ℕ → ℕ → ℝ) : B2 Z (fun a _ => a < 0) g := fun _ _ h => absurd h (Nat.not_lt_zero _)
theorem B2.start (Z : (⟨2, ![n, m]⟩ : Shape).Idx → EReal) (g : ℕ → ℕ → ℝ) (p : ℕ) : B2 Z (fun a b => a < 0 ∨ (a < 0 + p ∧ b < 0)) g :=
  fun _ _ h => by omega
theorem B3.start (Z : (⟨3, ![n, m, k]⟩ : Shape).Idx → EReal) (g : ℕ → ℕ → ℕ → ℝ) (q : ℕ) :
    B3 Z (fun a b c => c < k ∧ (b < 0 ∨ (b < 0 + q ∧ a < 0))) g := fun _ _ _ h => by omega
theorem B2.cols {Z Z' : (⟨2, ![n, m]⟩ : Shape).Idx → EReal} {o1 : ℕ} {inb} {w : (⟨2, ![n, q]⟩ : Shape).Idx → EReal}
    (hs : Stored Z Z' (Rect.unit (s := ⟨2, ![n, m]⟩) ![0, o1] ![n, q] inb) w) (hZ : B2 Z (fun _ b => b < o1) G)
    (hw : R2 w (fun a b => G a (o1 + b))) : B2 Z' (fun _ b => b < o1 + q) G := fun a b h =>
  B2.put hs (D' := fun a b => a < n ∧ b < o1 + q) hZ (hw.congr fun a b _ _ => by rw [Nat.zero_add]) (fun a b h hin => ⟨by omega, rfl⟩) a b ⟨a.2, h⟩
/-- Column blocks below the row `r0`, on top of what `D` says of the rows above. -/
theorem B2.colsE {Z Z' : (⟨2, ![n, m]⟩ : Shape).Idx → EReal} {r0 o1 : ℕ} {inb} {w : (⟨2, ![p, q]⟩ : Shape).Idx → EReal} (P : Prop)
    (hs : Stored Z Z' (Rect.unit (s := ⟨2, ![n, m]⟩) ![r0, o1] ![p, q] inb) w) (hp : r0 + p = n) (hZ : B2 Z (fun a b => (P ∧ a < r0) ∨ (r0 ≤ a ∧ b < o1)) G)
    (hw : R2 w (fun a b => G (r0 + a) (o1 + b))) : B2 Z' (fun a b => (P ∧ a < r0) ∨ (r0 ≤ a ∧ b < o1 + q)) G := fun a b h =>
  B2.put hs (D' := fun a b => a < n ∧ ((P ∧ a < r0) ∨ (r0 ≤ a ∧ b < o1 + q))) hZ hw (fun a b h hin => ⟨by
    rcases h.2 with h2 | h2
    · exact Or.inl h2
    · exact Or.inr ⟨h2.1, by omega⟩, rfl⟩) a b ⟨a.2, h⟩
theorem B2.rows {Z Z' : (⟨2, ![n, m]⟩ : Shape).Idx → EReal} {o0 : ℕ} {inb} {w : (⟨2, ![p, m]⟩ : Shape).Idx → EReal}
    (hs : Stored Z Z' (Rect.unit (s := ⟨2, ![n, m]⟩) ![o0, 0] ![p, m] inb) w) (hZ : B2 Z (fun a _ => a < o0) G)
    (hw : R2 w (fun a b => G (o0 + a) b)) : B2 Z' (fun a _ => a < o0 + p) G := fun a b h =>
  B2.put hs (D' := fun a b => b < m ∧ a < o0 + p) hZ (hw.congr fun a b _ _ => by rw [Nat.zero_add]) (fun a b h hin => ⟨by omega, rfl⟩) a b ⟨b.2, h⟩
theorem B2.nextRow {Z : (⟨2, ![n, m]⟩ : Shape).Idx → EReal} {o0 p o1 q p' : ℕ} (hm : m ≤ o1 + q)
    (h : B2 Z (fun a b => a < o0 ∨ (a < o0 + p ∧ b < o1 + q)) G) : B2 Z (fun a b => a < o0 + p ∨ (a < o0 + p + p' ∧ b < 0)) G :=
  B2.mono h fun a b _ hb h => by omega
theorem B3.from_ {Z : (⟨3, ![n, m, k]⟩ : Shape).Idx → EReal} {o1 : ℕ} (q : ℕ) (h : B3 Z (fun _ b c => c < k ∧ b < o1) f) :
    B3 Z (fun a b c => c < k ∧ (b < o1 ∨ (b < o1 + q ∧ a < 0))) f := B3.mono h fun a b c _ _ _ h => by omega
theorem B3.next {Z : (⟨3, ![n, m, k]⟩ : Shape).Idx → EReal} {o0 o1 q q' : ℕ} (hm : n ≤ o0 + 1)
    (h : B3 Z (fun a b c => c < k ∧ (b < o1 ∨ (b < o1 + q ∧ a < o0 + 1))) f) : B3 Z (fun a b c => c < k ∧ (b < o1 + q ∨ (b < o1 + q + q' ∧ a < 0))) f :=
  B3.mono h fun a b c ha _ _ h => by omega

section Loads
variable {sig : RefSig} {κ : Kind} {sp : Space}
theorem ld16z (v : View sig κ sp ⟨2, ![n, m]⟩ .bf16) {L : List (View.Piece (Elt Ideal) ⟨2, ![n, m]⟩ .bf16)} (h : B2 (View.canon L) (fun _ _ => True) g) {inb} :
    R2 (n := p) (m := q) (v.readCov L (Rect.unit (s := ⟨2, ![n, m]⟩) ![0, 0] ![p, q] inb).toLoadRect) g := zz0 (ld16 v h (fun _ _ _ _ => trivial))
theorem ldr32 (v : View sig κ sp ⟨2, ![n, m]⟩ .f32) {L : List (View.Piece (Elt Ideal) ⟨2, ![n, m]⟩ .f32)} (h : B2 (View.canon L) (fun _ _ => True) g) {o0 : ℕ} {inb} :
    R2 (n := p) (m := q) (v.readCov L (Rect.unit (s := ⟨2, ![n, m]⟩) ![o0, 0] ![p, q] inb).toLoadRect) (fun a b => g (o0 + a) b) :=
  (ld32 v h (fun _ _ _ _ => trivial)).congr fun a b _ _ => by rw [Nat.zero_add]
theorem ar32z {w : Memref sig κ sp ⟨2, ![n, m]⟩ .f32} (hw : w.IsWhole) {X : (⟨2, ![n, m]⟩ : Shape).Idx → EReal} (h : R2 X g) {inb} :
    R2 (n := p) (m := q) (w.view.readAt (Elt Ideal) (Rect.unit (s := ⟨2, ![n, m]⟩) ![0, 0] ![p, q] inb).toLoadRect (hw.unread (Val := Elt Ideal) X)) g := zz0 (ar32 hw h)
theorem ar16z {w : Memref sig κ sp ⟨2, ![n, m]⟩ .bf16} (hw : w.IsWhole) {X : (⟨2, ![n, m]⟩ : Shape).Idx → EReal} (h : R2 X g) {inb} :
    R2 (n := p) (m := q) (w.view.readAt (Elt Ideal) (Rect.unit (s := ⟨2, ![n, m]⟩) ![0, 0] ![p, q] inb).toLoadRect (hw.unread (Val := Elt Ideal) X)) g := zz0 (ar16 hw h)
/-- One row of the log decays, repeated. -/
theorem rowAt (v : View sig κ sp ⟨2, ![n, m]⟩ .f32) {L : List (View.Piece (Elt Ideal) ⟨2, ![n, m]⟩ .f32)} {N : ℕ} (h : B2 (View.canon L) (fun a _ => a < N) g) {r : ℕ} {inb}
    {hc : (⟨2, ![1, m]⟩ : Shape).ShapeCasts ⟨2, ![1, m]⟩} {hb : (⟨2, ![1, m]⟩ : Shape).Broadcasts ⟨2, ![p, m]⟩} (hr : r < N := by norm_num) :
    R2 (broadcastTo ⟨2, ![p, m]⟩ (shapeCast ⟨2, ![1, m]⟩ (v.readCov L (Rect.unit (s := ⟨2, ![n, m]⟩) ![r, 0] ![1, m] inb).toLoadRect) hc) hb) (fun _ => g r) :=
  (R2.row (R2.self (ld32 v h (p := 1) (q := m) (fun a b ha _ => by omega)))).congr fun a b _ _ => by rw [Nat.zero_add, Nat.add_zero]
/-- A read of one layer of a three-axis buffer. -/
theorem tld (v : View sig κ sp ⟨3, ![n, m, k]⟩ .f32) {L : List (View.Piece (Elt Ideal) ⟨3, ![n, m, k]⟩ .f32)} {t r0 r : ℕ}
    (h : B3 (View.canon L) (fun a b _ => a = t ∧ r0 ≤ b) (fun _ => g)) {inb} {hc : (⟨3, ![1, p, k]⟩ : Shape).ShapeCasts ⟨2, ![p, k]⟩} (hr : r0 ≤ r := by norm_num) :
    R2 (shapeCast ⟨2, ![p, k]⟩ (v.readCov L (Rect.unit (s := ⟨3, ![n, m, k]⟩) ![t, r, 0] ![1, p, k] inb).toLoadRect) hc) (fun b c => g (r + b) c) :=
  (R3.drop (ld3_32 v h (p := 1) (q := p) (r := k) (fun a b _ ha _ _ => by omega))).congr fun a b _ _ => by rw [Nat.zero_add]
end Loads

theorem tput {Z Z' : (⟨3, ![n, m, k]⟩ : Shape).Idx → EReal} {t r0 : ℕ} {inb} {w : (⟨3, ![1, q, k]⟩ : Shape).Idx → EReal}
    (hs : Stored Z Z' (Rect.unit (s := ⟨3, ![n, m, k]⟩) ![t, r0, 0] ![1, q, k] inb) w) (hq : r0 + q = m) (hw : R3 w (fun _ b c => g (r0 + b) c)) :
    B3 Z' (fun a b _ => a = t ∧ r0 ≤ b) (fun _ => g) := fun a b c h =>
  B3.put hs (D' := fun a b c => b < m ∧ c < k ∧ a = t ∧ r0 ≤ b) (B3.nil Z (fun _ => g)) (hw.congr fun a b c _ _ _ => by rw [Nat.zero_add])
    (fun a b c h hin => by omega) a b c ⟨b.2, c.2, h⟩

/-- A row stored at every eighth place. -/
theorem B2.eighth {Z Z' : (⟨2, ![n, m]⟩ : Shape).Idx → EReal} {o0 : ℕ} {inb} {w : (⟨2, ![1, m]⟩ : Shape).Idx → EReal}
    (hs : Stored Z Z' (Rect.unit (s := ⟨2, ![n, m]⟩) ![o0, 0] ![1, m] inb) w) (h8 : o0 % 8 = 0) (hZ : B2 Z (fun a _ => a % 8 = 0 ∧ a < o0) G)
    (hw : R2 w (fun a b => G (o0 + a) b)) : B2 Z' (fun a _ => a % 8 = 0 ∧ a < o0 + 8) G := fun a b h =>
  B2.put hs (D' := fun a b => b < m ∧ a % 8 = 0 ∧ a < o0 + 8) hZ (hw.congr fun a b _ _ => by rw [Nat.zero_add]) (fun a b h hin => ⟨by omega, rfl⟩) a b ⟨b.2, h⟩
theorem B2.start8 (Z : (⟨2, ![n, m]⟩ : Shape).Idx → EReal) (g : ℕ → ℕ → ℝ) : B2 Z (fun a _ => a % 8 = 0 ∧ a < 0) g := fun _ _ h => absurd h.2 (Nat.not_lt_zero _)
theorem dcyw {G : ℕ → ℕ → ℝ} (ci : ℕ) {X : (⟨2, ![1, m]⟩ : Shape).Idx → EReal} (h : R2 X (fun a b => (2 : ℝ) ^ cb G ci (127 + a) b)) :
    R2 X (fun a b => (fun a c => (2 : ℝ) ^ cb G (a / 8) 127 c) (8 * ci + a) b) := h.congr fun a b ha _ => by
  obtain rfl : a = 0 := by omega
  beta_reduce
  rw [Nat.add_zero, Nat.add_zero, Nat.mul_div_cancel_left _ (by norm_num)]

/-- The reference rows of a level. -/
theorem R2.ref (lv s t : ℕ) {ci : ℕ} {X : (⟨2, ![128, m]⟩ : Shape).Idx → EReal} (he : ∀ a, a < 128 → s * (a / s) + t = rf lv a ∧ s * (a / s) + t < 128)
    (h : R2 X (fun a b => Tile.flat f (128 * ci + (s * (a / s) + t)) b)) : R2 X (fun a c => f ci (rf lv a) c) := h.congr fun a b ha _ => by
  rw [flat_at f ci _ _ (he a ha).2, (he a ha).1]
theorem R2.ref6 {ci : ℕ} {X : (⟨2, ![128, m]⟩ : Shape).Idx → EReal} (h : R2 X (fun _ => Tile.flat f (128 * ci + 63))) :
    R2 X (fun a c => f ci (rf 6 a) c) := h.congr fun a b ha _ => by
  rw [flat_at f ci _ _ (by norm_num), show rf 6 a = 63 by unfold rf; omega]
end Shapes

section State
variable {K V G : ℕ → ℕ → ℝ} {S : ℕ → ℕ → ℕ → ℝ}
/-- How many of the first `n` state stores, going round the four heads, reached the head `b`. -/
def cnt (n b : ℕ) : ℕ := if b = 0 then (n + 3) / 4 else if b = 1 then (n + 2) / 4 else if b = 2 then (n + 1) / 4 else if b = 3 then n / 4 else 0
/-- The states after `n` state stores. -/
def SSn (K V G : ℕ → ℕ → ℝ) (S : ℕ → ℕ → ℕ → ℝ) (n hd : ℕ) : ℕ → ℕ → ℝ := SS K V G S (cnt n hd) hd
theorem cnt_succ (n b : ℕ) (hb : b ≠ n % 4) : cnt (n + 1) b = cnt n b := by unfold cnt; split_ifs <;> omega
theorem cnt_at (ci hd : ℕ) (h : hd < 4) : cnt (4 * ci + hd) hd = ci := by unfold cnt; split_ifs <;> omega
theorem cnt_at' (ci hd : ℕ) (h : hd < 4) : cnt (4 * ci + hd + 1) hd = ci + 1 := by unfold cnt; split_ifs <;> omega
theorem B4.step {Z Z' : (⟨4, ![1, 4, 128, 256]⟩ : Shape).Idx → EReal} (ci hd : ℕ) {inb} {w : (⟨4, ![1, 1, 128, 256]⟩ : Shape).Idx → EReal} (h4 : hd < 4)
    (hs : Stored Z Z' (Rect.unit (s := ⟨4, ![1, 4, 128, 256]⟩) ![0, hd, 0, 0] ![1, 1, 128, 256] inb) w) {D : ℕ → Prop} (hZ : B4 Z D (SSn K V G S (4 * ci + hd)))
    (hw : R4 w (fun _ _ => SS K V G S (ci + 1) hd)) : B4 Z' (fun b => b = hd ∨ D b) (SSn K V G S (4 * ci + hd + 1)) :=
  B4.put hs hZ (hw.congr fun _ _ c d _ _ _ _ => by rw [SSn, cnt_at' ci hd h4]) fun b hb => by
    rw [SSn, cnt_succ _ _ (by omega), SSn]
theorem B4.all {Z : (⟨4, ![1, 4, 128, 256]⟩ : Shape).Idx → EReal} {D : ℕ → Prop} {G : ℕ → ℕ → ℕ → ℝ} (h : B4 Z D G) (hD : ∀ b, b < 4 → D b) : B4 Z (fun _ => True) G :=
  B4.mono h fun b hb _ => hD b hb
theorem sld {sig : RefSig} {κ : Kind} {sp : Space} (ci hd : ℕ) (h4 : hd < 4) (v : View sig κ sp ⟨4, ![1, 4, 128, 256]⟩ .f32) {L : List (View.Piece (Elt Ideal) ⟨4, ![1, 4, 128, 256]⟩ .f32)} {D : ℕ → Prop}
    (h : B4 (View.canon L) D (SSn K V G S (4 * ci + hd))) {inb} {hc : (⟨4, ![1, 1, 128, 256]⟩ : Shape).ShapeCasts ⟨2, ![128, 256]⟩} (hD : D hd := by trivial) :
    R2 (shapeCast ⟨2, ![128, 256]⟩ (v.readCov L (Rect.unit (s := ⟨4, ![1, 4, 128, 256]⟩) ![0, hd, 0, 0] ![1, 1, 128, 256] inb).toLoadRect) hc) (SS K V G S ci hd) :=
  (R4.drop (ld4_32 v h hD)).congr fun c d _ _ => by rw [SSn, cnt_at ci hd h4]
theorem ald {sig : RefSig} {κ : Kind} {sp : Space} (hd : ℕ) {w : Memref sig κ sp ⟨4, ![1, 4, 128, 256]⟩ .f32} (hw : w.IsWhole) {X : (⟨4, ![1, 4, 128, 256]⟩ : Shape).Idx → EReal}
    (h : R4 X (fun _ => S)) {inb} {hc : (⟨4, ![1, 1, 128, 256]⟩ : Shape).ShapeCasts ⟨2, ![128, 256]⟩} :
    R2 (shapeCast ⟨2, ![128, 256]⟩ (w.view.readAt (Elt Ideal) (Rect.unit (s := ⟨4, ![1, 4, 128, 256]⟩) ![0, hd, 0, 0] ![1, 1, 128, 256] inb).toLoadRect (hw.unread (Val := Elt Ideal) X)) hc) (SS K V G S 0 hd) :=
  R4.drop (ar4_32 hw h)
end State

section Windows
variable {E : ℕ → ℕ → ℝ}
theorem win_two {n m g r s : ℕ} {X Y : FVec Ideal ⟨2, ![n, m]⟩ .f32} (h : r = s + 1) (hX : R2 X (fun a c => E (r + a) (g + c))) (hY : R2 Y (fun a c => E (s + a) (g + c))) :
    R2 (addf X Y) (fun a c => win E 2 (r + a) (g + c)) := (R2.add hX hY).congr fun a c _ _ => by
  subst h
  simp only [win, Finset.sum_range_succ, Finset.sum_range_zero, zero_add, Nat.sub_zero]
  rw [show s + 1 + a - 1 = s + a by omega]
theorem win_dbl {n m g r s N : ℕ} {X Y : FVec Ideal ⟨2, ![n, m]⟩ .f32} (h : r = s + N) (hX : R2 X (fun a c => win E N (r + a) (g + c)))
    (hY : R2 Y (fun a c => win E N (s + a) (g + c))) :
    R2 (addf X Y) (fun a c => win E (N + N) (r + a) (g + c)) := (R2.add hX hY).congr fun a c _ _ => by
  subst h
  rw [← win_double, show s + N + a - N = s + a by omega]
end Windows

theorem pos {i : ℕ} {l : ℕ} (hl : l < 4) (h : i = l) : Scalar.addi (1#32) (Scalar.muli (BitVec.ofNat 32 i) 512#32) = BitVec.ofNat 32 (1 + 512 * l) := by
  subst h; interval_cases i <;> rfl

end Cert.Tile

end
-- ==== Proof.RunB.lean ====
/-
  The buffers a tile fills from its inputs alone.
-/
module

public import proofs.«01_k».proof.Proof.Buf

@[expose] public section

set_option maxRecDepth 16384

noncomputable section

namespace Cert.Tile

open Idealize.ShloMosaic Idealize.ShloMosaic.TcCoe Idealize.SL.Sem Cert.KernelIdeal Cert.KernelIdeal.Gen Cert.Rep Cert.Spec Cert.Pay

variable (e : Env) {w : Wt} {H : ℕ → ℕ → ℝ} (k : Ok e w H)
abbrev B0 := kernelRun0_B.sl.HS0_1 (F := Ideal) e.c e.arg2 e.harg2 e.arg3 e.harg3 e.x0 e.x1
abbrev B3_ := kernelRun0_B.sl.HS3_1 (F := Ideal) e.c e.arg2 e.harg2 e.arg3 e.harg3 e.arg4 e.harg4 e.arg18 e.x0 e.x1 e.x2
abbrev B4_ := kernelRun0_B.sl.HS4_1 (F := Ideal) e.c e.arg2 e.harg2 e.arg3 e.harg3 e.arg4 e.harg4 e.arg18 e.x0 e.x1 e.x2
abbrev B5 := kernelRun0_B.sl.HS5_4 (F := Ideal) e.c e.arg2 e.harg2 e.arg3 e.harg3 e.arg4 e.harg4 e.arg18 e.x0 e.x1 e.x2
abbrev B6 := kernelRun0_B.sl.HS6_1 (F := Ideal) e.c e.arg2 e.harg2 e.arg3 e.harg3 e.arg6 e.harg6 e.arg7 e.harg7 e.arg8 e.harg8 e.arg18 e.x0 e.x1 e.x4 e.x5 e.x6
abbrev B9_1 := kernelRun0_B.sl.HS9_1 (F := Ideal) e.c e.arg2 e.harg2 e.arg3 e.harg3 e.arg6 e.harg6 e.arg7 e.harg7 e.arg8 e.harg8 e.arg12 e.harg12 e.arg18 e.arg24 e.x0 e.x1 e.x4 e.x5 e.x6 e.x10
abbrev B9_2 := kernelRun0_B.sl.HS9_2 (F := Ideal) e.c e.arg2 e.harg2 e.arg3 e.harg3 e.arg6 e.harg6 e.arg7 e.harg7 e.arg8 e.harg8 e.arg12 e.harg12 e.arg18 e.arg24 e.x0 e.x1 e.x4 e.x5 e.x6 e.x10
abbrev B9_3 := kernelRun0_B.sl.HS9_3 (F := Ideal) e.c e.arg2 e.harg2 e.arg3 e.harg3 e.arg6 e.harg6 e.arg7 e.harg7 e.arg8 e.harg8 e.arg12 e.harg12 e.arg18 e.arg24 e.x0 e.x1 e.x4 e.x5 e.x6 e.x10
abbrev B9_4 := kernelRun0_B.sl.HS9_4 (F := Ideal) e.c e.arg2 e.harg2 e.arg3 e.harg3 e.arg6 e.harg6 e.arg7 e.harg7 e.arg8 e.harg8 e.arg12 e.harg12 e.arg18 e.arg24 e.x0 e.x1 e.x4 e.x5 e.x6 e.x10
abbrev B10 := kernelRun0_B.sl.HS10_4 (F := Ideal) e.c e.arg2 e.harg2 e.arg3 e.harg3 e.arg4 e.harg4 e.arg6 e.harg6 e.arg7 e.harg7 e.arg8 e.harg8 e.arg12 e.harg12 e.arg18 e.arg21 e.arg24 e.x0 e.x1 e.x2 e.x4 e.x5 e.x6 e.x10
abbrev B11 := kernelRun0_B.sl.HS11_4 (F := Ideal) e.c e.arg2 e.harg2 e.arg3 e.harg3 e.arg4 e.harg4 e.arg6 e.harg6 e.arg7 e.harg7 e.arg8 e.harg8 e.arg12 e.harg12 e.arg18 e.arg22 e.arg24 e.x0 e.x1 e.x2 e.x4 e.x5 e.x6 e.x10
abbrev B12 := kernelRun0_B.sl.HS12_4 (F := Ideal) e.c e.arg2 e.harg2 e.arg3 e.harg3 e.arg6 e.harg6 e.arg7 e.harg7 e.arg8 e.harg8 e.arg12 e.harg12 e.arg18 e.arg24 e.x0 e.x1 e.x4 e.x5 e.x6 e.x10
abbrev B13 := kernelRun0_B.sl.HS13_28 (F := Ideal) e.c e.arg2 e.harg2 e.arg3 e.harg3 e.arg4 e.harg4 e.arg6 e.harg6 e.arg7 e.harg7 e.arg8 e.harg8 e.arg12 e.harg12 e.arg18 e.arg21 e.arg22 e.arg24 e.arg27 e.x0 e.x1 e.x2 e.x4 e.x5 e.x6 e.x10
abbrev B14 := kernelRun0_B.sl.HS14_16 (F := Ideal) e.c e.arg2 e.harg2 e.arg3 e.harg3 e.arg4 e.harg4 e.arg6 e.harg6 e.arg7 e.harg7 e.arg8 e.harg8 e.arg12 e.harg12 e.arg13 e.harg13 e.arg18 e.arg21 e.arg22 e.arg24 e.arg27 e.arg31 e.x0 e.x1 e.x2 e.x4 e.x5 e.x6 e.x10 e.x11
abbrev B15 := kernelRun0_B.sl.HS15_12 (F := Ideal) e.c e.arg2 e.harg2 e.arg3 e.harg3 e.arg5 e.harg5 e.arg18 e.x0 e.x1 e.x3

include k
theorem b0 : B2 (View.canon (B0 e)) (fun _ _ => True) (xb w H) :=
  B2.mono (B2.cols (st16 _ _) (B2.start0 _ _) (zc (pay_xb (ar32z _ k.h0) (ar32z _ k.h1)))) (fun a b ha hb _ => by beta_reduce; omega)
theorem b3 : B2 (View.canon (B3_ e)) (fun _ _ => True) (qq w H) :=
  B2.mono (B2.cols (st32 _ _) (B2.start0 _ _) (zc (pay_q (ld16z _ (b0 e k)) (ar16 _ k.h2)))) (fun a b ha hb _ => by beta_reduce; omega)
theorem b4 : B2 (View.canon (B4_ e)) (fun _ _ => True) (kk w H) :=
  B2.mono (B2.cols (st32 _ _) (B2.start0 _ _) (zc (pay_k (ld16z _ (b0 e k)) (ar16 _ k.h2)))) (fun a b ha hb _ => by beta_reduce; omega)
theorem b6 : B2 (View.canon (B6 e)) (fun _ _ => True) (gg w H) :=
  B2.mono (B2.cols (st32 _ _) (B2.start0 _ _) (zc (pay_g (ld16z _ (b0 e k)) (ar16 _ k.h4) (ar16 _ k.h5) (ar32 _ k.h6)))) (fun a b ha hb _ => by beta_reduce; omega)
theorem b5 : B2 (View.canon (B5 e)) (fun _ _ => True) (vv w H) :=
  B2.mono (B2.cols (st16 _ _) (B2.cols (st16 _ _) (B2.cols (st16 _ _) (B2.cols (st16 _ _) (B2.start0 _ _) (pay_v (o := 0) (ld16z _ (b0 e k)) (ar16 _ k.h2))) (pay_v (o := 256) (ld16z _ (b0 e k)) (ar16 _ k.h2))) (pay_v (o := 512) (ld16z _ (b0 e k)) (ar16 _ k.h2))) (pay_v (o := 768) (ld16z _ (b0 e k)) (ar16 _ k.h2))) (fun a b ha hb _ => by beta_reduce; omega)
theorem b15 : B2 (View.canon (B15 e)) (fun _ _ => True) (gt w H) :=
  B2.mono (B2.cols (st32 _ _) (B2.cols (st32 _ _) (B2.cols (st32 _ _) (B2.cols (st32 _ _) (B2.cols (st32 _ _) (B2.cols (st32 _ _) (B2.cols (st32 _ _) (B2.cols (st32 _ _) (B2.cols (st32 _ _) (B2.cols (st32 _ _) (B2.cols (st32 _ _) (B2.cols (st32 _ _) (B2.start0 _ _) (pay_silu (o := 0) (by norm_num) (ld16z _ (b0 e k)) (ar16 _ k.h3))) (pay_silu (o := 256) (by norm_num) (ld16z _ (b0 e k)) (ar16 _ k.h3))) (pay_silu (o := 512) (by norm_num) (ld16z _ (b0 e k)) (ar16 _ k.h3))) (pay_silu (o := 768) (by norm_num) (ld16z _ (b0 e k)) (ar16 _ k.h3))) (pay_gate (o := 1024) (by norm_num) (ld16z _ (b0 e k)) (ar16 _ k.h3))) (pay_gate (o := 1280) (by norm_num) (ld16z _ (b0 e k)) (ar16 _ k.h3))) (pay_gate (o := 1536) (by norm_num) (ld16z _ (b0 e k)) (ar16 _ k.h3))) (pay_gate (o := 1792) (by norm_num) (ld16z _ (b0 e k)) (ar16 _ k.h3))) (pay_gate (o := 2048) (by norm_num) (ld16z _ (b0 e k)) (ar16 _ k.h3))) (pay_gate (o := 2304) (by norm_num) (ld16z _ (b0 e k)) (ar16 _ k.h3))) (pay_gate (o := 2560) (by norm_num) (ld16z _ (b0 e k)) (ar16 _ k.h3))) (pay_gate (o := 2816) (by norm_num) (ld16z _ (b0 e k)) (ar16 _ k.h3))) (fun a b ha hb _ => by beta_reduce; omega)
theorem b9_1 : B2 (View.canon (B9_1 e)) (fun a _ => a < 128) (flat (cb (gg w H))) :=
  B2.rows (st32 _ _) (B2.startr _ _) (R2.flat 0 (R2.self (pay_b (ci := 0) (G := gg w H) (ldr32 _ (b6 e k)) (ar16z _ k.h10))))
theorem b9_2 : B2 (View.canon (B9_2 e)) (fun a _ => a < 256) (flat (cb (gg w H))) :=
  B2.rows (st32 _ _) (b9_1 e k) (R2.flat 1 (R2.self (pay_b (ci := 1) (G := gg w H) (ldr32 _ (b6 e k)) (ar16z _ k.h10))))
theorem b9_3 : B2 (View.canon (B9_3 e)) (fun a _ => a < 384) (flat (cb (gg w H))) :=
  B2.rows (st32 _ _) (b9_2 e k) (R2.flat 2 (R2.self (pay_b (ci := 2) (G := gg w H) (ldr32 _ (b6 e k)) (ar16z _ k.h10))))
theorem b9_4 : B2 (View.canon (B9_4 e)) (fun a _ => a < 512) (flat (cb (gg w H))) :=
  B2.rows (st32 _ _) (b9_3 e k) (R2.flat 3 (R2.self (pay_b (ci := 3) (G := gg w H) (ldr32 _ (b6 e k)) (ar16z _ k.h10))))
theorem b10 : B2 (View.canon (B10 e)) (fun _ _ => True) (flat (fun ci i c => qq w H (128 * ci + i) c * (2 : ℝ) ^ cb (gg w H) ci i c)) :=
  B2.mono (B2.rows (st16 _ _) (B2.rows (st16 _ _) (B2.rows (st16 _ _) (B2.rows (st16 _ _) (B2.startr _ _) (R2.flat (f := (fun ci i c => qq w H (128 * ci + i) c * (2 : ℝ) ^ cb (gg w H) ci i c)) 0 (R2.self (R2.truncf _ (R2.mul (ldr32 _ (b3 e k)) (R2.exp2 (pay_b (ci := 0) (G := gg w H) (ldr32 _ (b6 e k)) (ar16z _ k.h10)))))))) (R2.flat (f := (fun ci i c => qq w H (128 * ci + i) c * (2 : ℝ) ^ cb (gg w H) ci i c)) 1 (R2.self (R2.truncf _ (R2.mul (ldr32 _ (b3 e k)) (R2.exp2 (pay_b (ci := 1) (G := gg w H) (ldr32 _ (b6 e k)) (ar16z _ k.h10)))))))) (R2.flat (f := (fun ci i c => qq w H (128 * ci + i) c * (2 : ℝ) ^ cb (gg w H) ci i c)) 2 (R2.self (R2.truncf _ (R2.mul (ldr32 _ (b3 e k)) (R2.exp2 (pay_b (ci := 2) (G := gg w H) (ldr32 _ (b6 e k)) (ar16z _ k.h10)))))))) (R2.flat (f := (fun ci i c => qq w H (128 * ci + i) c * (2 : ℝ) ^ cb (gg w H) ci i c)) 3 (R2.self (R2.truncf _ (R2.mul (ldr32 _ (b3 e k)) (R2.exp2 (pay_b (ci := 3) (G := gg w H) (ldr32 _ (b6 e k)) (ar16z _ k.h10)))))))) (fun a b ha hb _ => by beta_reduce; omega)
theorem b11 : B2 (View.canon (B11 e)) (fun _ _ => True) (flat (fun ci i c => kk w H (128 * ci + i) c * (2 : ℝ) ^ (cb (gg w H) ci 127 c - cb (gg w H) ci i c))) :=
  B2.mono (B2.rows (st16 _ _) (B2.rows (st16 _ _) (B2.rows (st16 _ _) (B2.rows (st16 _ _) (B2.startr _ _) (R2.flat (f := (fun ci i c => kk w H (128 * ci + i) c * (2 : ℝ) ^ (cb (gg w H) ci 127 c - cb (gg w H) ci i c))) 0 (R2.self (R2.truncf _ (R2.mul (ldr32 _ (b4 e k)) (R2.exp2 (R2.sub (R2.row (z0 (R2.slice (pay_b (ci := 0) (G := gg w H) (ldr32 _ (b6 e k)) (ar16z _ k.h10))))) (pay_b (ci := 0) (G := gg w H) (ldr32 _ (b6 e k)) (ar16z _ k.h10))))))))) (R2.flat (f := (fun ci i c => kk w H (128 * ci + i) c * (2 : ℝ) ^ (cb (gg w H) ci 127 c - cb (gg w H) ci i c))) 1 (R2.self (R2.truncf _ (R2.mul (ldr32 _ (b4 e k)) (R2.exp2 (R2.sub (R2.row (z0 (R2.slice (pay_b (ci := 1) (G := gg w H) (ldr32 _ (b6 e k)) (ar16z _ k.h10))))) (pay_b (ci := 1) (G := gg w H) (ldr32 _ (b6 e k)) (ar16z _ k.h10))))))))) (R2.flat (f := (fun ci i c => kk w H (128 * ci + i) c * (2 : ℝ) ^ (cb (gg w H) ci 127 c - cb (gg w H) ci i c))) 2 (R2.self (R2.truncf _ (R2.mul (ldr32 _ (b4 e k)) (R2.exp2 (R2.sub (R2.row (z0 (R2.slice (pay_b (ci := 2) (G := gg w H) (ldr32 _ (b6 e k)) (ar16z _ k.h10))))) (pay_b (ci := 2) (G := gg w H) (ldr32 _ (b6 e k)) (ar16z _ k.h10))))))))) (R2.flat (f := (fun ci i c => kk w H (128 * ci + i) c * (2 : ℝ) ^ (cb (gg w H) ci 127 c - cb (gg w H) ci i c))) 3 (R2.self (R2.truncf _ (R2.mul (ldr32 _ (b4 e k)) (R2.exp2 (R2.sub (R2.row (z0 (R2.slice (pay_b (ci := 3) (G := gg w H) (ldr32 _ (b6 e k)) (ar16z _ k.h10))))) (pay_b (ci := 3) (G := gg w H) (ldr32 _ (b6 e k)) (ar16z _ k.h10))))))))) (fun a b ha hb _ => by beta_reduce; omega)
theorem b12 : B2 (View.canon (B12 e)) (fun a _ => a % 8 = 0) (fun a c => (2 : ℝ) ^ cb (gg w H) (a / 8) 127 c) :=
  B2.mono (B2.eighth (st32 _ _) (by norm_num) (B2.eighth (st32 _ _) (by norm_num) (B2.eighth (st32 _ _) (by norm_num) (B2.eighth (st32 _ _) (by norm_num) (B2.start8 _ _) (dcyw 0 (R2.self (R2.exp2 (z0 (R2.slice (pay_b (ci := 0) (G := gg w H) (ldr32 _ (b6 e k)) (ar16z _ k.h10)))))))) (dcyw 1 (R2.self (R2.exp2 (z0 (R2.slice (pay_b (ci := 1) (G := gg w H) (ldr32 _ (b6 e k)) (ar16z _ k.h10)))))))) (dcyw 2 (R2.self (R2.exp2 (z0 (R2.slice (pay_b (ci := 2) (G := gg w H) (ldr32 _ (b6 e k)) (ar16z _ k.h10)))))))) (dcyw 3 (R2.self (R2.exp2 (z0 (R2.slice (pay_b (ci := 3) (G := gg w H) (ldr32 _ (b6 e k)) (ar16z _ k.h10)))))))) (fun a b ha hb h => ⟨h, ha⟩)
theorem b13_1 : B3 (View.canon ((B13 e).drop 21)) (fun _ b c => c < 512 ∧ b < 128) (fun lv => flat (mop (qq w H) (kk w H) (gg w H) lv)) :=
  B3.mono (B3.grid (st16 _ _) (B3.grid (st16 _ _) (B3.grid (st16 _ _) (B3.grid (st16 _ _) (B3.grid (st16 _ _) (B3.grid (st16 _ _) (B3.grid (st16 _ _) (B3.start _ _ 128)
    (R3.flat (f := mop (qq w H) (kk w H) (gg w H) 0) 0 (pay_m (ci := 0) (lv := 0) 1#32 (by decide) (ldr32 _ (b3 e k)) (ldr32 _ (b4 e k)) (pay_e0 (ci := 0) (G := gg w H) (ldr32 _ (b6 e k))))))
    (R3.flat (f := mop (qq w H) (kk w H) (gg w H) 1) 0 (pay_m (ci := 0) (lv := 1) 2#32 (by decide) (ldr32 _ (b3 e k)) (ldr32 _ (b4 e k)) (pay_e1 (ci := 0) (G := gg w H) (ldr32 _ (b6 e k))))))
    (R3.flat (f := mop (qq w H) (kk w H) (gg w H) 2) 0 (pay_m (ci := 0) (lv := 2) 4#32 (by decide) (ldr32 _ (b3 e k)) (ldr32 _ (b4 e k)) (pay_e (ci := 0) (G := gg w H) (lv := 2) 4#32 (by decide) (pay_b (ci := 0) (G := gg w H) (ldr32 _ (b6 e k)) (ar16z _ k.h10)) (R2.ref (f := (cb (gg w H))) (ci := 0) 2 8 3 (by intro a ha; unfold rf; omega) (cat16 (f := fun i => flat (cb (gg w H)) (128 * 0 + (8 * i + 3))) (rowAt _ (b9_1 e k)) (rowAt _ (b9_1 e k)) (rowAt _ (b9_1 e k)) (rowAt _ (b9_1 e k)) (rowAt _ (b9_1 e k)) (rowAt _ (b9_1 e k)) (rowAt _ (b9_1 e k)) (rowAt _ (b9_1 e k)) (rowAt _ (b9_1 e k)) (rowAt _ (b9_1 e k)) (rowAt _ (b9_1 e k)) (rowAt _ (b9_1 e k)) (rowAt _ (b9_1 e k)) (rowAt _ (b9_1 e k)) (rowAt _ (b9_1 e k)) (rowAt _ (b9_1 e k))))))))
    (R3.flat (f := mop (qq w H) (kk w H) (gg w H) 3) 0 (pay_m (ci := 0) (lv := 3) 8#32 (by decide) (ldr32 _ (b3 e k)) (ldr32 _ (b4 e k)) (pay_e (ci := 0) (G := gg w H) (lv := 3) 8#32 (by decide) (pay_b (ci := 0) (G := gg w H) (ldr32 _ (b6 e k)) (ar16z _ k.h10)) (R2.ref (f := (cb (gg w H))) (ci := 0) 3 16 7 (by intro a ha; unfold rf; omega) (cat8 (f := fun i => flat (cb (gg w H)) (128 * 0 + (16 * i + 7))) (rowAt _ (b9_1 e k)) (rowAt _ (b9_1 e k)) (rowAt _ (b9_1 e k)) (rowAt _ (b9_1 e k)) (rowAt _ (b9_1 e k)) (rowAt _ (b9_1 e k)) (rowAt _ (b9_1 e k)) (rowAt _ (b9_1 e k))))))))
    (R3.flat (f := mop (qq w H) (kk w H) (gg w H) 4) 0 (pay_m (ci := 0) (lv := 4) 16#32 (by decide) (ldr32 _ (b3 e k)) (ldr32 _ (b4 e k)) (pay_e (ci := 0) (G := gg w H) (lv := 4) 16#32 (by decide) (pay_b (ci := 0) (G := gg w H) (ldr32 _ (b6 e k)) (ar16z _ k.h10)) (R2.ref (f := (cb (gg w H))) (ci := 0) 4 32 15 (by intro a ha; unfold rf; omega) (cat4 (f := fun i => flat (cb (gg w H)) (128 * 0 + (32 * i + 15))) (rowAt _ (b9_1 e k)) (rowAt _ (b9_1 e k)) (rowAt _ (b9_1 e k)) (rowAt _ (b9_1 e k))))))))
    (R3.flat (f := mop (qq w H) (kk w H) (gg w H) 5) 0 (pay_m (ci := 0) (lv := 5) 32#32 (by decide) (ldr32 _ (b3 e k)) (ldr32 _ (b4 e k)) (pay_e (ci := 0) (G := gg w H) (lv := 5) 32#32 (by decide) (pay_b (ci := 0) (G := gg w H) (ldr32 _ (b6 e k)) (ar16z _ k.h10)) (R2.ref (f := (cb (gg w H))) (ci := 0) 5 64 31 (by intro a ha; unfold rf; omega) (cat2 (f := fun i => flat (cb (gg w H)) (128 * 0 + (64 * i + 31))) (rowAt _ (b9_1 e k)) (rowAt _ (b9_1 e k))))))))
    (R3.flat (f := mop (qq w H) (kk w H) (gg w H) 6) 0 (pay_m (ci := 0) (lv := 6) 64#32 (by decide) (ldr32 _ (b3 e k)) (ldr32 _ (b4 e k)) (pay_e (ci := 0) (G := gg w H) (lv := 6) 64#32 (by decide) (pay_b (ci := 0) (G := gg w H) (ldr32 _ (b6 e k)) (ar16z _ k.h10)) (R2.ref6 (f := (cb (gg w H))) (ci := 0) (rowAt _ (b9_1 e k))))))) (fun a b c ha hb hc h => by beta_reduce at h ⊢; omega)
theorem b13_2 : B3 (View.canon ((B13 e).drop 14)) (fun _ b c => c < 512 ∧ b < 256) (fun lv => flat (mop (qq w H) (kk w H) (gg w H) lv)) :=
  B3.mono (B3.grid (st16 _ _) (B3.grid (st16 _ _) (B3.grid (st16 _ _) (B3.grid (st16 _ _) (B3.grid (st16 _ _) (B3.grid (st16 _ _) (B3.grid (st16 _ _) (B3.from_ (q := 128) (b13_1 e k))
    (R3.flat (f := mop (qq w H) (kk w H) (gg w H) 0) 1 (pay_m (ci := 1) (lv := 0) 1#32 (by decide) (ldr32 _ (b3 e k)) (ldr32 _ (b4 e k)) (pay_e0 (ci := 1) (G := gg w H) (ldr32 _ (b6 e k))))))
    (R3.flat (f := mop (qq w H) (kk w H) (gg w H) 1) 1 (pay_m (ci := 1) (lv := 1) 2#32 (by decide) (ldr32 _ (b3 e k)) (ldr32 _ (b4 e k)) (pay_e1 (ci := 1) (G := gg w H) (ldr32 _ (b6 e k))))))
    (R3.flat (f := mop (qq w H) (kk w H) (gg w H) 2) 1 (pay_m (ci := 1) (lv := 2) 4#32 (by decide) (ldr32 _ (b3 e k)) (ldr32 _ (b4 e k)) (pay_e (ci := 1) (G := gg w H) (lv := 2) 4#32 (by decide) (pay_b (ci := 1) (G := gg w H) (ldr32 _ (b6 e k)) (ar16z _ k.h10)) (R2.ref (f := (cb (gg w H))) (ci := 1) 2 8 3 (by intro a ha; unfold rf; omega) (cat16 (f := fun i => flat (cb (gg w H)) (128 * 1 + (8 * i + 3))) (rowAt _ (b9_2 e k)) (rowAt _ (b9_2 e k)) (rowAt _ (b9_2 e k)) (rowAt _ (b9_2 e k)) (rowAt _ (b9_2 e k)) (rowAt _ (b9_2 e k)) (rowAt _ (b9_2 e k)) (rowAt _ (b9_2 e k)) (rowAt _ (b9_2 e k)) (rowAt _ (b9_2 e k)) (rowAt _ (b9_2 e k)) (rowAt _ (b9_2 e k)) (rowAt _ (b9_2 e k)) (rowAt _ (b9_2 e k)) (rowAt _ (b9_2 e k)) (rowAt _ (b9_2 e k))))))))
    (R3.flat (f := mop (qq w H) (kk w H) (gg w H) 3) 1 (pay_m (ci := 1) (lv := 3) 8#32 (by decide) (ldr32 _ (b3 e k)) (ldr32 _ (b4 e k)) (pay_e (ci := 1) (G := gg w H) (lv := 3) 8#32 (by decide) (pay_b (ci := 1) (G := gg w H) (ldr32 _ (b6 e k)) (ar16z _ k.h10)) (R2.ref (f := (cb (gg w H))) (ci := 1) 3 16 7 (by intro a ha; unfold rf; omega) (cat8 (f := fun i => flat (cb (gg w H)) (128 * 1 + (16 * i + 7))) (rowAt _ (b9_2 e k)) (rowAt _ (b9_2 e k)) (rowAt _ (b9_2 e k)) (rowAt _ (b9_2 e k)) (rowAt _ (b9_2 e k)) (rowAt _ (b9_2 e k)) (rowAt _ (b9_2 e k)) (rowAt _ (b9_2 e k))))))))
    (R3.flat (f := mop (qq w H) (kk w H) (gg w H) 4) 1 (pay_m (ci := 1) (lv := 4) 16#32 (by decide) (ldr32 _ (b3 e k)) (ldr32 _ (b4 e k)) (pay_e (ci := 1) (G := gg w H) (lv := 4) 16#32 (by decide) (pay_b (ci := 1) (G := gg w H) (ldr32 _ (b6 e k)) (ar16z _ k.h10)) (R2.ref (f := (cb (gg w H))) (ci := 1) 4 32 15 (by intro a ha; unfold rf; omega) (cat4 (f := fun i => flat (cb (gg w H)) (128 * 1 + (32 * i + 15))) (rowAt _ (b9_2 e k)) (rowAt _ (b9_2 e k)) (rowAt _ (b9_2 e k)) (rowAt _ (b9_2 e k))))))))
    (R3.flat (f := mop (qq w H) (kk w H) (gg w H) 5) 1 (pay_m (ci := 1) (lv := 5) 32#32 (by decide) (ldr32 _ (b3 e k)) (ldr32 _ (b4 e k)) (pay_e (ci := 1) (G := gg w H) (lv := 5) 32#32 (by decide) (pay_b (ci := 1) (G := gg w H) (ldr32 _ (b6 e k)) (ar16z _ k.h10)) (R2.ref (f := (cb (gg w H))) (ci := 1) 5 64 31 (by intro a ha; unfold rf; omega) (cat2 (f := fun i => flat (cb (gg w H)) (128 * 1 + (64 * i + 31))) (rowAt _ (b9_2 e k)) (rowAt _ (b9_2 e k))))))))
    (R3.flat (f := mop (qq w H) (kk w H) (gg w H) 6) 1 (pay_m (ci := 1) (lv := 6) 64#32 (by decide) (ldr32 _ (b3 e k)) (ldr32 _ (b4 e k)) (pay_e (ci := 1) (G := gg w H) (lv := 6) 64#32 (by decide) (pay_b (ci := 1) (G := gg w H) (ldr32 _ (b6 e k)) (ar16z _ k.h10)) (R2.ref6 (f := (cb (gg w H))) (ci := 1) (rowAt _ (b9_2 e k))))))) (fun a b c ha hb hc h => by beta_reduce at h ⊢; omega)
theorem b13_3 : B3 (View.canon ((B13 e).drop 7)) (fun _ b c => c < 512 ∧ b < 384) (fun lv => flat (mop (qq w H) (kk w H) (gg w H) lv)) :=
  B3.mono (B3.grid (st16 _ _) (B3.grid (st16 _ _) (B3.grid (st16 _ _) (B3.grid (st16 _ _) (B3.grid (st16 _ _) (B3.grid (st16 _ _) (B3.grid (st16 _ _) (B3.from_ (q := 128) (b13_2 e k))
    (R3.flat (f := mop (qq w H) (kk w H) (gg w H) 0) 2 (pay_m (ci := 2) (lv := 0) 1#32 (by decide) (ldr32 _ (b3 e k)) (ldr32 _ (b4 e k)) (pay_e0 (ci := 2) (G := gg w H) (ldr32 _ (b6 e k))))))
    (R3.flat (f := mop (qq w H) (kk w H) (gg w H) 1) 2 (pay_m (ci := 2) (lv := 1) 2#32 (by decide) (ldr32 _ (b3 e k)) (ldr32 _ (b4 e k)) (pay_e1 (ci := 2) (G := gg w H) (ldr32 _ (b6 e k))))))
    (R3.flat (f := mop (qq w H) (kk w H) (gg w H) 2) 2 (pay_m (ci := 2) (lv := 2) 4#32 (by decide) (ldr32 _ (b3 e k)) (ldr32 _ (b4 e k)) (pay_e (ci := 2) (G := gg w H) (lv := 2) 4#32 (by decide) (pay_b (ci := 2) (G := gg w H) (ldr32 _ (b6 e k)) (ar16z _ k.h10)) (R2.ref (f := (cb (gg w H))) (ci := 2) 2 8 3 (by intro a ha; unfold rf; omega) (cat16 (f := fun i => flat (cb (gg w H)) (128 * 2 + (8 * i + 3))) (rowAt _ (b9_3 e k)) (rowAt _ (b9_3 e k)) (rowAt _ (b9_3 e k)) (rowAt _ (b9_3 e k)) (rowAt _ (b9_3 e k)) (rowAt _ (b9_3 e k)) (rowAt _ (b9_3 e k)) (rowAt _ (b9_3 e k)) (rowAt _ (b9_3 e k)) (rowAt _ (b9_3 e k)) (rowAt _ (b9_3 e k)) (rowAt _ (b9_3 e k)) (rowAt _ (b9_3 e k)) (rowAt _ (b9_3 e k)) (rowAt _ (b9_3 e k)) (rowAt _ (b9_3 e k))))))))
    (R3.flat (f := mop (qq w H) (kk w H) (gg w H) 3) 2 (pay_m (ci := 2) (lv := 3) 8#32 (by decide) (ldr32 _ (b3 e k)) (ldr32 _ (b4 e k)) (pay_e (ci := 2) (G := gg w H) (lv := 3) 8#32 (by decide) (pay_b (ci := 2) (G := gg w H) (ldr32 _ (b6 e k)) (ar16z _ k.h10)) (R2.ref (f := (cb (gg w H))) (ci := 2) 3 16 7 (by intro a ha; unfold rf; omega) (cat8 (f := fun i => flat (cb (gg w H)) (128 * 2 + (16 * i + 7))) (rowAt _ (b9_3 e k)) (rowAt _ (b9_3 e k)) (rowAt _ (b9_3 e k)) (rowAt _ (b9_3 e k)) (rowAt _ (b9_3 e k)) (rowAt _ (b9_3 e k)) (rowAt _ (b9_3 e k)) (rowAt _ (b9_3 e k))))))))
    (R3.flat (f := mop (qq w H) (kk w H) (gg w H) 4) 2 (pay_m (ci := 2) (lv := 4) 16#32 (by decide) (ldr32 _ (b3 e k)) (ldr32 _ (b4 e k)) (pay_e (ci := 2) (G := gg w H) (lv := 4) 16#32 (by decide) (pay_b (ci := 2) (G := gg w H) (ldr32 _ (b6 e k)) (ar16z _ k.h10)) (R2.ref (f := (cb (gg w H))) (ci := 2) 4 32 15 (by intro a ha; unfold rf; omega) (cat4 (f := fun i => flat (cb (gg w H)) (128 * 2 + (32 * i + 15))) (rowAt _ (b9_3 e k)) (rowAt _ (b9_3 e k)) (rowAt _ (b9_3 e k)) (rowAt _ (b9_3 e k))))))))
    (R3.flat (f := mop (qq w H) (kk w H) (gg w H) 5) 2 (pay_m (ci := 2) (lv := 5) 32#32 (by decide) (ldr32 _ (b3 e k)) (ldr32 _ (b4 e k)) (pay_e (ci := 2) (G := gg w H) (lv := 5) 32#32 (by decide) (pay_b (ci := 2) (G := gg w H) (ldr32 _ (b6 e k)) (ar16z _ k.h10)) (R2.ref (f := (cb (gg w H))) (ci := 2) 5 64 31 (by intro a ha; unfold rf; omega) (cat2 (f := fun i => flat (cb (gg w H)) (128 * 2 + (64 * i + 31))) (rowAt _ (b9_3 e k)) (rowAt _ (b9_3 e k))))))))
    (R3.flat (f := mop (qq w H) (kk w H) (gg w H) 6) 2 (pay_m (ci := 2) (lv := 6) 64#32 (by decide) (ldr32 _ (b3 e k)) (ldr32 _ (b4 e k)) (pay_e (ci := 2) (G := gg w H) (lv := 6) 64#32 (by decide) (pay_b (ci := 2) (G := gg w H) (ldr32 _ (b6 e k)) (ar16z _ k.h10)) (R2.ref6 (f := (cb (gg w H))) (ci := 2) (rowAt _ (b9_3 e k))))))) (fun a b c ha hb hc h => by beta_reduce at h ⊢; omega)
theorem b13_4 : B3 (View.canon ((B13 e).drop 0)) (fun _ b c => c < 512 ∧ b < 512) (fun lv => flat (mop (qq w H) (kk w H) (gg w H) lv)) :=
  B3.mono (B3.grid (st16 _ _) (B3.grid (st16 _ _) (B3.grid (st16 _ _) (B3.grid (st16 _ _) (B3.grid (st16 _ _) (B3.grid (st16 _ _) (B3.grid (st16 _ _) (B3.from_ (q := 128) (b13_3 e k))
    (R3.flat (f := mop (qq w H) (kk w H) (gg w H) 0) 3 (pay_m (ci := 3) (lv := 0) 1#32 (by decide) (ldr32 _ (b3 e k)) (ldr32 _ (b4 e k)) (pay_e0 (ci := 3) (G := gg w H) (ldr32 _ (b6 e k))))))
    (R3.flat (f := mop (qq w H) (kk w H) (gg w H) 1) 3 (pay_m (ci := 3) (lv := 1) 2#32 (by decide) (ldr32 _ (b3 e k)) (ldr32 _ (b4 e k)) (pay_e1 (ci := 3) (G := gg w H) (ldr32 _ (b6 e k))))))
    (R3.flat (f := mop (qq w H) (kk w H) (gg w H) 2) 3 (pay_m (ci := 3) (lv := 2) 4#32 (by decide) (ldr32 _ (b3 e k)) (ldr32 _ (b4 e k)) (pay_e (ci := 3) (G := gg w H) (lv := 2) 4#32 (by decide) (pay_b (ci := 3) (G := gg w H) (ldr32 _ (b6 e k)) (ar16z _ k.h10)) (R2.ref (f := (cb (gg w H))) (ci := 3) 2 8 3 (by intro a ha; unfold rf; omega) (cat16 (f := fun i => flat (cb (gg w H)) (128 * 3 + (8 * i + 3))) (rowAt _ (b9_4 e k)) (rowAt _ (b9_4 e k)) (rowAt _ (b9_4 e k)) (rowAt _ (b9_4 e k)) (rowAt _ (b9_4 e k)) (rowAt _ (b9_4 e k)) (rowAt _ (b9_4 e k)) (rowAt _ (b9_4 e k)) (rowAt _ (b9_4 e k)) (rowAt _ (b9_4 e k)) (rowAt _ (b9_4 e k)) (rowAt _ (b9_4 e k)) (rowAt _ (b9_4 e k)) (rowAt _ (b9_4 e k)) (rowAt _ (b9_4 e k)) (rowAt _ (b9_4 e k))))))))
    (R3.flat (f := mop (qq w H) (kk w H) (gg w H) 3) 3 (pay_m (ci := 3) (lv := 3) 8#32 (by decide) (ldr32 _ (b3 e k)) (ldr32 _ (b4 e k)) (pay_e (ci := 3) (G := gg w H) (lv := 3) 8#32 (by decide) (pay_b (ci := 3) (G := gg w H) (ldr32 _ (b6 e k)) (ar16z _ k.h10)) (R2.ref (f := (cb (gg w H))) (ci := 3) 3 16 7 (by intro a ha; unfold rf; omega) (cat8 (f := fun i => flat (cb (gg w H)) (128 * 3 + (16 * i + 7))) (rowAt _ (b9_4 e k)) (rowAt _ (b9_4 e k)) (rowAt _ (b9_4 e k)) (rowAt _ (b9_4 e k)) (rowAt _ (b9_4 e k)) (rowAt _ (b9_4 e k)) (rowAt _ (b9_4 e k)) (rowAt _ (b9_4 e k))))))))
    (R3.flat (f := mop (qq w H) (kk w H) (gg w H) 4) 3 (pay_m (ci := 3) (lv := 4) 16#32 (by decide) (ldr32 _ (b3 e k)) (ldr32 _ (b4 e k)) (pay_e (ci := 3) (G := gg w H) (lv := 4) 16#32 (by decide) (pay_b (ci := 3) (G := gg w H) (ldr32 _ (b6 e k)) (ar16z _ k.h10)) (R2.ref (f := (cb (gg w H))) (ci := 3) 4 32 15 (by intro a ha; unfold rf; omega) (cat4 (f := fun i => flat (cb (gg w H)) (128 * 3 + (32 * i + 15))) (rowAt _ (b9_4 e k)) (rowAt _ (b9_4 e k)) (rowAt _ (b9_4 e k)) (rowAt _ (b9_4 e k))))))))
    (R3.flat (f := mop (qq w H) (kk w H) (gg w H) 5) 3 (pay_m (ci := 3) (lv := 5) 32#32 (by decide) (ldr32 _ (b3 e k)) (ldr32 _ (b4 e k)) (pay_e (ci := 3) (G := gg w H) (lv := 5) 32#32 (by decide) (pay_b (ci := 3) (G := gg w H) (ldr32 _ (b6 e k)) (ar16z _ k.h10)) (R2.ref (f := (cb (gg w H))) (ci := 3) 5 64 31 (by intro a ha; unfold rf; omega) (cat2 (f := fun i => flat (cb (gg w H)) (128 * 3 + (64 * i + 31))) (rowAt _ (b9_4 e k)) (rowAt _ (b9_4 e k))))))))
    (R3.flat (f := mop (qq w H) (kk w H) (gg w H) 6) 3 (pay_m (ci := 3) (lv := 6) 64#32 (by decide) (ldr32 _ (b3 e k)) (ldr32 _ (b4 e k)) (pay_e (ci := 3) (G := gg w H) (lv := 6) 64#32 (by decide) (pay_b (ci := 3) (G := gg w H) (ldr32 _ (b6 e k)) (ar16z _ k.h10)) (R2.ref6 (f := (cb (gg w H))) (ci := 3) (rowAt _ (b9_4 e k))))))) (fun a b c ha hb hc h => by beta_reduce at h ⊢; omega)
theorem b13 : B3 (View.canon (B13 e)) (fun _ _ _ => True) (fun lv => flat (mop (qq w H) (kk w H) (gg w H) lv)) :=
  B3.mono (b13_4 e k) (fun a b c ha hb hc _ => ⟨hc, hb⟩)
/-- A head's operand of a level and a chunk. -/
theorem hm (ci lv hd : ℕ) {o1 o2 : ℕ} (h1 : o1 = 128 * ci) (h2 : o2 = 128 * hd) {inb} :
    R3 (n := 1) (m := 128) (k := 128) (e.arg31.view.readCov (B13 e) (Rect.unit (s := S7x512x512) ![lv, o1, o2] ![1, 128, 128] inb).toLoadRect)
      (fun _ i c => mop (qq w H) (kk w H) (gg w H) lv ci i (128 * hd + c)) := by
  subst h1 h2
  exact (ld3_16 _ (b13 e k) (fun _ _ _ _ _ _ => trivial)).congr fun a b c ha hb _ => by
    obtain rfl : a = 0 := by omega
    rw [flat_at _ _ _ _ hb, Nat.add_zero]
theorem hM (lv : ℕ) {inb} :
    R3 (n := 1) (m := 128) (k := 128) (e.arg13.view.readAt (Elt Ideal) (Rect.unit (s := S7x128x128) ![lv, 0, 0] ![1, 128, 128] inb).toLoadRect (e.harg13.unread (Val := Elt Ideal) e.x11))
      (fun _ i j => mk lv i j) :=
  (ar3_16 _ k.h11).congr fun a b c ha _ _ => by
    obtain rfl : a = 0 := by omega
    rw [Nat.zero_add, Nat.zero_add, Nat.add_zero]
omit k in
theorem at_ (ci hd : ℕ) (w : Wt) (H : ℕ → ℕ → ℝ) (i j : ℕ) (hi : i < 128) (hj : j < 128) :
    atl (qq w H) (kk w H) (gg w H) ci hd i j = (fun a b => atl (qq w H) (kk w H) (gg w H) (a / 128) (b / 128) (a % 128) (b % 128)) (128 * ci + i) (128 * hd + j) := by
  beta_reduce
  rw [show (128 * ci + i) / 128 = ci by omega, show (128 * ci + i) % 128 = i by omega, show (128 * hd + j) / 128 = hd by omega, show (128 * hd + j) % 128 = j by omega]
theorem b14 : B2 (View.canon (B14 e)) (fun _ _ => True) (fun a b => atl (qq w H) (kk w H) (gg w H) (a / 128) (b / 128) (a % 128) (b % 128)) :=
  B2.mono (B2.grid (st16 _ _) (B2.grid (st16 _ _) (B2.grid (st16 _ _) (B2.grid (st16 _ _) (B2.nextRow (by norm_num) (B2.grid (st16 _ _) (B2.grid (st16 _ _) (B2.grid (st16 _ _) (B2.grid (st16 _ _) (B2.nextRow (by norm_num) (B2.grid (st16 _ _) (B2.grid (st16 _ _) (B2.grid (st16 _ _) (B2.grid (st16 _ _) (B2.nextRow (by norm_num) (B2.grid (st16 _ _) (B2.grid (st16 _ _) (B2.grid (st16 _ _) (B2.grid (st16 _ _) (B2.start _ _ _)
    ((pay_att (ci := 0) (hd := 0) (Q := qq w H) (K := kk w H) (G := gg w H) (fun _ _ _ => rfl) (pay_lv (hm e k 0 0 0 rfl rfl) (hM e k 0)) (pay_lv (hm e k 0 1 0 rfl rfl) (hM e k 1)) (pay_lv (hm e k 0 2 0 rfl rfl) (hM e k 2)) (pay_lv (hm e k 0 3 0 rfl rfl) (hM e k 3)) (pay_lv (hm e k 0 4 0 rfl rfl) (hM e k 4)) (pay_lv (hm e k 0 5 0 rfl rfl) (hM e k 5)) (pay_lv (hm e k 0 6 0 rfl rfl) (hM e k 6))).congr (at_ 0 0 w H)))
    ((pay_att (ci := 0) (hd := 1) (Q := qq w H) (K := kk w H) (G := gg w H) (fun _ _ _ => rfl) (pay_lv (hm e k 0 0 1 rfl rfl) (hM e k 0)) (pay_lv (hm e k 0 1 1 rfl rfl) (hM e k 1)) (pay_lv (hm e k 0 2 1 rfl rfl) (hM e k 2)) (pay_lv (hm e k 0 3 1 rfl rfl) (hM e k 3)) (pay_lv (hm e k 0 4 1 rfl rfl) (hM e k 4)) (pay_lv (hm e k 0 5 1 rfl rfl) (hM e k 5)) (pay_lv (hm e k 0 6 1 rfl rfl) (hM e k 6))).congr (at_ 0 1 w H)))
    ((pay_att (ci := 0) (hd := 2) (Q := qq w H) (K := kk w H) (G := gg w H) (fun _ _ _ => rfl) (pay_lv (hm e k 0 0 2 rfl rfl) (hM e k 0)) (pay_lv (hm e k 0 1 2 rfl rfl) (hM e k 1)) (pay_lv (hm e k 0 2 2 rfl rfl) (hM e k 2)) (pay_lv (hm e k 0 3 2 rfl rfl) (hM e k 3)) (pay_lv (hm e k 0 4 2 rfl rfl) (hM e k 4)) (pay_lv (hm e k 0 5 2 rfl rfl) (hM e k 5)) (pay_lv (hm e k 0 6 2 rfl rfl) (hM e k 6))).congr (at_ 0 2 w H)))
    ((pay_att (ci := 0) (hd := 3) (Q := qq w H) (K := kk w H) (G := gg w H) (fun _ _ _ => rfl) (pay_lv (hm e k 0 0 3 rfl rfl) (hM e k 0)) (pay_lv (hm e k 0 1 3 rfl rfl) (hM e k 1)) (pay_lv (hm e k 0 2 3 rfl rfl) (hM e k 2)) (pay_lv (hm e k 0 3 3 rfl rfl) (hM e k 3)) (pay_lv (hm e k 0 4 3 rfl rfl) (hM e k 4)) (pay_lv (hm e k 0 5 3 rfl rfl) (hM e k 5)) (pay_lv (hm e k 0 6 3 rfl rfl) (hM e k 6))).congr (at_ 0 3 w H))))
    ((pay_att (ci := 1) (hd := 0) (Q := qq w H) (K := kk w H) (G := gg w H) (fun _ _ _ => rfl) (pay_lv (hm e k 1 0 0 rfl rfl) (hM e k 0)) (pay_lv (hm e k 1 1 0 rfl rfl) (hM e k 1)) (pay_lv (hm e k 1 2 0 rfl rfl) (hM e k 2)) (pay_lv (hm e k 1 3 0 rfl rfl) (hM e k 3)) (pay_lv (hm e k 1 4 0 rfl rfl) (hM e k 4)) (pay_lv (hm e k 1 5 0 rfl rfl) (hM e k 5)) (pay_lv (hm e k 1 6 0 rfl rfl) (hM e k 6))).congr (at_ 1 0 w H)))
    ((pay_att (ci := 1) (hd := 1) (Q := qq w H) (K := kk w H) (G := gg w H) (fun _ _ _ => rfl) (pay_lv (hm e k 1 0 1 rfl rfl) (hM e k 0)) (pay_lv (hm e k 1 1 1 rfl rfl) (hM e k 1)) (pay_lv (hm e k 1 2 1 rfl rfl) (hM e k 2)) (pay_lv (hm e k 1 3 1 rfl rfl) (hM e k 3)) (pay_lv (hm e k 1 4 1 rfl rfl) (hM e k 4)) (pay_lv (hm e k 1 5 1 rfl rfl) (hM e k 5)) (pay_lv (hm e k 1 6 1 rfl rfl) (hM e k 6))).congr (at_ 1 1 w H)))
    ((pay_att (ci := 1) (hd := 2) (Q := qq w H) (K := kk w H) (G := gg w H) (fun _ _ _ => rfl) (pay_lv (hm e k 1 0 2 rfl rfl) (hM e k 0)) (pay_lv (hm e k 1 1 2 rfl rfl) (hM e k 1)) (pay_lv (hm e k 1 2 2 rfl rfl) (hM e k 2)) (pay_lv (hm e k 1 3 2 rfl rfl) (hM e k 3)) (pay_lv (hm e k 1 4 2 rfl rfl) (hM e k 4)) (pay_lv (hm e k 1 5 2 rfl rfl) (hM e k 5)) (pay_lv (hm e k 1 6 2 rfl rfl) (hM e k 6))).congr (at_ 1 2 w H)))
    ((pay_att (ci := 1) (hd := 3) (Q := qq w H) (K := kk w H) (G := gg w H) (fun _ _ _ => rfl) (pay_lv (hm e k 1 0 3 rfl rfl) (hM e k 0)) (pay_lv (hm e k 1 1 3 rfl rfl) (hM e k 1)) (pay_lv (hm e k 1 2 3 rfl rfl) (hM e k 2)) (pay_lv (hm e k 1 3 3 rfl rfl) (hM e k 3)) (pay_lv (hm e k 1 4 3 rfl rfl) (hM e k 4)) (pay_lv (hm e k 1 5 3 rfl rfl) (hM e k 5)) (pay_lv (hm e k 1 6 3 rfl rfl) (hM e k 6))).congr (at_ 1 3 w H))))
    ((pay_att (ci := 2) (hd := 0) (Q := qq w H) (K := kk w H) (G := gg w H) (fun _ _ _ => rfl) (pay_lv (hm e k 2 0 0 rfl rfl) (hM e k 0)) (pay_lv (hm e k 2 1 0 rfl rfl) (hM e k 1)) (pay_lv (hm e k 2 2 0 rfl rfl) (hM e k 2)) (pay_lv (hm e k 2 3 0 rfl rfl) (hM e k 3)) (pay_lv (hm e k 2 4 0 rfl rfl) (hM e k 4)) (pay_lv (hm e k 2 5 0 rfl rfl) (hM e k 5)) (pay_lv (hm e k 2 6 0 rfl rfl) (hM e k 6))).congr (at_ 2 0 w H)))
    ((pay_att (ci := 2) (hd := 1) (Q := qq w H) (K := kk w H) (G := gg w H) (fun _ _ _ => rfl) (pay_lv (hm e k 2 0 1 rfl rfl) (hM e k 0)) (pay_lv (hm e k 2 1 1 rfl rfl) (hM e k 1)) (pay_lv (hm e k 2 2 1 rfl rfl) (hM e k 2)) (pay_lv (hm e k 2 3 1 rfl rfl) (hM e k 3)) (pay_lv (hm e k 2 4 1 rfl rfl) (hM e k 4)) (pay_lv (hm e k 2 5 1 rfl rfl) (hM e k 5)) (pay_lv (hm e k 2 6 1 rfl rfl) (hM e k 6))).congr (at_ 2 1 w H)))
    ((pay_att (ci := 2) (hd := 2) (Q := qq w H) (K := kk w H) (G := gg w H) (fun _ _ _ => rfl) (pay_lv (hm e k 2 0 2 rfl rfl) (hM e k 0)) (pay_lv (hm e k 2 1 2 rfl rfl) (hM e k 1)) (pay_lv (hm e k 2 2 2 rfl rfl) (hM e k 2)) (pay_lv (hm e k 2 3 2 rfl rfl) (hM e k 3)) (pay_lv (hm e k 2 4 2 rfl rfl) (hM e k 4)) (pay_lv (hm e k 2 5 2 rfl rfl) (hM e k 5)) (pay_lv (hm e k 2 6 2 rfl rfl) (hM e k 6))).congr (at_ 2 2 w H)))
    ((pay_att (ci := 2) (hd := 3) (Q := qq w H) (K := kk w H) (G := gg w H) (fun _ _ _ => rfl) (pay_lv (hm e k 2 0 3 rfl rfl) (hM e k 0)) (pay_lv (hm e k 2 1 3 rfl rfl) (hM e k 1)) (pay_lv (hm e k 2 2 3 rfl rfl) (hM e k 2)) (pay_lv (hm e k 2 3 3 rfl rfl) (hM e k 3)) (pay_lv (hm e k 2 4 3 rfl rfl) (hM e k 4)) (pay_lv (hm e k 2 5 3 rfl rfl) (hM e k 5)) (pay_lv (hm e k 2 6 3 rfl rfl) (hM e k 6))).congr (at_ 2 3 w H))))
    ((pay_att (ci := 3) (hd := 0) (Q := qq w H) (K := kk w H) (G := gg w H) (fun _ _ _ => rfl) (pay_lv (hm e k 3 0 0 rfl rfl) (hM e k 0)) (pay_lv (hm e k 3 1 0 rfl rfl) (hM e k 1)) (pay_lv (hm e k 3 2 0 rfl rfl) (hM e k 2)) (pay_lv (hm e k 3 3 0 rfl rfl) (hM e k 3)) (pay_lv (hm e k 3 4 0 rfl rfl) (hM e k 4)) (pay_lv (hm e k 3 5 0 rfl rfl) (hM e k 5)) (pay_lv (hm e k 3 6 0 rfl rfl) (hM e k 6))).congr (at_ 3 0 w H)))
    ((pay_att (ci := 3) (hd := 1) (Q := qq w H) (K := kk w H) (G := gg w H) (fun _ _ _ => rfl) (pay_lv (hm e k 3 0 1 rfl rfl) (hM e k 0)) (pay_lv (hm e k 3 1 1 rfl rfl) (hM e k 1)) (pay_lv (hm e k 3 2 1 rfl rfl) (hM e k 2)) (pay_lv (hm e k 3 3 1 rfl rfl) (hM e k 3)) (pay_lv (hm e k 3 4 1 rfl rfl) (hM e k 4)) (pay_lv (hm e k 3 5 1 rfl rfl) (hM e k 5)) (pay_lv (hm e k 3 6 1 rfl rfl) (hM e k 6))).congr (at_ 3 1 w H)))
    ((pay_att (ci := 3) (hd := 2) (Q := qq w H) (K := kk w H) (G := gg w H) (fun _ _ _ => rfl) (pay_lv (hm e k 3 0 2 rfl rfl) (hM e k 0)) (pay_lv (hm e k 3 1 2 rfl rfl) (hM e k 1)) (pay_lv (hm e k 3 2 2 rfl rfl) (hM e k 2)) (pay_lv (hm e k 3 3 2 rfl rfl) (hM e k 3)) (pay_lv (hm e k 3 4 2 rfl rfl) (hM e k 4)) (pay_lv (hm e k 3 5 2 rfl rfl) (hM e k 5)) (pay_lv (hm e k 3 6 2 rfl rfl) (hM e k 6))).congr (at_ 3 2 w H)))
    ((pay_att (ci := 3) (hd := 3) (Q := qq w H) (K := kk w H) (G := gg w H) (fun _ _ _ => rfl) (pay_lv (hm e k 3 0 3 rfl rfl) (hM e k 0)) (pay_lv (hm e k 3 1 3 rfl rfl) (hM e k 1)) (pay_lv (hm e k 3 2 3 rfl rfl) (hM e k 2)) (pay_lv (hm e k 3 3 3 rfl rfl) (hM e k 3)) (pay_lv (hm e k 3 4 3 rfl rfl) (hM e k 4)) (pay_lv (hm e k 3 5 3 rfl rfl) (hM e k 5)) (pay_lv (hm e k 3 6 3 rfl rfl) (hM e k 6))).congr (at_ 3 3 w H))) (fun a b ha hb _ => by beta_reduce; omega)

end Cert.Tile

end
-- ==== Proof.RunQ.lean ====
/-
  The carried buffers in a later tile.
-/
module

public import proofs.«01_k».proof.Proof.RunB

@[expose] public section

set_option maxRecDepth 16384

noncomputable section

namespace Cert.Tile

open Idealize.ShloMosaic Idealize.ShloMosaic.TcCoe Idealize.SL.Sem Cert.KernelIdeal Cert.KernelIdeal.Gen Cert.Rep Cert.Spec Cert.Pay

theorem out16 {sig : RefSig} {κ : Kind} {sp : Space} {n m : ℕ} (v : View sig κ sp ⟨2, ![n, m]⟩ .bf16) {L : List (View.Piece (Elt Ideal) ⟨2, ![n, m]⟩ .bf16)} {D : ℕ → ℕ → Prop} {g : ℕ → ℕ → ℝ}
    (h : B2 (View.canon L) D g) : B2 (v.read (Elt Ideal) (v.writes (Elt Ideal) v.junk L)) D g := by
  rw [View.read_writes_junk_eq_canon]; exact h
theorem out32 {sig : RefSig} {κ : Kind} {sp : Space} {n m : ℕ} (v : View sig κ sp ⟨2, ![n, m]⟩ .f32) {L : List (View.Piece (Elt Ideal) ⟨2, ![n, m]⟩ .f32)} {D : ℕ → ℕ → Prop} {g : ℕ → ℕ → ℝ}
    (h : B2 (View.canon L) D g) : B2 (v.read (Elt Ideal) (v.writes (Elt Ideal) v.junk L)) D g := by
  rw [View.read_writes_junk_eq_canon]; exact h
theorem outS {sig : RefSig} {κ : Kind} {sp : Space} (v : View sig κ sp ⟨4, ![1, 4, 128, 256]⟩ .f32) {L : List (View.Piece (Elt Ideal) ⟨4, ![1, 4, 128, 256]⟩ .f32)} {D : ℕ → Prop} {G : ℕ → ℕ → ℕ → ℝ}
    (h : B4 (View.canon L) D G) : B4 (v.read (Elt Ideal) (v.writes (Elt Ideal) v.junk L)) D G := by
  rw [View.read_writes_junk_eq_canon]; exact h
theorem uE {U X : ℕ → ℕ → ℝ} {n m o1 : ℕ} {x : (⟨2, ![n, m]⟩ : Shape).Idx → EReal} (h : R2 x (fun a b => U a (o1 + b))) : R2 x (fun a b => ext U X (32 + a) (o1 + b)) :=
  h.congr fun a b _ _ => by rw [ext, if_neg (by omega), Nat.add_sub_cancel_left]
theorem stw {sig : RefSig} {κ : Kind} {sp : Space} {S : Shape} (v : View sig κ sp S .f32) (f : v.ty.Contents (Elt Ideal)) {off sz : Fin S.rank → ℕ} {inb}
    (w : (Rect.unit (s := S) off sz inb).shape.Idx → EReal) (L : List (View.Piece (Elt Ideal) S .f32)) :
    Stored (α := EReal) (v.read (Elt Ideal) (v.writes (Elt Ideal) f L)) (v.read (Elt Ideal) (v.writes (Elt Ideal) f (⟨Rect.unit off sz inb, w⟩ :: L))) (Rect.unit off sz inb) w :=
  stored_writes (Val := Elt Ideal) (e := .f32) v f _ w L
theorem E_lo {U X : ℕ → ℕ → ℝ} {Z : (⟨2, ![544, 1024]⟩ : Shape).Idx → EReal} (h : R2 Z X) : B2 Z (fun a b => (True ∧ a < 32) ∨ (32 ≤ a ∧ b < 0)) (ext U X) := fun a b hab => by
  have h2 : (a : ℕ) < 32 := hab.elim (fun h => h.2) fun h => absurd h.2 (Nat.not_lt_zero _)
  have e : ext U X a b = X a b := if_pos h2
  show Z (ix2 a b) = ((ext U X a b : ℝ) : EReal)
  rw [e]
  exact h a b
theorem E_no {Z : (⟨2, ![544, 1024]⟩ : Shape).Idx → EReal} {G : ℕ → ℕ → ℝ} : B2 Z (fun a b => (False ∧ a < 32) ∨ (32 ≤ a ∧ b < 0)) G := fun a b hab => absurd hab (by rintro (h | h); exacts [h.1, Nat.not_lt_zero _ h.2])
theorem E_zero {U : ℕ → ℕ → ℝ} {Z : (⟨2, ![544, 1024]⟩ : Shape).Idx → EReal} {inb} {w : (⟨2, ![32, 1024]⟩ : Shape).Idx → EReal}
    {Z' : (⟨2, ![544, 1024]⟩ : Shape).Idx → EReal} (hs : Stored Z' Z (Rect.unit (s := ⟨2, ![544, 1024]⟩) ![0, 0] ![32, 1024] inb) w) (hw : R2 w (fun _ _ => 0)) :
    B2 Z (fun a b => (True ∧ a < 32) ∨ (32 ≤ a ∧ b < 0)) (ext U (fun _ _ => 0)) :=
  B2.mono (B2.rows hs (B2.startr _ _) (hw.congr fun a b ha _ => by rw [ext, if_pos (by omega)])) fun a b _ _ h => by beta_reduce at h ⊢; omega
/-- The carried rows for the next tile. -/
theorem E_next {E : ℕ → ℕ → ℝ} {Z Z' : (⟨2, ![544, 1024]⟩ : Shape).Idx → EReal} {inb} {w : (⟨2, ![16, 1024]⟩ : Shape).Idx → EReal} {D : ℕ → ℕ → Prop}
    (hs : Stored Z Z' (Rect.unit (s := ⟨2, ![544, 1024]⟩) ![16, 0] ![16, 1024] inb) w) (hZ : B2 Z D E) (hw : R2 w (fun a b => E (528 + a) b)) :
    B2 Z' D (fun a c => if 16 ≤ a ∧ a < 32 then E (512 + a) c else E a c) :=
  fun a b h => B2.put hs (D' := fun a b => D a b ∧ b < 1024) (G' := fun a c => if 16 ≤ a ∧ a < 32 then E (512 + a) c else E a c) hZ (hw.congr fun a b ha _ => by rw [if_pos (by omega), Nat.zero_add, show 512 + (16 + a) = 528 + a by omega])
    (fun a b h hin => ⟨h.1, if_neg fun h2 => hin (by omega)⟩) a b ⟨h, b.2⟩
theorem B4.zero {K V G : ℕ → ℕ → ℝ} {Z Z' : (⟨4, ![1, 4, 128, 256]⟩ : Shape).Idx → EReal} {inb} {w : (⟨4, ![1, 4, 128, 256]⟩ : Shape).Idx → EReal}
    (hs : Stored Z Z' (Rect.unit (s := ⟨4, ![1, 4, 128, 256]⟩) ![0, 0, 0, 0] ![1, 4, 128, 256] inb) w) (hw : ∀ x, w x = 0) : B4 Z' (fun _ => True) (SSn K V G (fun _ _ _ => 0) 0) := fun a b c d _ => by
  have e := hs.hit (ix4 a b c d)
  rw [hw] at e
  have e2 : SSn K V G (fun _ _ _ => 0) 0 b c d = 0 := by
    have hb := b.2
    have : cnt 0 b = 0 := by unfold cnt; split_ifs <;> omega
    rw [SSn, this, SS]
  show Z' (ix4 a b c d) = ((SSn K V G (fun _ _ _ => 0) 0 b c d : ℝ) : EReal)
  rw [e2, EReal.coe_zero, ← e]
  refine congrArg Z' (funext fun x => ?_)
  fin_cases x
  · refine Fin.ext ?_; show (a : ℕ) = 0 + 1 * a; omega
  · refine Fin.ext ?_; show (b : ℕ) = 0 + 1 * b; omega
  · refine Fin.ext ?_; show (c : ℕ) = 0 + 1 * c; omega
  · refine Fin.ext ?_; show (d : ℕ) = 0 + 1 * d; omega
theorem st_end {K V G : ℕ → ℕ → ℝ} {S : ℕ → ℕ → ℕ → ℝ} {Z : (⟨4, ![1, 4, 128, 256]⟩ : Shape).Idx → EReal} (h : B4 Z (fun _ => True) (SSn K V G S 16)) :
    R4 Z (fun _ => SS K V G S 4) := fun a b c d => by
  have e : SSn K V G S 16 b c d = SS K V G S 4 b c d := by
    have hb := b.2
    have : cnt 16 b = 4 := by unfold cnt; split_ifs <;> omega
    rw [SSn, this]
  show Z (ix4 a b c d) = ((SS K V G S 4 b c d : ℝ) : EReal)
  rw [← e]
  exact h a b c d trivial
theorem pool_end {sig : RefSig} {κ : Kind} {sp : Space} {v : View sig κ sp ⟨3, ![1, 15, 1024]⟩ .f32} {inb} {w : FVec Ideal S15x1024 .f32} {E : ℕ → ℕ → ℝ} {o : ℕ}
    (h : R2 w (fun a b => E (o + a) (0 + b))) :
    R3 (v.read (Elt Ideal) (v.writes (Elt Ideal) v.junk [⟨Rect.unit (s := ⟨3, ![1, 15, 1024]⟩) ![0, 0, 0] ![1, 15, 1024] inb, k0_pay1 (F := Ideal) w⟩])) (fun _ j c => E (o + j) c) := fun a b c => by
  rw [View.read_writes_junk_eq_canon]
  exact B3.put (st32 (S := ⟨3, ![1, 15, 1024]⟩) (inb := inb) (k0_pay1 (F := Ideal) w) []) (B3.nil _ (fun _ j c => E (o + j) c)) (D' := fun a b c => a < 1 ∧ b < 15 ∧ c < 1024)
    ((R2.lift h).congr fun a b c _ _ _ => by simp only [Nat.zero_add]) (fun a b c h hin => absurd (by omega) hin) a b c ⟨a.2, b.2, c.2⟩
/-- A head's scores of a chunk. -/
theorem at2 (ci hd : ℕ) {Q K G : ℕ → ℕ → ℝ} {X : (⟨2, ![128, 128]⟩ : Shape).Idx → EReal} (h : R2 X (fun a b => (fun a b => atl Q K G (a / 128) (b / 128) (a % 128) (b % 128)) (128 * ci + a) (128 * hd + b))) :
    R2 X (fun i j => atl Q K G ci hd i j) := h.congr fun i j hi hj => by
  beta_reduce
  rw [show (128 * ci + i) / 128 = ci by omega, show (128 * ci + i) % 128 = i by omega, show (128 * hd + j) / 128 = hd by omega, show (128 * hd + j) % 128 = j by omega]
theorem dld {o1 : ℕ} (ci : ℕ) {G : ℕ → ℕ → ℝ} {X : (⟨2, ![1, 128]⟩ : Shape).Idx → EReal} (h : R2 X (fun a c => (fun a c => (2 : ℝ) ^ cb G (a / 8) 127 c) (8 * ci + a) (o1 + c))) :
    R2 X (fun _ c => (2 : ℝ) ^ cb G ci 127 (o1 + c)) := h.congr fun a c ha _ => by
  beta_reduce
  rw [show (8 * ci + a) / 8 = ci by omega]
theorem ow (ci hd : ℕ) {Q K V G : ℕ → ℕ → ℝ} {S : ℕ → ℕ → ℕ → ℝ} {X : (⟨2, ![128, 256]⟩ : Shape).Idx → EReal} (h : R2 X (fun i d => oo Q K V G S ci hd i d)) :
    R2 X (fun i d => ot Q K V G S (128 * ci + i) (256 * hd + d)) := h.congr fun i d hi hd' => by
  rw [ot, show (128 * ci + i) / 128 = ci by omega, show (128 * ci + i) % 128 = i by omega, show (256 * hd + d) / 256 = hd by omega, show (256 * hd + d) % 256 = d by omega]
theorem B4.start (Z : (⟨4, ![1, 4, 128, 256]⟩ : Shape).Idx → EReal) (G : ℕ → ℕ → ℕ → ℝ) : B4 Z (fun _ => False) G := fun _ _ _ _ h => h.elim

variable (e : Env) {w : Wt} {H : ℕ → ℕ → ℝ} (k : Ok e w H)
abbrev BE := kernelRun0_B.sl.HS1_4 (F := Ideal) e.c e.arg2 e.harg2 e.arg3 e.harg3 e.arg4 e.harg4 e.arg18 e.x0 e.x1 e.x2
abbrev BT1 := kernelRun0_B.sl.HS2_1 (F := Ideal) e.c e.arg2 e.harg2 e.arg3 e.harg3 e.arg4 e.harg4 e.arg18 e.arg19 e.harg19 e.x0 e.x1 e.x2 e.xs1
abbrev BT2 := kernelRun0_B.sl.HS2_2 (F := Ideal) e.c e.arg2 e.harg2 e.arg3 e.harg3 e.arg4 e.harg4 e.arg18 e.arg19 e.harg19 e.x0 e.x1 e.x2 e.xs1
abbrev BT3 := kernelRun0_B.sl.HS2_3 (F := Ideal) e.c e.arg2 e.harg2 e.arg3 e.harg3 e.arg4 e.harg4 e.arg18 e.arg19 e.harg19 e.arg20 e.x0 e.x1 e.x2 e.xs1
abbrev BT4 := kernelRun0_B.sl.HS2_4 (F := Ideal) e.c e.arg2 e.harg2 e.arg3 e.harg3 e.arg4 e.harg4 e.arg18 e.arg19 e.harg19 e.arg20 e.x0 e.x1 e.x2 e.xs1
abbrev BT5 := kernelRun0_B.sl.HS2_5 (F := Ideal) e.c e.arg2 e.harg2 e.arg3 e.harg3 e.arg4 e.harg4 e.arg18 e.arg19 e.harg19 e.arg20 e.x0 e.x1 e.x2 e.xs1
abbrev BT6 := kernelRun0_B.sl.HS2_6 (F := Ideal) e.c e.arg2 e.harg2 e.arg3 e.harg3 e.arg4 e.harg4 e.arg18 e.arg19 e.harg19 e.arg20 e.x0 e.x1 e.x2 e.xs1
abbrev BP := kernelRun0_B.sl.HS8_4 (F := Ideal) e.c e.i e.arg2 e.harg2 e.arg3 e.harg3 e.arg4 e.harg4 e.arg10 e.harg10 e.arg11 e.harg11 e.arg18 e.arg19 e.harg19 e.arg20 e.x0 e.x1 e.x2 e.x8 e.x9 e.xs1
abbrev BO := kernelRun0_B.sl.HS7_16 (F := Ideal) e.c e.arg2 e.harg2 e.arg3 e.harg3 e.arg4 e.harg4 e.arg6 e.harg6 e.arg7 e.harg7 e.arg8 e.harg8 e.arg12 e.harg12 e.arg13 e.harg13 e.arg14 e.harg14 e.arg17 e.harg17 e.arg18 e.arg21 e.arg22 e.arg23 e.arg24 e.arg27 e.arg28 e.arg29 e.arg30 e.arg31 e.arg32 e.x0 e.x1 e.x2 e.x4 e.x5 e.x6 e.x10 e.x11 e.x12 e.xo15
abbrev BS4 := kernelRun0_B.sl.H15_4 (F := Ideal) e.c e.arg2 e.harg2 e.arg3 e.harg3 e.arg4 e.harg4 e.arg6 e.harg6 e.arg7 e.harg7 e.arg8 e.harg8 e.arg12 e.harg12 e.arg14 e.harg14 e.arg17 e.harg17 e.arg18 e.arg22 e.arg23 e.arg24 e.arg29 e.arg30 e.x0 e.x1 e.x2 e.x4 e.x5 e.x6 e.x10 e.x12 e.xo15
abbrev BS5 := kernelRun0_B.sl.H15_5 (F := Ideal) e.c e.arg2 e.harg2 e.arg3 e.harg3 e.arg4 e.harg4 e.arg6 e.harg6 e.arg7 e.harg7 e.arg8 e.harg8 e.arg12 e.harg12 e.arg14 e.harg14 e.arg17 e.harg17 e.arg18 e.arg22 e.arg23 e.arg24 e.arg29 e.arg30 e.x0 e.x1 e.x2 e.x4 e.x5 e.x6 e.x10 e.x12 e.xo15
abbrev BS6 := kernelRun0_B.sl.H15_6 (F := Ideal) e.c e.arg2 e.harg2 e.arg3 e.harg3 e.arg4 e.harg4 e.arg6 e.harg6 e.arg7 e.harg7 e.arg8 e.harg8 e.arg12 e.harg12 e.arg14 e.harg14 e.arg17 e.harg17 e.arg18 e.arg22 e.arg23 e.arg24 e.arg29 e.arg30 e.x0 e.x1 e.x2 e.x4 e.x5 e.x6 e.x10 e.x12 e.xo15
abbrev BS7 := kernelRun0_B.sl.H15_7 (F := Ideal) e.c e.arg2 e.harg2 e.arg3 e.harg3 e.arg4 e.harg4 e.arg6 e.harg6 e.arg7 e.harg7 e.arg8 e.harg8 e.arg12 e.harg12 e.arg14 e.harg14 e.arg17 e.harg17 e.arg18 e.arg22 e.arg23 e.arg24 e.arg29 e.arg30 e.x0 e.x1 e.x2 e.x4 e.x5 e.x6 e.x10 e.x12 e.xo15
abbrev BS8 := kernelRun0_B.sl.H15_8 (F := Ideal) e.c e.arg2 e.harg2 e.arg3 e.harg3 e.arg4 e.harg4 e.arg6 e.harg6 e.arg7 e.harg7 e.arg8 e.harg8 e.arg12 e.harg12 e.arg14 e.harg14 e.arg17 e.harg17 e.arg18 e.arg22 e.arg23 e.arg24 e.arg29 e.arg30 e.x0 e.x1 e.x2 e.x4 e.x5 e.x6 e.x10 e.x12 e.xo15
abbrev BS9 := kernelRun0_B.sl.H15_9 (F := Ideal) e.c e.arg2 e.harg2 e.arg3 e.harg3 e.arg4 e.harg4 e.arg6 e.harg6 e.arg7 e.harg7 e.arg8 e.harg8 e.arg12 e.harg12 e.arg14 e.harg14 e.arg17 e.harg17 e.arg18 e.arg22 e.arg23 e.arg24 e.arg29 e.arg30 e.x0 e.x1 e.x2 e.x4 e.x5 e.x6 e.x10 e.x12 e.xo15
abbrev BS10 := kernelRun0_B.sl.H15_10 (F := Ideal) e.c e.arg2 e.harg2 e.arg3 e.harg3 e.arg4 e.harg4 e.arg6 e.harg6 e.arg7 e.harg7 e.arg8 e.harg8 e.arg12 e.harg12 e.arg14 e.harg14 e.arg17 e.harg17 e.arg18 e.arg22 e.arg23 e.arg24 e.arg29 e.arg30 e.x0 e.x1 e.x2 e.x4 e.x5 e.x6 e.x10 e.x12 e.xo15
abbrev BS11 := kernelRun0_B.sl.H15_11 (F := Ideal) e.c e.arg2 e.harg2 e.arg3 e.harg3 e.arg4 e.harg4 e.arg6 e.harg6 e.arg7 e.harg7 e.arg8 e.harg8 e.arg12 e.harg12 e.arg14 e.harg14 e.arg17 e.harg17 e.arg18 e.arg22 e.arg23 e.arg24 e.arg29 e.arg30 e.x0 e.x1 e.x2 e.x4 e.x5 e.x6 e.x10 e.x12 e.xo15
abbrev BS12 := kernelRun0_B.sl.H15_12 (F := Ideal) e.c e.arg2 e.harg2 e.arg3 e.harg3 e.arg4 e.harg4 e.arg6 e.harg6 e.arg7 e.harg7 e.arg8 e.harg8 e.arg12 e.harg12 e.arg14 e.harg14 e.arg17 e.harg17 e.arg18 e.arg22 e.arg23 e.arg24 e.arg29 e.arg30 e.x0 e.x1 e.x2 e.x4 e.x5 e.x6 e.x10 e.x12 e.xo15
abbrev BS13 := kernelRun0_B.sl.H15_13 (F := Ideal) e.c e.arg2 e.harg2 e.arg3 e.harg3 e.arg4 e.harg4 e.arg6 e.harg6 e.arg7 e.harg7 e.arg8 e.harg8 e.arg12 e.harg12 e.arg14 e.harg14 e.arg17 e.harg17 e.arg18 e.arg22 e.arg23 e.arg24 e.arg29 e.arg30 e.x0 e.x1 e.x2 e.x4 e.x5 e.x6 e.x10 e.x12 e.xo15
abbrev BS14 := kernelRun0_B.sl.H15_14 (F := Ideal) e.c e.arg2 e.harg2 e.arg3 e.harg3 e.arg4 e.harg4 e.arg6 e.harg6 e.arg7 e.harg7 e.arg8 e.harg8 e.arg12 e.harg12 e.arg14 e.harg14 e.arg17 e.harg17 e.arg18 e.arg22 e.arg23 e.arg24 e.arg29 e.arg30 e.x0 e.x1 e.x2 e.x4 e.x5 e.x6 e.x10 e.x12 e.xo15
abbrev BS15 := kernelRun0_B.sl.H15_15 (F := Ideal) e.c e.arg2 e.harg2 e.arg3 e.harg3 e.arg4 e.harg4 e.arg6 e.harg6 e.arg7 e.harg7 e.arg8 e.harg8 e.arg12 e.harg12 e.arg14 e.harg14 e.arg17 e.harg17 e.arg18 e.arg22 e.arg23 e.arg24 e.arg29 e.arg30 e.x0 e.x1 e.x2 e.x4 e.x5 e.x6 e.x10 e.x12 e.xo15

variable {S : ℕ → ℕ → ℕ → ℝ} {X : ℕ → ℕ → ℝ} (hs : R4 e.xo15 (fun _ => S)) (hx : R2 e.xs1 X) {l : ℕ} (hl : l < 4) (hi : ((e.i 1 : Fin _) : ℕ) = l)

include k
theorem qE : B2 (View.canon (BE e)) (fun a _ => 32 ≤ a) (ext (uu w H) X) :=
  B2.mono (B2.colsE False (st32 _ _) (by norm_num) (B2.colsE False (st32 _ _) (by norm_num) (B2.colsE False (st32 _ _) (by norm_num) (B2.colsE False (st32 _ _) (by norm_num) (E_no) (uE (pay_u (o := 0) (ld16z _ (b0 e k)) (ar16 _ k.h2)))) (uE (pay_u (o := 256) (ld16z _ (b0 e k)) (ar16 _ k.h2)))) (uE (pay_u (o := 512) (ld16z _ (b0 e k)) (ar16 _ k.h2)))) (uE (pay_u (o := 768) (ld16z _ (b0 e k)) (ar16 _ k.h2)))) (fun a b ha hb h => by beta_reduce at h ⊢; omega)
include hx in
theorem qEw : B2 (e.arg19.view.read (Elt Ideal) (e.arg19.view.writes (Elt Ideal) (e.harg19.unread (Val := Elt Ideal) e.xs1) (BE e))) (fun _ _ => True) (ext (uu w H) X) :=
  B2.mono (B2.colsE True (stw _ _ _ _) (by norm_num) (B2.colsE True (stw _ _ _ _) (by norm_num) (B2.colsE True (stw _ _ _ _) (by norm_num) (B2.colsE True (stw _ _ _ _) (by norm_num) (E_lo (fun a b => by rw [View.writes_nil, e.harg19.read_unread]; exact hx a b)) (uE (pay_u (o := 0) (ld16z _ (b0 e k)) (ar16 _ k.h2)))) (uE (pay_u (o := 256) (ld16z _ (b0 e k)) (ar16 _ k.h2)))) (uE (pay_u (o := 512) (ld16z _ (b0 e k)) (ar16 _ k.h2)))) (uE (pay_u (o := 768) (ld16z _ (b0 e k)) (ar16 _ k.h2)))) (fun a b ha hb _ => (Nat.lt_or_ge a 32).elim (fun h => Or.inl ⟨trivial, h⟩) fun h => Or.inr ⟨h, by omega⟩)
include hx in
theorem qT1 : B3 (View.canon (BT1 e)) (fun a b _ => a = 0 ∧ 24 ≤ b) (fun _ b c => win (ext (uu w H) X) 2 b (256 + c)) :=
  tput (g := fun b c => win (ext (uu w H) X) 2 b (256 + c)) (st32 _ _) (by norm_num) (R2.lift (win_two (E := (ext (uu w H) X)) rfl (ldw32 _ (qEw e k hx) (fun _ _ _ _ => trivial)) (ldw32 _ (qEw e k hx) (fun _ _ _ _ => trivial))))
include hx in
theorem qT2 : B3 (View.canon (BT2 e)) (fun a b _ => a = 0 ∧ 16 ≤ b) (fun _ b c => win (ext (uu w H) X) 2 b (512 + c)) :=
  tput (g := fun b c => win (ext (uu w H) X) 2 b (512 + c)) (st32 _ _) (by norm_num) (R2.lift (win_two (E := (ext (uu w H) X)) rfl (ldw32 _ (qEw e k hx) (fun _ _ _ _ => trivial)) (ldw32 _ (qEw e k hx) (fun _ _ _ _ => trivial))))
include hx in
theorem qT3 : B3 (View.canon (BT3 e)) (fun a b _ => a = 1 ∧ 24 ≤ b) (fun _ b c => win (ext (uu w H) X) 4 b (512 + c)) :=
  tput (g := fun b c => win (ext (uu w H) X) 4 b (512 + c)) (st32 _ _) (by norm_num) (R2.lift (win_dbl (E := (ext (uu w H) X)) (N := 2) rfl (tld _ (qT2 e k hx)) (tld _ (qT2 e k hx))))
include hx in
theorem qT4 : B3 (View.canon (BT4 e)) (fun a b _ => a = 0 ∧ 8 ≤ b) (fun _ b c => win (ext (uu w H) X) 2 b (768 + c)) :=
  tput (g := fun b c => win (ext (uu w H) X) 2 b (768 + c)) (st32 _ _) (by norm_num) (R2.lift (win_two (E := (ext (uu w H) X)) rfl (ldw32 _ (qEw e k hx) (fun _ _ _ _ => trivial)) (ldw32 _ (qEw e k hx) (fun _ _ _ _ => trivial))))
include hx in
theorem qT5 : B3 (View.canon (BT5 e)) (fun a b _ => a = 1 ∧ 16 ≤ b) (fun _ b c => win (ext (uu w H) X) 4 b (768 + c)) :=
  tput (g := fun b c => win (ext (uu w H) X) 4 b (768 + c)) (st32 _ _) (by norm_num) (R2.lift (win_dbl (E := (ext (uu w H) X)) (N := 2) rfl (tld _ (qT4 e k hx)) (tld _ (qT4 e k hx))))
include hx in
theorem qT6 : B3 (View.canon (BT6 e)) (fun a b _ => a = 2 ∧ 24 ≤ b) (fun _ b c => win (ext (uu w H) X) 8 b (768 + c)) :=
  tput (g := fun b c => win (ext (uu w H) X) 8 b (768 + c)) (st32 _ _) (by norm_num) (R2.lift (win_dbl (E := (ext (uu w H) X)) (N := 4) rfl (tld _ (qT5 e k hx)) (tld _ (qT5 e k hx))))
include hx hl hi in
theorem qP : B2 (View.canon (BP e)) (fun _ _ => True) (pl w l (ext (uu w H) X)) :=
  B2.mono (B2.cols (st32 _ _) (B2.cols (st32 _ _) (B2.cols (st32 _ _) (B2.cols (st32 _ _) (B2.start0 _ _) (pay_pool (w := w) (g := 0) (N := 2) (by norm_num) (by norm_num) hl (pos hl hi) rfl (win_two (E := (ext (uu w H) X)) rfl (ld32 _ (qE e k) (fun _ _ _ _ => Nat.le_add_right _ _)) (ldw32 _ (qEw e k hx) (fun _ _ _ _ => trivial))) (ld32 _ (qE e k) (fun _ _ _ _ => Nat.le_add_right _ _)) (ar3_16 _ k.h8) (ar32 _ k.h9))) (pay_pool (w := w) (g := 1) (N := 4) (by norm_num) (by norm_num) hl (pos hl hi) rfl (win_dbl (E := (ext (uu w H) X)) (N := 2) rfl (tld _ (qT1 e k hx)) (tld _ (qT1 e k hx))) (ld32 _ (qE e k) (fun _ _ _ _ => Nat.le_add_right _ _)) (ar3_16 _ k.h8) (ar32 _ k.h9))) (pay_pool (w := w) (g := 2) (N := 8) (by norm_num) (by norm_num) hl (pos hl hi) rfl (win_dbl (E := (ext (uu w H) X)) (N := 4) rfl (tld _ (qT3 e k hx)) (tld _ (qT3 e k hx))) (ld32 _ (qE e k) (fun _ _ _ _ => Nat.le_add_right _ _)) (ar3_16 _ k.h8) (ar32 _ k.h9))) (pay_pool (w := w) (g := 3) (N := 16) (by norm_num) (by norm_num) hl (pos hl hi) rfl (win_dbl (E := (ext (uu w H) X)) (N := 8) rfl (tld _ (qT6 e k hx)) (tld _ (qT6 e k hx))) (ld32 _ (qE e k) (fun _ _ _ _ => Nat.le_add_right _ _)) (ar3_16 _ k.h8) (ar32 _ k.h9))) (fun a b ha hb _ => by beta_reduce; omega)
include hs in
theorem qS4 : B4 (View.canon (BS4 e)) (fun _ => True) (SSn (kk w H) (vv w H) (gg w H) S 4) :=
  B4.all (B4.step 0 3 (by norm_num) (st32 _ _) (B4.step 0 2 (by norm_num) (st32 _ _) (B4.step 0 1 (by norm_num) (st32 _ _) (B4.step 0 0 (by norm_num) (st32 _ _) (B4.start _ _) (pay_s (ald (K := kk w H) (V := vv w H) (G := gg w H) 0 _ hs) (ld16 _ (b5 e k) (fun _ _ _ _ => trivial)) (R2.unflat (f := (fun ci i c => kk w H (128 * ci + i) c * (2 : ℝ) ^ (cb (gg w H) ci 127 c - cb (gg w H) ci i c))) 0 (ld16 _ (b11 e k) (fun _ _ _ _ => trivial))) (dld 0 (ld32 _ (b12 e k) (fun a b ha _ => by omega))) (zz0 (ar32 _ k.h12)))) (pay_s (ald (K := kk w H) (V := vv w H) (G := gg w H) 1 _ hs) (ld16 _ (b5 e k) (fun _ _ _ _ => trivial)) (R2.unflat (f := (fun ci i c => kk w H (128 * ci + i) c * (2 : ℝ) ^ (cb (gg w H) ci 127 c - cb (gg w H) ci i c))) 0 (ld16 _ (b11 e k) (fun _ _ _ _ => trivial))) (dld 0 (ld32 _ (b12 e k) (fun a b ha _ => by omega))) (zz0 (ar32 _ k.h12)))) (pay_s (ald (K := kk w H) (V := vv w H) (G := gg w H) 2 _ hs) (ld16 _ (b5 e k) (fun _ _ _ _ => trivial)) (R2.unflat (f := (fun ci i c => kk w H (128 * ci + i) c * (2 : ℝ) ^ (cb (gg w H) ci 127 c - cb (gg w H) ci i c))) 0 (ld16 _ (b11 e k) (fun _ _ _ _ => trivial))) (dld 0 (ld32 _ (b12 e k) (fun a b ha _ => by omega))) (zz0 (ar32 _ k.h12)))) (pay_s (ald (K := kk w H) (V := vv w H) (G := gg w H) 3 _ hs) (ld16 _ (b5 e k) (fun _ _ _ _ => trivial)) (R2.unflat (f := (fun ci i c => kk w H (128 * ci + i) c * (2 : ℝ) ^ (cb (gg w H) ci 127 c - cb (gg w H) ci i c))) 0 (ld16 _ (b11 e k) (fun _ _ _ _ => trivial))) (dld 0 (ld32 _ (b12 e k) (fun a b ha _ => by omega))) (zz0 (ar32 _ k.h12)))) (fun b hb => by omega)
include hs in
theorem qS5 : B4 (View.canon (BS5 e)) (fun _ => True) (SSn (kk w H) (vv w H) (gg w H) S 5) :=
  B4.all (B4.step 1 0 (by norm_num) (st32 _ _) (qS4 e k hs) (pay_s (sld 1 0 (by norm_num) _ (qS4 e k hs)) (ld16 _ (b5 e k) (fun _ _ _ _ => trivial)) (R2.unflat (f := (fun ci i c => kk w H (128 * ci + i) c * (2 : ℝ) ^ (cb (gg w H) ci 127 c - cb (gg w H) ci i c))) 1 (ld16 _ (b11 e k) (fun _ _ _ _ => trivial))) (dld 1 (ld32 _ (b12 e k) (fun a b ha _ => by omega))) (zz0 (ar32 _ k.h12)))) (fun b _ => Or.inr trivial)
include hs in
theorem qS6 : B4 (View.canon (BS6 e)) (fun _ => True) (SSn (kk w H) (vv w H) (gg w H) S 6) :=
  B4.all (B4.step 1 1 (by norm_num) (st32 _ _) (qS5 e k hs) (pay_s (sld 1 1 (by norm_num) _ (qS5 e k hs)) (ld16 _ (b5 e k) (fun _ _ _ _ => trivial)) (R2.unflat (f := (fun ci i c => kk w H (128 * ci + i) c * (2 : ℝ) ^ (cb (gg w H) ci 127 c - cb (gg w H) ci i c))) 1 (ld16 _ (b11 e k) (fun _ _ _ _ => trivial))) (dld 1 (ld32 _ (b12 e k) (fun a b ha _ => by omega))) (zz0 (ar32 _ k.h12)))) (fun b _ => Or.inr trivial)
include hs in
theorem qS7 : B4 (View.canon (BS7 e)) (fun _ => True) (SSn (kk w H) (vv w H) (gg w H) S 7) :=
  B4.all (B4.step 1 2 (by norm_num) (st32 _ _) (qS6 e k hs) (pay_s (sld 1 2 (by norm_num) _ (qS6 e k hs)) (ld16 _ (b5 e k) (fun _ _ _ _ => trivial)) (R2.unflat (f := (fun ci i c => kk w H (128 * ci + i) c * (2 : ℝ) ^ (cb (gg w H) ci 127 c - cb (gg w H) ci i c))) 1 (ld16 _ (b11 e k) (fun _ _ _ _ => trivial))) (dld 1 (ld32 _ (b12 e k) (fun a b ha _ => by omega))) (zz0 (ar32 _ k.h12)))) (fun b _ => Or.inr trivial)
include hs in
theorem qS8 : B4 (View.canon (BS8 e)) (fun _ => True) (SSn (kk w H) (vv w H) (gg w H) S 8) :=
  B4.all (B4.step 1 3 (by norm_num) (st32 _ _) (qS7 e k hs) (pay_s (sld 1 3 (by norm_num) _ (qS7 e k hs)) (ld16 _ (b5 e k) (fun _ _ _ _ => trivial)) (R2.unflat (f := (fun ci i c => kk w H (128 * ci + i) c * (2 : ℝ) ^ (cb (gg w H) ci 127 c - cb (gg w H) ci i c))) 1 (ld16 _ (b11 e k) (fun _ _ _ _ => trivial))) (dld 1 (ld32 _ (b12 e k) (fun a b ha _ => by omega))) (zz0 (ar32 _ k.h12)))) (fun b _ => Or.inr trivial)
include hs in
theorem qS9 : B4 (View.canon (BS9 e)) (fun _ => True) (SSn (kk w H) (vv w H) (gg w H) S 9) :=
  B4.all (B4.step 2 0 (by norm_num) (st32 _ _) (qS8 e k hs) (pay_s (sld 2 0 (by norm_num) _ (qS8 e k hs)) (ld16 _ (b5 e k) (fun _ _ _ _ => trivial)) (R2.unflat (f := (fun ci i c => kk w H (128 * ci + i) c * (2 : ℝ) ^ (cb (gg w H) ci 127 c - cb (gg w H) ci i c))) 2 (ld16 _ (b11 e k) (fun _ _ _ _ => trivial))) (dld 2 (ld32 _ (b12 e k) (fun a b ha _ => by omega))) (zz0 (ar32 _ k.h12)))) (fun b _ => Or.inr trivial)
include hs in
theorem qS10 : B4 (View.canon (BS10 e)) (fun _ => True) (SSn (kk w H) (vv w H) (gg w H) S 10) :=
  B4.all (B4.step 2 1 (by norm_num) (st32 _ _) (qS9 e k hs) (pay_s (sld 2 1 (by norm_num) _ (qS9 e k hs)) (ld16 _ (b5 e k) (fun _ _ _ _ => trivial)) (R2.unflat (f := (fun ci i c => kk w H (128 * ci + i) c * (2 : ℝ) ^ (cb (gg w H) ci 127 c - cb (gg w H) ci i c))) 2 (ld16 _ (b11 e k) (fun _ _ _ _ => trivial))) (dld 2 (ld32 _ (b12 e k) (fun a b ha _ => by omega))) (zz0 (ar32 _ k.h12)))) (fun b _ => Or.inr trivial)
include hs in
theorem qS11 : B4 (View.canon (BS11 e)) (fun _ => True) (SSn (kk w H) (vv w H) (gg w H) S 11) :=
  B4.all (B4.step 2 2 (by norm_num) (st32 _ _) (qS10 e k hs) (pay_s (sld 2 2 (by norm_num) _ (qS10 e k hs)) (ld16 _ (b5 e k) (fun _ _ _ _ => trivial)) (R2.unflat (f := (fun ci i c => kk w H (128 * ci + i) c * (2 : ℝ) ^ (cb (gg w H) ci 127 c - cb (gg w H) ci i c))) 2 (ld16 _ (b11 e k) (fun _ _ _ _ => trivial))) (dld 2 (ld32 _ (b12 e k) (fun a b ha _ => by omega))) (zz0 (ar32 _ k.h12)))) (fun b _ => Or.inr trivial)
include hs in
theorem qS12 : B4 (View.canon (BS12 e)) (fun _ => True) (SSn (kk w H) (vv w H) (gg w H) S 12) :=
  B4.all (B4.step 2 3 (by norm_num) (st32 _ _) (qS11 e k hs) (pay_s (sld 2 3 (by norm_num) _ (qS11 e k hs)) (ld16 _ (b5 e k) (fun _ _ _ _ => trivial)) (R2.unflat (f := (fun ci i c => kk w H (128 * ci + i) c * (2 : ℝ) ^ (cb (gg w H) ci 127 c - cb (gg w H) ci i c))) 2 (ld16 _ (b11 e k) (fun _ _ _ _ => trivial))) (dld 2 (ld32 _ (b12 e k) (fun a b ha _ => by omega))) (zz0 (ar32 _ k.h12)))) (fun b _ => Or.inr trivial)
include hs in
theorem qS13 : B4 (View.canon (BS13 e)) (fun _ => True) (SSn (kk w H) (vv w H) (gg w H) S 13) :=
  B4.all (B4.step 3 0 (by norm_num) (st32 _ _) (qS12 e k hs) (pay_s (sld 3 0 (by norm_num) _ (qS12 e k hs)) (ld16 _ (b5 e k) (fun _ _ _ _ => trivial)) (R2.unflat (f := (fun ci i c => kk w H (128 * ci + i) c * (2 : ℝ) ^ (cb (gg w H) ci 127 c - cb (gg w H) ci i c))) 3 (ld16 _ (b11 e k) (fun _ _ _ _ => trivial))) (dld 3 (ld32 _ (b12 e k) (fun a b ha _ => by omega))) (zz0 (ar32 _ k.h12)))) (fun b _ => Or.inr trivial)
include hs in
theorem qS14 : B4 (View.canon (BS14 e)) (fun _ => True) (SSn (kk w H) (vv w H) (gg w H) S 14) :=
  B4.all (B4.step 3 1 (by norm_num) (st32 _ _) (qS13 e k hs) (pay_s (sld 3 1 (by norm_num) _ (qS13 e k hs)) (ld16 _ (b5 e k) (fun _ _ _ _ => trivial)) (R2.unflat (f := (fun ci i c => kk w H (128 * ci + i) c * (2 : ℝ) ^ (cb (gg w H) ci 127 c - cb (gg w H) ci i c))) 3 (ld16 _ (b11 e k) (fun _ _ _ _ => trivial))) (dld 3 (ld32 _ (b12 e k) (fun a b ha _ => by omega))) (zz0 (ar32 _ k.h12)))) (fun b _ => Or.inr trivial)
include hs in
theorem qS15 : B4 (View.canon (BS15 e)) (fun _ => True) (SSn (kk w H) (vv w H) (gg w H) S 15) :=
  B4.all (B4.step 3 2 (by norm_num) (st32 _ _) (qS14 e k hs) (pay_s (sld 3 2 (by norm_num) _ (qS14 e k hs)) (ld16 _ (b5 e k) (fun _ _ _ _ => trivial)) (R2.unflat (f := (fun ci i c => kk w H (128 * ci + i) c * (2 : ℝ) ^ (cb (gg w H) ci 127 c - cb (gg w H) ci i c))) 3 (ld16 _ (b11 e k) (fun _ _ _ _ => trivial))) (dld 3 (ld32 _ (b12 e k) (fun a b ha _ => by omega))) (zz0 (ar32 _ k.h12)))) (fun b _ => Or.inr trivial)
include hs in
theorem qO : B2 (View.canon (BO e)) (fun _ _ => True) (ot (qq w H) (kk w H) (vv w H) (gg w H) S) :=
  B2.mono (B2.grid (st32 _ _) (B2.grid (st32 _ _) (B2.grid (st32 _ _) (B2.grid (st32 _ _) (B2.nextRow (by norm_num) (B2.grid (st32 _ _) (B2.grid (st32 _ _) (B2.grid (st32 _ _) (B2.grid (st32 _ _) (B2.nextRow (by norm_num) (B2.grid (st32 _ _) (B2.grid (st32 _ _) (B2.grid (st32 _ _) (B2.grid (st32 _ _) (B2.nextRow (by norm_num) (B2.grid (st32 _ _) (B2.grid (st32 _ _) (B2.grid (st32 _ _) (B2.grid (st32 _ _) (B2.start _ _ _)
    (ow 0 0 (pay_o (ci := 0) (hd := 0) (Q := qq w H) (K := kk w H) (V := vv w H) (G := gg w H) (S := S) rfl (ald (K := kk w H) (V := vv w H) (G := gg w H) 0 _ hs) (ld16 _ (b5 e k) (fun _ _ _ _ => trivial)) (R2.unflat (f := (fun ci i c => qq w H (128 * ci + i) c * (2 : ℝ) ^ cb (gg w H) ci i c)) 0 (ld16 _ (b10 e k) (fun _ _ _ _ => trivial))) (at2 0 0 (ld16 _ (b14 e k) (fun _ _ _ _ => trivial))) (ldr32 _ (b3 e k)) (ldr32 _ (b4 e k)))))
    (ow 0 1 (pay_o (ci := 0) (hd := 1) (Q := qq w H) (K := kk w H) (V := vv w H) (G := gg w H) (S := S) rfl (ald (K := kk w H) (V := vv w H) (G := gg w H) 1 _ hs) (ld16 _ (b5 e k) (fun _ _ _ _ => trivial)) (R2.unflat (f := (fun ci i c => qq w H (128 * ci + i) c * (2 : ℝ) ^ cb (gg w H) ci i c)) 0 (ld16 _ (b10 e k) (fun _ _ _ _ => trivial))) (at2 0 1 (ld16 _ (b14 e k) (fun _ _ _ _ => trivial))) (ldr32 _ (b3 e k)) (ldr32 _ (b4 e k)))))
    (ow 0 2 (pay_o (ci := 0) (hd := 2) (Q := qq w H) (K := kk w H) (V := vv w H) (G := gg w H) (S := S) rfl (ald (K := kk w H) (V := vv w H) (G := gg w H) 2 _ hs) (ld16 _ (b5 e k) (fun _ _ _ _ => trivial)) (R2.unflat (f := (fun ci i c => qq w H (128 * ci + i) c * (2 : ℝ) ^ cb (gg w H) ci i c)) 0 (ld16 _ (b10 e k) (fun _ _ _ _ => trivial))) (at2 0 2 (ld16 _ (b14 e k) (fun _ _ _ _ => trivial))) (ldr32 _ (b3 e k)) (ldr32 _ (b4 e k)))))
    (ow 0 3 (pay_o (ci := 0) (hd := 3) (Q := qq w H) (K := kk w H) (V := vv w H) (G := gg w H) (S := S) rfl (ald (K := kk w H) (V := vv w H) (G := gg w H) 3 _ hs) (ld16 _ (b5 e k) (fun _ _ _ _ => trivial)) (R2.unflat (f := (fun ci i c => qq w H (128 * ci + i) c * (2 : ℝ) ^ cb (gg w H) ci i c)) 0 (ld16 _ (b10 e k) (fun _ _ _ _ => trivial))) (at2 0 3 (ld16 _ (b14 e k) (fun _ _ _ _ => trivial))) (ldr32 _ (b3 e k)) (ldr32 _ (b4 e k))))))
    (ow 1 0 (pay_o (ci := 1) (hd := 0) (Q := qq w H) (K := kk w H) (V := vv w H) (G := gg w H) (S := S) rfl (sld 1 0 (by norm_num) _ (qS4 e k hs)) (ld16 _ (b5 e k) (fun _ _ _ _ => trivial)) (R2.unflat (f := (fun ci i c => qq w H (128 * ci + i) c * (2 : ℝ) ^ cb (gg w H) ci i c)) 1 (ld16 _ (b10 e k) (fun _ _ _ _ => trivial))) (at2 1 0 (ld16 _ (b14 e k) (fun _ _ _ _ => trivial))) (ldr32 _ (b3 e k)) (ldr32 _ (b4 e k)))))
    (ow 1 1 (pay_o (ci := 1) (hd := 1) (Q := qq w H) (K := kk w H) (V := vv w H) (G := gg w H) (S := S) rfl (sld 1 1 (by norm_num) _ (qS5 e k hs)) (ld16 _ (b5 e k) (fun _ _ _ _ => trivial)) (R2.unflat (f := (fun ci i c => qq w H (128 * ci + i) c * (2 : ℝ) ^ cb (gg w H) ci i c)) 1 (ld16 _ (b10 e k) (fun _ _ _ _ => trivial))) (at2 1 1 (ld16 _ (b14 e k) (fun _ _ _ _ => trivial))) (ldr32 _ (b3 e k)) (ldr32 _ (b4 e k)))))
    (ow 1 2 (pay_o (ci := 1) (hd := 2) (Q := qq w H) (K := kk w H) (V := vv w H) (G := gg w H) (S := S) rfl (sld 1 2 (by norm_num) _ (qS6 e k hs)) (ld16 _ (b5 e k) (fun _ _ _ _ => trivial)) (R2.unflat (f := (fun ci i c => qq w H (128 * ci + i) c * (2 : ℝ) ^ cb (gg w H) ci i c)) 1 (ld16 _ (b10 e k) (fun _ _ _ _ => trivial))) (at2 1 2 (ld16 _ (b14 e k) (fun _ _ _ _ => trivial))) (ldr32 _ (b3 e k)) (ldr32 _ (b4 e k)))))
    (ow 1 3 (pay_o (ci := 1) (hd := 3) (Q := qq w H) (K := kk w H) (V := vv w H) (G := gg w H) (S := S) rfl (sld 1 3 (by norm_num) _ (qS7 e k hs)) (ld16 _ (b5 e k) (fun _ _ _ _ => trivial)) (R2.unflat (f := (fun ci i c => qq w H (128 * ci + i) c * (2 : ℝ) ^ cb (gg w H) ci i c)) 1 (ld16 _ (b10 e k) (fun _ _ _ _ => trivial))) (at2 1 3 (ld16 _ (b14 e k) (fun _ _ _ _ => trivial))) (ldr32 _ (b3 e k)) (ldr32 _ (b4 e k))))))
    (ow 2 0 (pay_o (ci := 2) (hd := 0) (Q := qq w H) (K := kk w H) (V := vv w H) (G := gg w H) (S := S) rfl (sld 2 0 (by norm_num) _ (qS8 e k hs)) (ld16 _ (b5 e k) (fun _ _ _ _ => trivial)) (R2.unflat (f := (fun ci i c => qq w H (128 * ci + i) c * (2 : ℝ) ^ cb (gg w H) ci i c)) 2 (ld16 _ (b10 e k) (fun _ _ _ _ => trivial))) (at2 2 0 (ld16 _ (b14 e k) (fun _ _ _ _ => trivial))) (ldr32 _ (b3 e k)) (ldr32 _ (b4 e k)))))
    (ow 2 1 (pay_o (ci := 2) (hd := 1) (Q := qq w H) (K := kk w H) (V := vv w H) (G := gg w H) (S := S) rfl (sld 2 1 (by norm_num) _ (qS9 e k hs)) (ld16 _ (b5 e k) (fun _ _ _ _ => trivial)) (R2.unflat (f := (fun ci i c => qq w H (128 * ci + i) c * (2 : ℝ) ^ cb (gg w H) ci i c)) 2 (ld16 _ (b10 e k) (fun _ _ _ _ => trivial))) (at2 2 1 (ld16 _ (b14 e k) (fun _ _ _ _ => trivial))) (ldr32 _ (b3 e k)) (ldr32 _ (b4 e k)))))
    (ow 2 2 (pay_o (ci := 2) (hd := 2) (Q := qq w H) (K := kk w H) (V := vv w H) (G := gg w H) (S := S) rfl (sld 2 2 (by norm_num) _ (qS10 e k hs)) (ld16 _ (b5 e k) (fun _ _ _ _ => trivial)) (R2.unflat (f := (fun ci i c => qq w H (128 * ci + i) c * (2 : ℝ) ^ cb (gg w H) ci i c)) 2 (ld16 _ (b10 e k) (fun _ _ _ _ => trivial))) (at2 2 2 (ld16 _ (b14 e k) (fun _ _ _ _ => trivial))) (ldr32 _ (b3 e k)) (ldr32 _ (b4 e k)))))
    (ow 2 3 (pay_o (ci := 2) (hd := 3) (Q := qq w H) (K := kk w H) (V := vv w H) (G := gg w H) (S := S) rfl (sld 2 3 (by norm_num) _ (qS11 e k hs)) (ld16 _ (b5 e k) (fun _ _ _ _ => trivial)) (R2.unflat (f := (fun ci i c => qq w H (128 * ci + i) c * (2 : ℝ) ^ cb (gg w H) ci i c)) 2 (ld16 _ (b10 e k) (fun _ _ _ _ => trivial))) (at2 2 3 (ld16 _ (b14 e k) (fun _ _ _ _ => trivial))) (ldr32 _ (b3 e k)) (ldr32 _ (b4 e k))))))
    (ow 3 0 (pay_o (ci := 3) (hd := 0) (Q := qq w H) (K := kk w H) (V := vv w H) (G := gg w H) (S := S) rfl (sld 3 0 (by norm_num) _ (qS12 e k hs)) (ld16 _ (b5 e k) (fun _ _ _ _ => trivial)) (R2.unflat (f := (fun ci i c => qq w H (128 * ci + i) c * (2 : ℝ) ^ cb (gg w H) ci i c)) 3 (ld16 _ (b10 e k) (fun _ _ _ _ => trivial))) (at2 3 0 (ld16 _ (b14 e k) (fun _ _ _ _ => trivial))) (ldr32 _ (b3 e k)) (ldr32 _ (b4 e k)))))
    (ow 3 1 (pay_o (ci := 3) (hd := 1) (Q := qq w H) (K := kk w H) (V := vv w H) (G := gg w H) (S := S) rfl (sld 3 1 (by norm_num) _ (qS13 e k hs)) (ld16 _ (b5 e k) (fun _ _ _ _ => trivial)) (R2.unflat (f := (fun ci i c => qq w H (128 * ci + i) c * (2 : ℝ) ^ cb (gg w H) ci i c)) 3 (ld16 _ (b10 e k) (fun _ _ _ _ => trivial))) (at2 3 1 (ld16 _ (b14 e k) (fun _ _ _ _ => trivial))) (ldr32 _ (b3 e k)) (ldr32 _ (b4 e k)))))
    (ow 3 2 (pay_o (ci := 3) (hd := 2) (Q := qq w H) (K := kk w H) (V := vv w H) (G := gg w H) (S := S) rfl (sld 3 2 (by norm_num) _ (qS14 e k hs)) (ld16 _ (b5 e k) (fun _ _ _ _ => trivial)) (R2.unflat (f := (fun ci i c => qq w H (128 * ci + i) c * (2 : ℝ) ^ cb (gg w H) ci i c)) 3 (ld16 _ (b10 e k) (fun _ _ _ _ => trivial))) (at2 3 2 (ld16 _ (b14 e k) (fun _ _ _ _ => trivial))) (ldr32 _ (b3 e k)) (ldr32 _ (b4 e k)))))
    (ow 3 3 (pay_o (ci := 3) (hd := 3) (Q := qq w H) (K := kk w H) (V := vv w H) (G := gg w H) (S := S) rfl (sld 3 3 (by norm_num) _ (qS15 e k hs)) (ld16 _ (b5 e k) (fun _ _ _ _ => trivial)) (R2.unflat (f := (fun ci i c => qq w H (128 * ci + i) c * (2 : ℝ) ^ cb (gg w H) ci i c)) 3 (ld16 _ (b10 e k) (fun _ _ _ _ => trivial))) (at2 3 3 (ld16 _ (b14 e k) (fun _ _ _ _ => trivial))) (ldr32 _ (b3 e k)) (ldr32 _ (b4 e k))))) (fun a b ha hb _ => by beta_reduce; omega)
variable (hc0 : ¬cond0_0 e.i) (hc1 : ¬cond0_1 e.i)
include hs hx hl hi in
theorem qMix : R2 (out0_B_13 (F := Ideal) e.c e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.arg18 e.harg18 e.arg19 e.harg19 e.arg20 e.harg20 e.arg21 e.harg21 e.arg22 e.harg22 e.arg23 e.harg23 e.arg24 e.harg24 e.arg25 e.harg25 e.arg26 e.harg26 e.arg27 e.harg27 e.arg28 e.harg28 e.arg29 e.harg29 e.arg30 e.harg30 e.arg31 e.harg31 e.arg32 e.harg32 e.arg33 e.harg33 hc0 hc1 e.x0 e.x1 e.x2 e.x3 e.x4 e.x5 e.x6 e.x7 e.x8 e.x9 e.x10 e.x11 e.x12 e.xo15 e.xs1) (fin w H (pl w l (ext (uu w H) X)) (ot (qq w H) (kk w H) (vv w H) (gg w H) S)) :=
  B2.all (out16 _ (B2.mono (B2.cols (st16 _ _) (B2.cols (st16 _ _) (B2.cols (st16 _ _) (B2.cols (st16 _ _) (B2.start0 _ _) (pay_fin (hd := 0) (pl := pl w l (ext (uu w H) X)) (o := (ot (qq w H) (kk w H) (vv w H) (gg w H) S)) (ld32 _ (qO e k hs) (fun _ _ _ _ => trivial)) (ld32 _ (qP e k hx hl hi) (fun _ _ _ _ => trivial)) (ar32 _ k.h7) (ld32 _ (b15 e k) (fun _ _ _ _ => trivial)) (ld32 _ (b15 e k) (fun _ _ _ _ => trivial)) (ld32 _ (b15 e k) (fun _ _ _ _ => trivial)))) (pay_fin (hd := 1) (pl := pl w l (ext (uu w H) X)) (o := (ot (qq w H) (kk w H) (vv w H) (gg w H) S)) (ld32 _ (qO e k hs) (fun _ _ _ _ => trivial)) (ld32 _ (qP e k hx hl hi) (fun _ _ _ _ => trivial)) (ar32 _ k.h7) (ld32 _ (b15 e k) (fun _ _ _ _ => trivial)) (ld32 _ (b15 e k) (fun _ _ _ _ => trivial)) (ld32 _ (b15 e k) (fun _ _ _ _ => trivial)))) (pay_fin (hd := 2) (pl := pl w l (ext (uu w H) X)) (o := (ot (qq w H) (kk w H) (vv w H) (gg w H) S)) (ld32 _ (qO e k hs) (fun _ _ _ _ => trivial)) (ld32 _ (qP e k hx hl hi) (fun _ _ _ _ => trivial)) (ar32 _ k.h7) (ld32 _ (b15 e k) (fun _ _ _ _ => trivial)) (ld32 _ (b15 e k) (fun _ _ _ _ => trivial)) (ld32 _ (b15 e k) (fun _ _ _ _ => trivial)))) (pay_fin (hd := 3) (pl := pl w l (ext (uu w H) X)) (o := (ot (qq w H) (kk w H) (vv w H) (gg w H) S)) (ld32 _ (qO e k hs) (fun _ _ _ _ => trivial)) (ld32 _ (qP e k hx hl hi) (fun _ _ _ _ => trivial)) (ar32 _ k.h7) (ld32 _ (b15 e k) (fun _ _ _ _ => trivial)) (ld32 _ (b15 e k) (fun _ _ _ _ => trivial)) (ld32 _ (b15 e k) (fun _ _ _ _ => trivial)))) (fun a b ha hb _ => by beta_reduce; omega))) (fun _ _ _ _ => trivial)
include hs in
theorem qSt : R4 (out0_B_15 (F := Ideal) e.c e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.arg18 e.harg18 e.arg19 e.harg19 e.arg20 e.harg20 e.arg21 e.harg21 e.arg22 e.harg22 e.arg23 e.harg23 e.arg24 e.harg24 e.arg25 e.harg25 e.arg26 e.harg26 e.arg27 e.harg27 e.arg28 e.harg28 e.arg29 e.harg29 e.arg30 e.harg30 e.arg31 e.harg31 e.arg32 e.harg32 e.arg33 e.harg33 hc0 hc1 e.x0 e.x1 e.x2 e.x3 e.x4 e.x5 e.x6 e.x7 e.x8 e.x9 e.x10 e.x11 e.x12 e.xo15 e.xs1) (fun _ => SS (kk w H) (vv w H) (gg w H) S 4) :=
  st_end (outS _ (B4.all (B4.step 3 3 (by norm_num) (st32 _ _) (qS15 e k hs) (pay_s (sld 3 3 (by norm_num) _ (qS15 e k hs)) (ld16 _ (b5 e k) (fun _ _ _ _ => trivial)) (R2.unflat (f := (fun ci i c => kk w H (128 * ci + i) c * (2 : ℝ) ^ (cb (gg w H) ci 127 c - cb (gg w H) ci i c))) 3 (ld16 _ (b11 e k) (fun _ _ _ _ => trivial))) (dld 3 (ld32 _ (b12 e k) (fun a b ha _ => by omega))) (zz0 (ar32 _ k.h12)))) (fun b _ => Or.inr trivial)))
include hx in
theorem qNx : R2 (sout0_B_1 (F := Ideal) e.c e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.arg18 e.harg18 e.arg19 e.harg19 e.arg20 e.harg20 e.arg21 e.harg21 e.arg22 e.harg22 e.arg23 e.harg23 e.arg24 e.harg24 e.arg25 e.harg25 e.arg26 e.harg26 e.arg27 e.harg27 e.arg28 e.harg28 e.arg29 e.harg29 e.arg30 e.harg30 e.arg31 e.harg31 e.arg32 e.harg32 e.arg33 e.harg33 hc0 hc1 e.x0 e.x1 e.x2 e.x3 e.x4 e.x5 e.x6 e.x7 e.x8 e.x9 e.x10 e.x11 e.x12 e.xo15 e.xs1) (fun a c => if 16 ≤ a ∧ a < 32 then (ext (uu w H) X) (512 + a) c else (ext (uu w H) X) a c) :=
  B2.all (E_next (stw _ _ _ _) (qEw e k hx) (R2.self ((ld32 _ (qE e k) (fun _ _ _ _ => by omega)).congr fun a b _ _ => by rw [Nat.zero_add]))) (fun _ _ _ _ => trivial)

end Cert.Tile

end
-- ==== Proof.RunA.lean ====
/-
  The carried buffers in a sequence's first tile.
-/
module

public import proofs.«01_k».proof.Proof.RunQ

@[expose] public section

set_option maxRecDepth 16384

noncomputable section

namespace Cert.Tile

open Idealize.ShloMosaic Idealize.ShloMosaic.TcCoe Idealize.SL.Sem Cert.KernelIdeal Cert.KernelIdeal.Gen Cert.Rep Cert.Spec Cert.Pay

variable (e : Env) {w : Wt} {H : ℕ → ℕ → ℝ} (k : Ok e w H)
abbrev AE := kernelRun0_A.sl.HS1_5 (F := Ideal) e.c e.arg2 e.harg2 e.arg3 e.harg3 e.arg4 e.harg4 e.arg18 e.x0 e.x1 e.x2
abbrev AT1 := kernelRun0_A.sl.HS2_1 (F := Ideal) e.c e.arg2 e.harg2 e.arg3 e.harg3 e.arg4 e.harg4 e.arg18 e.arg19 e.x0 e.x1 e.x2
abbrev AT2 := kernelRun0_A.sl.HS2_2 (F := Ideal) e.c e.arg2 e.harg2 e.arg3 e.harg3 e.arg4 e.harg4 e.arg18 e.arg19 e.x0 e.x1 e.x2
abbrev AT3 := kernelRun0_A.sl.HS2_3 (F := Ideal) e.c e.arg2 e.harg2 e.arg3 e.harg3 e.arg4 e.harg4 e.arg18 e.arg19 e.arg20 e.x0 e.x1 e.x2
abbrev AT4 := kernelRun0_A.sl.HS2_4 (F := Ideal) e.c e.arg2 e.harg2 e.arg3 e.harg3 e.arg4 e.harg4 e.arg18 e.arg19 e.arg20 e.x0 e.x1 e.x2
abbrev AT5 := kernelRun0_A.sl.HS2_5 (F := Ideal) e.c e.arg2 e.harg2 e.arg3 e.harg3 e.arg4 e.harg4 e.arg18 e.arg19 e.arg20 e.x0 e.x1 e.x2
abbrev AT6 := kernelRun0_A.sl.HS2_6 (F := Ideal) e.c e.arg2 e.harg2 e.arg3 e.harg3 e.arg4 e.harg4 e.arg18 e.arg19 e.arg20 e.x0 e.x1 e.x2
abbrev AP := kernelRun0_A.sl.HS8_4 (F := Ideal) e.c e.i e.arg2 e.harg2 e.arg3 e.harg3 e.arg4 e.harg4 e.arg10 e.harg10 e.arg11 e.harg11 e.arg18 e.arg19 e.arg20 e.x0 e.x1 e.x2 e.x8 e.x9
abbrev AO := kernelRun0_A.sl.HS7_16 (F := Ideal) e.c e.arg2 e.harg2 e.arg3 e.harg3 e.arg4 e.harg4 e.arg6 e.harg6 e.arg7 e.harg7 e.arg8 e.harg8 e.arg12 e.harg12 e.arg13 e.harg13 e.arg14 e.harg14 e.arg17 e.arg18 e.arg21 e.arg22 e.arg23 e.arg24 e.arg27 e.arg28 e.arg29 e.arg30 e.arg31 e.arg32 e.x0 e.x1 e.x2 e.x4 e.x5 e.x6 e.x10 e.x11 e.x12
abbrev AS1 := kernelRun0_A.sl.H15_1 (F := Ideal)
abbrev AS2 := kernelRun0_A.sl.H15_2 (F := Ideal) e.c e.arg2 e.harg2 e.arg3 e.harg3 e.arg4 e.harg4 e.arg6 e.harg6 e.arg7 e.harg7 e.arg8 e.harg8 e.arg12 e.harg12 e.arg14 e.harg14 e.arg17 e.arg18 e.arg22 e.arg23 e.arg24 e.arg29 e.arg30 e.x0 e.x1 e.x2 e.x4 e.x5 e.x6 e.x10 e.x12
abbrev AS3 := kernelRun0_A.sl.H15_3 (F := Ideal) e.c e.arg2 e.harg2 e.arg3 e.harg3 e.arg4 e.harg4 e.arg6 e.harg6 e.arg7 e.harg7 e.arg8 e.harg8 e.arg12 e.harg12 e.arg14 e.harg14 e.arg17 e.arg18 e.arg22 e.arg23 e.arg24 e.arg29 e.arg30 e.x0 e.x1 e.x2 e.x4 e.x5 e.x6 e.x10 e.x12
abbrev AS4 := kernelRun0_A.sl.H15_4 (F := Ideal) e.c e.arg2 e.harg2 e.arg3 e.harg3 e.arg4 e.harg4 e.arg6 e.harg6 e.arg7 e.harg7 e.arg8 e.harg8 e.arg12 e.harg12 e.arg14 e.harg14 e.arg17 e.arg18 e.arg22 e.arg23 e.arg24 e.arg29 e.arg30 e.x0 e.x1 e.x2 e.x4 e.x5 e.x6 e.x10 e.x12
abbrev AS5 := kernelRun0_A.sl.H15_5 (F := Ideal) e.c e.arg2 e.harg2 e.arg3 e.harg3 e.arg4 e.harg4 e.arg6 e.harg6 e.arg7 e.harg7 e.arg8 e.harg8 e.arg12 e.harg12 e.arg14 e.harg14 e.arg17 e.arg18 e.arg22 e.arg23 e.arg24 e.arg29 e.arg30 e.x0 e.x1 e.x2 e.x4 e.x5 e.x6 e.x10 e.x12
abbrev AS6 := kernelRun0_A.sl.H15_6 (F := Ideal) e.c e.arg2 e.harg2 e.arg3 e.harg3 e.arg4 e.harg4 e.arg6 e.harg6 e.arg7 e.harg7 e.arg8 e.harg8 e.arg12 e.harg12 e.arg14 e.harg14 e.arg17 e.arg18 e.arg22 e.arg23 e.arg24 e.arg29 e.arg30 e.x0 e.x1 e.x2 e.x4 e.x5 e.x6 e.x10 e.x12
abbrev AS7 := kernelRun0_A.sl.H15_7 (F := Ideal) e.c e.arg2 e.harg2 e.arg3 e.harg3 e.arg4 e.harg4 e.arg6 e.harg6 e.arg7 e.harg7 e.arg8 e.harg8 e.arg12 e.harg12 e.arg14 e.harg14 e.arg17 e.arg18 e.arg22 e.arg23 e.arg24 e.arg29 e.arg30 e.x0 e.x1 e.x2 e.x4 e.x5 e.x6 e.x10 e.x12
abbrev AS8 := kernelRun0_A.sl.H15_8 (F := Ideal) e.c e.arg2 e.harg2 e.arg3 e.harg3 e.arg4 e.harg4 e.arg6 e.harg6 e.arg7 e.harg7 e.arg8 e.harg8 e.arg12 e.harg12 e.arg14 e.harg14 e.arg17 e.arg18 e.arg22 e.arg23 e.arg24 e.arg29 e.arg30 e.x0 e.x1 e.x2 e.x4 e.x5 e.x6 e.x10 e.x12
abbrev AS9 := kernelRun0_A.sl.H15_9 (F := Ideal) e.c e.arg2 e.harg2 e.arg3 e.harg3 e.arg4 e.harg4 e.arg6 e.harg6 e.arg7 e.harg7 e.arg8 e.harg8 e.arg12 e.harg12 e.arg14 e.harg14 e.arg17 e.arg18 e.arg22 e.arg23 e.arg24 e.arg29 e.arg30 e.x0 e.x1 e.x2 e.x4 e.x5 e.x6 e.x10 e.x12
abbrev AS10 := kernelRun0_A.sl.H15_10 (F := Ideal) e.c e.arg2 e.harg2 e.arg3 e.harg3 e.arg4 e.harg4 e.arg6 e.harg6 e.arg7 e.harg7 e.arg8 e.harg8 e.arg12 e.harg12 e.arg14 e.harg14 e.arg17 e.arg18 e.arg22 e.arg23 e.arg24 e.arg29 e.arg30 e.x0 e.x1 e.x2 e.x4 e.x5 e.x6 e.x10 e.x12
abbrev AS11 := kernelRun0_A.sl.H15_11 (F := Ideal) e.c e.arg2 e.harg2 e.arg3 e.harg3 e.arg4 e.harg4 e.arg6 e.harg6 e.arg7 e.harg7 e.arg8 e.harg8 e.arg12 e.harg12 e.arg14 e.harg14 e.arg17 e.arg18 e.arg22 e.arg23 e.arg24 e.arg29 e.arg30 e.x0 e.x1 e.x2 e.x4 e.x5 e.x6 e.x10 e.x12
abbrev AS12 := kernelRun0_A.sl.H15_12 (F := Ideal) e.c e.arg2 e.harg2 e.arg3 e.harg3 e.arg4 e.harg4 e.arg6 e.harg6 e.arg7 e.harg7 e.arg8 e.harg8 e.arg12 e.harg12 e.arg14 e.harg14 e.arg17 e.arg18 e.arg22 e.arg23 e.arg24 e.arg29 e.arg30 e.x0 e.x1 e.x2 e.x4 e.x5 e.x6 e.x10 e.x12
abbrev AS13 := kernelRun0_A.sl.H15_13 (F := Ideal) e.c e.arg2 e.harg2 e.arg3 e.harg3 e.arg4 e.harg4 e.arg6 e.harg6 e.arg7 e.harg7 e.arg8 e.harg8 e.arg12 e.harg12 e.arg14 e.harg14 e.arg17 e.arg18 e.arg22 e.arg23 e.arg24 e.arg29 e.arg30 e.x0 e.x1 e.x2 e.x4 e.x5 e.x6 e.x10 e.x12
abbrev AS14 := kernelRun0_A.sl.H15_14 (F := Ideal) e.c e.arg2 e.harg2 e.arg3 e.harg3 e.arg4 e.harg4 e.arg6 e.harg6 e.arg7 e.harg7 e.arg8 e.harg8 e.arg12 e.harg12 e.arg14 e.harg14 e.arg17 e.arg18 e.arg22 e.arg23 e.arg24 e.arg29 e.arg30 e.x0 e.x1 e.x2 e.x4 e.x5 e.x6 e.x10 e.x12
abbrev AS15 := kernelRun0_A.sl.H15_15 (F := Ideal) e.c e.arg2 e.harg2 e.arg3 e.harg3 e.arg4 e.harg4 e.arg6 e.harg6 e.arg7 e.harg7 e.arg8 e.harg8 e.arg12 e.harg12 e.arg14 e.harg14 e.arg17 e.arg18 e.arg22 e.arg23 e.arg24 e.arg29 e.arg30 e.x0 e.x1 e.x2 e.x4 e.x5 e.x6 e.x10 e.x12
abbrev AS16 := kernelRun0_A.sl.H15_16 (F := Ideal) e.c e.arg2 e.harg2 e.arg3 e.harg3 e.arg4 e.harg4 e.arg6 e.harg6 e.arg7 e.harg7 e.arg8 e.harg8 e.arg12 e.harg12 e.arg14 e.harg14 e.arg17 e.arg18 e.arg22 e.arg23 e.arg24 e.arg29 e.arg30 e.x0 e.x1 e.x2 e.x4 e.x5 e.x6 e.x10 e.x12

variable (hi : ((e.i 1 : Fin _) : ℕ) = 0)

include k
theorem aE : B2 (View.canon (AE e)) (fun _ _ => True) (ext (uu w H) (fun _ _ => 0)) :=
  B2.mono (B2.colsE True (st32 _ _) (by norm_num) (B2.colsE True (st32 _ _) (by norm_num) (B2.colsE True (st32 _ _) (by norm_num) (B2.colsE True (st32 _ _) (by norm_num) (E_zero (st32 _ _) (R2.const c_zero)) (uE (pay_u (o := 0) (ld16z _ (b0 e k)) (ar16 _ k.h2)))) (uE (pay_u (o := 256) (ld16z _ (b0 e k)) (ar16 _ k.h2)))) (uE (pay_u (o := 512) (ld16z _ (b0 e k)) (ar16 _ k.h2)))) (uE (pay_u (o := 768) (ld16z _ (b0 e k)) (ar16 _ k.h2)))) (fun a b ha hb _ => (Nat.lt_or_ge a 32).elim (fun h => Or.inl ⟨trivial, h⟩) fun h => Or.inr ⟨h, by omega⟩)
theorem aT1 : B3 (View.canon (AT1 e)) (fun a b _ => a = 0 ∧ 24 ≤ b) (fun _ b c => win (ext (uu w H) (fun _ _ => 0)) 2 b (256 + c)) :=
  tput (g := fun b c => win (ext (uu w H) (fun _ _ => 0)) 2 b (256 + c)) (st32 _ _) (by norm_num) (R2.lift (win_two (E := (ext (uu w H) (fun _ _ => 0))) rfl (ld32 _ (aE e k) (fun _ _ _ _ => trivial)) (ld32 _ (aE e k) (fun _ _ _ _ => trivial))))
theorem aT2 : B3 (View.canon (AT2 e)) (fun a b _ => a = 0 ∧ 16 ≤ b) (fun _ b c => win (ext (uu w H) (fun _ _ => 0)) 2 b (512 + c)) :=
  tput (g := fun b c => win (ext (uu w H) (fun _ _ => 0)) 2 b (512 + c)) (st32 _ _) (by norm_num) (R2.lift (win_two (E := (ext (uu w H) (fun _ _ => 0))) rfl (ld32 _ (aE e k) (fun _ _ _ _ => trivial)) (ld32 _ (aE e k) (fun _ _ _ _ => trivial))))
theorem aT3 : B3 (View.canon (AT3 e)) (fun a b _ => a = 1 ∧ 24 ≤ b) (fun _ b c => win (ext (uu w H) (fun _ _ => 0)) 4 b (512 + c)) :=
  tput (g := fun b c => win (ext (uu w H) (fun _ _ => 0)) 4 b (512 + c)) (st32 _ _) (by norm_num) (R2.lift (win_dbl (E := (ext (uu w H) (fun _ _ => 0))) (N := 2) rfl (tld _ (aT2 e k)) (tld _ (aT2 e k))))
theorem aT4 : B3 (View.canon (AT4 e)) (fun a b _ => a = 0 ∧ 8 ≤ b) (fun _ b c => win (ext (uu w H) (fun _ _ => 0)) 2 b (768 + c)) :=
  tput (g := fun b c => win (ext (uu w H) (fun _ _ => 0)) 2 b (768 + c)) (st32 _ _) (by norm_num) (R2.lift (win_two (E := (ext (uu w H) (fun _ _ => 0))) rfl (ld32 _ (aE e k) (fun _ _ _ _ => trivial)) (ld32 _ (aE e k) (fun _ _ _ _ => trivial))))
theorem aT5 : B3 (View.canon (AT5 e)) (fun a b _ => a = 1 ∧ 16 ≤ b) (fun _ b c => win (ext (uu w H) (fun _ _ => 0)) 4 b (768 + c)) :=
  tput (g := fun b c => win (ext (uu w H) (fun _ _ => 0)) 4 b (768 + c)) (st32 _ _) (by norm_num) (R2.lift (win_dbl (E := (ext (uu w H) (fun _ _ => 0))) (N := 2) rfl (tld _ (aT4 e k)) (tld _ (aT4 e k))))
theorem aT6 : B3 (View.canon (AT6 e)) (fun a b _ => a = 2 ∧ 24 ≤ b) (fun _ b c => win (ext (uu w H) (fun _ _ => 0)) 8 b (768 + c)) :=
  tput (g := fun b c => win (ext (uu w H) (fun _ _ => 0)) 8 b (768 + c)) (st32 _ _) (by norm_num) (R2.lift (win_dbl (E := (ext (uu w H) (fun _ _ => 0))) (N := 4) rfl (tld _ (aT5 e k)) (tld _ (aT5 e k))))
include hi in
theorem aP : B2 (View.canon (AP e)) (fun _ _ => True) (pl w 0 (ext (uu w H) (fun _ _ => 0))) :=
  B2.mono (B2.cols (st32 _ _) (B2.cols (st32 _ _) (B2.cols (st32 _ _) (B2.cols (st32 _ _) (B2.start0 _ _) (pay_pool (w := w) (g := 0) (N := 2) (by norm_num) (by norm_num) (by norm_num) (pos (by norm_num) hi) rfl (win_two (E := (ext (uu w H) (fun _ _ => 0))) rfl (ld32 _ (aE e k) (fun _ _ _ _ => trivial)) (ld32 _ (aE e k) (fun _ _ _ _ => trivial))) (ld32 _ (aE e k) (fun _ _ _ _ => trivial)) (ar3_16 _ k.h8) (ar32 _ k.h9))) (pay_pool (w := w) (g := 1) (N := 4) (by norm_num) (by norm_num) (by norm_num) (pos (by norm_num) hi) rfl (win_dbl (E := (ext (uu w H) (fun _ _ => 0))) (N := 2) rfl (tld _ (aT1 e k)) (tld _ (aT1 e k))) (ld32 _ (aE e k) (fun _ _ _ _ => trivial)) (ar3_16 _ k.h8) (ar32 _ k.h9))) (pay_pool (w := w) (g := 2) (N := 8) (by norm_num) (by norm_num) (by norm_num) (pos (by norm_num) hi) rfl (win_dbl (E := (ext (uu w H) (fun _ _ => 0))) (N := 4) rfl (tld _ (aT3 e k)) (tld _ (aT3 e k))) (ld32 _ (aE e k) (fun _ _ _ _ => trivial)) (ar3_16 _ k.h8) (ar32 _ k.h9))) (pay_pool (w := w) (g := 3) (N := 16) (by norm_num) (by norm_num) (by norm_num) (pos (by norm_num) hi) rfl (win_dbl (E := (ext (uu w H) (fun _ _ => 0))) (N := 8) rfl (tld _ (aT6 e k)) (tld _ (aT6 e k))) (ld32 _ (aE e k) (fun _ _ _ _ => trivial)) (ar3_16 _ k.h8) (ar32 _ k.h9))) (fun a b ha hb _ => by beta_reduce; omega)
theorem aS1 : B4 (View.canon AS1) (fun _ => True) (SSn (kk w H) (vv w H) (gg w H) (fun _ _ _ => 0) 0) := B4.zero (st32 _ _) (fun x => EReal.coe_zero ▸ c_zero)
theorem aS2 : B4 (View.canon (AS2 e)) (fun _ => True) (SSn (kk w H) (vv w H) (gg w H) (fun _ _ _ => 0) 1) :=
  B4.all (B4.step 0 0 (by norm_num) (st32 _ _) (aS1 e k) (pay_s (sld 0 0 (by norm_num) _ (aS1 e k)) (ld16 _ (b5 e k) (fun _ _ _ _ => trivial)) (R2.unflat (f := (fun ci i c => kk w H (128 * ci + i) c * (2 : ℝ) ^ (cb (gg w H) ci 127 c - cb (gg w H) ci i c))) 0 (ld16 _ (b11 e k) (fun _ _ _ _ => trivial))) (dld 0 (ld32 _ (b12 e k) (fun a b ha _ => by omega))) (zz0 (ar32 _ k.h12)))) (fun b _ => Or.inr trivial)
theorem aS3 : B4 (View.canon (AS3 e)) (fun _ => True) (SSn (kk w H) (vv w H) (gg w H) (fun _ _ _ => 0) 2) :=
  B4.all (B4.step 0 1 (by norm_num) (st32 _ _) (aS2 e k) (pay_s (sld 0 1 (by norm_num) _ (aS2 e k)) (ld16 _ (b5 e k) (fun _ _ _ _ => trivial)) (R2.unflat (f := (fun ci i c => kk w H (128 * ci + i) c * (2 : ℝ) ^ (cb (gg w H) ci 127 c - cb (gg w H) ci i c))) 0 (ld16 _ (b11 e k) (fun _ _ _ _ => trivial))) (dld 0 (ld32 _ (b12 e k) (fun a b ha _ => by omega))) (zz0 (ar32 _ k.h12)))) (fun b _ => Or.inr trivial)
theorem aS4 : B4 (View.canon (AS4 e)) (fun _ => True) (SSn (kk w H) (vv w H) (gg w H) (fun _ _ _ => 0) 3) :=
  B4.all (B4.step 0 2 (by norm_num) (st32 _ _) (aS3 e k) (pay_s (sld 0 2 (by norm_num) _ (aS3 e k)) (ld16 _ (b5 e k) (fun _ _ _ _ => trivial)) (R2.unflat (f := (fun ci i c => kk w H (128 * ci + i) c * (2 : ℝ) ^ (cb (gg w H) ci 127 c - cb (gg w H) ci i c))) 0 (ld16 _ (b11 e k) (fun _ _ _ _ => trivial))) (dld 0 (ld32 _ (b12 e k) (fun a b ha _ => by omega))) (zz0 (ar32 _ k.h12)))) (fun b _ => Or.inr trivial)
theorem aS5 : B4 (View.canon (AS5 e)) (fun _ => True) (SSn (kk w H) (vv w H) (gg w H) (fun _ _ _ => 0) 4) :=
  B4.all (B4.step 0 3 (by norm_num) (st32 _ _) (aS4 e k) (pay_s (sld 0 3 (by norm_num) _ (aS4 e k)) (ld16 _ (b5 e k) (fun _ _ _ _ => trivial)) (R2.unflat (f := (fun ci i c => kk w H (128 * ci + i) c * (2 : ℝ) ^ (cb (gg w H) ci 127 c - cb (gg w H) ci i c))) 0 (ld16 _ (b11 e k) (fun _ _ _ _ => trivial))) (dld 0 (ld32 _ (b12 e k) (fun a b ha _ => by omega))) (zz0 (ar32 _ k.h12)))) (fun b _ => Or.inr trivial)
theorem aS6 : B4 (View.canon (AS6 e)) (fun _ => True) (SSn (kk w H) (vv w H) (gg w H) (fun _ _ _ => 0) 5) :=
  B4.all (B4.step 1 0 (by norm_num) (st32 _ _) (aS5 e k) (pay_s (sld 1 0 (by norm_num) _ (aS5 e k)) (ld16 _ (b5 e k) (fun _ _ _ _ => trivial)) (R2.unflat (f := (fun ci i c => kk w H (128 * ci + i) c * (2 : ℝ) ^ (cb (gg w H) ci 127 c - cb (gg w H) ci i c))) 1 (ld16 _ (b11 e k) (fun _ _ _ _ => trivial))) (dld 1 (ld32 _ (b12 e k) (fun a b ha _ => by omega))) (zz0 (ar32 _ k.h12)))) (fun b _ => Or.inr trivial)
theorem aS7 : B4 (View.canon (AS7 e)) (fun _ => True) (SSn (kk w H) (vv w H) (gg w H) (fun _ _ _ => 0) 6) :=
  B4.all (B4.step 1 1 (by norm_num) (st32 _ _) (aS6 e k) (pay_s (sld 1 1 (by norm_num) _ (aS6 e k)) (ld16 _ (b5 e k) (fun _ _ _ _ => trivial)) (R2.unflat (f := (fun ci i c => kk w H (128 * ci + i) c * (2 : ℝ) ^ (cb (gg w H) ci 127 c - cb (gg w H) ci i c))) 1 (ld16 _ (b11 e k) (fun _ _ _ _ => trivial))) (dld 1 (ld32 _ (b12 e k) (fun a b ha _ => by omega))) (zz0 (ar32 _ k.h12)))) (fun b _ => Or.inr trivial)
theorem aS8 : B4 (View.canon (AS8 e)) (fun _ => True) (SSn (kk w H) (vv w H) (gg w H) (fun _ _ _ => 0) 7) :=
  B4.all (B4.step 1 2 (by norm_num) (st32 _ _) (aS7 e k) (pay_s (sld 1 2 (by norm_num) _ (aS7 e k)) (ld16 _ (b5 e k) (fun _ _ _ _ => trivial)) (R2.unflat (f := (fun ci i c => kk w H (128 * ci + i) c * (2 : ℝ) ^ (cb (gg w H) ci 127 c - cb (gg w H) ci i c))) 1 (ld16 _ (b11 e k) (fun _ _ _ _ => trivial))) (dld 1 (ld32 _ (b12 e k) (fun a b ha _ => by omega))) (zz0 (ar32 _ k.h12)))) (fun b _ => Or.inr trivial)
theorem aS9 : B4 (View.canon (AS9 e)) (fun _ => True) (SSn (kk w H) (vv w H) (gg w H) (fun _ _ _ => 0) 8) :=
  B4.all (B4.step 1 3 (by norm_num) (st32 _ _) (aS8 e k) (pay_s (sld 1 3 (by norm_num) _ (aS8 e k)) (ld16 _ (b5 e k) (fun _ _ _ _ => trivial)) (R2.unflat (f := (fun ci i c => kk w H (128 * ci + i) c * (2 : ℝ) ^ (cb (gg w H) ci 127 c - cb (gg w H) ci i c))) 1 (ld16 _ (b11 e k) (fun _ _ _ _ => trivial))) (dld 1 (ld32 _ (b12 e k) (fun a b ha _ => by omega))) (zz0 (ar32 _ k.h12)))) (fun b _ => Or.inr trivial)
theorem aS10 : B4 (View.canon (AS10 e)) (fun _ => True) (SSn (kk w H) (vv w H) (gg w H) (fun _ _ _ => 0) 9) :=
  B4.all (B4.step 2 0 (by norm_num) (st32 _ _) (aS9 e k) (pay_s (sld 2 0 (by norm_num) _ (aS9 e k)) (ld16 _ (b5 e k) (fun _ _ _ _ => trivial)) (R2.unflat (f := (fun ci i c => kk w H (128 * ci + i) c * (2 : ℝ) ^ (cb (gg w H) ci 127 c - cb (gg w H) ci i c))) 2 (ld16 _ (b11 e k) (fun _ _ _ _ => trivial))) (dld 2 (ld32 _ (b12 e k) (fun a b ha _ => by omega))) (zz0 (ar32 _ k.h12)))) (fun b _ => Or.inr trivial)
theorem aS11 : B4 (View.canon (AS11 e)) (fun _ => True) (SSn (kk w H) (vv w H) (gg w H) (fun _ _ _ => 0) 10) :=
  B4.all (B4.step 2 1 (by norm_num) (st32 _ _) (aS10 e k) (pay_s (sld 2 1 (by norm_num) _ (aS10 e k)) (ld16 _ (b5 e k) (fun _ _ _ _ => trivial)) (R2.unflat (f := (fun ci i c => kk w H (128 * ci + i) c * (2 : ℝ) ^ (cb (gg w H) ci 127 c - cb (gg w H) ci i c))) 2 (ld16 _ (b11 e k) (fun _ _ _ _ => trivial))) (dld 2 (ld32 _ (b12 e k) (fun a b ha _ => by omega))) (zz0 (ar32 _ k.h12)))) (fun b _ => Or.inr trivial)
theorem aS12 : B4 (View.canon (AS12 e)) (fun _ => True) (SSn (kk w H) (vv w H) (gg w H) (fun _ _ _ => 0) 11) :=
  B4.all (B4.step 2 2 (by norm_num) (st32 _ _) (aS11 e k) (pay_s (sld 2 2 (by norm_num) _ (aS11 e k)) (ld16 _ (b5 e k) (fun _ _ _ _ => trivial)) (R2.unflat (f := (fun ci i c => kk w H (128 * ci + i) c * (2 : ℝ) ^ (cb (gg w H) ci 127 c - cb (gg w H) ci i c))) 2 (ld16 _ (b11 e k) (fun _ _ _ _ => trivial))) (dld 2 (ld32 _ (b12 e k) (fun a b ha _ => by omega))) (zz0 (ar32 _ k.h12)))) (fun b _ => Or.inr trivial)
theorem aS13 : B4 (View.canon (AS13 e)) (fun _ => True) (SSn (kk w H) (vv w H) (gg w H) (fun _ _ _ => 0) 12) :=
  B4.all (B4.step 2 3 (by norm_num) (st32 _ _) (aS12 e k) (pay_s (sld 2 3 (by norm_num) _ (aS12 e k)) (ld16 _ (b5 e k) (fun _ _ _ _ => trivial)) (R2.unflat (f := (fun ci i c => kk w H (128 * ci + i) c * (2 : ℝ) ^ (cb (gg w H) ci 127 c - cb (gg w H) ci i c))) 2 (ld16 _ (b11 e k) (fun _ _ _ _ => trivial))) (dld 2 (ld32 _ (b12 e k) (fun a b ha _ => by omega))) (zz0 (ar32 _ k.h12)))) (fun b _ => Or.inr trivial)
theorem aS14 : B4 (View.canon (AS14 e)) (fun _ => True) (SSn (kk w H) (vv w H) (gg w H) (fun _ _ _ => 0) 13) :=
  B4.all (B4.step 3 0 (by norm_num) (st32 _ _) (aS13 e k) (pay_s (sld 3 0 (by norm_num) _ (aS13 e k)) (ld16 _ (b5 e k) (fun _ _ _ _ => trivial)) (R2.unflat (f := (fun ci i c => kk w H (128 * ci + i) c * (2 : ℝ) ^ (cb (gg w H) ci 127 c - cb (gg w H) ci i c))) 3 (ld16 _ (b11 e k) (fun _ _ _ _ => trivial))) (dld 3 (ld32 _ (b12 e k) (fun a b ha _ => by omega))) (zz0 (ar32 _ k.h12)))) (fun b _ => Or.inr trivial)
theorem aS15 : B4 (View.canon (AS15 e)) (fun _ => True) (SSn (kk w H) (vv w H) (gg w H) (fun _ _ _ => 0) 14) :=
  B4.all (B4.step 3 1 (by norm_num) (st32 _ _) (aS14 e k) (pay_s (sld 3 1 (by norm_num) _ (aS14 e k)) (ld16 _ (b5 e k) (fun _ _ _ _ => trivial)) (R2.unflat (f := (fun ci i c => kk w H (128 * ci + i) c * (2 : ℝ) ^ (cb (gg w H) ci 127 c - cb (gg w H) ci i c))) 3 (ld16 _ (b11 e k) (fun _ _ _ _ => trivial))) (dld 3 (ld32 _ (b12 e k) (fun a b ha _ => by omega))) (zz0 (ar32 _ k.h12)))) (fun b _ => Or.inr trivial)
theorem aS16 : B4 (View.canon (AS16 e)) (fun _ => True) (SSn (kk w H) (vv w H) (gg w H) (fun _ _ _ => 0) 15) :=
  B4.all (B4.step 3 2 (by norm_num) (st32 _ _) (aS15 e k) (pay_s (sld 3 2 (by norm_num) _ (aS15 e k)) (ld16 _ (b5 e k) (fun _ _ _ _ => trivial)) (R2.unflat (f := (fun ci i c => kk w H (128 * ci + i) c * (2 : ℝ) ^ (cb (gg w H) ci 127 c - cb (gg w H) ci i c))) 3 (ld16 _ (b11 e k) (fun _ _ _ _ => trivial))) (dld 3 (ld32 _ (b12 e k) (fun a b ha _ => by omega))) (zz0 (ar32 _ k.h12)))) (fun b _ => Or.inr trivial)
theorem aS17 (hc0 : cond0_0 e.i) (hc1 : ¬cond0_1 e.i) : B4 (View.canon ((kernelRun0_A (F := Ideal) e.c e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.arg18 e.harg18 e.arg19 e.harg19 e.arg20 e.harg20 e.arg21 e.harg21 e.arg22 e.harg22 e.arg23 e.harg23 e.arg24 e.harg24 e.arg25 e.harg25 e.arg26 e.harg26 e.arg27 e.harg27 e.arg28 e.harg28 e.arg29 e.harg29 e.arg30 e.harg30 e.arg31 e.harg31 e.arg32 e.harg32 e.arg33 e.harg33 hc0 hc1 e.x0 e.x1 e.x2 e.x3 e.x4 e.x5 e.x6 e.x7 e.x8 e.x9 e.x10 e.x11 e.x12).2.2.1)) (fun _ => True) (SSn (kk w H) (vv w H) (gg w H) (fun _ _ _ => 0) 16) :=
  B4.all (B4.step 3 3 (by norm_num) (st32 _ _) (aS16 e k) (pay_s (sld 3 3 (by norm_num) _ (aS16 e k)) (ld16 _ (b5 e k) (fun _ _ _ _ => trivial)) (R2.unflat (f := (fun ci i c => kk w H (128 * ci + i) c * (2 : ℝ) ^ (cb (gg w H) ci 127 c - cb (gg w H) ci i c))) 3 (ld16 _ (b11 e k) (fun _ _ _ _ => trivial))) (dld 3 (ld32 _ (b12 e k) (fun a b ha _ => by omega))) (zz0 (ar32 _ k.h12)))) (fun b _ => Or.inr trivial)
theorem aO : B2 (View.canon (AO e)) (fun _ _ => True) (ot (qq w H) (kk w H) (vv w H) (gg w H) (fun _ _ _ => 0)) :=
  B2.mono (B2.grid (st32 _ _) (B2.grid (st32 _ _) (B2.grid (st32 _ _) (B2.grid (st32 _ _) (B2.nextRow (by norm_num) (B2.grid (st32 _ _) (B2.grid (st32 _ _) (B2.grid (st32 _ _) (B2.grid (st32 _ _) (B2.nextRow (by norm_num) (B2.grid (st32 _ _) (B2.grid (st32 _ _) (B2.grid (st32 _ _) (B2.grid (st32 _ _) (B2.nextRow (by norm_num) (B2.grid (st32 _ _) (B2.grid (st32 _ _) (B2.grid (st32 _ _) (B2.grid (st32 _ _) (B2.start _ _ _)
    (ow 0 0 (pay_o (ci := 0) (hd := 0) (Q := qq w H) (K := kk w H) (V := vv w H) (G := gg w H) (S := (fun _ _ _ => 0)) rfl (sld 0 0 (by norm_num) _ (aS1 e k)) (ld16 _ (b5 e k) (fun _ _ _ _ => trivial)) (R2.unflat (f := (fun ci i c => qq w H (128 * ci + i) c * (2 : ℝ) ^ cb (gg w H) ci i c)) 0 (ld16 _ (b10 e k) (fun _ _ _ _ => trivial))) (at2 0 0 (ld16 _ (b14 e k) (fun _ _ _ _ => trivial))) (ldr32 _ (b3 e k)) (ldr32 _ (b4 e k)))))
    (ow 0 1 (pay_o (ci := 0) (hd := 1) (Q := qq w H) (K := kk w H) (V := vv w H) (G := gg w H) (S := (fun _ _ _ => 0)) rfl (sld 0 1 (by norm_num) _ (aS2 e k)) (ld16 _ (b5 e k) (fun _ _ _ _ => trivial)) (R2.unflat (f := (fun ci i c => qq w H (128 * ci + i) c * (2 : ℝ) ^ cb (gg w H) ci i c)) 0 (ld16 _ (b10 e k) (fun _ _ _ _ => trivial))) (at2 0 1 (ld16 _ (b14 e k) (fun _ _ _ _ => trivial))) (ldr32 _ (b3 e k)) (ldr32 _ (b4 e k)))))
    (ow 0 2 (pay_o (ci := 0) (hd := 2) (Q := qq w H) (K := kk w H) (V := vv w H) (G := gg w H) (S := (fun _ _ _ => 0)) rfl (sld 0 2 (by norm_num) _ (aS3 e k)) (ld16 _ (b5 e k) (fun _ _ _ _ => trivial)) (R2.unflat (f := (fun ci i c => qq w H (128 * ci + i) c * (2 : ℝ) ^ cb (gg w H) ci i c)) 0 (ld16 _ (b10 e k) (fun _ _ _ _ => trivial))) (at2 0 2 (ld16 _ (b14 e k) (fun _ _ _ _ => trivial))) (ldr32 _ (b3 e k)) (ldr32 _ (b4 e k)))))
    (ow 0 3 (pay_o (ci := 0) (hd := 3) (Q := qq w H) (K := kk w H) (V := vv w H) (G := gg w H) (S := (fun _ _ _ => 0)) rfl (sld 0 3 (by norm_num) _ (aS4 e k)) (ld16 _ (b5 e k) (fun _ _ _ _ => trivial)) (R2.unflat (f := (fun ci i c => qq w H (128 * ci + i) c * (2 : ℝ) ^ cb (gg w H) ci i c)) 0 (ld16 _ (b10 e k) (fun _ _ _ _ => trivial))) (at2 0 3 (ld16 _ (b14 e k) (fun _ _ _ _ => trivial))) (ldr32 _ (b3 e k)) (ldr32 _ (b4 e k))))))
    (ow 1 0 (pay_o (ci := 1) (hd := 0) (Q := qq w H) (K := kk w H) (V := vv w H) (G := gg w H) (S := (fun _ _ _ => 0)) rfl (sld 1 0 (by norm_num) _ (aS5 e k)) (ld16 _ (b5 e k) (fun _ _ _ _ => trivial)) (R2.unflat (f := (fun ci i c => qq w H (128 * ci + i) c * (2 : ℝ) ^ cb (gg w H) ci i c)) 1 (ld16 _ (b10 e k) (fun _ _ _ _ => trivial))) (at2 1 0 (ld16 _ (b14 e k) (fun _ _ _ _ => trivial))) (ldr32 _ (b3 e k)) (ldr32 _ (b4 e k)))))
    (ow 1 1 (pay_o (ci := 1) (hd := 1) (Q := qq w H) (K := kk w H) (V := vv w H) (G := gg w H) (S := (fun _ _ _ => 0)) rfl (sld 1 1 (by norm_num) _ (aS6 e k)) (ld16 _ (b5 e k) (fun _ _ _ _ => trivial)) (R2.unflat (f := (fun ci i c => qq w H (128 * ci + i) c * (2 : ℝ) ^ cb (gg w H) ci i c)) 1 (ld16 _ (b10 e k) (fun _ _ _ _ => trivial))) (at2 1 1 (ld16 _ (b14 e k) (fun _ _ _ _ => trivial))) (ldr32 _ (b3 e k)) (ldr32 _ (b4 e k)))))
    (ow 1 2 (pay_o (ci := 1) (hd := 2) (Q := qq w H) (K := kk w H) (V := vv w H) (G := gg w H) (S := (fun _ _ _ => 0)) rfl (sld 1 2 (by norm_num) _ (aS7 e k)) (ld16 _ (b5 e k) (fun _ _ _ _ => trivial)) (R2.unflat (f := (fun ci i c => qq w H (128 * ci + i) c * (2 : ℝ) ^ cb (gg w H) ci i c)) 1 (ld16 _ (b10 e k) (fun _ _ _ _ => trivial))) (at2 1 2 (ld16 _ (b14 e k) (fun _ _ _ _ => trivial))) (ldr32 _ (b3 e k)) (ldr32 _ (b4 e k)))))
    (ow 1 3 (pay_o (ci := 1) (hd := 3) (Q := qq w H) (K := kk w H) (V := vv w H) (G := gg w H) (S := (fun _ _ _ => 0)) rfl (sld 1 3 (by norm_num) _ (aS8 e k)) (ld16 _ (b5 e k) (fun _ _ _ _ => trivial)) (R2.unflat (f := (fun ci i c => qq w H (128 * ci + i) c * (2 : ℝ) ^ cb (gg w H) ci i c)) 1 (ld16 _ (b10 e k) (fun _ _ _ _ => trivial))) (at2 1 3 (ld16 _ (b14 e k) (fun _ _ _ _ => trivial))) (ldr32 _ (b3 e k)) (ldr32 _ (b4 e k))))))
    (ow 2 0 (pay_o (ci := 2) (hd := 0) (Q := qq w H) (K := kk w H) (V := vv w H) (G := gg w H) (S := (fun _ _ _ => 0)) rfl (sld 2 0 (by norm_num) _ (aS9 e k)) (ld16 _ (b5 e k) (fun _ _ _ _ => trivial)) (R2.unflat (f := (fun ci i c => qq w H (128 * ci + i) c * (2 : ℝ) ^ cb (gg w H) ci i c)) 2 (ld16 _ (b10 e k) (fun _ _ _ _ => trivial))) (at2 2 0 (ld16 _ (b14 e k) (fun _ _ _ _ => trivial))) (ldr32 _ (b3 e k)) (ldr32 _ (b4 e k)))))
    (ow 2 1 (pay_o (ci := 2) (hd := 1) (Q := qq w H) (K := kk w H) (V := vv w H) (G := gg w H) (S := (fun _ _ _ => 0)) rfl (sld 2 1 (by norm_num) _ (aS10 e k)) (ld16 _ (b5 e k) (fun _ _ _ _ => trivial)) (R2.unflat (f := (fun ci i c => qq w H (128 * ci + i) c * (2 : ℝ) ^ cb (gg w H) ci i c)) 2 (ld16 _ (b10 e k) (fun _ _ _ _ => trivial))) (at2 2 1 (ld16 _ (b14 e k) (fun _ _ _ _ => trivial))) (ldr32 _ (b3 e k)) (ldr32 _ (b4 e k)))))
    (ow 2 2 (pay_o (ci := 2) (hd := 2) (Q := qq w H) (K := kk w H) (V := vv w H) (G := gg w H) (S := (fun _ _ _ => 0)) rfl (sld 2 2 (by norm_num) _ (aS11 e k)) (ld16 _ (b5 e k) (fun _ _ _ _ => trivial)) (R2.unflat (f := (fun ci i c => qq w H (128 * ci + i) c * (2 : ℝ) ^ cb (gg w H) ci i c)) 2 (ld16 _ (b10 e k) (fun _ _ _ _ => trivial))) (at2 2 2 (ld16 _ (b14 e k) (fun _ _ _ _ => trivial))) (ldr32 _ (b3 e k)) (ldr32 _ (b4 e k)))))
    (ow 2 3 (pay_o (ci := 2) (hd := 3) (Q := qq w H) (K := kk w H) (V := vv w H) (G := gg w H) (S := (fun _ _ _ => 0)) rfl (sld 2 3 (by norm_num) _ (aS12 e k)) (ld16 _ (b5 e k) (fun _ _ _ _ => trivial)) (R2.unflat (f := (fun ci i c => qq w H (128 * ci + i) c * (2 : ℝ) ^ cb (gg w H) ci i c)) 2 (ld16 _ (b10 e k) (fun _ _ _ _ => trivial))) (at2 2 3 (ld16 _ (b14 e k) (fun _ _ _ _ => trivial))) (ldr32 _ (b3 e k)) (ldr32 _ (b4 e k))))))
    (ow 3 0 (pay_o (ci := 3) (hd := 0) (Q := qq w H) (K := kk w H) (V := vv w H) (G := gg w H) (S := (fun _ _ _ => 0)) rfl (sld 3 0 (by norm_num) _ (aS13 e k)) (ld16 _ (b5 e k) (fun _ _ _ _ => trivial)) (R2.unflat (f := (fun ci i c => qq w H (128 * ci + i) c * (2 : ℝ) ^ cb (gg w H) ci i c)) 3 (ld16 _ (b10 e k) (fun _ _ _ _ => trivial))) (at2 3 0 (ld16 _ (b14 e k) (fun _ _ _ _ => trivial))) (ldr32 _ (b3 e k)) (ldr32 _ (b4 e k)))))
    (ow 3 1 (pay_o (ci := 3) (hd := 1) (Q := qq w H) (K := kk w H) (V := vv w H) (G := gg w H) (S := (fun _ _ _ => 0)) rfl (sld 3 1 (by norm_num) _ (aS14 e k)) (ld16 _ (b5 e k) (fun _ _ _ _ => trivial)) (R2.unflat (f := (fun ci i c => qq w H (128 * ci + i) c * (2 : ℝ) ^ cb (gg w H) ci i c)) 3 (ld16 _ (b10 e k) (fun _ _ _ _ => trivial))) (at2 3 1 (ld16 _ (b14 e k) (fun _ _ _ _ => trivial))) (ldr32 _ (b3 e k)) (ldr32 _ (b4 e k)))))
    (ow 3 2 (pay_o (ci := 3) (hd := 2) (Q := qq w H) (K := kk w H) (V := vv w H) (G := gg w H) (S := (fun _ _ _ => 0)) rfl (sld 3 2 (by norm_num) _ (aS15 e k)) (ld16 _ (b5 e k) (fun _ _ _ _ => trivial)) (R2.unflat (f := (fun ci i c => qq w H (128 * ci + i) c * (2 : ℝ) ^ cb (gg w H) ci i c)) 3 (ld16 _ (b10 e k) (fun _ _ _ _ => trivial))) (at2 3 2 (ld16 _ (b14 e k) (fun _ _ _ _ => trivial))) (ldr32 _ (b3 e k)) (ldr32 _ (b4 e k)))))
    (ow 3 3 (pay_o (ci := 3) (hd := 3) (Q := qq w H) (K := kk w H) (V := vv w H) (G := gg w H) (S := (fun _ _ _ => 0)) rfl (sld 3 3 (by norm_num) _ (aS16 e k)) (ld16 _ (b5 e k) (fun _ _ _ _ => trivial)) (R2.unflat (f := (fun ci i c => qq w H (128 * ci + i) c * (2 : ℝ) ^ cb (gg w H) ci i c)) 3 (ld16 _ (b10 e k) (fun _ _ _ _ => trivial))) (at2 3 3 (ld16 _ (b14 e k) (fun _ _ _ _ => trivial))) (ldr32 _ (b3 e k)) (ldr32 _ (b4 e k))))) (fun a b ha hb _ => by beta_reduce; omega)
variable (hc0 : cond0_0 e.i) (hc1 : ¬cond0_1 e.i)
include hi in
theorem aMix : R2 (out0_A_13 (F := Ideal) e.c e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.arg18 e.harg18 e.arg19 e.harg19 e.arg20 e.harg20 e.arg21 e.harg21 e.arg22 e.harg22 e.arg23 e.harg23 e.arg24 e.harg24 e.arg25 e.harg25 e.arg26 e.harg26 e.arg27 e.harg27 e.arg28 e.harg28 e.arg29 e.harg29 e.arg30 e.harg30 e.arg31 e.harg31 e.arg32 e.harg32 e.arg33 e.harg33 hc0 hc1 e.x0 e.x1 e.x2 e.x3 e.x4 e.x5 e.x6 e.x7 e.x8 e.x9 e.x10 e.x11 e.x12) (fin w H (pl w 0 (ext (uu w H) (fun _ _ => 0))) (ot (qq w H) (kk w H) (vv w H) (gg w H) (fun _ _ _ => 0))) :=
  B2.all (out16 _ (B2.mono (B2.cols (st16 _ _) (B2.cols (st16 _ _) (B2.cols (st16 _ _) (B2.cols (st16 _ _) (B2.start0 _ _) (pay_fin (hd := 0) (pl := pl w 0 (ext (uu w H) (fun _ _ => 0))) (o := (ot (qq w H) (kk w H) (vv w H) (gg w H) (fun _ _ _ => 0))) (ld32 _ (aO e k) (fun _ _ _ _ => trivial)) (ld32 _ (aP e k hi) (fun _ _ _ _ => trivial)) (ar32 _ k.h7) (ld32 _ (b15 e k) (fun _ _ _ _ => trivial)) (ld32 _ (b15 e k) (fun _ _ _ _ => trivial)) (ld32 _ (b15 e k) (fun _ _ _ _ => trivial)))) (pay_fin (hd := 1) (pl := pl w 0 (ext (uu w H) (fun _ _ => 0))) (o := (ot (qq w H) (kk w H) (vv w H) (gg w H) (fun _ _ _ => 0))) (ld32 _ (aO e k) (fun _ _ _ _ => trivial)) (ld32 _ (aP e k hi) (fun _ _ _ _ => trivial)) (ar32 _ k.h7) (ld32 _ (b15 e k) (fun _ _ _ _ => trivial)) (ld32 _ (b15 e k) (fun _ _ _ _ => trivial)) (ld32 _ (b15 e k) (fun _ _ _ _ => trivial)))) (pay_fin (hd := 2) (pl := pl w 0 (ext (uu w H) (fun _ _ => 0))) (o := (ot (qq w H) (kk w H) (vv w H) (gg w H) (fun _ _ _ => 0))) (ld32 _ (aO e k) (fun _ _ _ _ => trivial)) (ld32 _ (aP e k hi) (fun _ _ _ _ => trivial)) (ar32 _ k.h7) (ld32 _ (b15 e k) (fun _ _ _ _ => trivial)) (ld32 _ (b15 e k) (fun _ _ _ _ => trivial)) (ld32 _ (b15 e k) (fun _ _ _ _ => trivial)))) (pay_fin (hd := 3) (pl := pl w 0 (ext (uu w H) (fun _ _ => 0))) (o := (ot (qq w H) (kk w H) (vv w H) (gg w H) (fun _ _ _ => 0))) (ld32 _ (aO e k) (fun _ _ _ _ => trivial)) (ld32 _ (aP e k hi) (fun _ _ _ _ => trivial)) (ar32 _ k.h7) (ld32 _ (b15 e k) (fun _ _ _ _ => trivial)) (ld32 _ (b15 e k) (fun _ _ _ _ => trivial)) (ld32 _ (b15 e k) (fun _ _ _ _ => trivial)))) (fun a b ha hb _ => by beta_reduce; omega))) (fun _ _ _ _ => trivial)
theorem aSt : R4 (out0_A_15 (F := Ideal) e.c e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.arg18 e.harg18 e.arg19 e.harg19 e.arg20 e.harg20 e.arg21 e.harg21 e.arg22 e.harg22 e.arg23 e.harg23 e.arg24 e.harg24 e.arg25 e.harg25 e.arg26 e.harg26 e.arg27 e.harg27 e.arg28 e.harg28 e.arg29 e.harg29 e.arg30 e.harg30 e.arg31 e.harg31 e.arg32 e.harg32 e.arg33 e.harg33 hc0 hc1 e.x0 e.x1 e.x2 e.x3 e.x4 e.x5 e.x6 e.x7 e.x8 e.x9 e.x10 e.x11 e.x12) (fun _ => SS (kk w H) (vv w H) (gg w H) (fun _ _ _ => 0) 4) :=
  st_end (outS _ (aS17 e k hc0 hc1))
theorem aNx : R2 (sout0_A_1 (F := Ideal) e.c e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.arg18 e.harg18 e.arg19 e.harg19 e.arg20 e.harg20 e.arg21 e.harg21 e.arg22 e.harg22 e.arg23 e.harg23 e.arg24 e.harg24 e.arg25 e.harg25 e.arg26 e.harg26 e.arg27 e.harg27 e.arg28 e.harg28 e.arg29 e.harg29 e.arg30 e.harg30 e.arg31 e.harg31 e.arg32 e.harg32 e.arg33 e.harg33 hc0 hc1 e.x0 e.x1 e.x2 e.x3 e.x4 e.x5 e.x6 e.x7 e.x8 e.x9 e.x10 e.x11 e.x12) (fun a c => if 16 ≤ a ∧ a < 32 then (ext (uu w H) (fun _ _ => 0)) (512 + a) c else (ext (uu w H) (fun _ _ => 0)) a c) :=
  B2.all (out32 _ (E_next (st32 _ _) (aE e k) (R2.self ((ld32 _ (aE e k) (fun _ _ _ _ => trivial)).congr fun a b _ _ => by rw [Nat.zero_add])))) (fun _ _ _ _ => trivial)

end Cert.Tile

end
-- ==== Proof.RunC.lean ====
/-
  The last tile of a sequence.
-/
module

public import proofs.«01_k».proof.Proof.RunQ

@[expose] public section

set_option maxRecDepth 16384

noncomputable section

namespace Cert.Tile

open Idealize.ShloMosaic Idealize.ShloMosaic.TcCoe Idealize.SL.Sem Cert.KernelIdeal Cert.KernelIdeal.Gen Cert.Rep Cert.Spec Cert.Pay

variable (e : Env) {w : Wt} {H : ℕ → ℕ → ℝ} (k : Ok e w H)

variable {S : ℕ → ℕ → ℕ → ℝ} {X : ℕ → ℕ → ℝ} (hs : R4 e.xo15 (fun _ => S)) (hx : R2 e.xs1 X) {l : ℕ} (hl : l < 4) (hi : ((e.i 1 : Fin _) : ℕ) = l)

include k
variable (hc0 : ¬cond0_0 e.i) (hc1 : cond0_1 e.i)
include hs hx hl hi in
theorem cMix : R2 (out0_C_13 (F := Ideal) e.c e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.arg18 e.harg18 e.arg19 e.harg19 e.arg20 e.harg20 e.arg21 e.harg21 e.arg22 e.harg22 e.arg23 e.harg23 e.arg24 e.harg24 e.arg25 e.harg25 e.arg26 e.harg26 e.arg27 e.harg27 e.arg28 e.harg28 e.arg29 e.harg29 e.arg30 e.harg30 e.arg31 e.harg31 e.arg32 e.harg32 e.arg33 e.harg33 hc0 hc1 e.x0 e.x1 e.x2 e.x3 e.x4 e.x5 e.x6 e.x7 e.x8 e.x9 e.x10 e.x11 e.x12 e.xo15 e.xs1) (fin w H (pl w l (ext (uu w H) X)) (ot (qq w H) (kk w H) (vv w H) (gg w H) S)) :=
  B2.all (out16 _ (B2.mono (B2.cols (st16 _ _) (B2.cols (st16 _ _) (B2.cols (st16 _ _) (B2.cols (st16 _ _) (B2.start0 _ _) (pay_fin (hd := 0) (pl := pl w l (ext (uu w H) X)) (o := (ot (qq w H) (kk w H) (vv w H) (gg w H) S)) (ld32 _ (qO e k hs) (fun _ _ _ _ => trivial)) (ld32 _ (qP e k hx hl hi) (fun _ _ _ _ => trivial)) (ar32 _ k.h7) (ld32 _ (b15 e k) (fun _ _ _ _ => trivial)) (ld32 _ (b15 e k) (fun _ _ _ _ => trivial)) (ld32 _ (b15 e k) (fun _ _ _ _ => trivial)))) (pay_fin (hd := 1) (pl := pl w l (ext (uu w H) X)) (o := (ot (qq w H) (kk w H) (vv w H) (gg w H) S)) (ld32 _ (qO e k hs) (fun _ _ _ _ => trivial)) (ld32 _ (qP e k hx hl hi) (fun _ _ _ _ => trivial)) (ar32 _ k.h7) (ld32 _ (b15 e k) (fun _ _ _ _ => trivial)) (ld32 _ (b15 e k) (fun _ _ _ _ => trivial)) (ld32 _ (b15 e k) (fun _ _ _ _ => trivial)))) (pay_fin (hd := 2) (pl := pl w l (ext (uu w H) X)) (o := (ot (qq w H) (kk w H) (vv w H) (gg w H) S)) (ld32 _ (qO e k hs) (fun _ _ _ _ => trivial)) (ld32 _ (qP e k hx hl hi) (fun _ _ _ _ => trivial)) (ar32 _ k.h7) (ld32 _ (b15 e k) (fun _ _ _ _ => trivial)) (ld32 _ (b15 e k) (fun _ _ _ _ => trivial)) (ld32 _ (b15 e k) (fun _ _ _ _ => trivial)))) (pay_fin (hd := 3) (pl := pl w l (ext (uu w H) X)) (o := (ot (qq w H) (kk w H) (vv w H) (gg w H) S)) (ld32 _ (qO e k hs) (fun _ _ _ _ => trivial)) (ld32 _ (qP e k hx hl hi) (fun _ _ _ _ => trivial)) (ar32 _ k.h7) (ld32 _ (b15 e k) (fun _ _ _ _ => trivial)) (ld32 _ (b15 e k) (fun _ _ _ _ => trivial)) (ld32 _ (b15 e k) (fun _ _ _ _ => trivial)))) (fun a b ha hb _ => by beta_reduce; omega))) (fun _ _ _ _ => trivial)
include hs in
theorem cSt : R4 (out0_C_15 (F := Ideal) e.c e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.arg18 e.harg18 e.arg19 e.harg19 e.arg20 e.harg20 e.arg21 e.harg21 e.arg22 e.harg22 e.arg23 e.harg23 e.arg24 e.harg24 e.arg25 e.harg25 e.arg26 e.harg26 e.arg27 e.harg27 e.arg28 e.harg28 e.arg29 e.harg29 e.arg30 e.harg30 e.arg31 e.harg31 e.arg32 e.harg32 e.arg33 e.harg33 hc0 hc1 e.x0 e.x1 e.x2 e.x3 e.x4 e.x5 e.x6 e.x7 e.x8 e.x9 e.x10 e.x11 e.x12 e.xo15 e.xs1) (fun _ => SS (kk w H) (vv w H) (gg w H) S 4) :=
  st_end (outS _ (B4.all (B4.step 3 3 (by norm_num) (st32 _ _) (qS15 e k hs) (pay_s (sld 3 3 (by norm_num) _ (qS15 e k hs)) (ld16 _ (b5 e k) (fun _ _ _ _ => trivial)) (R2.unflat (f := (fun ci i c => kk w H (128 * ci + i) c * (2 : ℝ) ^ (cb (gg w H) ci 127 c - cb (gg w H) ci i c))) 3 (ld16 _ (b11 e k) (fun _ _ _ _ => trivial))) (dld 3 (ld32 _ (b12 e k) (fun a b ha _ => by omega))) (zz0 (ar32 _ k.h12)))) (fun b _ => Or.inr trivial)))
include hx in
theorem cNx : R2 (sout0_C_1 (F := Ideal) e.c e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.arg18 e.harg18 e.arg19 e.harg19 e.arg20 e.harg20 e.arg21 e.harg21 e.arg22 e.harg22 e.arg23 e.harg23 e.arg24 e.harg24 e.arg25 e.harg25 e.arg26 e.harg26 e.arg27 e.harg27 e.arg28 e.harg28 e.arg29 e.harg29 e.arg30 e.harg30 e.arg31 e.harg31 e.arg32 e.harg32 e.arg33 e.harg33 hc0 hc1 e.x0 e.x1 e.x2 e.x3 e.x4 e.x5 e.x6 e.x7 e.x8 e.x9 e.x10 e.x11 e.x12 e.xo15 e.xs1) (fun a c => if 16 ≤ a ∧ a < 32 then (ext (uu w H) X) (512 + a) c else (ext (uu w H) X) a c) :=
  B2.all (E_next (stw _ _ _ _) (qEw e k hx) (R2.self ((ld32 _ (qE e k) (fun _ _ _ _ => by omega)).congr fun a b _ _ => by rw [Nat.zero_add]))) (fun _ _ _ _ => trivial)
theorem cPool : R3 (out0_C_14 (F := Ideal) e.c e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.arg18 e.harg18 e.arg19 e.harg19 e.arg20 e.harg20 e.arg21 e.harg21 e.arg22 e.harg22 e.arg23 e.harg23 e.arg24 e.harg24 e.arg25 e.harg25 e.arg26 e.harg26 e.arg27 e.harg27 e.arg28 e.harg28 e.arg29 e.harg29 e.arg30 e.harg30 e.arg31 e.harg31 e.arg32 e.harg32 e.arg33 e.harg33 hc0 hc1 e.x0 e.x1 e.x2 e.x3 e.x4 e.x5 e.x6 e.x7 e.x8 e.x9 e.x10 e.x11 e.x12 e.xo15 e.xs1) (fun _ j c => (ext (uu w H) X) (529 + j) c) :=
  pool_end (ld32 (p := 15) (q := 1024) _ (qE e k) (fun _ _ _ _ => by omega))

end Cert.Tile

end
-- ==== Proof.Point.lean ====
/-
  The grid: what every point leaves, from what the point before it left; the three result arrays as real functions of
  the sequences' rows.
-/
module

public import proofs.«01_k».proof.Proof.Seq
public import proofs.«01_k».proof.Proof.Mask
public import proofs.«01_k».proof.Proof.RunA
public import proofs.«01_k».proof.Proof.RunC

@[expose] public section

set_option maxRecDepth 16384

noncomputable section

namespace Cert.Tile

open Idealize.ShloMosaic Idealize.ShloMosaic.TcCoe Idealize.SL.Sem Cert.KernelIdeal Cert.KernelIdeal.Gen Cert.KernelIdeal.Value Cert.Rep Cert.Spec Cert.Pay

/-! ## The tile's functions as pieces of the sequence's -/

section Seq
variable (w : Wt) (H : ℕ → ℕ → ℝ) (l : ℕ)

/-- The rows before tile `l` that the pool still reads. -/
def hist (U : ℕ → ℕ → ℝ) (l a c : ℕ) : ℝ := if 16 ≤ a ∧ a < 32 ∧ 32 ≤ 512 * l + a then U (512 * l + a - 32) c else 0

theorem pp_seq (U X : ℕ → ℕ → ℝ) (hX : ∀ a c, a < 32 → X a c = hist U l a c) (r c : ℕ) (hc : c < 1024) :
    pp l (ext (fun a => U (512 * l + a)) X) r c = ppq U (512 * l + r) c := by
  have hn : 2 ^ (c / 256 + 1) ≤ 16 := le_trans (Nat.pow_le_pow_right (by norm_num) (show c / 256 + 1 ≤ 4 by omega)) (by norm_num)
  unfold pp ppq win winq
  rw [Nat.add_assoc 1]
  congr 1
  · congr 1
    refine Finset.sum_congr rfl fun s hs => ?_
    have hs' := Finset.mem_range.mp hs
    unfold ext
    by_cases h : s ≤ r
    · rw [if_neg (by omega), if_pos (by omega)]
      exact congrArg (fun x => U x c) (by omega)
    · rw [if_pos (by omega), hX _ _ (by omega)]
      unfold hist
      by_cases h2 : s ≤ 512 * l + r
      · rw [if_pos (by omega), if_pos h2]
        exact congrArg (fun x => U x c) (by omega)
      · rw [if_neg (by omega), if_neg h2]
  · unfold ext
    rw [if_neg (by omega)]
    exact congrArg (fun x => U x c) (by omega)

theorem pl_seq (U X : ℕ → ℕ → ℝ) (hX : ∀ a c, a < 32 → X a c = hist U l a c) (r c : ℕ) (hc : c < 1024) :
    pl w l (ext (fun a => U (512 * l + a)) X) r c = plq w U (512 * l + r) c := by
  unfold pl plq
  congr 1
  refine Finset.sum_congr rfl fun j hj => ?_
  have hj' := Finset.mem_range.mp hj
  rw [pp_seq l U X hX r _ (by omega)]

theorem ot_seq (Q K V G : ℕ → ℕ → ℝ) (a c : ℕ) :
    ot (fun a => Q (512 * l + a)) (fun a => K (512 * l + a)) (fun a => V (512 * l + a)) (fun a => G (512 * l + a)) (St K V G (512 * l)) a c =
      otq Q K V G (512 * l + a) c := by
  unfold ot otq
  rw [oo_eq Q K V G (512 * l) (a / 128) (c / 256) (a % 128) (c % 256) (Nat.mod_lt _ (by norm_num)), Nat.div_add_mod]

variable {w H l}

theorem mix_conv {Y : (⟨2, ![512, 1024]⟩ : Shape).Idx → EReal} {X : ℕ → ℕ → ℝ} {S : ℕ → ℕ → ℕ → ℝ}
    (hX : ∀ a c, a < 32 → X a c = hist (uu w H) l a c) (hS : S = St (kk w H) (vv w H) (gg w H) (512 * l))
    (h : R2 Y (fin w (fun a => H (512 * l + a)) (pl w l (ext (uu w (fun a => H (512 * l + a))) X))
      (ot (qq w (fun a => H (512 * l + a))) (kk w (fun a => H (512 * l + a))) (vv w (fun a => H (512 * l + a))) (gg w (fun a => H (512 * l + a))) S))) :
    R2 Y (fun a c => mixq w H (512 * l + a) c) := h.congr fun a c _ hc => by
  subst hS
  have e := ot_seq l (qq w H) (kk w H) (vv w H) (gg w H)
  have e1 := pl_seq w l (uu w H) X hX a c hc
  unfold mixq fin
  rw [← e1]
  simp only [← e]
  rfl

theorem st_conv {Y : (⟨4, ![1, 4, 128, 256]⟩ : Shape).Idx → EReal} {S : ℕ → ℕ → ℕ → ℝ}
    (hS : S = St (kk w H) (vv w H) (gg w H) (512 * l))
    (h : R4 Y (fun _ => SS (kk w (fun a => H (512 * l + a))) (vv w (fun a => H (512 * l + a))) (gg w (fun a => H (512 * l + a))) S 4)) :
    R4 Y (fun _ => St (kk w H) (vv w H) (gg w H) (512 * (l + 1))) := by
  subst hS
  have e := SS_eq (kk w H) (vv w H) (gg w H) (512 * l) 4
  rw [show 512 * (l + 1) = 512 * l + 128 * 4 by ring, ← e]
  exact h

theorem nx_conv {Y : (⟨2, ![544, 1024]⟩ : Shape).Idx → EReal} {X : ℕ → ℕ → ℝ}
    (hX : ∀ a c, a < 32 → X a c = hist (uu w H) l a c)
    (h : R2 Y (fun a c => if 16 ≤ a ∧ a < 32 then ext (uu w (fun a => H (512 * l + a))) X (512 + a) c else ext (uu w (fun a => H (512 * l + a))) X a c)) :
    ∃ X', R2 Y X' ∧ ∀ a c, a < 32 → X' a c = hist (uu w H) (l + 1) a c := ⟨_, h, fun a c ha => by
  beta_reduce
  unfold hist
  by_cases h16 : 16 ≤ a
  · rw [if_pos ⟨h16, ha⟩, if_pos ⟨h16, ha, by omega⟩]
    unfold ext
    rw [if_neg (by omega)]
    show uu w H (512 * l + (512 + a - 32)) c = _
    exact congrArg (fun x => uu w H x c) (by omega)
  · rw [if_neg (by omega), if_neg (by omega)]
    unfold ext
    rw [if_pos ha, hX a c ha]
    unfold hist
    rw [if_neg (by omega)]⟩

theorem pool_conv {Y : (⟨3, ![1, 15, 1024]⟩ : Shape).Idx → EReal} {X : ℕ → ℕ → ℝ} (hl : l = 3)
    (h : R3 Y (fun _ j c => ext (uu w (fun a => H (512 * l + a))) X (529 + j) c)) :
    R3 Y (fun _ j c => uu w H (2033 + j) c) := h.congr fun _ j c _ _ _ => by
  subst hl
  unfold ext
  rw [if_neg (by omega)]
  show uu w H (512 * 3 + (529 + j - 32)) c = _
  exact congrArg (fun x => uu w H x c) (by omega)

end Seq

/-! ## The grid's points -/

variable (m : (a : Loc nD τ sig) → Buf (Elt Ideal) a) (c : Dev nD)

/-- The arguments hold the real arrays. -/
structure Held (w : Wt) (HH : ℕ → ℕ → ℝ) : Prop where
  a0 : R2 (m ((c : Thread nD τ).loc main_arg0)) HH
  a1 : R2 (m ((c : Thread nD τ).loc main_arg1)) w.MN
  a2 : R2 (m ((c : Thread nD τ).loc main_arg2)) w.WA
  a3 : R2 (m ((c : Thread nD τ).loc main_arg3)) w.WB
  a4 : R2 (m ((c : Thread nD τ).loc main_arg4)) w.WLR
  a5 : R2 (m ((c : Thread nD τ).loc main_arg5)) w.WGK
  a6 : R2 (m ((c : Thread nD τ).loc main_arg6)) w.BGK
  a7 : R2 (m ((c : Thread nD τ).loc main_arg7)) w.GN
  a8 : R3 (m ((c : Thread nD τ).loc main_arg8)) w.PW
  a9 : R2 (m ((c : Thread nD τ).loc main_arg9)) w.PS

/-- What a point hands to the next. -/
abbrev Acc := Vec Ideal S512x1024 .bf16 × Vec Ideal S1x15x1024 .f32 × Vec Ideal S1x4x128x256 .f32 × Vec Ideal S544x1024 .f32

/-- The tile's step at point `t`. -/
def env (t : Fin cfg0.N) (acc : Acc) : Env :=
  ⟨c, grid0.coords t, ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, ms0_15 t, hs0_15 t, scM0_0, Memref.isWhole_whole _, scM0_1, Memref.isWhole_whole _, scM0_2, Memref.isWhole_whole _, scM0_3, Memref.isWhole_whole _, scM0_4, Memref.isWhole_whole _, scM0_5, Memref.isWhole_whole _, scM0_6, Memref.isWhole_whole _, scM0_7, Memref.isWhole_whole _, scM0_8, Memref.isWhole_whole _, scM0_9, Memref.isWhole_whole _, scM0_10, Memref.isWhole_whole _, scM0_11, Memref.isWhole_whole _, scM0_12, Memref.isWhole_whole _, scM0_13, Memref.isWhole_whole _, scM0_14, Memref.isWhole_whole _, scM0_15, Memref.isWhole_whole _, iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, acc.2.2.1, acc.2.2.2⟩

theorem idx0 : ∀ t : Fin cfg0.N, win0_0.index t (0 : Fin 2) = t.val + 1 ∧ win0_0.index t (1 : Fin 2) = 0 :=
  (by decide +kernel : ∀ t : Fin grid0.N, _)

variable {m c} {w : Wt} {HH : ℕ → ℕ → ℝ}

/-- The sequence's rows. -/
abbrev rows (HH : ℕ → ℕ → ℝ) (b : ℕ) : ℕ → ℕ → ℝ := fun a => HH (512 + 2048 * b + a)

theorem blk_rows (k : Held m c w HH) (t : Fin cfg0.N) : R2 (iblk m c 0 t) (fun a => rows HH (t.val / 4) (512 * (t.val % 4) + a)) := fun a b => by
  obtain ⟨e0, e1⟩ := idx0 t
  have hN := lt_of_lt_of_eq t.isLt (show cfg0.N = 32 from N_0)
  show V m c main_arg0 (((cfg0.win 0).blk t).view.emb (ix2 a b)) = _
  rw [V_main_arg0]
  have ha := a.isLt
  have he : ((cfg0.win 0).blk t).view.emb (ix2 a b) = ix2 (⟨512 * (t.val + 1) + a.val, by omega⟩ : Fin 16896) b := by
    funext x; apply Fin.ext
    match x with
    | ⟨0, _⟩ => show win0_0.index t (0 : Fin 2) * 512 + 1 * a.val = 512 * (t.val + 1) + a.val; omega
    | ⟨1, _⟩ => show win0_0.index t (1 : Fin 2) * 1024 + 1 * b.val = b.val; omega
  rw [he]
  refine (k.a0 _ b).trans ?_
  show ((HH (512 * (t.val + 1) + a.val) b : ℝ) : EReal) = ((HH (512 + 2048 * (t.val / 4) + (512 * (t.val % 4) + a.val)) b : ℝ) : EReal)
  congr 2; omega

theorem blk1 (t : Fin cfg0.N) : iblk m c 1 t = V m c main_arg1 :=
  Memref.read_access_unit_zero (Elt Ideal) main_arg1 (funext fun (a : Fin 2) => by fin_cases a <;> rfl) _ _
theorem blk2 (t : Fin cfg0.N) : iblk m c 2 t = V m c main_arg2 :=
  Memref.read_access_unit_zero (Elt Ideal) main_arg2 (funext fun (a : Fin 2) => by fin_cases a <;> rfl) _ _
theorem blk3 (t : Fin cfg0.N) : iblk m c 3 t = V m c main_arg3 :=
  Memref.read_access_unit_zero (Elt Ideal) main_arg3 (funext fun (a : Fin 2) => by fin_cases a <;> rfl) _ _
theorem blk4 (t : Fin cfg0.N) : iblk m c 4 t = V m c main_arg4 :=
  Memref.read_access_unit_zero (Elt Ideal) main_arg4 (funext fun (a : Fin 2) => by fin_cases a <;> rfl) _ _
theorem blk5 (t : Fin cfg0.N) : iblk m c 5 t = V m c main_arg5 :=
  Memref.read_access_unit_zero (Elt Ideal) main_arg5 (funext fun (a : Fin 2) => by fin_cases a <;> rfl) _ _
theorem blk6 (t : Fin cfg0.N) : iblk m c 6 t = V m c main_arg6 :=
  Memref.read_access_unit_zero (Elt Ideal) main_arg6 (funext fun (a : Fin 2) => by fin_cases a <;> rfl) _ _
theorem blk7 (t : Fin cfg0.N) : iblk m c 7 t = V m c main_arg7 :=
  Memref.read_access_unit_zero (Elt Ideal) main_arg7 (funext fun (a : Fin 2) => by fin_cases a <;> rfl) _ _
theorem blk8 (t : Fin cfg0.N) : iblk m c 8 t = V m c main_arg8 :=
  Memref.read_access_unit_zero (Elt Ideal) main_arg8 (funext fun (a : Fin 3) => by fin_cases a <;> rfl) _ _
theorem blk9 (t : Fin cfg0.N) : iblk m c 9 t = V m c main_arg9 :=
  Memref.read_access_unit_zero (Elt Ideal) main_arg9 (funext fun (a : Fin 2) => by fin_cases a <;> rfl) _ _
theorem blk10 (t : Fin cfg0.N) : iblk m c 10 t = V m c main_v128 :=
  Memref.read_access_unit_zero (Elt Ideal) main_v128 (funext fun (a : Fin 2) => by fin_cases a <;> rfl) _ _
theorem blk11 (t : Fin cfg0.N) : iblk m c 11 t = V m c main_v129 :=
  Memref.read_access_unit_zero (Elt Ideal) main_v129 (funext fun (a : Fin 3) => by fin_cases a <;> rfl) _ _
theorem blk12 (t : Fin cfg0.N) : iblk m c 12 t = V m c main_v127 :=
  Memref.read_access_unit_zero (Elt Ideal) main_v127 (funext fun (a : Fin 2) => by fin_cases a <;> rfl) _ _

theorem R2.of {n q : ℕ} {X Y : (⟨2, ![n, q]⟩ : Shape).Idx → EReal} {f : ℕ → ℕ → ℝ} (h : X = Y) (k : R2 Y f) : R2 X f := h ▸ k
theorem R3.of {n q p : ℕ} {X Y : (⟨3, ![n, q, p]⟩ : Shape).Idx → EReal} {f : ℕ → ℕ → ℕ → ℝ} (h : X = Y) (k : R3 Y f) : R3 X f := h ▸ k

set_option maxHeartbeats 4000000 in
theorem ok_at (k : Held m c w HH) (t : Fin cfg0.N) (acc : Acc) (b l : ℕ) (hb : t.val / 4 = b) (hl : t.val % 4 = l) :
    Ok (env m c t acc) w (fun a => rows HH b (512 * l + a)) where
  h0 := by subst hb hl; exact blk_rows k t
  h1 := R2.of ((blk1 t).trans (V_main_arg1 m c)) k.a1
  h2 := R2.of ((blk2 t).trans (V_main_arg2 m c)) k.a2
  h3 := R2.of ((blk3 t).trans (V_main_arg3 m c)) k.a3
  h4 := R2.of ((blk4 t).trans (V_main_arg4 m c)) k.a4
  h5 := R2.of ((blk5 t).trans (V_main_arg5 m c)) k.a5
  h6 := R2.of ((blk6 t).trans (V_main_arg6 m c)) k.a6
  h7 := R2.of ((blk7 t).trans (V_main_arg7 m c)) k.a7
  h8 := R3.of ((blk8 t).trans (V_main_arg8 m c)) k.a8
  h9 := R2.of ((blk9 t).trans (V_main_arg9 m c)) k.a9
  h10 := R2.of (blk10 t) (Consts.tri_V m c)
  h11 := R3.of (blk11 t) (Consts.mk_V m c)
  h12 := R2.of (blk12 t) (Consts.eye_V m c)

end Cert.Tile

end
-- ==== Proof.Tiles.lean ====
/-
  One grid point's step, and the fold over the grid's points: what the three result arrays hold.
-/
module
public import proofs.«01_k».proof.Proof.Point
@[expose] public section
set_option maxRecDepth 16384
noncomputable section
namespace Cert.Tile
open Idealize.ShloMosaic Idealize.ShloMosaic.TcCoe Idealize.SL.Sem Cert.KernelIdeal Cert.KernelIdeal.Gen Cert.KernelIdeal.Value Cert.Rep Cert.Spec Cert.Pay
variable (m : (a : Loc nD τ sig) → Buf (Elt Ideal) a) (c : Dev nD)
variable {m c} {w : Wt} {HH : ℕ → ℕ → ℝ}

/-- What tile `l` of a sequence leaves. -/
structure Left (w : Wt) (H : ℕ → ℕ → ℝ) (l : ℕ) (acc : Acc) : Prop where
  mix : R2 acc.1 (fun a c => mixq w H (512 * l + a) c)
  st : R4 acc.2.2.1 (fun _ => St (kk w H) (vv w H) (gg w H) (512 * (l + 1)))
  nx : ∃ X, R2 acc.2.2.2 X ∧ ∀ a c, a < 32 → X a c = hist (uu w H) (l + 1) a c
  pool : l = 3 → R3 acc.2.1 (fun _ j c => uu w H (2033 + j) c)

theorem coord1 (t : Fin cfg0.N) : ((grid0.coords t 1 : Fin _) : ℕ) = t.val % 4 := by
  have e1 : (grid0.coords t 1).val = t.val / 1 % 4 := Pipeline.Grid.coords_val t 1 (by decide) rfl
  rw [e1, Nat.div_one]

theorem Left.of {w : Wt} {H : ℕ → ℕ → ℝ} {l : ℕ} {acc acc' : Acc} (h : acc = acc') (k : Left w H l acc') : Left w H l acc := h ▸ k

set_option maxHeartbeats 1000000 in
theorem step_A (k : Held m c w HH) (t : Fin cfg0.N) (acc : Acc) (b : ℕ) (hb : t.val / 4 = b) (h0 : t.val % 4 = 0) (h1 : ¬t.val % 4 = 3) :
    Left w (rows HH b) 0 (stAt0 m c t.val t.isLt acc) := by
  have ko := ok_at k t acc b 0 hb h0
  have hi := (coord1 t).trans h0
  have hc0 : cond0_0 (env m c t acc).i := (hcond0_0 t).mpr h0
  have hc1 : ¬cond0_1 (env m c t acc).i := fun h => h1 ((hcond0_1 t).mp h)
  have hX : ∀ a c, a < 32 → (fun _ _ => (0 : ℝ)) a c = hist (uu w (rows HH b)) 0 a c := fun a c ha => by
    unfold hist; rw [if_neg (by omega)]
  have q1 := mix_conv hX rfl (aMix (env m c t acc) ko hi hc0 hc1)
  have q2 := st_conv rfl (aSt (env m c t acc) ko hc0 hc1)
  have q3 := nx_conv hX (aNx (env m c t acc) ko hc0 hc1)
  dsimp only [env] at q1 q2 q3
  refine Left.of (stAt0_A m c t acc h0 h1) ?_
  constructor
  · dsimp only
    exact q1
  · dsimp only
    exact q2
  · dsimp only
    exact q3
  · exact fun h => absurd h (by norm_num)

set_option maxHeartbeats 1000000 in
theorem step_B (k : Held m c w HH) (t : Fin cfg0.N) (acc : Acc) (b l : ℕ) (hb : t.val / 4 = b) (htl : t.val % 4 = l) (h0 : ¬t.val % 4 = 0) (h1 : ¬t.val % 4 = 3)
    (hs : R4 acc.2.2.1 (fun _ => St (kk w (rows HH b)) (vv w (rows HH b)) (gg w (rows HH b)) (512 * l)))
    {X : ℕ → ℕ → ℝ} (hx : R2 acc.2.2.2 X) (hX : ∀ a c, a < 32 → X a c = hist (uu w (rows HH b)) l a c) :
    Left w (rows HH b) l (stAt0 m c t.val t.isLt acc) := by
  have ko := ok_at k t acc b l hb htl
  have hi := (coord1 t).trans htl
  have hl : l < 4 := by omega
  have hc0 : ¬cond0_0 (env m c t acc).i := fun h => h0 ((hcond0_0 t).mp h)
  have hc1 : ¬cond0_1 (env m c t acc).i := fun h => h1 ((hcond0_1 t).mp h)
  have q1 := mix_conv hX rfl (qMix (env m c t acc) ko hs hx hl hi hc0 hc1)
  have q2 := st_conv rfl (qSt (env m c t acc) ko hs hc0 hc1)
  have q3 := nx_conv hX (qNx (env m c t acc) ko hx hc0 hc1)
  dsimp only [env] at q1 q2 q3
  refine Left.of (stAt0_B m c t acc h0 h1) ?_
  constructor
  · dsimp only
    exact q1
  · dsimp only
    exact q2
  · dsimp only
    exact q3
  · exact fun h => absurd (htl.trans h) h1

set_option maxHeartbeats 1000000 in
theorem step_C (k : Held m c w HH) (t : Fin cfg0.N) (acc : Acc) (b l : ℕ) (hb : t.val / 4 = b) (htl : t.val % 4 = l) (h0 : ¬t.val % 4 = 0) (h1 : t.val % 4 = 3)
    (hs : R4 acc.2.2.1 (fun _ => St (kk w (rows HH b)) (vv w (rows HH b)) (gg w (rows HH b)) (512 * l)))
    {X : ℕ → ℕ → ℝ} (hx : R2 acc.2.2.2 X) (hX : ∀ a c, a < 32 → X a c = hist (uu w (rows HH b)) l a c) :
    Left w (rows HH b) l (stAt0 m c t.val t.isLt acc) := by
  have ko := ok_at k t acc b l hb htl
  have hi := (coord1 t).trans htl
  have hl : l < 4 := by omega
  have hc0 : ¬cond0_0 (env m c t acc).i := fun h => h0 ((hcond0_0 t).mp h)
  have hc1 : cond0_1 (env m c t acc).i := (hcond0_1 t).mpr h1
  have q1 := mix_conv hX rfl (cMix (env m c t acc) ko hs hx hl hi hc0 hc1)
  have q2 := st_conv rfl (cSt (env m c t acc) ko hs hc0 hc1)
  have q3 := nx_conv hX (cNx (env m c t acc) ko hx hc0 hc1)
  have q4 := fun h : l = 3 => pool_conv h (cPool (env m c t acc) ko (X := X) hc0 hc1)
  dsimp only [env] at q1 q2 q3 q4
  refine Left.of (stAt0_C m c t acc h0 h1) ?_
  constructor
  · dsimp only
    exact q1
  · dsimp only
    exact q2
  · dsimp only
    exact q3
  · dsimp only
    exact q4

theorem step (k : Held m c w HH) (t : Fin cfg0.N) (acc : Acc) (b l : ℕ) (hb : t.val / 4 = b) (htl : t.val % 4 = l)
    (hp : l ≠ 0 → Left w (rows HH b) (l - 1) acc) :
    Left w (rows HH b) l (stAt0 m c t.val t.isLt acc) := by
  by_cases h0 : t.val % 4 = 0
  · obtain rfl : l = 0 := htl.symm.trans h0
    exact step_A k t acc b hb h0 (by omega)
  · have hp' := hp (by omega)
    obtain ⟨X, hx, hX⟩ := hp'.nx
    have hs := hp'.st
    rw [show l - 1 + 1 = l by omega] at hs hX
    by_cases h1 : t.val % 4 = 3
    · exact step_C k t acc b l hb htl h0 h1 hs hx hX
    · exact step_B k t acc b l hb htl h0 h1 hs hx hX

theorem left_all (k : Held m c w HH) : ∀ (n : ℕ) (hn : n < cfg0.N), Left w (rows HH (n / 4)) (n % 4) (outsAt0 m c n hn)
  | 0, hn => by rw [outsAt0_zero]; exact step k ⟨0, hn⟩ _ 0 0 (Nat.zero_div 4) (Nat.zero_mod 4) fun h => absurd rfl h
  | n + 1, hn => by
    rw [outsAt0_succ]
    refine step k ⟨n + 1, hn⟩ _ _ _ rfl rfl fun h => ?_
    have ih := left_all k n (by omega)
    have e1 : n / 4 = (n + 1) / 4 := by omega
    have e2 : n % 4 = (n + 1) % 4 - 1 := by omega
    rw [e1, e2] at ih
    exact ih

theorem fold_left (k : Held m c w HH) (n : ℕ) (hn : 0 + n < cfg0.N) (b l : ℕ) (hl : l < 4) (e : n = 4 * b + l) :
    Left w (rows HH b) l (Pipeline.accAt (fun n h => stAt0 m c n h junk0) (stAt0 m c) 0 n hn) := by
  subst e
  have h := left_all k (4 * b + l) (by omega)
  rw [outsAt0_sweep, show (4 * b + l) / 4 = b by omega, show (4 * b + l) % 4 = l by omega] at h
  exact h

/-! ## The result arrays -/

theorem mix_arr (k : Held m c w HH) : R2 (G13 m c) (fun r j => mixq w (rows HH (r / 2048)) (r % 2048) j) := fun a b => by
  have ha := a.isLt; have hb := b.isLt
  have hp : pt13Of (ix2 a b) = 4 * (a.val / 2048) + a.val / 512 % 4 := by
    show 1 * (a.val / 512 - 0) + 1 * (b.val / 1024 - 0) = _
    omega
  have hN : cfg0.N = 32 := N_0
  unfold G13
  rw [dif_pos (by rw [hp, hN]; omega)]
  have h := (fold_left k (pt13Of (ix2 a b)) (by rw [hp, hN]; omega) (a.val / 2048) (a.val / 512 % 4) (by omega) hp).mix ⟨a.val % 512, by omega⟩ ⟨b.val % 1024, by omega⟩
  refine Eq.trans (congrArg _ ?_) (h.trans ?_)
  · funext x; match x with
    | ⟨0, _⟩ => rfl
    | ⟨1, _⟩ => rfl
  · show ((mixq w _ (512 * (a.val / 512 % 4) + a.val % 512) (b.val % 1024) : ℝ) : EReal) = ((mixq w _ (a.val % 2048) b.val : ℝ) : EReal)
    rw [Nat.mod_eq_of_lt hb]
    congr 2; omega

theorem pool_arr (k : Held m c w HH) : R3 (G14 m c) (fun s r j => uu w (rows HH s) (2033 + r) j) := fun s a b => by
  have hs := s.isLt; have ha := a.isLt; have hb := b.isLt
  have hp : pt14Of (ix3 s a b) = 4 * s.val + 3 := by
    show 4 * (1 * (s.val / 1 - 0) + 1 * (a.val / 15 - 0) + 1 * (b.val / 1024 - 0)) + 3 = _
    omega
  have hN : cfg0.N = 32 := N_0
  unfold G14
  rw [dif_pos (by rw [hp, hN]; omega)]
  have h := (fold_left k (pt14Of (ix3 s a b)) (by rw [hp, hN]; omega) s.val 3 (by omega) hp).pool rfl ⟨s.val % 1, by omega⟩ ⟨a.val % 15, by omega⟩ ⟨b.val % 1024, by omega⟩
  refine Eq.trans (congrArg _ ?_) (h.trans ?_)
  · funext x; match x with
    | ⟨0, _⟩ => rfl
    | ⟨1, _⟩ => rfl
    | ⟨2, _⟩ => rfl
  · show ((uu w _ (2033 + a.val % 15) (b.val % 1024) : ℝ) : EReal) = ((uu w _ (2033 + a.val) b.val : ℝ) : EReal)
    rw [Nat.mod_eq_of_lt hb, Nat.mod_eq_of_lt ha]

theorem state_arr (k : Held m c w HH) :
    R4 (G15 m c) (fun s => St (kk w (rows HH s)) (vv w (rows HH s)) (gg w (rows HH s)) 2048) := fun s h a b => by
  have hs := s.isLt; have hh := h.isLt; have ha := a.isLt; have hb := b.isLt
  have hp : pt15Of (ix4 s h a b) = 4 * s.val + 3 := by
    show 4 * (1 * (s.val / 1 - 0) + 1 * (h.val / 4 - 0) + 1 * (a.val / 128 - 0) + 1 * (b.val / 256 - 0)) + 3 = _
    omega
  have hN : cfg0.N = 32 := N_0
  unfold G15
  rw [dif_pos (by rw [hp, hN]; omega)]
  have q := (fold_left k (pt15Of (ix4 s h a b)) (by rw [hp, hN]; omega) s.val 3 (by omega) hp).st ⟨s.val % 1, by omega⟩ ⟨h.val % 4, by omega⟩ ⟨a.val % 128, by omega⟩ ⟨b.val % 256, by omega⟩
  refine Eq.trans (congrArg _ ?_) (q.trans ?_)
  · funext x; match x with
    | ⟨0, _⟩ => rfl
    | ⟨1, _⟩ => rfl
    | ⟨2, _⟩ => rfl
    | ⟨3, _⟩ => rfl
  · show ((St _ _ _ 2048 (h.val % 4) (a.val % 128) (b.val % 256) : ℝ) : EReal) = ((St _ _ _ 2048 h.val a.val b.val : ℝ) : EReal)
    rw [Nat.mod_eq_of_lt hh, Nat.mod_eq_of_lt ha, Nat.mod_eq_of_lt hb]

end Cert.Tile

end
-- ==== Proof.Ops.lean ====
/-
  The reference's operations on arrays of real numbers: what each makes of arrays given entry by entry.
-/
module

public import proofs.«01_k».proof.Proof.Seq
public import proofs.«01_k».proof.Proof.Rep
public import proofs.«01_k».proof.Proof.Gen.ReferenceIdeal.Run
public import Idealize.ShloMosaic.Lib.StableHlo.ReadAt

@[expose] public section

set_option maxRecDepth 16384

noncomputable section

namespace Cert.RefV

open Idealize.ShloMosaic Idealize.ShloMosaic.TcCoe Idealize.SL.Sem Cert.ReferenceIdeal Cert.ReferenceIdeal.Gen Cert.ReferenceIdeal.Value Cert.Rep Cert.Spec

/-- An array of reals, of any shape. -/
def RS {s : Shape} (X : s.Idx → EReal) (f : s.Idx → ℝ) : Prop := ∀ i, X i = ((f i : ℝ) : EReal)

section Shapes
variable {n m k l : ℕ}
theorem _root_.Cert.Rep.R1.rs {X : (⟨1, ![n]⟩ : Shape).Idx → EReal} {f : ℕ → ℝ} (h : R1 X f) : RS X (fun i => f (i 0).val) :=
  fun i => by
  have e := h (i 0)
  have hi : ix1 (i 0) = i := by funext a; fin_cases a; rfl
  exact (congrArg X hi).symm.trans e
theorem _root_.Cert.Rep.R2.rs {X : (⟨2, ![n, m]⟩ : Shape).Idx → EReal} {f : ℕ → ℕ → ℝ} (h : R2 X f) :
    RS X (fun i => f (i 0).val (i 1).val) := fun i => by
  have e := h (i 0) (i 1)
  have hi : ix2 (i 0) (i 1) = i := by funext a; fin_cases a <;> rfl
  exact (congrArg X hi).symm.trans e
theorem _root_.Cert.Rep.R3.rs {X : (⟨3, ![n, m, k]⟩ : Shape).Idx → EReal} {f : ℕ → ℕ → ℕ → ℝ} (h : R3 X f) :
    RS X (fun i => f (i 0).val (i 1).val (i 2).val) := fun i => by
  have e := h (i 0) (i 1) (i 2)
  have hi : ix3 (i 0) (i 1) (i 2) = i := by funext a; fin_cases a <;> rfl
  exact (congrArg X hi).symm.trans e
theorem _root_.Cert.Rep.R4.rs {X : (⟨4, ![n, m, k, l]⟩ : Shape).Idx → EReal} {f : ℕ → ℕ → ℕ → ℕ → ℝ} (h : R4 X f) :
    RS X (fun i => f (i 0).val (i 1).val (i 2).val (i 3).val) := fun i => by
  have e := h (i 0) (i 1) (i 2) (i 3)
  have hi : ix4 (i 0) (i 1) (i 2) (i 3) = i := by funext a; fin_cases a <;> rfl
  exact (congrArg X hi).symm.trans e
theorem RS.r1 {X : (⟨1, ![n]⟩ : Shape).Idx → EReal} {g} {f : ℕ → ℝ} (h : RS X g) (e : ∀ a : Fin n, g (ix1 a) = f a) : R1 X f :=
  fun a => (h _).trans (congrArg _ (e a))
theorem RS.r2 {X : (⟨2, ![n, m]⟩ : Shape).Idx → EReal} {g} {f : ℕ → ℕ → ℝ} (h : RS X g)
    (e : ∀ (a : Fin n) (b : Fin m), g (ix2 a b) = f a b) : R2 X f := fun a b => (h _).trans (congrArg _ (e a b))
theorem RS.r3 {X : (⟨3, ![n, m, k]⟩ : Shape).Idx → EReal} {g} {f : ℕ → ℕ → ℕ → ℝ} (h : RS X g)
    (e : ∀ (a : Fin n) (b : Fin m) (c : Fin k), g (ix3 a b c) = f a b c) : R3 X f := fun a b c => (h _).trans (congrArg _ (e a b c))
theorem RS.r4 {X : (⟨4, ![n, m, k, l]⟩ : Shape).Idx → EReal} {g} {f : ℕ → ℕ → ℕ → ℕ → ℝ} (h : RS X g)
    (e : ∀ (a : Fin n) (b : Fin m) (c : Fin k) (d : Fin l), g (ix4 a b c d) = f a b c d) : R4 X f :=
  fun a b c d => (h _).trans (congrArg _ (e a b c d))
end Shapes

section Pointwise
variable {s : Shape} {X Y : FVec Ideal s .f32} {f g : s.Idx → ℝ}

theorem RS.congr (h : RS X f) (e : ∀ i, f i = g i) : RS X g := fun i => (h i).trans (congrArg _ (e i))
theorem RS.mul (hX : RS X f) (hY : RS Y g) : RS (mulf X Y) (fun i => f i * g i) := fun i => by
  show X i * Y i = _
  rw [hX i, hY i, EReal.coe_mul]
theorem RS.add (hX : RS X f) (hY : RS Y g) : RS (addf X Y) (fun i => f i + g i) := fun i => by
  show X i + Y i = _
  rw [hX i, hY i, EReal.coe_add]
theorem RS.sub (hX : RS X f) (hY : RS Y g) : RS (subf X Y) (fun i => f i - g i) := fun i => by
  show X i - Y i = _
  rw [hX i, hY i, EReal.coe_sub]
theorem RS.div (hX : RS X f) (hY : RS Y g) (h0 : ∀ i, g i ≠ 0) : RS (Host.divf X Y) (fun i => f i * (1 / g i)) := fun i => by
  show Ideal.div (X i) (Y i) = _
  rw [hX i, hY i, Ideal.div_coe (h0 i), ← EReal.coe_mul]
theorem RS.neg (hX : RS X f) : RS (Host.negf X) (fun i => -f i) := fun i => by
  show -(X i) = _
  rw [hX i, EReal.coe_neg]
theorem RS.abs (hX : RS X f) : RS (Host.absf X) (fun i => |f i|) := fun i => by
  show max (X i) (-(X i)) = _
  rw [hX i, ← EReal.coe_neg]
  exact (EReal.coe_strictMono.monotone.map_max (a := f i) (b := -f i)).symm
theorem RS.max (hX : RS X f) (hY : RS Y g) : RS (maximumf X Y) (fun i => Max.max (f i) (g i)) := fun i => by
  show Max.max (X i) (Y i) = _
  rw [hX i, hY i]
  exact (EReal.coe_strictMono.monotone.map_max (a := f i) (b := g i)).symm
theorem RS.exp (hX : RS X f) : RS (Host.exp X) (fun i => Real.exp (f i)) := fun i => by
  show Ideal.exp (X i) = _
  rw [hX i]; rfl
theorem RS.log1p (hX : RS X f) (h0 : ∀ i, 0 < f i) : RS (Host.log1p X) (fun i => Real.log (1 + f i)) := fun i => by
  show Ideal.log1p (X i) = _
  rw [hX i, Ideal.log1p]
  have h : (1 : EReal) + ((f i : ℝ) : EReal) = ((1 + f i : ℝ) : EReal) := by push_cast; rfl
  rw [h]
  have h1 : ¬ (1 + f i) ≤ 0 := by have := h0 i; linarith
  rw [Ideal.log_coe, if_neg h1]
theorem RS.rsqrt (hX : RS X f) (h0 : ∀ i, 0 < f i) : RS (Host.rsqrt X) (fun i => (Real.sqrt (f i))⁻¹) := fun i => by
  show Ideal.rsqrt (X i) = _
  rw [hX i, Ideal.rsqrt_coe, if_neg (not_lt.mpr (h0 i).le), if_neg (h0 i).ne']
theorem RS.truncf {h : FTy.bf16.bits < FTy.f32.bits} (hX : RS X f) : RS (truncf .bf16 X h) f := hX
/-- An entry is never different from itself, so the second array is taken. -/
theorem RS.une {D : FVec Ideal s .f32} (hY : RS Y g) : RS (select (cmpf .une D D) X Y) g := fun i => by
  refine Eq.trans ?_ (hY i)
  show (select (cmpf .une D D) X Y) i = Y i
  pointwise
  simp
/-- A constant spread over an array. -/
theorem RS.const {b : BitVec 32} {x : ℝ} {h : S_.BroadcastsInDim s ![]} (e : Ideal.ofBits .f32 b = ((x : ℝ) : EReal)) :
    RS (broadcastInDim s ![] h (constant (F := Ideal) S_ .f32 b)) (fun _ => x) := fun _ => e

theorem ofBits_zero' : Ideal.ofBits .f32 0x00000000#32 = ((0 : ℝ) : EReal) := (Ideal.ofBits_zero .f32).trans EReal.coe_zero.symm

theorem sig_tanh (x : ℝ) : 1 * (1 / (1 + Real.exp (-x))) = 1 / 2 * Real.tanh (1 / 2 * x) + 1 / 2 := by
  have h : Real.exp (-x) = Real.exp (-(1 / 2 * x)) * Real.exp (-(1 / 2 * x)) := by rw [← Real.exp_add]; congr 1; ring
  rw [h, Real.tanh_eq_sinh_div_cosh, Real.sinh_eq, Real.cosh_eq, Real.exp_neg]
  have hp := Real.exp_pos (1 / 2 * x)
  field_simp
  ring
end Pointwise

theorem coe_rs (n : ℕ) (g : ℕ → ℝ) : ∑ k : Fin n, ((g k : ℝ) : EReal) = ((∑ k ∈ Finset.range n, g k : ℝ) : EReal) := by
  rw [Finset.sum_range, coe_sum]
theorem dot_rs (n : ℕ) {x y : Fin n → EReal} {f g : ℕ → ℝ} (hx : ∀ k, x k = ((f k : ℝ) : EReal)) (hy : ∀ k, y k = ((g k : ℝ) : EReal)) :
    ∑ k : Fin n, x k * y k = ((∑ k ∈ Finset.range n, f k * g k : ℝ) : EReal) := by
  rw [← coe_rs]
  exact Finset.sum_congr rfl fun k _ => (congrArg₂ (· * ·) (hx k) (hy k)).trans (EReal.coe_mul _ _).symm

section Layout
variable {f : ℕ → ℕ → ℝ} {g : ℕ → ℕ → ℕ → ℝ} {q : ℕ → ℕ → ℕ → ℕ → ℝ}

theorem rows_l {x : FVec Ideal S16896x1024 .f32} (hx : R2 x f) :
    R3 (shapeCast S8x2048x1024 (extractStridedSlice S16384x1024 ![512, 0] x slices_S16896x1024_S16384x1024_512_0) shapeCasts_S16384x1024_S8x2048x1024)
      (fun b a c => f (512 + (b * 2048 + a)) c) := fun b a c => by
  pointwise
  exact hx _ _
theorem sum_l {x : FVec Ideal S8x2048x1024 .f32} (hx : R3 x g) :
    R2 (Host.reduceAdd x (constant S_ .f32 0x00000000#32) reducesTo_S8x2048x1024_S8x2048_d2 h_S_)
      (fun b a => ∑ k ∈ Finset.range 1024, g b a k) := fun b a => by
  pointwise
  exact (Finset.sum_congr rfl fun k _ => hx b a k).trans (coe_rs 1024 _)
theorem sum4_l {x : FVec Ideal S8x2048x4x256 .f32} (hx : R4 x q) :
    R3 (Host.reduceAdd x (constant S_ .f32 0x00000000#32) reducesTo_S8x2048x4x256_S8x2048x4_d3 h_S_)
      (fun b a h => ∑ k ∈ Finset.range 256, q b a h k) := fun b a h => by
  pointwise
  exact (Finset.sum_congr rfl fun k _ => hx b a h k).trans (coe_rs 256 _)
theorem col_l {x : FVec Ideal S8x2048 .f32} (hx : R2 x f) :
    R3 (broadcastInDim S8x2048x1 ![0, 1] bcast_S8x2048_S8x2048x1_0_1 x) (fun b a _ => f b a) := fun b a c => by
  pointwise
  exact hx _ _
theorem wide_l {x : FVec Ideal S8x2048x1 .f32} (hx : R3 x g) :
    R3 (broadcastInDim S8x2048x1024 ![0, 1, 2] bcast_S8x2048x1_S8x2048x1024_0_1_2 x) (fun b a _ => g b a 0) := fun b a c => by
  pointwise
  exact hx _ _ _
theorem col4_l {x : FVec Ideal S8x2048x4 .f32} (hx : R3 x g) :
    R4 (broadcastInDim S8x2048x4x1 ![0, 1, 2] bcast_S8x2048x4_S8x2048x4x1_0_1_2 x) (fun b a h _ => g b a h) := fun b a h c => by
  pointwise
  exact hx _ _ _
theorem wide4_l {x : FVec Ideal S8x2048x4x1 .f32} (hx : R4 x q) :
    R4 (broadcastInDim S8x2048x4x256 ![0, 1, 2, 3] bcast_S8x2048x4x1_S8x2048x4x256_0_1_2_3 x) (fun b a h _ => q b a h 0) := fun b a h c => by
  pointwise
  exact hx _ _ _ _
theorem row_l {x : FVec Ideal S1x1024 .f32} (hx : R2 x f) :
    R3 (broadcastInDim S8x2048x1024 ![0, 1, 2] bcast_S1x1x1024_S8x2048x1024_0_1_2
      (broadcastInDim S1x1x1024 ![2] bcast_S1024_S1x1x1024_2 (shapeCast S1024 x shapeCasts_S1x1024_S1024))) (fun _ _ c => f 0 c) := fun b a c => by
  pointwise
  exact hx 0 _
theorem row5_l {x : FVec Ideal S1x512 .f32} (hx : R2 x f) :
    R3 (broadcastInDim S8x2048x512 ![0, 1, 2] bcast_S1x1x512_S8x2048x512_0_1_2
      (broadcastInDim S1x1x512 ![2] bcast_S512_S1x1x512_2 (shapeCast S512 x shapeCasts_S1x512_S512))) (fun _ _ c => f 0 c) := fun b a c => by
  pointwise
  exact hx 0 _
theorem row4_l {x : FVec Ideal S1x256 .f32} (hx : R2 x f) :
    R4 (broadcastInDim S8x2048x4x256 ![0, 1, 2, 3] bcast_S1x1x1x256_S8x2048x4x256_0_1_2_3
      (broadcastInDim S1x1x1x256 ![3] bcast_S256_S1x1x1x256_3 (shapeCast S256 x shapeCasts_S1x256_S256))) (fun _ _ _ c => f 0 c) := fun b a h c => by
  pointwise
  exact hx 0 _
theorem heads_l {x : FVec Ideal S8x2048x1024 .f32} (hx : R3 x g) :
    R4 (shapeCast S8x2048x4x256 x shapeCasts_S8x2048x1024_S8x2048x4x256) (fun b a h c => g b a (h * 256 + c)) := fun b a h c => by
  pointwise
  exact hx _ _ _
theorem unheads_l {x : FVec Ideal S8x2048x4x256 .f32} (hx : R4 x q) :
    R3 (shapeCast S8x2048x1024 x shapeCasts_S8x2048x4x256_S8x2048x1024) (fun b a c => q b a (c / 256) (c % 256)) := fun b a c => by
  pointwise
  exact hx _ _ _ _
theorem flat_l {x : FVec Ideal S8x2048x1024 .f32} (hx : R3 x g) :
    R2 (shapeCast S16384x1024 x shapeCasts_S8x2048x1024_S16384x1024) (fun r c => g (r / 2048) (r % 2048) c) := fun r c => by
  pointwise
  exact hx _ _ _
theorem turn_l {x : FVec Ideal S4x256x8x2048 .f32} (hx : R4 x q) :
    R4 (transpose S8x2048x4x256 [2, 3, 0, 1] x transposes_S4x256x8x2048_S8x2048x4x256_2_3_0_1) (fun b a h c => q h c b a) := fun b a h c => by
  pointwise
  exact hx _ _ _ _
theorem token_l {x : FVec Ideal S8x2048x512 .f32} (hx : R3 x g) :
    R4 (transpose S2048x8x4x128 [1, 0, 2, 3] (shapeCast S8x2048x4x128 x shapeCasts_S8x2048x512_S8x2048x4x128) transposes_S8x2048x4x128_S2048x8x4x128_1_0_2_3)
      (fun a b h c => g b a (h * 128 + c)) := fun a b h c => by
  pointwise
  exact hx _ _ _
theorem token2_l {x : FVec Ideal S8x2048x1024 .f32} (hx : R3 x g) :
    R4 (transpose S2048x8x4x256 [1, 0, 2, 3] (shapeCast S8x2048x4x256 x shapeCasts_S8x2048x1024_S8x2048x4x256) transposes_S8x2048x4x256_S2048x8x4x256_1_0_2_3)
      (fun a b h c => g b a (h * 256 + c)) := fun a b h c => by
  pointwise
  exact hx _ _ _
theorem untoken_l {x : FVec Ideal S2048x8x4x256 .f32} (hx : R4 x q) :
    R4 (transpose S8x2048x4x256 [1, 0, 2, 3] x transposes_S2048x8x4x256_S8x2048x4x256_1_0_2_3) (fun b a h c => q a b h c) := fun b a h c => by
  pointwise
  exact hx _ _ _ _
theorem hist_l {x : FVec Ideal S8x15x1024 .f32} {y : FVec Ideal S8x2048x1024 .f32} {g' : ℕ → ℕ → ℕ → ℝ} (hx : R3 x g') (hy : R3 y g) :
    R3 (concatenate S8x2063x1024 1 [⟨S8x15x1024, x⟩, ⟨S8x2048x1024, y⟩] concatenates_S8x15x1024_S8x2048x1024_S8x2063x1024_d1)
      (fun b a c => if a < 15 then g' b a c else g b (a - 15) c) := fun b a c => by
  pointwise
  by_cases h : (a : ℕ) < 15
  · rw [dif_pos h]
    simp only [if_pos h]
    exact hx _ _ _
  · rw [dif_neg h]
    simp only [if_neg h]
    exact hy _ _ _
theorem sums_l {x : FVec Ideal S8x1x1024 .f32} {y : FVec Ideal S8x2063x1024 .f32} {g' : ℕ → ℕ → ℕ → ℝ} (hx : R3 x g') (hy : R3 y g) :
    R3 (concatenate S8x2064x1024 1 [⟨S8x1x1024, x⟩, ⟨S8x2063x1024, y⟩] concatenates_S8x1x1024_S8x2063x1024_S8x2064x1024_d1)
      (fun b a c => if a < 1 then g' b a c else g b (a - 1) c) := fun b a c => by
  pointwise
  by_cases h : (a : ℕ) < 1
  · rw [dif_pos h]
    simp only [if_pos h]
    exact hx _ _ _
  · rw [dif_neg h]
    simp only [if_neg h]
    exact hy _ _ _
theorem _root_.Cert.Rep.R3.slice3 {n m k p q r o0 o1 o2 : ℕ} {X : (⟨3, ![n, m, k]⟩ : Shape).Idx → EReal}
    {h : (⟨3, ![n, m, k]⟩ : Shape).Slices ![o0, o1, o2] ⟨3, ![p, q, r]⟩}
    (hX : R3 X g) : R3 (extractStridedSlice ⟨3, ![p, q, r]⟩ ![o0, o1, o2] X h) (fun a b c => g (o0 + a) (o1 + b) (o2 + c)) := fun a b c => by
  have h0 : o0 + p ≤ n := h.2 0
  have h1 : o1 + q ≤ m := h.2 1
  have h2 : o2 + r ≤ k := h.2 2
  rw [extractStridedSlice_apply ![o0, o1, o2] X h (ix3 a b c)
    (ix3 (⟨o0 + a, by omega⟩ : Fin n) (⟨o1 + b, by omega⟩ : Fin m) (⟨o2 + c, by omega⟩ : Fin k)) (by
    intro c; fin_cases c <;> rfl)]
  exact hX _ _ _
/-- Four arrays side by side. -/
theorem cat4_l {X : Fin 4 → FVec Ideal S8x2048x256 .f32} {F : ℕ → ℕ → ℕ → ℕ → ℝ} (hX : ∀ i : Fin 4, R3 (X i) (F i))
    (h : Shape.Concatenates [S8x2048x256, S8x2048x256, S8x2048x256, S8x2048x256] S8x2048x1024 (2 : Fin 3)) :
    R3 (concatenate S8x2048x1024 (2 : Fin 3) [⟨S8x2048x256, X 0⟩, ⟨S8x2048x256, X 1⟩, ⟨S8x2048x256, X 2⟩, ⟨S8x2048x256, X 3⟩] h)
      (fun b a c => F (c / 256) b a (c % 256)) := fun b a c => by
  obtain ⟨i, r, hc⟩ : ∃ (i : Fin 4) (r : Fin 256), (c : ℕ) = 256 * i + r :=
    ⟨⟨c / 256, by omega⟩, ⟨c % 256, by omega⟩, by show (c : ℕ) = 256 * (c / 256) + c % 256; omega⟩
  have e1 : (c : ℕ) / 256 = i := by omega
  have e2 : (c : ℕ) % 256 = r := by omega
  show _ = ((F ((c : ℕ) / 256) b a ((c : ℕ) % 256) : ℝ) : EReal)
  rw [e1, e2, ← hX i b a r]
  refine concatenate_apply_piece (t := S8x2048x1024) (2 : Fin 3)
    [⟨S8x2048x256, X 0⟩, ⟨S8x2048x256, X 1⟩, ⟨S8x2048x256, X 2⟩, ⟨S8x2048x256, X 3⟩] h (ix3 b a c) i i.isLt S8x2048x256 (X i) ?_ rfl (256 * i) ?_ (ix3 b a r) ?_ ?_
  · fin_cases i <;> rfl
  · fin_cases i <;> rfl
  · intro d hd
    fin_cases d
    · rfl
    · rfl
    · exact absurd rfl hd
  · exact hc.symm
end Layout

section Dots
variable {f : ℕ → ℕ → ℝ} {g : ℕ → ℕ → ℕ → ℝ} {q : ℕ → ℕ → ℕ → ℕ → ℝ}

theorem dotA_l {x : FVec Ideal S8x2048x1024 .f32} {y : FVec Ideal S1024x3072 .f32} (hx : R3 x g) (hy : R2 y f) :
    R3 (Host.dotGeneral dot_S8x2048x1024_S1024x3072_S8x2048x3072_2_0_01_1_n_n none x y : FVec Ideal S8x2048x3072 .f32)
      (fun b a c => ∑ k ∈ Finset.range 1024, g b a k * f k c) := fun b a c => by
  pointwise
  exact dot_rs 1024 (f := fun k => g b a k) (g := fun k => f k c) (fun k => hx b a k) (fun k => hy k c)
theorem dotB_l {x : FVec Ideal S8x2048x1024 .f32} {y : FVec Ideal S1024x128 .f32} (hx : R3 x g) (hy : R2 y f) :
    R3 (Host.dotGeneral dot_S8x2048x1024_S1024x128_S8x2048x128_2_0_01_1_n_n none x y : FVec Ideal S8x2048x128 .f32)
      (fun b a c => ∑ k ∈ Finset.range 1024, g b a k * f k c) := fun b a c => by
  pointwise
  exact dot_rs 1024 (f := fun k => g b a k) (g := fun k => f k c) (fun k => hx b a k) (fun k => hy k c)
theorem dotC_l {x : FVec Ideal S8x2048x128 .f32} {y : FVec Ideal S128x512 .f32} (hx : R3 x g) (hy : R2 y f) :
    R3 (Host.dotGeneral dot_S8x2048x128_S128x512_S8x2048x512_2_0_01_1_n_n none x y : FVec Ideal S8x2048x512 .f32)
      (fun b a c => ∑ k ∈ Finset.range 128, g b a k * f k c) := fun b a c => by
  pointwise
  exact dot_rs 128 (f := fun k => g b a k) (g := fun k => f k c) (fun k => hx b a k) (fun k => hy k c)
theorem dotP_l {x : FVec Ideal S4x256x256 .f32} {y : FVec Ideal S8x2048x4x256 .f32} (hx : R3 x g) (hy : R4 y q) :
    R4 (Host.dotGeneral dot_S4x256x256_S8x2048x4x256_S4x256x8x2048_1_3_2_01_0_2 none x y : FVec Ideal S4x256x8x2048 .f32)
      (fun h d b a => ∑ k ∈ Finset.range 256, g h k d * q b a h k) := fun h d b a => by
  pointwise
  exact dot_rs 256 (f := fun k => g h k d) (g := fun k => q b a h k) (fun k => hx h k d) (fun k => hy b a h k)
theorem dotO_l {x : FVec Ideal S8x4x128 .f32} {y : FVec Ideal S8x4x128x256 .f32} (hx : R3 x g) (hy : R4 y q) :
    R3 (Host.dotGeneral dot_S8x4x128_S8x4x128x256_S8x4x256_2_2_n_3_01_01 none x y : FVec Ideal S8x4x256 .f32)
      (fun b h d => ∑ k ∈ Finset.range 128, g b h k * q b h k d) := fun b h d => by
  pointwise
  exact dot_rs 128 (f := fun k => g b h k) (g := fun k => q b h k d) (fun k => hx b h k) (fun k => hy b h k d)
end Dots

end Cert.RefV
end
-- ==== Proof.Ref1.lean ====
/-
  The reference's projections: the normalised rows and their products with the weights.
-/
module

public import proofs.«01_k».proof.Proof.Ops
public import proofs.«01_k».proof.Proof.Pay

@[expose] public section

set_option maxRecDepth 16384

noncomputable section

namespace Cert.RefV

open Idealize.ShloMosaic Idealize.ShloMosaic.TcCoe Idealize.SL.Sem Cert.ReferenceIdeal Cert.ReferenceIdeal.Gen Cert.ReferenceIdeal.Value Cert.Rep Cert.Spec Cert.Pay

/-- The reference's arguments as arrays of reals. -/
structure HeldV (V : Valuation τ sig (Elt Ideal)) (w : Wt) (HH : ℕ → ℕ → ℝ) : Prop where
  a0 : R2 (n := 16896) (m := 1024) (V main_arg0) HH
  a1 : R2 (n := 1) (m := 1024) (V main_arg1) w.MN
  a2 : R2 (n := 1024) (m := 3072) (V main_arg2) w.WA
  a3 : R2 (n := 1024) (m := 3072) (V main_arg3) w.WB
  a4 : R2 (n := 1024) (m := 128) (V main_arg4) w.WLR
  a5 : R2 (n := 128) (m := 512) (V main_arg5) w.WGK
  a6 : R2 (n := 1) (m := 512) (V main_arg6) w.BGK
  a7 : R2 (n := 1) (m := 256) (V main_arg7) w.GN
  a8 : R3 (n := 4) (m := 256) (k := 256) (V main_arg8) w.PW
  a9 : R2 (n := 1) (m := 1024) (V main_arg9) w.PS

/-- The rows of sequence `b`. -/
abbrev rws (HH : ℕ → ℕ → ℝ) (b : ℕ) : ℕ → ℕ → ℝ := fun a => HH (512 + 2048 * b + a)

variable {V : Valuation τ sig (Elt Ideal)} {w : Wt} {HH : ℕ → ℕ → ℝ}

/-- The normalised rows. -/
def xnT (A0 : FVec Ideal S16896x1024 .f32) (A1 : FVec Ideal S1x1024 .f32) : FVec Ideal S8x2048x1024 .f32 :=
  let X := shapeCast S8x2048x1024 (extractStridedSlice S16384x1024 ![512, 0] A0 slices_S16896x1024_S16384x1024_512_0) shapeCasts_S16384x1024_S8x2048x1024
  mulf (mulf X (broadcastInDim S8x2048x1024 ![0, 1, 2] bcast_S8x2048x1_S8x2048x1024_0_1_2 (Host.rsqrt (addf (Host.divf
      (broadcastInDim S8x2048x1 ![0, 1] bcast_S8x2048_S8x2048x1_0_1 (Host.reduceAdd (mulf X X) (constant S_ .f32 0x00000000#32) reducesTo_S8x2048x1024_S8x2048_d2 h_S_))
      (broadcastInDim S8x2048x1 ![] bcast_S_S8x2048x1 (constant S_ .f32 0x44800000#32))) (broadcastInDim S8x2048x1 ![] bcast_S_S8x2048x1 (constant S_ .f32 0x358637BD#32))))))
    (broadcastInDim S8x2048x1024 ![0, 1, 2] bcast_S1x1x1024_S8x2048x1024_0_1_2
      (broadcastInDim S1x1x1024 ![2] bcast_S1024_S1x1x1024_2 (shapeCast S1024 A1 shapeCasts_S1x1024_S1024)))

theorem xb_eq (b a c : ℕ) : rws HH b a c * (√((∑ j ∈ Finset.range 1024, rws HH b a j * rws HH b a j) * (1 / 1024) + eps))⁻¹ * w.MN 0 c =
    xb w (rws HH b) a c := by
  unfold xb
  rw [mul_one_div]

theorem xnT_r {A0 : FVec Ideal S16896x1024 .f32} {A1 : FVec Ideal S1x1024 .f32} (h0 : R2 A0 HH) (h1 : R2 A1 w.MN) :
    R3 (xnT A0 A1) (fun b a c => xb w (rws HH b) a c) := by
  have x6 : R3 _ (fun b a c => rws HH b a c) := (rows_l h0).rs.r3 fun b a c => by
    show HH (512 + ((b : ℕ) * 2048 + (a : ℕ))) c = HH (512 + 2048 * (b : ℕ) + (a : ℕ)) c
    congr 1; ring
  have x9 := sum_l (RS.r3 (f := fun b a c => rws HH b a c * rws HH b a c) (x6.rs.mul x6.rs) fun _ _ _ => rfl)
  have x14 := ((col_l x9).rs.div (RS.const (h := bcast_S_S8x2048x1) c_1024) fun _ => by norm_num).add (RS.const (h := bcast_S_S8x2048x1) c_eps)
  have pos : ∀ b a : ℕ, 0 < (∑ j ∈ Finset.range 1024, rws HH b a j * rws HH b a j) * (1 / 1024) + eps := fun b a =>
    add_pos_of_nonneg_of_pos (mul_nonneg (Finset.sum_nonneg fun j _ => mul_self_nonneg _) (by norm_num)) eps_pos
  have x16 := wide_l (RS.r3 (f := fun b a _ => (√((∑ j ∈ Finset.range 1024, rws HH b a j * rws HH b a j) * (1 / 1024) + eps))⁻¹)
    (x14.rsqrt fun _ => pos _ _) fun _ _ _ => rfl)
  have e : R3 _ (fun b a c => xb w (rws HH b) a c) := RS.r3 ((x6.rs.mul x16.rs).mul (row_l h1).rs) fun b a c => by
    exact xb_eq b a c
  exact e

/-- The products with a matrix: its columns from `o` on. -/
theorem pr_r {X : FVec Ideal S8x2048x1024 .f32} {Y : FVec Ideal S1024x3072 .f32} {W : ℕ → ℕ → ℝ}
    (hX : R3 X (fun b a c => xb w (rws HH b) a c)) (hY : R2 Y W) :
    R3 (Host.dotGeneral dot_S8x2048x1024_S1024x3072_S8x2048x3072_2_0_01_1_n_n none X Y : FVec Ideal S8x2048x3072 .f32)
      (fun b a c => pr w (rws HH b) W a c) := dotA_l hX hY

theorem v20_r (k : HeldV V w HH) : R3 (n := 8) (m := 2048) (k := 1024) (StableHlo.after hostOps0 V main_v20) (fun b a c => xb w (rws HH b) a c) := by
  after_reads_simp
  exact xnT_r k.a0 k.a1
theorem v23_r (k : HeldV V w HH) : R3 (n := 8) (m := 2048) (k := 1024) (StableHlo.after hostOps0 V main_v23) (fun b a c => uu w (rws HH b) a c) := by
  after_reads_simp
  exact ((pr_r (xnT_r k.a0 k.a1) (k.a2.extf bitsLt_bf16_f32)).slice3).congr fun b a c _ _ _ => by simp only [Nat.zero_add, uu]
theorem v24_r (k : HeldV V w HH) : R3 (n := 8) (m := 2048) (k := 512) (StableHlo.after hostOps0 V main_v24) (fun b a c => pr w (rws HH b) w.WA a (1024 + c)) := by
  after_reads_simp
  exact ((pr_r (xnT_r k.a0 k.a1) (k.a2.extf bitsLt_bf16_f32)).slice3).congr fun b a c _ _ _ => by simp only [Nat.zero_add]
theorem v25_r (k : HeldV V w HH) : R3 (n := 8) (m := 2048) (k := 512) (StableHlo.after hostOps0 V main_v25) (fun b a c => kk w (rws HH b) a c) := by
  after_reads_simp
  exact ((pr_r (xnT_r k.a0 k.a1) (k.a2.extf bitsLt_bf16_f32)).slice3).congr fun b a c _ _ _ => by simp only [Nat.zero_add, kk]
theorem v26_r (k : HeldV V w HH) : R3 (n := 8) (m := 2048) (k := 1024) (StableHlo.after hostOps0 V main_v26) (fun b a c => vv w (rws HH b) a c) := by
  after_reads_simp
  exact ((pr_r (xnT_r k.a0 k.a1) (k.a2.extf bitsLt_bf16_f32)).slice3).congr fun b a c _ _ _ => by simp only [Nat.zero_add, vv]
theorem v27_r (k : HeldV V w HH) : R3 (n := 8) (m := 2048) (k := 1024) (StableHlo.after hostOps0 V main_v27) (fun b a c => pr w (rws HH b) w.WB a c) := by
  after_reads_simp
  exact ((pr_r (xnT_r k.a0 k.a1) (k.a3.extf bitsLt_bf16_f32)).slice3).congr fun b a c _ _ _ => by simp only [Nat.zero_add]
theorem v28_r (k : HeldV V w HH) : R3 (n := 8) (m := 2048) (k := 1024) (StableHlo.after hostOps0 V main_v28) (fun b a c => pr w (rws HH b) w.WB a (1024 + c)) := by
  after_reads_simp
  exact ((pr_r (xnT_r k.a0 k.a1) (k.a3.extf bitsLt_bf16_f32)).slice3).congr fun b a c _ _ _ => by simp only [Nat.zero_add]
theorem v29_r (k : HeldV V w HH) : R3 (n := 8) (m := 2048) (k := 1024) (StableHlo.after hostOps0 V main_v29) (fun b a c => pr w (rws HH b) w.WB a (2048 + c)) := by
  after_reads_simp
  exact ((pr_r (xnT_r k.a0 k.a1) (k.a3.extf bitsLt_bf16_f32)).slice3).congr fun b a c _ _ _ => by simp only [Nat.zero_add]

/-- The rows of zeros before a sequence, then its rows. -/
def hst (w : Wt) (HH : ℕ → ℕ → ℝ) (b a c : ℕ) : ℝ := if a < 15 then 0 else uu w (rws HH b) (a - 15) c

theorem v31_r (k : HeldV V w HH) : R3 (n := 8) (m := 2063) (k := 1024) (StableHlo.after hostOps0 V main_v31) (hst w HH) := by
  have z : R3 (broadcastInDim S8x15x1024 ![] bcast_S_S8x15x1024 (constant (F := Ideal) S_ .f32 0x00000000#32)) (fun _ _ _ => 0) :=
    (RS.const c_zero).r3 fun _ _ _ => rfl
  have u := ((pr_r (xnT_r k.a0 k.a1) (k.a2.extf bitsLt_bf16_f32)).slice3 (h := slices_S8x2048x3072_S8x2048x1024_0_0_0)).congr
    (g := fun b a c => uu w (rws HH b) a c) fun b a c _ _ _ => by simp only [Nat.zero_add, uu]
  after_reads_simp
  exact hist_l z u
theorem v32_r : R3 (n := 8) (m := 1) (k := 1024) (StableHlo.after hostOps0 V main_v32) (fun _ _ _ => 0) := by
  after_reads_simp
  exact (RS.const c_zero).r3 fun _ _ _ => rfl
theorem v2_r (k : HeldV V w HH) : R2 (n := 1024) (m := 128) (StableHlo.after hostOps0 V main_v2) w.WLR := by
  after_reads_simp
  exact k.a4.extf bitsLt_bf16_f32
theorem v3_r (k : HeldV V w HH) : R2 (n := 128) (m := 512) (StableHlo.after hostOps0 V main_v3) w.WGK := by
  after_reads_simp
  exact k.a5.extf bitsLt_bf16_f32
theorem v4_r (k : HeldV V w HH) : R3 (n := 4) (m := 256) (k := 256) (StableHlo.after hostOps0 V main_v4) w.PW := by
  after_reads_simp
  exact k.a8

end Cert.RefV
end
-- ==== Proof.Ops2.lean ====
/-
  The reference's running sums, the slices and the updates of one token, and the window counts.
-/
module
public import proofs.«01_k».proof.Proof.Ops
@[expose] public section
set_option maxRecDepth 16384
noncomputable section
namespace Cert.RefV
open Idealize.ShloMosaic Idealize.ShloMosaic.TcCoe Idealize.SL.Sem Cert.ReferenceIdeal Cert.ReferenceIdeal.Gen Cert.ReferenceIdeal.Value Cert.Rep Cert.Spec
variable {f : ℕ → ℕ → ℝ} {g : ℕ → ℕ → ℕ → ℝ} {q q' : ℕ → ℕ → ℕ → ℕ → ℝ}

theorem foldl_add' {ι : Type} (F : ι → EReal) : ∀ (l : List ι) (v : EReal), l.foldl (fun r n => r + F n) v = v + (l.map F).sum
  | [], v => by simp
  | a :: l, v => by rw [List.foldl_cons, foldl_add' F l, List.map_cons, List.sum_cons, add_assoc]

theorem tail_sum (G : ℕ → ℝ) (N a : ℕ) (ha : a ≤ N) :
    ∑ n ∈ Finset.range (N + 1), (if N ≤ a + n then G (a + n - N) else 0) = ∑ i ∈ Finset.range (a + 1), G i := by
  rw [show N + 1 = (N - a) + (a + 1) by omega, Finset.sum_range_add, Finset.sum_eq_zero, zero_add]
  · refine Finset.sum_congr rfl fun i _ => ?_
    rw [if_pos (by omega)]
    congr 1; omega
  · intro n hn
    rw [Finset.mem_range] at hn
    rw [if_neg (by omega)]

theorem cum_piece {n N k : ℕ} {x : (⟨3, ![n, N + 1, k]⟩ : Shape).Idx → EReal} (hx : R3 x g) (b : Fin n) (a : Fin (N + 1)) (c : Fin k)
    (m : ℕ) (hm : m < N + 1) (p : Fin 3 → ℕ) (p0 : p 0 = b) (p1 : p 1 = a + m) (p2 : p 2 = c)
    {dec : Decidable (∀ d : Fin 3, (![0, N, 0] : Fin 3 → ℕ) d ≤ p d ∧ p d - (![0, N, 0] : Fin 3 → ℕ) d < (⟨3, ![n, N + 1, k]⟩ : Shape).size d)} :
    (if hin : ∀ d : Fin 3, (![0, N, 0] : Fin 3 → ℕ) d ≤ p d ∧ p d - (![0, N, 0] : Fin 3 → ℕ) d < (⟨3, ![n, N + 1, k]⟩ : Shape).size d
      then x (fun d => ⟨p d - (![0, N, 0] : Fin 3 → ℕ) d, (hin d).2⟩) else 0)
      = ((if N ≤ (a : ℕ) + m then g b ((a : ℕ) + m - N) c else 0 : ℝ) : EReal) := by
  have ha := a.isLt
  have hb := b.isLt
  have hc := c.isLt
  by_cases hl : N ≤ (a : ℕ) + m
  · rw [if_pos hl, dif_pos (fun d => by
      fin_cases d
      · show 0 ≤ p 0 ∧ p 0 - 0 < n
        omega
      · show N ≤ p 1 ∧ p 1 - N < N + 1
        omega
      · show 0 ≤ p 2 ∧ p 2 - 0 < k
        omega)]
    refine (congrArg x ?_).trans (hx b ⟨(a : ℕ) + m - N, by omega⟩ c)
    funext d
    fin_cases d
    · refine Fin.ext ?_
      show p 0 - 0 = b
      omega
    · refine Fin.ext ?_
      show p 1 - N = a + m - N
      omega
    · refine Fin.ext ?_
      show p 2 - 0 = c
      omega
  · rw [if_neg hl, dif_neg (fun hin => hl (by
      have := (hin 1).1
      change N ≤ p 1 at this
      omega))]
    exact EReal.coe_zero.symm
theorem cum_gen {n N k : ℕ} {x : (⟨3, ![n, N + 1, k]⟩ : Shape).Idx → EReal} {v : (⟨0, ![]⟩ : Shape).Idx → EReal}
    {lo hi : Fin 3 → ℕ} {hu : 0 < (⟨0, ![]⟩ : Shape).numel}
    (hlo : lo = ![0, N, 0]) {h : (⟨3, ![n, N + 1, k]⟩ : Shape).ReduceWindows ![1, N + 1, 1] ![1, 1, 1] lo hi (⟨3, ![n, N + 1, k]⟩ : Shape)}
    (hv : ∀ i, v i = 0) (hx : R3 x g) :
    R3 (Host.reduceWindow (· + ·) ![1, N + 1, 1] ![1, 1, 1] lo hi x v h hu : (⟨3, ![n, N + 1, k]⟩ : Shape).Idx → EReal)
      (fun b a c => ∑ i ∈ Finset.range (a + 1), g b i c) := fun b a c => by
  have hN : (⟨3, ![1, N + 1, 1]⟩ : Shape).numel = N + 1 := by simp [Shape.numel, Fin.prod_univ_succ]
  unfold Host.reduceWindow
  dsimp only
  rw [foldl_add', hv, zero_add, ← Fin.sum_univ_def]
  have ha := a.isLt
  have hb := b.isLt
  have hc := c.isLt
  refine Eq.trans (Finset.sum_congr rfl fun m _ => ?_) ((coe_rs (⟨3, ![1, N + 1, 1]⟩ : Shape).numel
    (fun m => if N ≤ (a : ℕ) + m then g b ((a : ℕ) + m - N) c else 0)).trans (congrArg _ ?_))
  · have h1 := Shape.rowMajor_val_three ((⟨3, ![1, N + 1, 1]⟩ : Shape).rowMajor.symm m)
    rw [Equiv.apply_symm_apply] at h1
    have i0 := ((⟨3, ![1, N + 1, 1]⟩ : Shape).rowMajor.symm m 0).isLt
    have i2 := ((⟨3, ![1, N + 1, 1]⟩ : Shape).rowMajor.symm m 2).isLt
    have hm : (m : ℕ) < N + 1 := lt_of_lt_of_eq m.isLt hN
    have p0 : ((⟨3, ![1, N + 1, 1]⟩ : Shape).rowMajor.symm m 0).val = 0 := Nat.lt_one_iff.mp i0
    have p2 : ((⟨3, ![1, N + 1, 1]⟩ : Shape).rowMajor.symm m 2).val = 0 := Nat.lt_one_iff.mp i2
    have p1 : ((⟨3, ![1, N + 1, 1]⟩ : Shape).rowMajor.symm m 1).val = m := by
      refine Eq.symm (h1.trans ?_)
      rw [p0, p2]
      show (0 * (N + 1) + _) * 1 + 0 = _
      omega
    subst hlo
    exact cum_piece hx b a c m hm (fun d => ((ix3 b a c) d).val * (![1, 1, 1] : Fin 3 → ℕ) d + ((⟨3, ![1, N + 1, 1]⟩ : Shape).rowMajor.symm m d).val)
      (by show (b : ℕ) * 1 + _ = _; rw [p0]; omega) (by show (a : ℕ) * 1 + _ = _; rw [p1]; omega) (by show (c : ℕ) * 1 + _ = _; rw [p2]; omega)
  · rw [hN]
    exact tail_sum (fun i => g b i c) N a (by omega)

/-- The running sums down the rows. -/
theorem cum_l {x : FVec Ideal S8x2063x1024 .f32} {v : FVec Ideal S_ .f32} (hv : ∀ i, v i = 0) (hx : R3 x g) :
    R3 (Host.reduceWindowAdd ![1, 2063, 1] ![1, 1, 1] ![0, 2062, 0] ![0, 0, 0] x v
      reduceWindows_S8x2063x1024_S8x2063x1024_w1s1p0_0_w2063s1p2062_0_w1s1p0_0 h_S_ : FVec Ideal S8x2063x1024 .f32)
      (fun b a c => ∑ i ∈ Finset.range (a + 1), g b i c) := by
  unfold Host.reduceWindowAdd
  rw [Ideal.hostReduceWindowAdd_def]
  unfold Ideal.hostReduceWindowAdd
  exact cum_gen (N := 2062) rfl (fun _ => hv _) hx

theorem iv_toInt (t : ℕ) (ht : t < 2048) : (Scf.iv 0#32 1#32 t).toInt = (t : ℤ) := by
  have h : Scf.iv 0#32 1#32 t = BitVec.ofNat 32 t := by simp [Scf.iv]
  rw [h, BitVec.toInt_ofNat']
  rw [Int.bmod_eq_of_le] <;> omega

theorem upd_l {x : FVec Ideal S2048x8x4x256 .f32} {u : FVec Ideal S1x8x4x256 .f32} {st : Fin 4 → ℤ} {h} (t : ℕ) (ht : t < 2048)
    (hs : ∀ l, st l = (![(t : ℤ), 0, 0, 0] : Fin 4 → ℤ) l) (hx : R4 x q) (hu : R4 u q') :
    R4 (Host.dynamicUpdateSlice x u st h) (fun a b c d => if a = t then q' 0 b c d else q a b c d) := fun a b c d => by
  have e0 := Host.clampedStart_of_le (s := S2048x8x4x256) (t := S1x8x4x256) h.1 st 0 t (hs 0) (by show t + 1 ≤ 2048; omega)
  have e1 := Host.clampedStart_of_le (s := S2048x8x4x256) (t := S1x8x4x256) h.1 st 1 0 (hs 1) (by show 0 + _ ≤ _; exact Nat.le_of_eq (by rfl))
  have e2 := Host.clampedStart_of_le (s := S2048x8x4x256) (t := S1x8x4x256) h.1 st 2 0 (hs 2) (by show 0 + _ ≤ _; exact Nat.le_of_eq (by rfl))
  have e3 := Host.clampedStart_of_le (s := S2048x8x4x256) (t := S1x8x4x256) h.1 st 3 0 (hs 3) (by show 0 + _ ≤ _; exact Nat.le_of_eq (by rfl))
  rw [Host.dynamicUpdateSlice_apply]
  by_cases hat : (a : ℕ) = t
  · simp only [if_pos hat]
    rw [dif_pos (fun l => by
      fin_cases l
      · show Host.clampedStart S2048x8x4x256 S1x8x4x256 h.1 st 0 ≤ (a : ℕ) ∧ (a : ℕ) < Host.clampedStart S2048x8x4x256 S1x8x4x256 h.1 st 0 + 1
        omega
      · show Host.clampedStart S2048x8x4x256 S1x8x4x256 h.1 st 1 ≤ (b : ℕ) ∧ (b : ℕ) < Host.clampedStart S2048x8x4x256 S1x8x4x256 h.1 st 1 + 8
        have := b.isLt; omega
      · show Host.clampedStart S2048x8x4x256 S1x8x4x256 h.1 st 2 ≤ (c : ℕ) ∧ (c : ℕ) < Host.clampedStart S2048x8x4x256 S1x8x4x256 h.1 st 2 + 4
        have := c.isLt; omega
      · show Host.clampedStart S2048x8x4x256 S1x8x4x256 h.1 st 3 ≤ (d : ℕ) ∧ (d : ℕ) < Host.clampedStart S2048x8x4x256 S1x8x4x256 h.1 st 3 + 256
        have := d.isLt; omega)]
    refine (congrArg u ?_).trans (hu 0 b c d)
    rw [Shape.Idx.norm_def]
    funext l
    refine Fin.ext ?_
    fin_cases l
    · show (a : ℕ) - Host.clampedStart S2048x8x4x256 S1x8x4x256 h.1 st 0 = 0
      omega
    · show (b : ℕ) - Host.clampedStart S2048x8x4x256 S1x8x4x256 h.1 st 1 = b
      omega
    · show (c : ℕ) - Host.clampedStart S2048x8x4x256 S1x8x4x256 h.1 st 2 = c
      omega
    · show (d : ℕ) - Host.clampedStart S2048x8x4x256 S1x8x4x256 h.1 st 3 = d
      omega
  · simp only [if_neg hat]
    rw [dif_neg (fun hin => hat (by
      have := hin 0
      change Host.clampedStart S2048x8x4x256 S1x8x4x256 h.1 st 0 ≤ (a : ℕ) ∧ (a : ℕ) < Host.clampedStart S2048x8x4x256 S1x8x4x256 h.1 st 0 + 1 at this
      omega))]
    exact hx a b c d
/-- The slice of one token. -/
theorem tok_l {x : FVec Ideal S2048x8x4x128 .f32} {st : Fin 4 → ℤ} (t : ℕ) (ht : t < 2048)
    (hs : ∀ l, st l = (![(t : ℤ), 0, 0, 0] : Fin 4 → ℤ) l) (hx : R4 x q) :
    R3 (shapeCast S8x4x128 (Host.dynamicSlice S1x8x4x128 x st sliceFits_S2048x8x4x128_S1x8x4x128) shapeCasts_S1x8x4x128_S8x4x128)
      (fun b c d => q t b c d) := fun b c d => by
  have e0 := Host.clampedStart_of_le (s := S2048x8x4x128) (t := S1x8x4x128) rfl st 0 t (hs 0) (by show t + 1 ≤ 2048; omega)
  have e1 := Host.clampedStart_of_le (s := S2048x8x4x128) (t := S1x8x4x128) rfl st 1 0 (hs 1) (by show 0 + _ ≤ _; exact Nat.le_of_eq (by rfl))
  have e2 := Host.clampedStart_of_le (s := S2048x8x4x128) (t := S1x8x4x128) rfl st 2 0 (hs 2) (by show 0 + _ ≤ _; exact Nat.le_of_eq (by rfl))
  have e3 := Host.clampedStart_of_le (s := S2048x8x4x128) (t := S1x8x4x128) rfl st 3 0 (hs 3) (by show 0 + _ ≤ _; exact Nat.le_of_eq (by rfl))
  pointwise
  simp only [e0, e1, e2, e3, Nat.zero_add]
  exact hx ⟨t, ht⟩ b c d
theorem tok2_l {x : FVec Ideal S2048x8x4x256 .f32} {st : Fin 4 → ℤ} (t : ℕ) (ht : t < 2048)
    (hs : ∀ l, st l = (![(t : ℤ), 0, 0, 0] : Fin 4 → ℤ) l) (hx : R4 x q) :
    R3 (shapeCast S8x4x256 (Host.dynamicSlice S1x8x4x256 x st sliceFits_S2048x8x4x256_S1x8x4x256) shapeCasts_S1x8x4x256_S8x4x256)
      (fun b c d => q t b c d) := fun b c d => by
  have e0 := Host.clampedStart_of_le (s := S2048x8x4x256) (t := S1x8x4x256) rfl st 0 t (hs 0) (by show t + 1 ≤ 2048; omega)
  have e1 := Host.clampedStart_of_le (s := S2048x8x4x256) (t := S1x8x4x256) rfl st 1 0 (hs 1) (by show 0 + _ ≤ _; exact Nat.le_of_eq (by rfl))
  have e2 := Host.clampedStart_of_le (s := S2048x8x4x256) (t := S1x8x4x256) rfl st 2 0 (hs 2) (by show 0 + _ ≤ _; exact Nat.le_of_eq (by rfl))
  have e3 := Host.clampedStart_of_le (s := S2048x8x4x256) (t := S1x8x4x256) rfl st 3 0 (hs 3) (by show 0 + _ ≤ _; exact Nat.le_of_eq (by rfl))
  pointwise
  simp only [e0, e1, e2, e3, Nat.zero_add]
  exact hx ⟨t, ht⟩ b c d
theorem keyw_l {x : FVec Ideal S8x4x128 .f32} (hx : R3 x g) :
    R4 (broadcastInDim S8x4x128x256 ![0, 1, 2, 3] bcast_S8x4x128x1_S8x4x128x256_0_1_2_3 (broadcastInDim S8x4x128x1 ![0, 1, 2] bcast_S8x4x128_S8x4x128x1_0_1_2 x))
      (fun b h k _ => g b h k) := fun b h k d => by
  pointwise
  exact hx _ _ _
theorem valw_l {x : FVec Ideal S8x4x256 .f32} (hx : R3 x g) :
    R4 (broadcastInDim S8x4x128x256 ![0, 1, 2, 3] bcast_S8x4x1x256_S8x4x128x256_0_1_2_3 (broadcastInDim S8x4x1x256 ![0, 1, 3] bcast_S8x4x256_S8x4x1x256_0_1_3 x))
      (fun b h _ d => g b h d) := fun b h k d => by
  pointwise
  exact hx _ _ _
theorem outw_l {x : FVec Ideal S8x4x256 .f32} (hx : R3 x g) :
    R4 (broadcastInDim S1x8x4x256 ![1, 2, 3] bcast_S8x4x256_S1x8x4x256_1_2_3 x)
      (fun _ b h d => g b h d) := fun z b h d => by
  pointwise
  exact hx _ _ _
theorem count_l {x : FVec Ideal S2048 .f32} {f : ℕ → ℝ} (hx : R1 x f) :
    R3 (broadcastInDim S8x2048x256 ![0, 1, 2] bcast_S1x2048x1_S8x2048x256_0_1_2 (broadcastInDim S1x2048x1 ![1] bcast_S2048_S1x2048x1_1 x))
      (fun _ a _ => f a) := fun b a c => by
  pointwise
  exact hx _
theorem words : ∀ a : Fin 2048, ∀ i : Fin 4, (IntOp.minsi (BitVec.ofNat 32 (2 ^ (i.val + 1))) (IntOp.addi (BitVec.ofNat 32 a.val) 1#32)).toInt =
    ((min (1 + a.val) (2 ^ (i.val + 1)) : ℕ) : ℤ) := by decide +kernel
theorem cnt_l (i : Fin 4) {z : BitVec 32} (hz : z = BitVec.ofNat 32 (2 ^ (i.val + 1))) :
    R1 (sitofp (F := Ideal) .f32 (minsi (broadcastInDim S2048 ![] bcast_S_S2048 (constantI S_ 32 z))
      (addi (iotaInDim S2048 32 0) (broadcastInDim S2048 ![] bcast_S_S2048 (constantI S_ 32 1#32)))))
      (fun a => ((min (1 + a) (2 ^ (i.val + 1)) : ℕ) : ℝ)) := fun a => by
  subst hz
  pointwise
  show (((IntOp.minsi (BitVec.ofNat 32 (2 ^ (i.val + 1))) (IntOp.addi (BitVec.ofNat 32 a.val) 1#32)).toInt : ℝ) : EReal) = _
  rw [words a i]
  rfl
end Cert.RefV
end
-- ==== Proof.Ref2.lean ====
/-
  The reference before its loop: the pool from running sums, the decay's exponent, the arrays the loop carries.
-/
module

public import proofs.«01_k».proof.Proof.Ref1
public import proofs.«01_k».proof.Proof.Ops2

@[expose] public section

set_option maxRecDepth 16384

noncomputable section

namespace Cert.RefV

open Idealize.ShloMosaic Idealize.ShloMosaic.TcCoe Idealize.SL.Sem Cert.ReferenceIdeal Cert.ReferenceIdeal.Gen Cert.ReferenceIdeal.Value Cert.Rep Cert.Spec Cert.Pay

variable {V : Valuation τ sig (Elt Ideal)} {w : Wt} {HH : ℕ → ℕ → ℝ}

theorem v33_r {g : ℕ → ℕ → ℕ → ℝ} (h : R3 (n := 8) (m := 2063) (k := 1024) (V main_v31) g) :
    R3 (n := 8) (m := 2063) (k := 1024) (StableHlo.after hostOps0_1 V main_v33) (fun b a c => ∑ i ∈ Finset.range (a + 1), g b i c) := by
  after_reads_simp
  exact cum_l (fun _ => Ideal.ofBits_zero .f32) h

/-- The sums of the first rows of a history. -/
def sums (E : ℕ → ℕ → ℕ → ℝ) (b a c : ℕ) : ℝ := ∑ i ∈ Finset.range a, E b i c

theorem sums_sub (b a c n : ℕ) (hn : n ≤ 16) :
    sums (hst w HH) b (16 + a) c - sums (hst w HH) b (16 - n + a) c = winq (uu w (rws HH b)) n a c := by
  unfold sums winq
  rw [show 16 + a = (16 - n + a) + n by omega, Finset.sum_range_add, add_sub_cancel_left, ← Finset.sum_range_reflect]
  refine Finset.sum_congr rfl fun s hs => ?_
  rw [Finset.mem_range] at hs
  unfold hst
  by_cases h : s ≤ a
  · rw [if_neg (by omega), if_pos h]
    congr 1; omega
  · rw [if_pos (by omega), if_neg h]

theorem mean_l {x : FVec Ideal S8x2064x1024 .f32} {P : ℕ → ℕ → ℕ → ℝ} (hx : R3 x P) (i : Fin 4) {o p : ℕ} {z : BitVec 32}
    {h1 : S8x2064x1024.Slices ![0, 16, p] S8x2048x256} {h2 : S8x2064x1024.Slices ![0, o, p] S8x2048x256}
    (ho : o = 16 - 2 ^ (i.val + 1)) (hp : p = 256 * i.val) (hz : z = BitVec.ofNat 32 (2 ^ (i.val + 1))) :
    R3 (Host.divf (subf (extractStridedSlice S8x2048x256 ![0, 16, p] x h1) (extractStridedSlice S8x2048x256 ![0, o, p] x h2))
      (broadcastInDim S8x2048x256 ![0, 1, 2] bcast_S1x2048x1_S8x2048x256_0_1_2 (broadcastInDim S1x2048x1 ![1] bcast_S2048_S1x2048x1_1
        (sitofp (F := Ideal) .f32 (minsi (broadcastInDim S2048 ![] bcast_S_S2048 (constantI S_ 32 z))
          (addi (iotaInDim S2048 32 0) (broadcastInDim S2048 ![] bcast_S_S2048 (constantI S_ 32 1#32))))))))
      (fun b a c => (P b (16 + a) (256 * i.val + c) - P b (16 - 2 ^ (i.val + 1) + a) (256 * i.val + c)) *
        (1 / ((min (1 + a) (2 ^ (i.val + 1)) : ℕ) : ℝ))) := by
  subst ho hp
  refine RS.r3 ((((hx.slice3 (h := h1)).rs.sub (hx.slice3 (h := h2)).rs)).div (count_l (cnt_l i hz)).rs fun j => ?_) fun b a c => ?_
  · have : 0 < min (1 + (j 1).val) (2 ^ (i.val + 1)) := by
      refine lt_min (by omega) (by positivity)
    exact_mod_cast this.ne'
  · show (P (0 + b) _ _ - P (0 + b) _ _) * _ = _
    simp only [Nat.zero_add]
    rfl

theorem pool_eq (b a j : ℕ) :
    (sums (hst w HH) b (16 + a) (256 * (j / 256) + j % 256) - sums (hst w HH) b (16 - 2 ^ (j / 256 + 1) + a) (256 * (j / 256) + j % 256)) *
        (1 / ((min (1 + a) (2 ^ (j / 256 + 1)) : ℕ) : ℝ)) - uu w (rws HH b) a j = (if 2 ^ (j / 256 + 1) ≤ 16 then ppq (uu w (rws HH b)) a j else
     (sums (hst w HH) b (16 + a) (256 * (j / 256) + j % 256) - sums (hst w HH) b (16 - 2 ^ (j / 256 + 1) + a) (256 * (j / 256) + j % 256)) *
        (1 / ((min (1 + a) (2 ^ (j / 256 + 1)) : ℕ) : ℝ)) - uu w (rws HH b) a j) := by
  split
  · rename_i h
    rw [sums_sub b a _ _ h, show 256 * (j / 256) + j % 256 = j by omega]
    rfl
  · rfl

/-- The pool before its projection. -/
theorem pool_l {x31 : FVec Ideal S8x1x1024 .f32} {x33 : FVec Ideal S8x2063x1024 .f32} (h32 : R3 x31 (fun _ _ _ => 0))
    (h33 : R3 x33 (fun b a c => ∑ i ∈ Finset.range (a + 1), hst w HH b i c)) :
    R3 (concatenate S8x2064x1024 1 [⟨S8x1x1024, x31⟩, ⟨S8x2063x1024, x33⟩] concatenates_S8x1x1024_S8x2063x1024_S8x2064x1024_d1) (sums (hst w HH)) :=
  (sums_l h32 h33).congr fun b a c _ _ _ => by
    unfold sums
    by_cases h : a < 1
    · rw [if_pos h, show a = 0 by omega]; rfl
    · rw [if_neg h, show a - 1 + 1 = a by omega]

theorem v83_r (h32 : R3 (n := 8) (m := 1) (k := 1024) (V main_v32) (fun _ _ _ => 0))
    (h33 : R3 (n := 8) (m := 2063) (k := 1024) (V main_v33) (fun b a c => ∑ i ∈ Finset.range (a + 1), hst w HH b i c))
    (h23 : R3 (n := 8) (m := 2048) (k := 1024) (V main_v23) (fun b a c => uu w (rws HH b) a c))
    (h4 : R3 (n := 4) (m := 256) (k := 256) (V main_v4) w.PW) (h9 : R2 (n := 1) (m := 1024) (V main_arg9) w.PS) :
    R3 (n := 8) (m := 2048) (k := 1024) (StableHlo.after hostOps0_2 V main_v83) (fun b a c => plq w (uu w (rws HH b)) a c) := by
  have hx := pool_l h32 h33
  have m0 := mean_l hx 0 (o := 14) (p := 0) (z := 2#32) (h1 := slices_S8x2064x1024_S8x2048x256_0_16_0) (h2 := slices_S8x2064x1024_S8x2048x256_0_14_0) rfl rfl rfl
  have m1 := mean_l hx 1 (o := 12) (p := 256) (z := 4#32) (h1 := slices_S8x2064x1024_S8x2048x256_0_16_256) (h2 := slices_S8x2064x1024_S8x2048x256_0_12_256) rfl rfl rfl
  have m2 := mean_l hx 2 (o := 8) (p := 512) (z := 8#32) (h1 := slices_S8x2064x1024_S8x2048x256_0_16_512) (h2 := slices_S8x2064x1024_S8x2048x256_0_8_512) rfl rfl rfl
  have m3 := mean_l hx 3 (o := 0) (p := 768) (z := 16#32) (h1 := slices_S8x2064x1024_S8x2048x256_0_16_768) (h2 := slices_S8x2064x1024_S8x2048x256_0_0_768) rfl rfl rfl
  have hc := cat4_l (X := ![_, _, _, _]) (F := fun i b a c => (sums (hst w HH) b (16 + a) (256 * i + c) - sums (hst w HH) b (16 - 2 ^ (i + 1) + a) (256 * i + c)) *
        (1 / ((min (1 + a) (2 ^ (i + 1)) : ℕ) : ℝ))) (fun i => by
      fin_cases i
      · exact m0
      · exact m1
      · exact m2
      · exact m3) concatenates_S8x2048x256_S8x2048x256_S8x2048x256_S8x2048x256_S8x2048x1024_d2
  have hp := (hc.rs.sub h23.rs).r3 (f := fun b a c => ppq (uu w (rws HH b)) a c) fun b a c => by
    have hj := pool_eq (w := w) (HH := HH) b a c
    rw [if_pos] at hj
    · exact hj
    · have h : (c : ℕ) / 256 + 1 ≤ 4 := by omega
      exact (Nat.pow_le_pow_right (by norm_num) h).trans (by norm_num)
  have hd := (((unheads_l (turn_l (dotP_l h4 (heads_l hp)))).rs.mul (row_l h9).rs).r3 (f := fun b a c => plq w (uu w (rws HH b)) a c) fun b a c => by
    show (∑ k ∈ Finset.range 256, w.PW ((c : ℕ) / 256) k ((c : ℕ) % 256) * ppq (uu w (rws HH b)) a ((c : ℕ) / 256 * 256 + k)) * w.PS 0 c =
      (∑ j ∈ Finset.range 256, ppq (uu w (rws HH b)) a (256 * ((c : ℕ) / 256) + j) * w.PW ((c : ℕ) / 256) j ((c : ℕ) % 256)) * w.PS 0 c
    congr 1
    refine Finset.sum_congr rfl fun k _ => ?_
    rw [mul_comm, mul_comm ((c : ℕ) / 256) 256])
  after_reads_simp
  exact hd

theorem v84_r (h31 : R3 (n := 8) (m := 2063) (k := 1024) (V main_v31) (hst w HH)) :
    R3 (n := 8) (m := 15) (k := 1024) (StableHlo.after hostOps0_2 V main_v84) (fun b r c => uu w (rws HH b) (2033 + r) c) := by
  after_reads_simp
  exact (R3.slice3 (h := slices_S8x2063x1024_S8x15x1024_0_2048_0) h31).congr fun b a c _ _ _ => by
    unfold hst
    rw [if_neg (by omega), Nat.zero_add, Nat.zero_add, show 2048 + a - 15 = 2033 + a by omega]

theorem v90_r (h20 : R3 (n := 8) (m := 2048) (k := 1024) (V main_v20) (fun b a c => xb w (rws HH b) a c))
    (h2 : R2 (n := 1024) (m := 128) (V main_v2) w.WLR) (h3 : R2 (n := 128) (m := 512) (V main_v3) w.WGK)
    (h6 : R2 (n := 1) (m := 512) (V main_arg6) w.BGK) :
    R3 (n := 8) (m := 2048) (k := 512) (StableHlo.after hostOps0_2 V main_v90) (fun b a c => zz w (rws HH b) a c) := by
  have hd := ((dotC_l (dotB_l h20 h2) h3).rs.add (row5_l h6).rs).r3 (f := fun b a c => zz w (rws HH b) a c) fun _ _ _ => rfl
  after_reads_simp
  exact hd

/-- The logarithm of the sigmoid. -/
def lsg (z : ℝ) : ℝ := min z 0 - Real.log (1 + Real.exp (0 - |z|))

theorem lsg_eq (z : ℝ) : -(max (-z) 0 + Real.log (1 + Real.exp (-|-z - 0|))) = lsg z := by
  unfold lsg
  have h : max (-z) 0 = -min z 0 := by
    have := max_neg_neg z 0
    rwa [neg_zero] at this
  rw [h, sub_zero, abs_neg, zero_sub]; ring

theorem v91_r {z : ℕ → ℕ → ℕ → ℝ} (h : R3 (n := 8) (m := 2048) (k := 512) (V main_v90) z) :
    R3 (n := 8) (m := 2048) (k := 512) (StableHlo.after hostOps0_3 V main_v91) (fun b a c => lsg (z b a c)) := by
  have n0 := RS.neg h.rs
  have zr := RS.const (h := bcast_S_S8x2048x512) c_zero
  have d := n0.sub zr
  have e := ((n0.max zr).add (d.abs.neg.exp.log1p fun i => Real.exp_pos _))
  have f := fun D X => (RS.neg (RS.une (D := D) (X := X) e)).r3 (f := fun b a c => lsg (z b a c)) fun b a c => lsg_eq _
  after_reads_simp
  exact f _ _

theorem c_16 : (Scalar.ofBits .f32 0x41800000#32 : Ideal .f32) = ((16 : ℝ) : EReal) := by
  show Ideal.ofBits .f32 _ = _; simp [Ideal.ofBits, Ideal.ieee, -EReal.coe_mul]; norm_num

variable {g : ℕ → ℕ → ℕ → ℝ}

theorem i0_r (h : R3 (n := 8) (m := 2048) (k := 512) (V main_v24) g) :
    R4 (n := 2048) (m := 8) (k := 4) (l := 128) (StableHlo.after hostOps0_4 V main_v106_0) (fun a b h c => g b a (h * 128 + c) * dks) := by
  have e := token_l ((h.rs.mul (RS.const (h := bcast_S_S8x2048x512) c_dks)).r3 (f := fun b a c => g b a c * dks) fun _ _ _ => rfl)
  after_reads_simp
  exact e
theorem i1_r (h : R3 (n := 8) (m := 2048) (k := 512) (V main_v25) g) :
    R4 (n := 2048) (m := 8) (k := 4) (l := 128) (StableHlo.after hostOps0_4 V main_v106_1) (fun a b h c => g b a (h * 128 + c)) := by
  after_reads_simp
  exact token_l h
theorem i2_r (h : R3 (n := 8) (m := 2048) (k := 1024) (V main_v26) g) :
    R4 (n := 2048) (m := 8) (k := 4) (l := 256) (StableHlo.after hostOps0_4 V main_v106_2) (fun a b h c => g b a (h * 256 + c)) := by
  after_reads_simp
  exact token2_l h
theorem i3_r (h : R3 (n := 8) (m := 2048) (k := 512) (V main_v91) g) :
    R4 (n := 2048) (m := 8) (k := 4) (l := 128) (StableHlo.after hostOps0_4 V main_v106_3) (fun a b h c => g b a (h * 128 + c) * (1 / 16)) := by
  have e := token_l ((h.rs.div (RS.const (h := bcast_S_S8x2048x512) c_16) fun _ => by norm_num).r3 (f := fun b a c => g b a c * (1 / 16)) fun _ _ _ => rfl)
  after_reads_simp
  exact e
theorem i5_r : R4 (n := 8) (m := 4) (k := 128) (l := 256) (StableHlo.after hostOps0_4 V main_v106_5) (fun _ _ _ _ => 0) := by
  after_reads_simp
  exact (RS.const c_zero).r4 fun _ _ _ _ => rfl
theorem i6_r : R4 (n := 2048) (m := 8) (k := 4) (l := 256) (StableHlo.after hostOps0_4 V main_v106_6) (fun _ _ _ _ => 0) := by
  after_reads_simp
  exact (RS.const c_zero).r4 fun _ _ _ _ => rfl

theorem exp_lsg (z : ℝ) : Real.exp (lsg z * (1 / 16)) = (2 : ℝ) ^ ((min z 0 - Real.log (1 + Real.exp (0 - |z|))) * dec) := by
  have h2 : (0 : ℝ) < 2 := by norm_num
  have hl : Real.log 2 ≠ 0 := (Real.log_pos (by norm_num)).ne'
  rw [Real.rpow_def_of_pos h2]
  congr 1
  unfold lsg dec
  field_simp

end Cert.RefV
end
-- ==== Proof.Ref3.lean ====
/-
  The reference's loop over the tokens, and what follows it.
-/
module

public import proofs.«01_k».proof.Proof.Ref2

@[expose] public section

set_option maxRecDepth 16384

noncomputable section

namespace Cert.RefV

open Idealize.ShloMosaic Idealize.ShloMosaic.TcCoe Idealize.SL.Sem Idealize.ShloMosaic.StableHlo Cert.ReferenceIdeal Cert.ReferenceIdeal.Gen Cert.ReferenceIdeal.Value Cert.Rep Cert.Spec Cert.Pay

variable {V V' : Valuation τ sig (Elt Ideal)} {w : Wt} {HH : ℕ → ℕ → ℝ}

section Loop
variable {Q K W G L : ℕ → ℕ → ℕ → ℝ}

/-- What the loop carries after `t` tokens. -/
structure Inv (Q K W G L : ℕ → ℕ → ℕ → ℝ) (V : Valuation τ sig (Elt Ideal)) (t : ℕ) : Prop where
  q : R4 (n := 2048) (m := 8) (k := 4) (l := 128) (V main_v106_0) (fun a b h c => Q b a (128 * h + c))
  k : R4 (n := 2048) (m := 8) (k := 4) (l := 128) (V main_v106_1) (fun a b h c => K b a (128 * h + c))
  v : R4 (n := 2048) (m := 8) (k := 4) (l := 256) (V main_v106_2) (fun a b h c => W b a (256 * h + c))
  g : R4 (n := 2048) (m := 8) (k := 4) (l := 128) (V main_v106_3) (fun a b h c => L b a (128 * h + c))
  n : V main_v106_4 = fun _ => Scf.iv 0#32 1#32 t
  s : R4 (n := 8) (m := 4) (k := 128) (l := 256) (V main_v106_5) (fun b h c d => St (K b) (W b) (G b) t h c d)
  o : R4 (n := 2048) (m := 8) (k := 4) (l := 256) (V main_v106_6) (fun a b h d =>
    if a < t then ∑ x ∈ Finset.range 128, Q b a (128 * h + x) * St (K b) (W b) (G b) (a + 1) h x d else 0)

theorem Inv.start {t : ℕ} (h : Inv Q K W G L V t) (ht : t < 2048) : ∀ l, (fun k => (((![V main_v106_4, constantI S_ 32 0#32, constantI S_ 32 0#32, constantI S_ 32 0#32] :
    Fin 4 → (⟨S_, .i32⟩ : BufTy).Contents (Elt Ideal))) k (Shape.Idx.first h_S_)).toInt) l = (![(t : ℤ), 0, 0, 0] : Fin 4 → ℤ) l := fun l => by
  fin_cases l
  · show (V main_v106_4 (Shape.Idx.first h_S_)).toInt = t
    rw [h.n]
    exact iv_toInt t ht
  · rfl
  · rfl
  · rfl

theorem Inv.res {t : ℕ} (h : Inv Q K W G L V t) (ht : t < 2048) (hG : ∀ b a c, Real.exp (L b a c) = (2 : ℝ) ^ G b a c) :
    R4 (n := 8) (m := 4) (k := 128) (l := 256) (res_main_while0b_v155 V) (fun b h c d => St (K b) (W b) (G b) (t + 1) h c d) := by
  have hs := h.start ht
  have e := (tok_l t ht hs h.g).rs.exp.r3 (f := fun b h c => (2 : ℝ) ^ G b t (128 * h + c)) fun b h c => hG _ _ _
  have r := ((h.s.rs.mul (keyw_l e).rs).add ((keyw_l (tok_l t ht hs h.k)).rs.mul (valw_l (tok2_l t ht hs h.v)).rs)).r4
    (f := fun b h c d => St (K b) (W b) (G b) (t + 1) h c d) fun _ _ _ _ => rfl
  unfold res_main_while0b_v155
  exact r

theorem Inv.step {t : ℕ} (h : Inv Q K W G L V t) (ht : t < 2048) (hG : ∀ b a c, Real.exp (L b a c) = (2 : ℝ) ^ G b a c) :
    Inv Q K W G L (STEP V) (t + 1) := by
  have hs := h.start ht
  have hr := h.res ht hG
  have hu := (upd_l (h := updateFits_S2048x8x4x256_S1x8x4x256) t ht hs h.o (outw_l (dotO_l (tok_l t ht hs h.q) hr))).rs.r4 (f := fun a b h d =>
    if a < t + 1 then ∑ x ∈ Finset.range 128, Q b a (128 * h + x) * St (K b) (W b) (G b) (a + 1) h x d else 0) fun a b h d => by
      show (if (a : ℕ) = t then ∑ x ∈ Finset.range 128, Q b t (128 * h + x) * St (K b) (W b) (G b) (t + 1) h x d else
        if (a : ℕ) < t then ∑ x ∈ Finset.range 128, Q b a (128 * h + x) * St (K b) (W b) (G b) (a + 1) h x d else 0) = _
      by_cases ha : (a : ℕ) = t
      · rw [if_pos ha]
        beta_reduce
        rw [if_pos (by omega), ha]
      · rw [if_neg ha]
        by_cases hb : (a : ℕ) < t
        · beta_reduce
          rw [if_pos hb, if_pos (by omega)]
        · beta_reduce
          rw [if_neg hb, if_neg (by omega)]
  constructor
  · rw [STEP_main_v106_0]; exact h.q
  · rw [STEP_main_v106_1]; exact h.k
  · rw [STEP_main_v106_2]; exact h.v
  · rw [STEP_main_v106_3]; exact h.g
  · rw [STEP_main_v106_4, Scf.iv_succ]
    unfold step_main_v106_4
    rw [h.n]
    rfl
  · rw [STEP_main_v106_5]; exact hr
  · rw [STEP_main_v106_6]; exact hu

theorem Inv.iter (h : Inv Q K W G L V 0) (hG : ∀ b a c, Real.exp (L b a c) = (2 : ℝ) ^ G b a c) :
    ∀ t, t ≤ 2048 → Inv Q K W G L (STEP^[t] V) t
  | 0, _ => h
  | t + 1, ht => by
    rw [Function.iterate_succ_apply']
    exact (Inv.iter h hG t (by omega)).step (by omega) hG

theorem Inv.of {t : ℕ} (h : Inv Q K W G L V t) (e : Agree V' V) : Inv Q K W G L V' t := by
  constructor
  · rw [e main_v106_0 (by decide)]; exact h.q
  · rw [e main_v106_1 (by decide)]; exact h.k
  · rw [e main_v106_2 (by decide)]; exact h.v
  · rw [e main_v106_3 (by decide)]; exact h.g
  · rw [e main_v106_4 (by decide)]; exact h.n
  · rw [e main_v106_5 (by decide)]; exact h.s
  · rw [e main_v106_6 (by decide)]; exact h.o
end Loop

section Keep
variable {r : Ref sig .tc}

theorem keep1 (h : r ∉ hostOps0_1_W) : after hostOps0_1 V (Proc.devRef .tc r) = V (Proc.devRef .tc r) := after_of_writes_sub hostOps0_1 V hostOps0_1_writes h
theorem keep2 (h : r ∉ hostOps0_2_W) : after hostOps0_2 V (Proc.devRef .tc r) = V (Proc.devRef .tc r) := after_of_writes_sub hostOps0_2 V hostOps0_2_writes h
theorem keep3 (h : r ∉ hostOps0_3_W) : after hostOps0_3 V (Proc.devRef .tc r) = V (Proc.devRef .tc r) := after_of_writes_sub hostOps0_3 V hostOps0_3_writes h
theorem keep4 (h : r ∉ hostOps0_4_W) : after hostOps0_4 V (Proc.devRef .tc r) = V (Proc.devRef .tc r) := after_of_writes_sub hostOps0_4 V hostOps0_4_writes h
theorem keep0 (h : r ∉ hostOps0_W) : after hostOps0 V (Proc.devRef .tc r) = V (Proc.devRef .tc r) := after_of_writes_sub hostOps0 V hostOps0_writes h

theorem keep_cond (h : r ∉ condOps_W) : after condOps V (Proc.devRef .tc r) = V (Proc.devRef .tc r) := after_of_writes_sub condOps V condOps_writes h

/-- A buffer neither the condition nor the body writes is as it was at the loop's entry. -/
theorem keep_loop (m : (ℓ : Loc nD τ sig) → Buf (Elt Ideal) ℓ) (c : Dev nD)
    (h : r ∉ condOps_W ++ while0Ops0_W ++ while0Ops0_1_W ++ while0Ops0_2_W ++ while0Ops0_3_W ++ while0Ops0_4_W ++ while0Ops0_5_W ++ while0Ops0_6_W) :
    ∀ k, atK m k c (Proc.devRef .tc r) = entryContents preI m c (Proc.devRef .tc r)
  | 0 => rfl
  | k + 1 => by
    have h' := h
    simp only [List.mem_append, not_or] at h'
    obtain ⟨⟨⟨⟨⟨⟨⟨hc, h0⟩, h1⟩, h2⟩, h3⟩, h4⟩, h5⟩, h6⟩ := h'
    rw [show atK m (k + 1) c = afterL bodyI (after condOps (atK m k c)) from rfl]
    simp only [afterL_cons, afterL_nil]
    rw [after_of_writes_sub while0Ops0_6 _ while0Ops0_6_writes h6, after_of_writes_sub while0Ops0_5 _ while0Ops0_5_writes h5,
      after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, keep_cond hc, keep_loop m c h k]
    rfl
end Keep

section Post
variable {O P0 P1 P2 P : ℕ → ℕ → ℕ → ℝ}

/-- The rows of each head, normalised. -/
theorem v122_r (ho : R4 (n := 2048) (m := 8) (k := 4) (l := 256) (V main_v106_6) (fun a b h d => O b a (256 * h + d)))
    (h7 : R2 (n := 1) (m := 256) (V main_arg7) w.GN) :
    R3 (n := 8) (m := 2048) (k := 1024) (after hostOps0_5 V main_v122) (fun b a c => O b a c *
      (√((∑ d ∈ Finset.range 256, O b a (256 * (c / 256) + d) * O b a (256 * (c / 256) + d)) / 256 + eps))⁻¹ * w.GN 0 (c % 256)) := by
  have x := untoken_l ho
  have s := sum4_l ((x.rs.mul x.rs).r4 (f := fun b a h d => O b a (256 * h + d) * O b a (256 * h + d)) fun _ _ _ _ => rfl)
  have d := ((col4_l s).rs.div (RS.const (h := bcast_S_S8x2048x4x1) c_256) fun _ => by norm_num).add (RS.const (h := bcast_S_S8x2048x4x1) c_eps)
  have pos : ∀ b a h : ℕ, 0 < (∑ d ∈ Finset.range 256, O b a (256 * h + d) * O b a (256 * h + d)) * (1 / 256) + eps := fun b a h =>
    add_pos_of_nonneg_of_pos (mul_nonneg (Finset.sum_nonneg fun j _ => mul_self_nonneg _) (by norm_num)) eps_pos
  have q := (d.rsqrt fun i => pos _ _ _).r4 (f := fun b a h _ =>
    (√((∑ d ∈ Finset.range 256, O b a (256 * h + d) * O b a (256 * h + d)) * (1 / 256) + eps))⁻¹) fun _ _ _ _ => rfl
  have y := ((x.rs.mul (wide4_l q).rs).mul (row4_l h7).rs).r4 (f := fun b a h c => O b a (256 * h + c) *
    (√((∑ d ∈ Finset.range 256, O b a (256 * h + d) * O b a (256 * h + d)) * (1 / 256) + eps))⁻¹ * w.GN 0 c) fun _ _ _ _ => rfl
  have z := (unheads_l y).congr (g := fun b a c => O b a c *
      (√((∑ d ∈ Finset.range 256, O b a (256 * (c / 256) + d) * O b a (256 * (c / 256) + d)) / 256 + eps))⁻¹ * w.GN 0 (c % 256)) fun b a c _ _ _ => by
    rw [show 256 * (c / 256) + c % 256 = c by omega, mul_one_div]
  after_reads_simp
  exact z

theorem sg_l {x : FVec Ideal S8x2048x1024 .f32} (hx : R3 x P) :
    R3 (Host.divf (broadcastInDim S8x2048x1024 ![] bcast_S_S8x2048x1024 (constant S_ .f32 0x3F800000#32))
      (addf (broadcastInDim S8x2048x1024 ![] bcast_S_S8x2048x1024 (constant S_ .f32 0x3F800000#32)) (Host.exp (Host.negf x))))
      (fun b a c => 1 / 2 * Real.tanh (1 / 2 * P b a c) + 1 / 2) :=
  ((RS.const (h := bcast_S_S8x2048x1024) c_one).div ((RS.const (h := bcast_S_S8x2048x1024) c_one).add hx.rs.neg.exp) fun i =>
    (add_pos one_pos (Real.exp_pos _)).ne').r3 fun b a c => sig_tanh _

theorem v123_r (h27 : R3 (n := 8) (m := 2048) (k := 1024) (V main_v27) P) :
    R3 (n := 8) (m := 2048) (k := 1024) (after hostOps0_6 V main_v123) (fun b a c => P b a c * (1 / 2 * Real.tanh (1 / 2 * P b a c) + 1 / 2)) := by
  have z := (h27.rs.mul (sg_l h27).rs).r3 (f := fun b a c => P b a c * (1 / 2 * Real.tanh (1 / 2 * P b a c) + 1 / 2)) fun _ _ _ => rfl
  after_reads_simp
  exact z

theorem v141_r {A B : ℕ → ℕ → ℕ → ℝ} (h122 : R3 (n := 8) (m := 2048) (k := 1024) (V main_v122) A) (h123 : R3 (n := 8) (m := 2048) (k := 1024) (V main_v123) B)
    (h28 : R3 (n := 8) (m := 2048) (k := 1024) (V main_v28) P1) (h29 : R3 (n := 8) (m := 2048) (k := 1024) (V main_v29) P2)
    (h83 : R3 (n := 8) (m := 2048) (k := 1024) (V main_v83) P) :
    R2 (n := 16384) (m := 1024) (after hostOps0_7 V main_v141) (fun r c => (fun b a c => (1 / 2 * Real.tanh (1 / 2 * P1 b a c) + 1 / 2) * P b a c +
      (1 / 2 * Real.tanh (1 / 2 * P2 b a c) + 1 / 2) * (A b a c * B b a c)) (r / 2048) (r % 2048) c) := by
  have z := flat_l ((((sg_l h28).rs.mul h83.rs).add ((sg_l h29).rs.mul (h122.rs.mul h123.rs))).r3 (f := fun b a c =>
    (1 / 2 * Real.tanh (1 / 2 * P1 b a c) + 1 / 2) * P b a c + (1 / 2 * Real.tanh (1 / 2 * P2 b a c) + 1 / 2) * (A b a c * B b a c)) fun _ _ _ => rfl)
  after_reads_simp
  exact z
end Post

end Cert.RefV
end
-- ==== Proof.Ref4.lean ====
/-
  The reference's results as functions of its arguments' real numbers.
-/
module

public import proofs.«01_k».proof.Proof.Ref3

@[expose] public section

set_option maxRecDepth 16384

noncomputable section

namespace Cert.RefV

open Idealize.ShloMosaic Idealize.ShloMosaic.TcCoe Idealize.SL.Sem Idealize.ShloMosaic.StableHlo Cert.ReferenceIdeal Cert.ReferenceIdeal.Gen Cert.ReferenceIdeal.Value Cert.Rep Cert.Spec Cert.Pay

variable {V : Valuation τ sig (Elt Ideal)} {w : Wt} {HH : ℕ → ℕ → ℝ}

/-- What the arguments make before the loop. -/
structure Pre (w : Wt) (HH : ℕ → ℕ → ℝ) (V : Valuation τ sig (Elt Ideal)) : Prop where
  i : Inv (fun b => qq w (rws HH b)) (fun b => kk w (rws HH b)) (fun b => vv w (rws HH b)) (fun b => gg w (rws HH b))
    (fun b a c => lsg (zz w (rws HH b) a c) * (1 / 16)) V 0
  p0 : R3 (n := 8) (m := 2048) (k := 1024) (V main_v27) (fun b a c => pr w (rws HH b) w.WB a c)
  p1 : R3 (n := 8) (m := 2048) (k := 1024) (V main_v28) (fun b a c => pr w (rws HH b) w.WB a (1024 + c))
  p2 : R3 (n := 8) (m := 2048) (k := 1024) (V main_v29) (fun b a c => pr w (rws HH b) w.WB a (2048 + c))
  pl : R3 (n := 8) (m := 2048) (k := 1024) (V main_v83) (fun b a c => plq w (uu w (rws HH b)) a c)
  hs : R3 (n := 8) (m := 15) (k := 1024) (V main_v84) (fun b r c => uu w (rws HH b) (2033 + r) c)
  gn : R2 (n := 1) (m := 256) (V main_arg7) w.GN

theorem pre_of (k : HeldV V w HH) (hn : after hostOps0_4 (after hostOps0_3 (after hostOps0_2 (after hostOps0_1 (after hostOps0 V)))) main_v106_4 = fun _ => (0#32 : BitVec 32)) :
    Pre w HH (after hostOps0_4 (after hostOps0_3 (after hostOps0_2 (after hostOps0_1 (after hostOps0 V))))) := by
  have u33 := v33_r (v31_r k)
  have u83 := v83_r (V := after hostOps0_1 (after hostOps0 V)) (by rw [keep1 (by decide +kernel)]; exact v32_r) u33
    (by rw [keep1 (by decide +kernel)]; exact v23_r k) (by rw [keep1 (by decide +kernel)]; exact v4_r k)
    (by rw [keep1 (by decide +kernel), keep0 (by decide +kernel)]; exact k.a9)
  have u84 := v84_r (V := after hostOps0_1 (after hostOps0 V)) (by rw [keep1 (by decide +kernel)]; exact v31_r k)
  have u90 := v90_r (V := after hostOps0_1 (after hostOps0 V)) (by rw [keep1 (by decide +kernel)]; exact v20_r k)
    (by rw [keep1 (by decide +kernel)]; exact v2_r k) (by rw [keep1 (by decide +kernel)]; exact v3_r k)
    (by rw [keep1 (by decide +kernel), keep0 (by decide +kernel)]; exact k.a6)
  have u91 := v91_r u90
  have k123 : ∀ r : Ref sig .tc, r ∉ hostOps0_1_W ++ hostOps0_2_W ++ hostOps0_3_W →
      after hostOps0_3 (after hostOps0_2 (after hostOps0_1 (after hostOps0 V))) (Proc.devRef .tc r) = after hostOps0 V (Proc.devRef .tc r) := fun r h => by
    simp only [List.mem_append, not_or] at h
    rw [keep3 h.2, keep2 h.1.2, keep1 h.1.1]
  constructor
  · constructor
    · refine (i0_r (by rw [k123 _ (by decide +kernel)]; exact v24_r k)).rs.r4 fun a b h c => ?_
      show pr w (rws HH b) w.WA a (1024 + ((h : ℕ) * 128 + c)) * dks = pr w (rws HH b) w.WA a (1024 + (128 * (h : ℕ) + c)) * dks
      rw [mul_comm (h : ℕ) 128]
    · refine (i1_r (by rw [k123 _ (by decide +kernel)]; exact v25_r k)).rs.r4 fun a b h c => ?_
      show kk w (rws HH b) a ((h : ℕ) * 128 + c) = kk w (rws HH b) a (128 * (h : ℕ) + c)
      rw [mul_comm (h : ℕ) 128]
    · refine (i2_r (by rw [k123 _ (by decide +kernel)]; exact v26_r k)).rs.r4 fun a b h c => ?_
      show vv w (rws HH b) a ((h : ℕ) * 256 + c) = vv w (rws HH b) a (256 * (h : ℕ) + c)
      rw [mul_comm (h : ℕ) 256]
    · refine (i3_r u91).rs.r4 fun a b h c => ?_
      show lsg (zz w (rws HH b) a ((h : ℕ) * 128 + c)) * (1 / 16) = lsg (zz w (rws HH b) a (128 * (h : ℕ) + c)) * (1 / 16)
      rw [mul_comm (h : ℕ) 128]
    · rw [hn, Scf.iv_zero]
    · exact i5_r.rs.r4 fun _ _ _ _ => rfl
    · exact i6_r.rs.r4 fun a _ _ _ => (if_neg (Nat.not_lt_zero _)).symm
  · rw [keep4 (by decide +kernel), k123 _ (by decide +kernel)]; exact v27_r k
  · rw [keep4 (by decide +kernel), k123 _ (by decide +kernel)]; exact v28_r k
  · rw [keep4 (by decide +kernel), k123 _ (by decide +kernel)]; exact v29_r k
  · rw [keep4 (by decide +kernel), keep3 (by decide +kernel)]; exact u83
  · rw [keep4 (by decide +kernel), keep3 (by decide +kernel)]; exact u84
  · rw [keep4 (by decide +kernel), k123 _ (by decide +kernel), keep0 (by decide +kernel)]; exact k.a7

section Final
variable (m : (ℓ : Loc nD τ sig) → Buf (Elt Ideal) ℓ) (c : Dev nD)

/-- After the loop. -/
theorem loop_of (h : Pre w HH (entryContents preI m c)) :
    Inv (fun b => qq w (rws HH b)) (fun b => kk w (rws HH b)) (fun b => vv w (rws HH b)) (fun b => gg w (rws HH b))
      (fun b a c => lsg (zz w (rws HH b) a c) * (1 / 16)) (after condOps (atK m 2048 c)) 2048 :=
  ((h.i.iter (fun _ _ _ => exp_lsg _) 2048 le_rfl).of (atK_agree m c 2048)).of (cond_keeps _)

theorem kept {r : Ref sig .tc}
    (h : r ∉ condOps_W ++ while0Ops0_W ++ while0Ops0_1_W ++ while0Ops0_2_W ++ while0Ops0_3_W ++ while0Ops0_4_W ++ while0Ops0_5_W ++ while0Ops0_6_W) :
    after condOps (atK m 2048 c) (Proc.devRef .tc r) = entryContents preI m c (Proc.devRef .tc r) := by
  have h' := h
  simp only [List.mem_append, not_or] at h'
  rw [keep_cond (by tauto), keep_loop m c h]

theorem fin_eq {b a j : ℕ} (hj : j < 1024) (H : ℕ → ℕ → ℝ) (PL O : ℕ → ℕ → ℝ) :
    (1 / 2 * Real.tanh (1 / 2 * pr w H w.WB a (1024 + j)) + 1 / 2) * PL a j + (1 / 2 * Real.tanh (1 / 2 * pr w H w.WB a (2048 + j)) + 1 / 2) *
      (O a j * (√((∑ d ∈ Finset.range 256, O a (256 * (j / 256) + d) * O a (256 * (j / 256) + d)) / 256 + eps))⁻¹ * w.GN 0 (j % 256) *
        (pr w H w.WB a j * (1 / 2 * Real.tanh (1 / 2 * pr w H w.WB a j) + 1 / 2))) = fin w H PL O a j := by
  unfold fin gt
  rw [if_neg (by omega), if_neg (by omega), if_pos hj]

theorem vals (k : HeldV (launchContents m c) w HH) :
    R2 (n := 16384) (m := 1024) (finalContents condOps preI bodyI postI 2048 m c main_v141) (fun r j => mixq w (rws HH (r / 2048)) (r % 2048) j) ∧
    R3 (n := 8) (m := 15) (k := 1024) (finalContents condOps preI bodyI postI 2048 m c main_v84) (fun b r j => uu w (rws HH b) (2033 + r) j) ∧
    R4 (n := 8) (m := 4) (k := 128) (l := 256) (finalContents condOps preI bodyI postI 2048 m c main_v106_5)
      (fun b => St (kk w (rws HH b)) (vv w (rws HH b)) (gg w (rws HH b)) 2048) := by
  have p : Pre w HH (entryContents preI m c) := pre_of k (ctr_entry m c)
  have l := loop_of m c p
  have ef : ∀ n, finalContents condOps preI bodyI postI n m c = afterL postI (after condOps (atK m n c)) := fun _ => rfl
  rw [ef]
  have e0 := kept m c (r := main_v27) (by decide +kernel)
  have e1 := kept m c (r := main_v28) (by decide +kernel)
  have e2 := kept m c (r := main_v29) (by decide +kernel)
  have e3 := kept m c (r := main_v83) (by decide +kernel)
  have e4 := kept m c (r := main_v84) (by decide +kernel)
  have e5 := kept m c (r := main_arg7) (by decide +kernel)
  generalize after condOps (atK m 2048 c) = X at l e0 e1 e2 e3 e4 e5 ⊢
  simp only [afterL_cons, afterL_nil]
  have ho : R4 (n := 2048) (m := 8) (k := 4) (l := 256) (X main_v106_6) (fun a b h d => (fun b a c => otq (qq w (rws HH b)) (kk w (rws HH b)) (vv w (rws HH b)) (gg w (rws HH b)) a c)
      b a (256 * h + d)) := l.o.rs.r4 fun a b h d => by
    show (if (a : ℕ) < 2048 then _ else _) = _
    rw [if_pos a.isLt]
    unfold otq
    have h1 : (256 * (h : ℕ) + d) / 256 = h := by omega
    have h2 : (256 * (h : ℕ) + d) % 256 = d := by omega
    beta_reduce
    rw [h1, h2]
    rfl
  have u122 := v122_r (w := w) ho (by rw [e5]; exact p.gn)
  have k5 : ∀ r : Ref sig .tc, r ∈ [main_v27, main_v28, main_v29, main_v83] → after hostOps0_5 X (Proc.devRef .tc r) = X (Proc.devRef .tc r) := fun r hr => by
    fin_cases hr <;> after_reads_simp
  have k6 : ∀ (Y : Valuation τ sig (Elt Ideal)) (r : Ref sig .tc), r ∈ [main_v122, main_v28, main_v29, main_v83] →
      after hostOps0_6 Y (Proc.devRef .tc r) = Y (Proc.devRef .tc r) := fun Y r hr => by
    fin_cases hr <;> after_reads_simp
  have u123 := v123_r (V := after hostOps0_5 X) (by rw [k5 _ (by decide), e0]; exact p.p0)
  refine ⟨?_, ?_, ?_⟩
  · refine (v141_r (V := after hostOps0_6 (after hostOps0_5 X)) (by rw [k6 _ _ (by decide)]; exact u122) u123
      (by rw [k6 _ _ (by decide), k5 _ (by decide), e1]; exact p.p1) (by rw [k6 _ _ (by decide), k5 _ (by decide), e2]; exact p.p2)
      (by rw [k6 _ _ (by decide), k5 _ (by decide), e3]; exact p.pl)).congr fun r j _ hj => ?_
    exact fin_eq (b := 0) hj _ _ _
  · have e : after hostOps0_7 (after hostOps0_6 (after hostOps0_5 X)) main_v84 = X main_v84 := by after_reads_simp
    rw [e, e4]; exact p.hs
  · have e : after hostOps0_7 (after hostOps0_6 (after hostOps0_5 X)) main_v106_5 = X main_v106_5 := by after_reads_simp
    rw [e]; exact l.s
end Final

end Cert.RefV
end
-- ==== Proof.RefEnd.lean ====
/-
  The reference's arguments at the end of its run.
-/
module

public import proofs.«01_k».proof.Proof.Ref4
public import Idealize.ShloMosaic.Lib.Quiescent

@[expose] public section

set_option maxRecDepth 16384

noncomputable section

namespace Cert.RefV

open Idealize.ShloMosaic Idealize.ShloMosaic.TcCoe Idealize.SL.Sem Idealize.ShloMosaic.StableHlo Cert.ReferenceIdeal Cert.ReferenceIdeal.Gen Cert.ReferenceIdeal.Value

variable {r : Ref sig .tc} {V : Valuation τ sig (Elt Ideal)} (m : (ℓ : Loc nD τ sig) → Buf (Elt Ideal) ℓ) (c : Dev nD)

/-- A buffer that nothing writes ends as it began. -/
theorem unwritten
    (h : r ∉ condOps_W ++ while0Ops0_W ++ while0Ops0_1_W ++ while0Ops0_2_W ++ while0Ops0_3_W ++ while0Ops0_4_W ++ while0Ops0_5_W ++ while0Ops0_6_W)
    (h' : r ∉ hostOps0_W ++ hostOps0_1_W ++ hostOps0_2_W ++ hostOps0_3_W ++ hostOps0_4_W)
    (hp : ∀ X : Valuation τ sig (Elt Ideal), after hostOps0_7 (after hostOps0_6 (after hostOps0_5 X)) (Proc.devRef .tc r) = X (Proc.devRef .tc r)) :
    finalContents condOps preI bodyI postI 2048 m c (Proc.devRef .tc r) = launchContents m c (Proc.devRef .tc r) := by
  have ef : ∀ n, finalContents condOps preI bodyI postI n m c = afterL postI (after condOps (atK m n c)) := fun _ => rfl
  rw [ef]
  have e := kept m c h
  generalize after condOps (atK m 2048 c) = X at e ⊢
  simp only [List.mem_append, not_or] at h'
  obtain ⟨⟨⟨⟨h0, h1⟩, h2⟩, h3⟩, h4⟩ := h'
  simp only [afterL_cons, afterL_nil]
  rw [hp, e]
  show after hostOps0_4 (after hostOps0_3 (after hostOps0_2 (after hostOps0_1 (after hostOps0 (launchContents m c))))) (Proc.devRef .tc r) = _
  rw [keep4 h4, keep3 h3, keep2 h2, keep1 h1, keep0 h0]

/-- The run: what the results hold, every argument as it was, and no counter to speak of. -/
theorem run_end (ρ : Dev nD → PrngReg) : θ_run (defs (F := Ideal)) (onTc (τ := τ) (main (F := Ideal))) ⟨m, fun _ => 0, ρ⟩ (fun r =>
    (∀ c : Dev nD, (r.2.mem ((c.tc : Thread nD τ).loc main_v141) = finalContents condOps preI bodyI postI 2048 m c (Proc.devRef .tc main_v141)
      ∧ r.2.mem ((c.tc : Thread nD τ).loc main_v84) = finalContents condOps preI bodyI postI 2048 m c (Proc.devRef .tc main_v84)
      ∧ r.2.mem ((c.tc : Thread nD τ).loc main_v106_5) = finalContents condOps preI bodyI postI 2048 m c (Proc.devRef .tc main_v106_5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
    ∧ r.2.sem = fun _ => 0) :=
  (θ_run defs _ _).mono (fun r h => ⟨fun c => ⟨⟨h c _ rfl, h c _ rfl, h c _ rfl⟩,
      (h c main_arg0 rfl).trans (unwritten m c (by decide +kernel) (by decide +kernel) fun X => by after_reads_simp),
      (h c main_arg1 rfl).trans (unwritten m c (by decide +kernel) (by decide +kernel) fun X => by after_reads_simp),
      (h c main_arg2 rfl).trans (unwritten m c (by decide +kernel) (by decide +kernel) fun X => by after_reads_simp),
      (h c main_arg3 rfl).trans (unwritten m c (by decide +kernel) (by decide +kernel) fun X => by after_reads_simp),
      (h c main_arg4 rfl).trans (unwritten m c (by decide +kernel) (by decide +kernel) fun X => by after_reads_simp),
      (h c main_arg5 rfl).trans (unwritten m c (by decide +kernel) (by decide +kernel) fun X => by after_reads_simp),
      (h c main_arg6 rfl).trans (unwritten m c (by decide +kernel) (by decide +kernel) fun X => by after_reads_simp),
      (h c main_arg7 rfl).trans (unwritten m c (by decide +kernel) (by decide +kernel) fun X => by after_reads_simp),
      (h c main_arg8 rfl).trans (unwritten m c (by decide +kernel) (by decide +kernel) fun X => by after_reads_simp),
      (h c main_arg9 rfl).trans (unwritten m c (by decide +kernel) (by decide +kernel) fun X => by after_reads_simp)⟩,
      sem_eq_zero_of_no_sems (by decide) r.2⟩) (run_fold m ρ)

end Cert.RefV
end
-- ==== Proof.Fin.lean ====
/-
  What the precondition says: every entry of every argument is a real number.
-/
module

public import proofs.«01_k».proof.Proof.Spec
public import proofs.«01_k».proof.Proof.Rep
public import proofs.«01_k».proof.Proof.Gen.Pre_finite
public import Idealize.ShloMosaic.Lib.ReduceAll
public import Idealize.ShloMosaic.Lib.KernelVsHost

@[expose] public section

set_option maxRecDepth 16384

noncomputable section

namespace Cert.Fin

open Idealize.ShloMosaic Cert.Pre_finite Cert.Pre_finite.Facts Cert.Rep Cert.Spec

/-- An extended real whose size is below the infinity is a real number. -/
theorem real_of {x : EReal} (h : max x (-x) < ⊤) : x = ((x.toReal : ℝ) : EReal) := by
  refine (EReal.coe_toReal ?_ ?_).symm
  · rintro rfl
    simp at h
  · rintro rfl
    simp at h

theorem inf_top : Ideal.ofBits .f32 0x7F800000#32 = ⊤ := by simp [Ideal.ofBits, Ideal.ieee]

theorem bit_lt {a b : EReal} (h : BitVec.ofBool (decide (a < b)) = 1#1) : a < b := by
  by_contra hn
  rw [decide_eq_false hn] at h
  exact absurd h (by decide)

/-- An array all of whose entries compare below the infinity holds real numbers. -/
theorem all_real {s : Shape} {axes : List (Fin s.rank)} {X : s.Idx → EReal} {hb : S_.BroadcastsInDim s ![]} {hr : s.ReducesTo axes S_} {hu : 0 < S_.numel}
    {j : S_.Idx}
    (e : Host.reduce IntOp.andi (cmpf .olt (Host.absf (F := Ideal) (φ := .f32) X) (broadcastInDim s ![] hb (constant (F := Ideal) S_ .f32 0x7F800000#32)))
      (constantI S_ 1 1#1) hr hu j = 1#1) (i : s.Idx) : X i = (((X i).toReal : ℝ) : EReal) := by
  have : Subsingleton S_.Idx := ⟨fun a b => funext fun k => k.elim0⟩
  have h := Host.reduce_andi_all _ _ hr hu j e i
  refine real_of ?_
  have h' : BitVec.ofBool (decide (max (X i) (-(X i)) < Ideal.ofBits .f32 0x7F800000#32)) = 1#1 := h
  rw [inf_top] at h'
  exact bit_lt h'

/-- The reals of a two-axis array. -/
def re2 {n m : ℕ} (X : (⟨2, ![n, m]⟩ : Shape).Idx → EReal) (a b : ℕ) : ℝ :=
  if h : a < n ∧ b < m then (X (ix2 ⟨a, h.1⟩ ⟨b, h.2⟩)).toReal else 0
/-- The reals of a three-axis array. -/
def re3 {n m k : ℕ} (X : (⟨3, ![n, m, k]⟩ : Shape).Idx → EReal) (a b c : ℕ) : ℝ :=
  if h : a < n ∧ b < m ∧ c < k then (X (ix3 ⟨a, h.1⟩ ⟨b, h.2.1⟩ ⟨c, h.2.2⟩)).toReal else 0

theorem r2_of {n m : ℕ} {X : (⟨2, ![n, m]⟩ : Shape).Idx → EReal} (h : ∀ i, X i = (((X i).toReal : ℝ) : EReal)) : R2 X (re2 X) := fun a b => by
  rw [re2, dif_pos ⟨a.2, b.2⟩]
  exact h _
theorem r3_of {n m k : ℕ} {X : (⟨3, ![n, m, k]⟩ : Shape).Idx → EReal} (h : ∀ i, X i = (((X i).toReal : ℝ) : EReal)) : R3 X (re3 X) := fun a b c => by
  rw [re3, dif_pos ⟨a.2, b.2, c.2⟩]
  exact h _

theorem and_split {x y : IVec S_ 1} {j : S_.Idx} (h : andi x y j = 1#1) : x j = 1#1 ∧ y j = 1#1 := IntOp.andi_eq_one.mp h

/-- The precondition, read entry by entry. -/
theorem reals (x0 : FVec Ideal S16896x1024 .f32) (x1 : FVec Ideal S1x1024 .f32) (x2 x3 : FVec Ideal S1024x3072 .bf16)
    (x4 : FVec Ideal S1024x128 .bf16) (x5 : FVec Ideal S128x512 .bf16) (x6 : FVec Ideal S1x512 .f32) (x7 : FVec Ideal S1x256 .f32)
    (x8 : FVec Ideal S4x256x256 .bf16) (x9 : FVec Ideal S1x1024 .f32)
    (h : Cert.Pre_finite.fn (F := Ideal) x0 x1 x2 x3 x4 x5 x6 x7 x8 x9 = fun _ => 1#1) :
    R2 x0 (re2 x0) ∧ R2 x1 (re2 x1) ∧ R2 x2 (re2 x2) ∧ R2 x3 (re2 x3) ∧ R2 x4 (re2 x4) ∧ R2 x5 (re2 x5) ∧ R2 x6 (re2 x6) ∧ R2 x7 (re2 x7)
      ∧ R3 x8 (re3 x8) ∧ R2 x9 (re2 x9) := by
  have j : S_.Idx := fun k => k.elim0
  have e := congrFun h j
  dsimp only [fn, fn_part1, fn_part2, fn_part3] at e
  clear h
  have c9 := and_split e
  clear e
  have b9 := all_real (X := x9) c9.2
  have c8 := and_split c9.1
  clear c9
  have b8 := all_real (X := x8) c8.2
  have c7 := and_split c8.1
  clear c8
  have b7 := all_real (X := x7) c7.2
  have c6 := and_split c7.1
  clear c7
  have b6 := all_real (X := x6) c6.2
  have c5 := and_split c6.1
  clear c6
  have b5 := all_real (X := x5) c5.2
  have c4 := and_split c5.1
  clear c5
  have b4 := all_real (X := x4) c4.2
  have c3 := and_split c4.1
  clear c4
  have b3 := all_real (X := x3) c3.2
  have c2 := and_split c3.1
  clear c3
  have b2 := all_real (X := x2) c2.2
  have c1 := and_split c2.1
  clear c2
  have b1 := all_real (X := x1) c1.2
  have b0 := all_real (X := x0) c1.1
  clear c1
  exact ⟨r2_of b0, r2_of b1, r2_of b2, r2_of b3, r2_of b4, r2_of b5, r2_of b6, r2_of b7, r3_of b8, r2_of b9⟩

end Cert.Fin
end
-- ==== Proof.Claims.lean ====
/-
  The claims, put together: the kernel's results and the reference's hold the same real numbers.
-/
module

public import proofs.«01_k».proof.Defs
public import proofs.«01_k».proof.Proof.Tiles
public import proofs.«01_k».proof.Proof.RefEnd
public import proofs.«01_k».proof.Proof.Fin
public import proofs.«01_k».proof.Proof.Gen.Kernel

@[expose] public section

set_option maxRecDepth 16384

noncomputable section

namespace Cert.Claims

open Idealize.ShloMosaic Idealize.ShloMosaic.TcCoe Idealize.SL.Sem Cert.Rep Cert.Spec

/-- Two arrays of the same reals are one array. -/
theorem ext2 {n m : ℕ} {X Y : (⟨2, ![n, m]⟩ : Shape).Idx → EReal} {f g : ℕ → ℕ → ℝ} (hX : R2 X f) (hY : R2 Y g) (e : f = g) : X = Y := by
  subst e
  funext i
  exact (congrArg X (eq_ix2 i)).trans ((hX _ _).trans ((hY _ _).symm.trans (congrArg Y (eq_ix2 i)).symm))
theorem ext3 {n m k : ℕ} {X Y : (⟨3, ![n, m, k]⟩ : Shape).Idx → EReal} {f g : ℕ → ℕ → ℕ → ℝ} (hX : R3 X f) (hY : R3 Y g) (e : f = g) : X = Y := by
  subst e
  funext i
  exact (congrArg X (eq_ix3 i)).trans ((hX _ _ _).trans ((hY _ _ _).symm.trans (congrArg Y (eq_ix3 i)).symm))
theorem ext4 {n m k l : ℕ} {X Y : (⟨4, ![n, m, k, l]⟩ : Shape).Idx → EReal} {f g : ℕ → ℕ → ℕ → ℕ → ℝ} (hX : R4 X f) (hY : R4 Y g) (e : f = g) :
    X = Y := by
  subst e
  funext i
  exact (congrArg X (eq_ix4 i)).trans ((hX _ _ _ _).trans ((hY _ _ _ _).symm.trans (congrArg Y (eq_ix4 i)).symm))

theorem same2 {n m : ℕ} {X Y : (⟨2, ![n, m]⟩ : Shape).Idx → EReal} {f : ℕ → ℕ → ℝ} (e : X = Y) (h : R2 Y f) : R2 X f := e ▸ h
theorem same3 {n m k : ℕ} {X Y : (⟨3, ![n, m, k]⟩ : Shape).Idx → EReal} {f : ℕ → ℕ → ℕ → ℝ} (e : X = Y) (h : R3 Y f) : R3 X f := e ▸ h

theorem frame_r : Cert.quiescent_ReferenceIdeal := fun m ρ _ =>
  (θ_run Cert.ReferenceIdeal.defs _ _).mono (fun _ h => ⟨fun c => (h.1 c).2, h.2⟩) (Cert.RefV.run_end m ρ)

theorem preserves : Cert.preserves_Kernel_KernelIdeal :=
  IdealRules.named_const.statement Cert.KernelIdeal.κ "decay" .f32 0x3DB8AA3B#32 (((16 * (Real.log 2))⁻¹ : ℝ) : EReal) rfl

/-- On one device: from finite arguments that agree, the reference's buffers end at what the kernel's arrays end at. -/
theorem meet (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) = fun _ => 1#1)
    (ha : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
     ) :
    StableHlo.finalContents Cert.ReferenceIdeal.Value.condOps Cert.ReferenceIdeal.Value.preI Cert.ReferenceIdeal.Value.bodyI Cert.ReferenceIdeal.Value.postI 2048 m' c (Proc.devRef .tc Cert.ReferenceIdeal.main_v141) = Cert.KernelIdeal.Value.G13 m c
      ∧ StableHlo.finalContents Cert.ReferenceIdeal.Value.condOps Cert.ReferenceIdeal.Value.preI Cert.ReferenceIdeal.Value.bodyI Cert.ReferenceIdeal.Value.postI 2048 m' c (Proc.devRef .tc Cert.ReferenceIdeal.main_v84) = Cert.KernelIdeal.Value.G14 m c
      ∧ StableHlo.finalContents Cert.ReferenceIdeal.Value.condOps Cert.ReferenceIdeal.Value.preI Cert.ReferenceIdeal.Value.bodyI Cert.ReferenceIdeal.Value.postI 2048 m' c (Proc.devRef .tc Cert.ReferenceIdeal.main_v106_5) = Cert.KernelIdeal.Value.G15 m c := by
  obtain ⟨b0, b1, b2, b3, b4, b5, b6, b7, b8, b9⟩ := Cert.Fin.reals _ _ _ _ _ _ _ _ _ _ hpre
  obtain ⟨a0, a1, a2, a3, a4, a5, a6, a7, a8, a9⟩ := ha
  have k : Cert.Tile.Held m c ⟨_, _, _, _, _, _, _, _, _⟩ _ := ⟨b0, b1, b2, b3, b4, b5, b6, b7, b8, b9⟩
  have k' : Cert.RefV.HeldV (StableHlo.launchContents m' c) ⟨_, _, _, _, _, _, _, _, _⟩ _ :=
    ⟨same2 a0 b0, same2 a1 b1, same2 a2 b2, same2 a3 b3, same2 a4 b4, same2 a5 b5, same2 a6 b6, same2 a7 b7, same3 a8 b8, same2 a9 b9⟩
  obtain ⟨v0, v1, v2⟩ := Cert.RefV.vals m' c k'
  exact ⟨ext2 v0 (Cert.Tile.mix_arr k) rfl, ext3 v1 (Cert.Tile.pool_arr k) rfl, ext4 v2 (Cert.Tile.state_arr k) rfl⟩

/-- From finite arguments the kernel and the reference end with the same three results. -/
theorem algebraic : Cert.algebraic_KernelIdeal_ReferenceIdeal_pre_finite := by
  intro m ρ m' ρ' hpre hagree
  refine ⟨_, _, _, Cert.KernelIdeal.Value.run (F := Ideal) m ρ, ?_⟩
  refine (θ_run Cert.ReferenceIdeal.defs _ _).mono (fun r h c => ?_) (Cert.RefV.run_end m' ρ')
  obtain ⟨e1, e2, e3⟩ := meet m m' c (hpre c) (hagree c)
  exact ⟨(h.1 c).1.1.trans e1, (h.1 c).1.2.1.trans e2, (h.1 c).1.2.2.trans e3, (h.1 c).2⟩

end Cert.Claims
end
-- ==== Proof.Ext.lean ====
/-
  Extended-real arrays as functions of row and column, and the feed-forward block as one such function. Nothing here
  asks an entry to be finite.
-/
module

public import proofs.«01_k».proof.Proof.Pay

@[expose] public section

set_option maxRecDepth 16384

noncomputable section

namespace Cert.Ext

open Idealize.ShloMosaic Idealize.SL.Sem Cert.Rep

variable {n m p q : ℕ} {φ ψ : FTy}

/-- A two-axis array that holds `f a b` at row `a`, column `b`. -/
def E2 {n m : ℕ} (X : (⟨2, ![n, m]⟩ : Shape).Idx → EReal) (f : ℕ → ℕ → EReal) : Prop := ∀ (a : Fin n) (b : Fin m), X (ix2 a b) = f a b

/-- The function an array holds. -/
def fn {n m : ℕ} (X : (⟨2, ![n, m]⟩ : Shape).Idx → EReal) (a b : ℕ) : EReal :=
  if h : a < n ∧ b < m then X (ix2 ⟨a, h.1⟩ ⟨b, h.2⟩) else 0
theorem e_fn (X : (⟨2, ![n, m]⟩ : Shape).Idx → EReal) : E2 X (fn X) := fun a b => by
  unfold fn
  rw [dif_pos ⟨a.2, b.2⟩]

/-- Two arrays that hold one function are equal. -/
theorem E2.eq {X Y : (⟨2, ![n, m]⟩ : Shape).Idx → EReal} {f : ℕ → ℕ → EReal} (hX : E2 X f) (hY : E2 Y f) : X = Y := by
  funext i
  exact (congrArg X (eq_ix2 i)).trans ((hX _ _).trans ((hY _ _).symm.trans (congrArg Y (eq_ix2 i)).symm))
theorem E2.of {X Y : (⟨2, ![n, m]⟩ : Shape).Idx → EReal} {f : ℕ → ℕ → EReal} (e : X = Y) (h : E2 Y f) : E2 X f := e ▸ h

/-! ## The block's mathematics -/

abbrev cN : EReal := Ideal.ofBits .f32 0x44800000#32
abbrev cE : EReal := Ideal.ofBits .f32 0x358637BD#32
abbrev cH : EReal := Ideal.ofBits .f32 0x3F000000#32

/-- A row over its root mean square, times the gains. -/
def nrm (x : ℕ → ℕ → EReal) (g : ℕ → EReal) (a j : ℕ) : EReal :=
  x a j * Ideal.rsqrt (Ideal.div (∑ k ∈ Finset.range 1024, x a k * x a k) cN + cE) * g j
/-- The product of the normalised rows with a matrix. -/
def prj (x : ℕ → ℕ → EReal) (g : ℕ → EReal) (W : ℕ → ℕ → EReal) (a k : ℕ) : EReal := ∑ i ∈ Finset.range 1024, nrm x g a i * W i k
/-- The gated hidden values. -/
def hid (x : ℕ → ℕ → EReal) (g : ℕ → EReal) (U V : ℕ → ℕ → EReal) (a k : ℕ) : EReal :=
  prj x g U a k * Ideal.logistic (prj x g U a k) * prj x g V a k
/-- The feed-forward block with its residual. -/
def ffn (x : ℕ → ℕ → EReal) (g : ℕ → EReal) (U V D : ℕ → ℕ → EReal) (a j : ℕ) : EReal :=
  x a j + cH * ∑ k ∈ Finset.range 2816, hid x g U V a k * D k j

/-- The half-angle form of the logistic function, at the infinities too. -/
theorem half_tanh (y : EReal) : cH * Ideal.tanh (cH * y) + cH = Ideal.logistic y := by
  have h : cH = ((1 / 2 : ℝ) : EReal) := Cert.Pay.c_half
  rw [h]
  induction y with
  | bot =>
    rw [EReal.coe_mul_bot_of_pos (by norm_num)]
    show ((1 / 2 : ℝ) : EReal) * (-1) + ((1 / 2 : ℝ) : EReal) = Ideal.div 1 (1 + Ideal.exp (-⊥))
    rw [EReal.neg_bot, Ideal.exp_top, Ideal.div]
    have e : (1 : EReal) + ⊤ = ⊤ := EReal.add_top_of_ne_bot (by decide)
    rw [e, if_neg (by decide), EReal.inv_top, mul_zero, mul_neg, mul_one, ← EReal.coe_neg, ← EReal.coe_add]
    norm_num
  | top =>
    rw [EReal.coe_mul_top_of_pos (by norm_num)]
    show ((1 / 2 : ℝ) : EReal) * 1 + ((1 / 2 : ℝ) : EReal) = Ideal.div 1 (1 + Ideal.exp (-⊤))
    rw [EReal.neg_top, Ideal.exp_bot, add_zero, ← EReal.coe_one, Ideal.div_coe one_ne_zero, ← EReal.coe_mul, ← EReal.coe_add, ← EReal.coe_mul]
    norm_num
  | coe r =>
    rw [← EReal.coe_mul]
    show ((1 / 2 : ℝ) : EReal) * ((Real.tanh (1 / 2 * r) : ℝ) : EReal) + ((1 / 2 : ℝ) : EReal) = Ideal.div 1 (1 + Ideal.exp (-(r : EReal)))
    have p : (1 : EReal) + Ideal.exp (-(r : EReal)) = ((1 + Real.exp (-r) : ℝ) : EReal) := by
      rw [← EReal.coe_neg, Ideal.exp_coe, EReal.coe_add, EReal.coe_one]
    rw [p, Ideal.div_coe (add_pos one_pos (Real.exp_pos _)).ne', one_mul, ← EReal.coe_mul, ← EReal.coe_add]
    congr 1
    rw [Real.tanh_eq_sinh_div_cosh, Real.sinh_eq, Real.cosh_eq]
    have e1 : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    have p1 := Real.exp_pos (1 / 2 * r)
    have p2 := Real.exp_pos (-(1 / 2 * r))
    rw [e1]
    generalize Real.exp (1 / 2 * r) = u at *
    generalize Real.exp (-(1 / 2 * r)) = v at *
    field_simp
    nlinarith [e2]

/-- The hidden columns in two runs. -/
theorem two_runs (h : ℕ → EReal) : ∑ k ∈ Finset.range 1536, h k + ∑ k ∈ Finset.range 1280, h (1536 + k) = ∑ k ∈ Finset.range 2816, h k :=
  (Finset.sum_range_add h 1536 1280).symm

/-! ## The operations -/

section Ops
variable {f g : ℕ → ℕ → EReal}

theorem E2.mul {X Y : FVec Ideal ⟨2, ![n, m]⟩ φ} (hX : E2 X f) (hY : E2 Y g) : E2 (mulf X Y) (fun a b => f a b * g a b) :=
  fun a b => congrArg₂ (· * ·) (hX a b) (hY a b)
theorem E2.add {X Y : FVec Ideal ⟨2, ![n, m]⟩ φ} (hX : E2 X f) (hY : E2 Y g) : E2 (addf X Y) (fun a b => f a b + g a b) :=
  fun a b => congrArg₂ (· + ·) (hX a b) (hY a b)
theorem E2.div {X Y : FVec Ideal ⟨2, ![n, m]⟩ φ} (hX : E2 X f) (hY : E2 Y g) : E2 (divf X Y) (fun a b => Ideal.div (f a b) (g a b)) :=
  fun a b => congrArg₂ Ideal.div (hX a b) (hY a b)
theorem E2.tanh {X : FVec Ideal ⟨2, ![n, m]⟩ φ} (hX : E2 X f) : E2 (tanh X) (fun a b => Ideal.tanh (f a b)) :=
  fun a b => congrArg Ideal.tanh (hX a b)
theorem E2.rsqrt {X : FVec Ideal ⟨2, ![n, m]⟩ φ} (hX : E2 X f) : E2 (rsqrt X) (fun a b => Ideal.rsqrt (f a b)) :=
  fun a b => congrArg Ideal.rsqrt (hX a b)
theorem E2.truncf {X : FVec Ideal ⟨2, ![n, m]⟩ φ} (h : ψ.bits < φ.bits) (hX : E2 X f) : E2 (truncf ψ X h) f := hX
theorem E2.const (c : BitVec 32) : E2 (broadcast ⟨2, ![n, m]⟩ (Scalar.ofBits .f32 c) : FVec Ideal ⟨2, ![n, m]⟩ .f32) (fun _ _ => Ideal.ofBits .f32 c) :=
  fun a b => rfl
theorem E2.row {X : (⟨2, ![1, m]⟩ : Shape).Idx → EReal} {h : (⟨2, ![1, m]⟩ : Shape).Broadcasts ⟨2, ![n, m]⟩}
    (hX : E2 X f) : E2 (broadcastTo ⟨2, ![n, m]⟩ X h) (fun _ b => f 0 b) := fun a b => by
  rw [broadcastTo_apply X h (ix2 a b) (ix2 (0 : Fin 1) b) (by
    intro c; fin_cases c
    · simp [ix2]
    · by_cases h1 : m = 1
      · subst h1; simp [ix2]
      · simp [ix2, h1])]
  exact hX 0 b
theorem E2.col {X : (⟨2, ![n, 1]⟩ : Shape).Idx → EReal} {h : (⟨2, ![n, 1]⟩ : Shape).Broadcasts ⟨2, ![n, m]⟩}
    (hX : E2 X f) : E2 (broadcastTo ⟨2, ![n, m]⟩ X h) (fun a _ => f a 0) := fun a b => by
  rw [broadcastTo_apply X h (ix2 a b) (ix2 a (0 : Fin 1)) (by
    intro c; fin_cases c
    · by_cases h1 : n = 1
      · subst h1; simp [ix2]
      · simp [ix2, h1]
    · simp [ix2])]
  exact hX a 0
theorem E2.matmul {M K N : ℕ} {prec : Option ContractPrecision} {X : FVec Ideal ⟨2, ![M, K]⟩ φ} {Y : FVec Ideal ⟨2, ![K, N]⟩ ψ}
    (hX : E2 X f) (hY : E2 Y g) :
    E2 (Idealize.ShloMosaic.matmul (DotDims.plain M K N) prec X Y (constant ⟨2, ![M, N]⟩ .f32 0x00000000#32)) (fun a b => ∑ k ∈ Finset.range K, f a k * g k b) :=
  fun a b => by
  refine (Idealize.ShloMosaic.Ideal.matmul_plain_apply ..).trans ?_
  have h0 : (constant ⟨2, ![M, N]⟩ .f32 0x00000000#32 : FVec Ideal ⟨2, ![M, N]⟩ .f32) (ix2 a b) = 0 := Ideal.ofBits_zero .f32
  refine (congrArg (· + _) h0).trans ?_
  rw [zero_add]
  refine Eq.trans ?_ (Finset.sum_range fun k => f a k * g k b).symm
  exact Finset.sum_congr rfl fun k _ => congrArg₂ (· * ·) (hX a k) (hY k b)
theorem E2.rowSum {X : FVec Ideal ⟨2, ![n, m]⟩ .f32} {h : (⟨2, ![n, m]⟩ : Shape).Reduces [1] ⟨1, ![n]⟩} {hφ} {ha}
    {hc : (⟨1, ![n]⟩ : Shape).ShapeCasts ⟨2, ![n, 1]⟩} (hX : E2 X f) :
    E2 (shapeCast ⟨2, ![n, 1]⟩ (multiReduction .add [1] ⟨1, ![n]⟩ X 0x00000000#32 h hφ ha) hc)
      (fun a _ => ∑ k ∈ Finset.range m, f a k) := fun a b => by
  have e : multiReduction .add [1] ⟨1, ![n]⟩ X 0x00000000#32 h hφ ha (ix1 a) = ∑ k : Fin m, X (ix2 a k) := by
    pointwise
  rw [shapeCast_apply _ hc (ix2 a b) (ix1 a) (by
    rw [Shape.rowMajor_val_two, Shape.rowMajor_val_one]
    obtain rfl : b = 0 := Subsingleton.elim _ _
    show (a : ℕ) = (a : ℕ) * 1 + 0
    simp), e]
  refine Eq.trans ?_ (Finset.sum_range fun k => f a k).symm
  exact Finset.sum_congr rfl fun k _ => hX a k
/-- A rectangle of an array. -/
theorem E2.ld {X : (⟨2, ![n, m]⟩ : Shape).Idx → EReal} {o0 o1 : ℕ} {inb} (hX : E2 X f) :
    E2 (n := p) (m := q) (fun i => X ((Rect.unit (s := ⟨2, ![n, m]⟩) ![o0, o1] ![p, q] inb).toLoadRect.idx i)) (fun a b => f (o0 + a) (o1 + b)) :=
  fun a b => On2.load (p := p) (q := q) (D := fun _ _ => True) (G := f) (fun a b _ => hX a b) (fun _ _ _ _ => trivial) a b
end Ops

end Cert.Ext

end
-- ==== Proof.FfnK.lean ====
/-
  The feed-forward kernel's result: every grid point leaves its 512 rows of `ffn`.
-/
module

public import proofs.«01_k».proof.Proof.Ext
public import proofs.«01_k».proof.Proof.Gen.FfnIdeal.Value

@[expose] public section

set_option maxRecDepth 16384

noncomputable section

namespace Cert.FfnK

open Idealize.ShloMosaic Idealize.ShloMosaic.TcCoe Idealize.SL.Sem Cert.FfnIdeal Cert.FfnIdeal.Gen Cert.FfnIdeal.Value Cert.Rep Cert.Ext

section Pay
variable {x N U V D : ℕ → ℕ → EReal}

/-- The normalised rows. -/
theorem nrm_p {X : FVec Ideal S256x1024 .f32} {W : FVec Ideal S1x1024 .f32} (hX : E2 X x) (hW : E2 W N) :
    E2 (k0_pay7 (F := Ideal) 1#1 X X W) (nrm x (N 0)) :=
  E2.truncf _ (E2.mul (E2.mul hX (E2.col (E2.rsqrt (E2.add (E2.div (E2.rowSum (E2.mul hX hX)) (E2.const _)) (E2.const _))))) (E2.row hW))

/-- The gated products of one run of columns. -/
theorem hid_p {w : ℕ} {y z : ℕ → ℕ → EReal} {Y Z : FVec Ideal ⟨2, ![256, w]⟩ .f32} (hY : E2 Y y) (hZ : E2 Z z) :
    E2 (mulf (mulf Y (addf (mulf (broadcast ⟨2, ![256, w]⟩ (Scalar.ofBits .f32 0x3F000000#32 : Ideal .f32)) (tanh (mulf (broadcast ⟨2, ![256, w]⟩ (Scalar.ofBits .f32 0x3F000000#32 : Ideal .f32)) Y)))
      (broadcast ⟨2, ![256, w]⟩ (Scalar.ofBits .f32 0x3F000000#32 : Ideal .f32)))) Z) (fun a k => y a k * Ideal.logistic (y a k) * z a k) := fun a k => by
  have h := E2.mul (E2.mul hY (E2.add (E2.mul (E2.const 0x3F000000#32) (E2.tanh (E2.mul (E2.const 0x3F000000#32) hY))) (E2.const 0x3F000000#32))) hZ a k
  rw [h]
  show y a k * (cH * Ideal.tanh (cH * y a k) + cH) * z a k = _
  rw [half_tanh]

variable {X : FVec Ideal S256x1024 .bf16} {U1 V1 : FVec Ideal S1024x1536 .f32} {D1 : FVec Ideal S1536x1024 .f32}
  {U2 V2 : FVec Ideal S1024x1280 .f32} {D2 : FVec Ideal S1280x1024 .f32} {g : ℕ → EReal}

/-- The down-projection of the first run of columns, and of the second. -/
theorem run1 (hX : E2 X (nrm x g)) (hU : E2 U1 U) (hV : E2 V1 V) (hD : E2 D1 D) :
    E2 (matmul dot_S256x1536_S1536x1024_S256x1024_1_0_0_1_n_n none (truncf .bf16 (mulf (mulf
      (matmul dot_S256x1024_S1024x1536_S256x1536_1_0_0_1_n_n none X U1 (constant S256x1536 .f32 0x00000000#32)) (addf (mulf (broadcast S256x1536 (Scalar.ofBits .f32 0x3F000000#32 : Ideal .f32))
      (tanh (mulf (broadcast S256x1536 (Scalar.ofBits .f32 0x3F000000#32 : Ideal .f32)) (matmul dot_S256x1024_S1024x1536_S256x1536_1_0_0_1_n_n none X U1 (constant S256x1536 .f32 0x00000000#32)))))
      (broadcast S256x1536 (Scalar.ofBits .f32 0x3F000000#32 : Ideal .f32)))) (matmul dot_S256x1024_S1024x1536_S256x1536_1_0_0_1_n_n none X V1 (constant S256x1536 .f32 0x00000000#32))) bitsLt_bf16_f32)
      D1 (constant S256x1024 .f32 0x00000000#32) : FVec Ideal S256x1024 .f32) (fun a j => ∑ k ∈ Finset.range 1536, hid x g U V a k * D k j) :=
  E2.matmul (K := 1536) (hid_p (w := 1536) (E2.matmul (K := 1024) hX hU) (E2.matmul (K := 1024) hX hV)) hD
theorem run2 (hX : E2 X (nrm x g)) (hU : E2 U2 (fun a b => U a (1536 + b))) (hV : E2 V2 (fun a b => V a (1536 + b))) (hD : E2 D2 (fun a b => D (1536 + a) b)) :
    E2 (matmul dot_S256x1280_S1280x1024_S256x1024_1_0_0_1_n_n none (truncf .bf16 (mulf (mulf
      (matmul dot_S256x1024_S1024x1280_S256x1280_1_0_0_1_n_n none X U2 (constant S256x1280 .f32 0x00000000#32)) (addf (mulf (broadcast S256x1280 (Scalar.ofBits .f32 0x3F000000#32 : Ideal .f32))
      (tanh (mulf (broadcast S256x1280 (Scalar.ofBits .f32 0x3F000000#32 : Ideal .f32)) (matmul dot_S256x1024_S1024x1280_S256x1280_1_0_0_1_n_n none X U2 (constant S256x1280 .f32 0x00000000#32)))))
      (broadcast S256x1280 (Scalar.ofBits .f32 0x3F000000#32 : Ideal .f32)))) (matmul dot_S256x1024_S1024x1280_S256x1280_1_0_0_1_n_n none X V2 (constant S256x1280 .f32 0x00000000#32))) bitsLt_bf16_f32)
      D2 (constant S256x1024 .f32 0x00000000#32) : FVec Ideal S256x1024 .f32) (fun a j => ∑ k ∈ Finset.range 1280, hid x g U V a (1536 + k) * D (1536 + k) j) :=
  E2.matmul (K := 1280) (hid_p (w := 1280) (E2.matmul (K := 1024) hX hU) (E2.matmul (K := 1024) hX hV)) hD

theorem join {Y P Q : FVec Ideal S256x1024 .f32} (hY : E2 Y x)
    (hP : E2 P (fun a j => ∑ k ∈ Finset.range 1536, hid x g U V a k * D k j))
    (hQ : E2 Q (fun a j => ∑ k ∈ Finset.range 1280, hid x g U V a (1536 + k) * D (1536 + k) j)) :
    E2 (addf Y (mulf (broadcast S256x1024 (Scalar.ofBits .f32 0x3F000000#32 : Ideal .f32)) (addf P Q))) (ffn x g U V D) := fun a j => by
  refine (E2.add hY (E2.mul (E2.const 0x3F000000#32) (E2.add hP hQ)) a j).trans ?_
  show x a j + cH * (∑ k ∈ Finset.range 1536, hid x g U V a k * D k j + ∑ k ∈ Finset.range 1280, hid x g U V a (1536 + k) * D (1536 + k) j) = _
  rw [two_runs fun k => hid x g U V a k * D k j]
  rfl

variable {X0 X1 : FVec Ideal S256x1024 .f32} {W : FVec Ideal S1x1024 .f32}

/-- What is stored in the second half of a block. -/
theorem low_p (b : BitVec 1) (hX : E2 (Scalar.select b X0 X1) x) (hW : E2 W N) (hU1 : E2 U1 U) (hV1 : E2 V1 V) (hD1 : E2 D1 D)
    (hU2 : E2 U2 (fun a b => U a (1536 + b))) (hV2 : E2 V2 (fun a b => V a (1536 + b))) (hD2 : E2 D2 (fun a b => D (1536 + a) b)) :
    E2 (k0_pay1 (F := Ideal) (k0_pay6 b X0 X1) (k0_pay8 (k0_pay7 b X0 X1 W) U1 V1 D1 U2 V2 D2)) (ffn x (N 0) U V D) := by
  have h := nrm_p hX hW
  exact join (x := x) (g := N 0) hX (run1 h hU1 hV1 hD1) (run2 h hU2 hV2 hD2)
/-- What is stored in the first half. -/
theorem high_p (i : grid0.Coords) (hX : E2 (Scalar.select (Scalar.cmpi .slt (BitVec.ofNat 32 (i 0).val) 1#32) X0 X1) x) (hW : E2 W N) (hU1 : E2 U1 U) (hV1 : E2 V1 V) (hD1 : E2 D1 D)
    (hU2 : E2 U2 (fun a b => U a (1536 + b))) (hV2 : E2 V2 (fun a b => V a (1536 + b))) (hD2 : E2 D2 (fun a b => D (1536 + a) b)) :
    E2 (k0_pay5 (F := Ideal) (k0_pay2 i X0 X1) (k0_pay3 i X0 X1 W) (k0_pay4 i X0 X1 W U1 V1 D1) U2 V2 D2) (ffn x (N 0) U V D) := by
  have h := nrm_p hX hW
  exact join (x := x) (g := N 0) hX (run1 h hU1 hV1 hD1) (run2 h hU2 hV2 hD2)
end Pay

section Block
variable {x N U V D : ℕ → ℕ → EReal} {x0 x1 : Vec Ideal S512x1024 .f32} {x2 : Vec Ideal S1x1024 .f32} {x3 x4 : Vec Ideal S1024x2816 .f32} {x5 : Vec Ideal S2816x1024 .f32}

theorem sel_p (b : BitVec 1) {n m : ℕ} {X Y : (⟨2, ![n, m]⟩ : Shape).Idx → EReal} {f : ℕ → ℕ → EReal} (h1 : b = 1#1 → E2 X f) (h0 : b ≠ 1#1 → E2 Y f) :
    E2 (Scalar.select b X Y) f := by
  unfold Scalar.select
  split
  · exact h1 ‹_›
  · exact h0 ‹_›

/-- A block stored in two halves. -/
theorem halves {f : ℕ → ℕ → EReal} {Y1 Y2 : Vec Ideal S256x1024 .f32} (h1 : E2 Y1 f) (h2 : E2 Y2 (fun a => f (256 + a))) :
    E2 (View.canon (Val := Elt Ideal) (e := .f32) [⟨r0_6, Y2⟩, ⟨r0_0, Y1⟩] : Vec Ideal S512x1024 .f32) f := by
  have c1 := On2.store (α := EReal) (D' := fun a b => a < 256 ∧ b < 1024) (G' := f) (W := f)
    (stored_canon (Val := Elt Ideal) (e := .f32) r0_0 Y1 []) (On2.nil _ f) h1
    (fun a b h => ⟨fun hin => by simp, fun hin => absurd hin (by simp; omega)⟩)
  have c2 := On2.store (α := EReal) (D' := fun a b => a < 512 ∧ b < 1024) (G' := f) (W := fun a b => f (256 + a) b)
    (stored_canon (Val := Elt Ideal) (e := .f32) r0_6 Y2 [⟨r0_0, Y1⟩]) c1 h2
    (fun a b h => ⟨fun hin => by
      show _ = f (256 + (a - 256)) (b - 0)
      rw [Nat.add_sub_cancel' hin.1, Nat.sub_zero], fun hin => ⟨by omega, rfl⟩⟩)
  exact fun a b => c2 a b ⟨a.2, b.2⟩

/-- One point's block. -/
theorem out_p (i : grid0.Coords) (h0 : Scalar.cmpi .slt (BitVec.ofNat 32 (i 0).val) 1#32 = 1#1 → E2 x0 x) (h1 : Scalar.cmpi .slt (BitVec.ofNat 32 (i 0).val) 1#32 ≠ 1#1 → E2 x1 x)
    (hN : E2 x2 N) (hU : E2 x3 U) (hV : E2 x4 V) (hD : E2 x5 D) : E2 (out0_6 i x0 x1 x2 x3 x4 x5) (ffn x (N 0) U V D) := by
  have w2 : E2 (View.ld x2 r0_1) N := fun a b => (E2.ld (p := 1) (q := 1024) (o0 := 0) (o1 := 0) hN a b).trans (by simp only [Nat.zero_add])
  have u1 : E2 (View.ld x3 r0_2) U := fun a b => (E2.ld (p := 1024) (q := 1536) (o0 := 0) (o1 := 0) hU a b).trans (by simp only [Nat.zero_add])
  have v1 : E2 (View.ld x4 r0_2) V := fun a b => (E2.ld (p := 1024) (q := 1536) (o0 := 0) (o1 := 0) hV a b).trans (by simp only [Nat.zero_add])
  have d1 : E2 (View.ld x5 r0_3) D := fun a b => (E2.ld (p := 1536) (q := 1024) (o0 := 0) (o1 := 0) hD a b).trans (by simp only [Nat.zero_add])
  have u2 : E2 (View.ld x3 r0_4) (fun a b => U a (1536 + b)) := fun a b => (E2.ld (p := 1024) (q := 1280) (o0 := 0) (o1 := 1536) hU a b).trans (by simp only [Nat.zero_add])
  have v2 : E2 (View.ld x4 r0_4) (fun a b => V a (1536 + b)) := fun a b => (E2.ld (p := 1024) (q := 1280) (o0 := 0) (o1 := 1536) hV a b).trans (by simp only [Nat.zero_add])
  have d2 : E2 (View.ld x5 r0_5) (fun a b => D (1536 + a) b) := fun a b => (E2.ld (p := 1280) (q := 1024) (o0 := 1536) (o1 := 0) hD a b).trans (by simp only [Nat.zero_add])
  have s1 : E2 (Scalar.select (Scalar.cmpi .slt (BitVec.ofNat 32 (i 0).val) 1#32) (View.ld x0 r0_0) (View.ld x1 r0_0)) x :=
    sel_p _ (fun h a b => (E2.ld (p := 256) (q := 1024) (o0 := 0) (o1 := 0) (h0 h) a b).trans (by simp only [Nat.zero_add]))
      (fun h a b => (E2.ld (p := 256) (q := 1024) (o0 := 0) (o1 := 0) (h1 h) a b).trans (by simp only [Nat.zero_add]))
  have s2 : E2 (Scalar.select (Scalar.cmpi .slt (BitVec.ofNat 32 (i 0).val) 1#32) (View.ld x0 r0_6) (View.ld x1 r0_6)) (fun a => x (256 + a)) :=
    sel_p _ (fun h a b => (E2.ld (p := 256) (q := 1024) (o0 := 256) (o1 := 0) (h0 h) a b).trans (by simp only [Nat.zero_add]))
      (fun h a b => (E2.ld (p := 256) (q := 1024) (o0 := 256) (o1 := 0) (h1 h) a b).trans (by simp only [Nat.zero_add]))
  have p1 := high_p i s1 w2 u1 v1 d1 u2 v2 d2
  have p2 := low_p _ s2 w2 u1 v1 d1 u2 v2 d2
  exact halves p1 p2
end Block

/-! ## The result array -/

section Arr
variable (m : (ℓ : Loc nD τ sig) → Buf (Elt Ideal) ℓ) (c : Dev nD)

/-- The arrays the kernel reads. -/
abbrev A0 : (⟨2, ![512, 1024]⟩ : Shape).Idx → EReal := m ((c.tc : Thread nD τ).loc main_arg0)
abbrev A1 : (⟨2, ![16384, 1024]⟩ : Shape).Idx → EReal := m ((c.tc : Thread nD τ).loc main_arg1)
abbrev A2 : (⟨2, ![1, 1024]⟩ : Shape).Idx → EReal := m ((c.tc : Thread nD τ).loc main_arg2)
abbrev A3 : (⟨2, ![1024, 2816]⟩ : Shape).Idx → EReal := m ((c.tc : Thread nD τ).loc main_arg3)
abbrev A4 : (⟨2, ![1024, 2816]⟩ : Shape).Idx → EReal := m ((c.tc : Thread nD τ).loc main_arg4)
abbrev A5 : (⟨2, ![2816, 1024]⟩ : Shape).Idx → EReal := m ((c.tc : Thread nD τ).loc main_arg5)

/-- The sample rows and, under them, the prompt rows. -/
def xs (a b : ℕ) : EReal := if a < 512 then fn (A0 m c) a b else fn (A1 m c) (a - 512) b

theorem at0 : ∀ t : Fin cfg0.N, t.val = 0 → win0_0.index t (0 : Fin 2) = 0 ∧ win0_0.index t (1 : Fin 2) = 0 :=
  (by decide +kernel : ∀ t : Fin grid0.N, _)
theorem at1 : ∀ t : Fin cfg0.N, t.val ≠ 0 → win0_1.index t (0 : Fin 2) = t.val - 1 ∧ win0_1.index t (1 : Fin 2) = 0 :=
  (by decide +kernel : ∀ t : Fin grid0.N, _)
theorem at6 : ∀ t : Fin cfg0.N, (cfg0.win 6).flush t = true ∧ win0_6.index t (0 : Fin 2) = t.val ∧ win0_6.index t (1 : Fin 2) = 0 :=
  (by decide +kernel : ∀ t : Fin grid0.N, _)
theorem first : ∀ t : Fin cfg0.N, Scalar.cmpi .slt (BitVec.ofNat 32 (grid0.coords t 0).val) 1#32 = 1#1 ↔ t.val = 0 :=
  (by decide +kernel : ∀ t : Fin grid0.N, _)

theorem blk0 (t : Fin cfg0.N) (h : t.val = 0) : E2 (n := 512) (m := 1024) (iblk m c 0 t) (fun a => xs m c (512 * t.val + a)) := fun a b => by
  obtain ⟨e0, e1⟩ := at0 t h
  have ha := a.isLt
  show A0 m c (((cfg0.win 0).blk t).view.emb (ix2 a b)) = _
  have he : ((cfg0.win 0).blk t).view.emb (ix2 a b) = ix2 (⟨a.val, by omega⟩ : Fin 512) b := by
    funext x; apply Fin.ext
    match x with
    | ⟨0, _⟩ => show win0_0.index t (0 : Fin 2) * 512 + 1 * a.val = a.val; omega
    | ⟨1, _⟩ => show win0_0.index t (1 : Fin 2) * 1024 + 1 * b.val = b.val; omega
  rw [he]
  refine (e_fn (A0 m c) _ b).trans ?_
  show fn (A0 m c) a.val b.val = xs m c (512 * t.val + a.val) b.val
  unfold xs
  rw [if_pos (by omega), h, Nat.mul_zero, Nat.zero_add]
theorem blk1 (t : Fin cfg0.N) (h : t.val ≠ 0) : E2 (n := 512) (m := 1024) (iblk m c 1 t) (fun a => xs m c (512 * t.val + a)) := fun a b => by
  obtain ⟨e0, e1⟩ := at1 t h
  have ha := a.isLt
  have hN := lt_of_lt_of_eq t.isLt (show cfg0.N = 33 from N_0)
  show A1 m c (((cfg0.win 1).blk t).view.emb (ix2 a b)) = _
  have he : ((cfg0.win 1).blk t).view.emb (ix2 a b) = ix2 (⟨512 * (t.val - 1) + a.val, by omega⟩ : Fin 16384) b := by
    funext x; apply Fin.ext
    match x with
    | ⟨0, _⟩ => show win0_1.index t (0 : Fin 2) * 512 + 1 * a.val = 512 * (t.val - 1) + a.val; omega
    | ⟨1, _⟩ => show win0_1.index t (1 : Fin 2) * 1024 + 1 * b.val = b.val; omega
  rw [he]
  refine (e_fn (A1 m c) _ b).trans ?_
  show fn (A1 m c) (512 * (t.val - 1) + a.val) b.val = xs m c (512 * t.val + a.val) b.val
  unfold xs
  rw [if_neg (by omega)]
  congr 1; omega

theorem blk2 (t : Fin cfg0.N) : iblk m c 2 t = V m c main_arg2 :=
  Memref.read_access_unit_zero (Elt Ideal) main_arg2 (funext fun (a : Fin 2) => by fin_cases a <;> rfl) _ _
theorem blk3 (t : Fin cfg0.N) : iblk m c 3 t = V m c main_arg3 :=
  Memref.read_access_unit_zero (Elt Ideal) main_arg3 (funext fun (a : Fin 2) => by fin_cases a <;> rfl) _ _
theorem blk4 (t : Fin cfg0.N) : iblk m c 4 t = V m c main_arg4 :=
  Memref.read_access_unit_zero (Elt Ideal) main_arg4 (funext fun (a : Fin 2) => by fin_cases a <;> rfl) _ _
theorem blk5 (t : Fin cfg0.N) : iblk m c 5 t = V m c main_arg5 :=
  Memref.read_access_unit_zero (Elt Ideal) main_arg5 (funext fun (a : Fin 2) => by fin_cases a <;> rfl) _ _

/-- What the whole call computes. -/
abbrev G : ℕ → ℕ → EReal := ffn (xs m c) (fn (A2 m c) 0) (fn (A3 m c)) (fn (A4 m c)) (fn (A5 m c))

theorem point (t : Fin cfg0.N) : E2 (out0_6 (grid0.coords t) (iblk m c 0 t) (iblk m c 1 t) (iblk m c 2 t) (iblk m c 3 t) (iblk m c 4 t) (iblk m c 5 t))
    (fun a => G m c (512 * t.val + a)) :=
  out_p (x := fun a => xs m c (512 * t.val + a)) (N := fn (A2 m c)) (grid0.coords t) (fun h => blk0 m c t ((first t).mp h)) (fun h => blk1 m c t fun e => h ((first t).mpr e))
    ((e_fn (A2 m c)).of (blk2 m c t)) ((e_fn (A3 m c)).of (blk3 m c t)) ((e_fn (A4 m c)).of (blk4 m c t)) ((e_fn (A5 m c)).of (blk5 m c t))

theorem arr : E2 (n := 16896) (m := 1024) ((dats m 0 c).arrAt 6 cfg0.N) (G m c) := fun a b => by
  have ha := a.isLt
  have hN : cfg0.N = 33 := N_0
  have ht : a.val / 512 < cfg0.N := by omega
  obtain ⟨hf, e0, e1⟩ := at6 ⟨a.val / 512, ht⟩
  have hb := blocks6 m c ⟨a.val / 512, ht⟩ hf
  rw [flushed6] at hb
  have hp := point m c ⟨a.val / 512, ht⟩ ⟨a.val % 512, Nat.mod_lt _ (by norm_num)⟩ b
  have hr := congrFun hb (ix2 (⟨a.val % 512, Nat.mod_lt _ (by norm_num)⟩ : Fin 512) b)
  have he : ((cfg0.win 6).blk ⟨a.val / 512, ht⟩).view.emb (ix2 (⟨a.val % 512, Nat.mod_lt _ (by norm_num)⟩ : Fin 512) b) = ix2 a b := by
    funext x; apply Fin.ext
    match x with
    | ⟨0, _⟩ => show win0_6.index ⟨a.val / 512, ht⟩ (0 : Fin 2) * 512 + 1 * (a.val % 512) = a.val; rw [e0]; show a.val / 512 * 512 + 1 * (a.val % 512) = a.val; omega
    | ⟨1, _⟩ => show win0_6.index ⟨a.val / 512, ht⟩ (1 : Fin 2) * 1024 + 1 * b.val = b.val; omega
  refine Eq.trans (congrArg _ he.symm) (hr.trans (hp.trans ?_))
  show G m c (512 * (a.val / 512) + a.val % 512) b = G m c a b
  rw [Nat.div_add_mod]
end Arr

end Cert.FfnK

end
-- ==== Proof.FfnR.lean ====
/-
  The feed-forward reference's result: `ffn` of its arguments; and the two programs' agreement.
-/
module

public import proofs.«01_k».proof.Defs
public import proofs.«01_k».proof.Proof.FfnK
public import proofs.«01_k».proof.Proof.Gen.FfnRefIdeal.Run
public import Idealize.ShloMosaic.Lib.Quiescent

@[expose] public section

set_option maxRecDepth 16384

noncomputable section

namespace Cert.FfnR

open Idealize.ShloMosaic Idealize.ShloMosaic.TcCoe Idealize.SL.Sem Cert.FfnRefIdeal Cert.FfnRefIdeal.Gen Cert.FfnRefIdeal.Value Cert.Rep Cert.Ext

variable {f g h N U V D : ℕ → ℕ → EReal}

theorem cat_r {X : FVec Ideal S512x1024 .f32} {Y : FVec Ideal S16384x1024 .f32} (hX : E2 X f) (hY : E2 Y g) :
    E2 (concatenate S16896x1024 0 [⟨S512x1024, X⟩, ⟨S16384x1024, Y⟩] concatenates_S512x1024_S16384x1024_S16896x1024_d0)
      (fun a b => if a < 512 then f a b else g (a - 512) b) := fun a b => by
  by_cases hb : (a : ℕ) < 512
  · refine (concatenate_pair_apply_left (t := S16896x1024) (0 : Fin 2) X Y _ (ix2 a b) rfl (ix2 (⟨a, hb⟩ : Fin 512) b) (by
      intro c; fin_cases c <;> rfl)).trans ((hX _ _).trans ?_)
    exact (if_pos hb).symm
  · have hb' : (a : ℕ) - 512 < 16384 := by have := a.isLt; omega
    refine (concatenate_pair_apply_right (t := S16896x1024) (0 : Fin 2) X Y _ (ix2 a b) rfl rfl (ix2 (⟨a - 512, hb'⟩ : Fin 16384) b) (by
      intro c hc; fin_cases c
      · exact absurd rfl hc
      · rfl) (by show (a : ℕ) - 512 + 512 = a; omega)).trans ((hY _ _).trans ?_)
    exact (if_neg hb).symm

/-- The normalised rows. -/
theorem nrm_r {X : FVec Ideal S16896x1024 .f32} {W : FVec Ideal S1x1024 .f32} (hX : E2 X f) (hW : E2 W N) :
    E2 (mulf (mulf X (broadcastInDim S16896x1024 ![0, 1] bcast_S16896x1_S16896x1024_0_1 (Host.rsqrt (addf (Host.divf
        (broadcastInDim S16896x1 ![0] bcast_S16896_S16896x1_0 (Host.reduceAdd (mulf X X) (constant S_ .f32 0x00000000#32) reducesTo_S16896x1024_S16896_d1 h_S_))
        (broadcastInDim S16896x1 ![] bcast_S_S16896x1 (constant S_ .f32 0x44800000#32))) (broadcastInDim S16896x1 ![] bcast_S_S16896x1 (constant S_ .f32 0x358637BD#32))))))
      (broadcastInDim S16896x1024 ![0, 1] bcast_S1x1024_S16896x1024_0_1 (broadcastInDim S1x1024 ![1] bcast_S1024_S1x1024_1 (shapeCast S1024 W shapeCasts_S1x1024_S1024))))
      (nrm f (N 0)) := fun a b => by
  have s : Host.reduceAdd (mulf X X) (constant S_ .f32 0x00000000#32) reducesTo_S16896x1024_S16896_d1 h_S_ (ix1 a) = ∑ k ∈ Finset.range 1024, f a k * f a k := by
    pointwise
    exact (Finset.sum_congr rfl fun k _ => congrArg₂ (· * ·) (hX a k) (hX a k)).trans (Finset.sum_range fun k => f a k * f a k).symm
  have r : (broadcastInDim S16896x1 ![0] bcast_S16896_S16896x1_0 (Host.reduceAdd (mulf X X) (constant S_ .f32 0x00000000#32) reducesTo_S16896x1024_S16896_d1 h_S_)) (ix2 a 0) =
      ∑ k ∈ Finset.range 1024, f a k * f a k :=
    (broadcastInDim_apply _ _ _ (ix2 a 0) (ix1 a) (by intro c; fin_cases c; rfl)).trans s
  have q : (broadcastInDim S16896x1024 ![0, 1] bcast_S16896x1_S16896x1024_0_1 (Host.rsqrt (addf (Host.divf
        (broadcastInDim S16896x1 ![0] bcast_S16896_S16896x1_0 (Host.reduceAdd (mulf X X) (constant S_ .f32 0x00000000#32) reducesTo_S16896x1024_S16896_d1 h_S_))
        (broadcastInDim S16896x1 ![] bcast_S_S16896x1 (constant S_ .f32 0x44800000#32))) (broadcastInDim S16896x1 ![] bcast_S_S16896x1 (constant S_ .f32 0x358637BD#32))))) (ix2 a b) =
      Ideal.rsqrt (Ideal.div (∑ k ∈ Finset.range 1024, f a k * f a k) cN + cE) := by
    refine (broadcastInDim_apply _ _ _ (ix2 a b) (ix2 a 0) (by intro c; fin_cases c <;> rfl)).trans ?_
    exact congrArg (fun y => Ideal.rsqrt (Ideal.div y cN + cE)) r
  have w : (broadcastInDim S16896x1024 ![0, 1] bcast_S1x1024_S16896x1024_0_1 (broadcastInDim S1x1024 ![1] bcast_S1024_S1x1024_1 (shapeCast S1024 W shapeCasts_S1x1024_S1024))) (ix2 a b) = N 0 b := by
    refine (broadcastInDim_apply _ _ _ (ix2 a b) (ix2 0 b) (by intro c; fin_cases c <;> rfl)).trans ?_
    refine (broadcastInDim_apply _ _ _ (ix2 0 b) (ix1 b) (by intro c; fin_cases c; rfl)).trans ?_
    refine (shapeCast_apply W _ (ix1 b) (ix2 0 b) (by
      rw [Shape.rowMajor_val_two, Shape.rowMajor_val_one]
      show 0 * 1024 + (b : ℕ) = b
      simp)).trans (hW 0 b)
  exact congrArg₂ (· * ·) (congrArg₂ (· * ·) (hX a b) q) w

theorem dot_r {X : FVec Ideal S16896x1024 .f32} {Y : FVec Ideal S1024x2816 .f32} (hX : E2 X f) (hY : E2 Y g) :
    E2 (Host.dotGeneral dot_S16896x1024_S1024x2816_S16896x2816_1_0_0_1_n_n none X Y : FVec Ideal S16896x2816 .f32) (fun a k => ∑ i ∈ Finset.range 1024, f a i * g i k) := fun a k => by
  pointwise
  exact (Finset.sum_congr rfl fun i _ => congrArg₂ (· * ·) (hX a i) (hY i k)).trans (Finset.sum_range fun i => f a i * g i k).symm
theorem down_r {X : FVec Ideal S16896x2816 .f32} {Y : FVec Ideal S2816x1024 .f32} (hX : E2 X f) (hY : E2 Y g) :
    E2 (Host.dotGeneral dot_S16896x2816_S2816x1024_S16896x1024_1_0_0_1_n_n none X Y : FVec Ideal S16896x1024 .f32) (fun a k => ∑ i ∈ Finset.range 2816, f a i * g i k) := fun a k => by
  pointwise
  exact (Finset.sum_congr rfl fun i _ => congrArg₂ (· * ·) (hX a i) (hY i k)).trans (Finset.sum_range fun i => f a i * g i k).symm

/-- A value times its logistic. -/
theorem sil_r {X : FVec Ideal S16896x2816 .f32} (hX : E2 X f) :
    E2 (mulf X (Host.divf (broadcastInDim S16896x2816 ![] bcast_S_S16896x2816 (constant S_ .f32 0x3F800000#32))
      (addf (broadcastInDim S16896x2816 ![] bcast_S_S16896x2816 (constant S_ .f32 0x3F800000#32)) (Host.exp (Host.negf X))))) (fun a k => f a k * Ideal.logistic (f a k)) := fun a k => by
  have one : Ideal.ofBits .f32 0x3F800000#32 = 1 := Cert.Pay.c_one.trans EReal.coe_one
  show X (ix2 a k) * Ideal.div (Ideal.ofBits .f32 0x3F800000#32) (Ideal.ofBits .f32 0x3F800000#32 + Ideal.exp (-(X (ix2 a k)))) = _
  rw [one, hX a k]
  rfl

variable (m : (ℓ : Loc nD τ sig) → Buf (Elt Ideal) ℓ) (c : Dev nD)

theorem res {A0 : FVec Ideal S512x1024 .f32} {A1 : FVec Ideal S16384x1024 .f32} {A2 : FVec Ideal S1x1024 .f32} {A3 A4 : FVec Ideal S1024x2816 .f32} {A5 : FVec Ideal S2816x1024 .f32}
    (e0 : m ((c.tc : Thread nD τ).loc main_arg0) = A0) (e1 : m ((c.tc : Thread nD τ).loc main_arg1) = A1) (e2 : m ((c.tc : Thread nD τ).loc main_arg2) = A2)
    (e3 : m ((c.tc : Thread nD τ).loc main_arg3) = A3) (e4 : m ((c.tc : Thread nD τ).loc main_arg4) = A4) (e5 : m ((c.tc : Thread nD τ).loc main_arg5) = A5) :
    E2 (n := 16896) (m := 1024) (res_main_v22 m c) (ffn (fun a b => if a < 512 then fn A0 a b else fn A1 (a - 512) b) (fn A2 0) (fn A3) (fn A4) (fn A5)) := by
  have x := cat_r (e_fn A0) (e_fn A1)
  have n := nrm_r x (e_fn A2)
  have d := down_r (E2.mul (sil_r (dot_r n (e_fn A3))) (dot_r n (e_fn A4))) (e_fn A5)
  unfold res_main_v22
  rw [e0, e1, e2, e3, e4, e5]
  exact fun a j => congrArg₂ (· + ·) (x a j) (congrArg (cH * ·) (d a j))

theorem frame_r : Cert.quiescent_FfnRefIdeal := fun m ρ _ =>
  (θ_run Cert.FfnRefIdeal.defs _ _).mono (fun r h => ⟨fun c => (h c).2, sem_eq_zero_of_no_sems (by decide) r.2⟩) (Cert.FfnRefIdeal.Value.run m ρ)

/-- The kernel and the reference end with the same rows, whatever the arguments hold. -/
theorem algebraic : Cert.algebraic_FfnIdeal_FfnRefIdeal := by
  intro m ρ m' ρ' _ hagree
  refine ⟨_, Cert.FfnIdeal.Value.run_blocks (F := Ideal) m ρ, ?_⟩
  refine (θ_run Cert.FfnRefIdeal.defs _ _).mono (fun r h c => ?_) (Cert.FfnRefIdeal.Value.run m' ρ')
  obtain ⟨a0, a1, a2, a3, a4, a5⟩ := hagree c
  exact ⟨(h c).1.trans (E2.eq (res m' c a0 a1 a2 a3 a4 a5) (Cert.FfnK.arr m c)), (h c).2⟩

end Cert.FfnR

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Claims
public import proofs.«01_k».proof.Proof.Gen.Ffn.Frame
public import proofs.«01_k».proof.Proof.Gen.FfnIdeal.Value
public import proofs.«01_k».proof.Proof.Gen.FfnRefIdeal.Run
public import proofs.«01_k».proof.Proof.FfnR
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  Cert.Claims.frame_r, fun m ρ _ => Cert.Claims.frame_r m ρ trivial,
  fun m ρ _ => Cert.Ffn.Gen.frame m ρ, fun m ρ _ => Cert.FfnIdeal.Gen.frame m ρ, Cert.FfnR.frame_r,
  Cert.Claims.preserves, Cert.Claims.algebraic, trivial, Cert.FfnR.algebraic⟩

end Cert.Proof

end
